-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_kept [hPre_kept : Cert.Pre_kept.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_kept.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_kept [hPre_kept : Cert.Pre_kept.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_kept.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_kept [hKernel4Ideal : Cert.Kernel4Ideal.Facts] [hPre_kept : Cert.Pre_kept.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_kept m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_kept [hReference4Ideal : Cert.Reference4Ideal.Facts] [hPre_kept : Cert.Pre_kept.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_kept m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_kept [hKernel4Ideal : Cert.Kernel4Ideal.Facts] [hReference4Ideal : Cert.Reference4Ideal.Facts] [hPre_kept : Cert.Pre_kept.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_kept m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v51)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v51) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_kept : Cert.Pre_kept.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_kept (hKernel4Ideal := hKernel4Ideal) (hPre_kept := hPre_kept)
    ∧ quiescent_Reference4Ideal (hReference4Ideal := hReference4Ideal)
    ∧ quiescent_Reference4Ideal_pre_kept (hReference4Ideal := hReference4Ideal) (hPre_kept := hPre_kept)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_kept (hKernel4Ideal := hKernel4Ideal) (hReference4Ideal := hReference4Ideal) (hPre_kept := hPre_kept)
-- ==== Pre_finite.lean ====
abbrev S2x16384x16x96 : Shape := ⟨4, ![2, 16384, 16, 96]⟩
abbrev S2x16384x16x64 : Shape := ⟨4, ![2, 16384, 16, 64]⟩
abbrev S_ : Shape := ⟨0, ![]⟩

class Facts : Prop where
  bcast_S_S2x16384x16x96 : S_.BroadcastsInDim S2x16384x16x96 (![] : Fin 0 → Fin S2x16384x16x96.rank)
  reducesTo_S2x16384x16x96_S_d0_1_2_3 : S2x16384x16x96.ReducesTo [0, 1, 2, 3] S_
  h_S_ : 0 < S_.numel

variable [Facts]

def fn {F : FTy → Type} [FloatOps F] (main_arg0 : FVec F S2x16384x16x96 .f32) (main_arg1 : FVec F S2x16384x16x96 .f32) (main_arg2 : FVec F S2x16384x16x64 .f32) (main_arg3 : FVec F S_ .f32) : IVec S_ 1 :=
  let main_v0 : FVec F S2x16384x16x96 .f32 := Host.absf main_arg0
  let main_cst : FVec F S_ .f32 := constant S_ .f32 0x7F800000#32
  let main_v1 : FVec F S2x16384x16x96 .f32 := broadcastInDim S2x16384x16x96 ![] bcast_S_S2x16384x16x96 main_cst
  let main_v2 : IVec S2x16384x16x96 1 := cmpf .olt main_v0 main_v1
  let main_c : IVec S_ 1 := constantI S_ 1 1#1
  let main_v3 : IVec S_ 1 := (fun x v => Host.reduce IntOp.andi x v reducesTo_S2x16384x16x96_S_d0_1_2_3 h_S_) main_v2 main_c
  let main_v4 : FVec F S2x16384x16x96 .f32 := Host.absf main_arg1
  let main_cst_0 : FVec F S_ .f32 := constant S_ .f32 0x7F800000#32
  let main_v5 : FVec F S2x16384x16x96 .f32 := broadcastInDim S2x16384x16x96 ![] bcast_S_S2x16384x16x96 main_cst_0
  let main_v6 : IVec S2x16384x16x96 1 := cmpf .olt main_v4 main_v5
  let main_c_1 : IVec S_ 1 := constantI S_ 1 1#1
  let main_v7 : IVec S_ 1 := (fun x v => Host.reduce IntOp.andi x v reducesTo_S2x16384x16x96_S_d0_1_2_3 h_S_) main_v6 main_c_1
  let main_v8 : IVec S_ 1 := andi main_v3 main_v7
  let main_cst_2 : FVec F S_ .f32 := constant S_ .f32 0x00000000#32
  let main_v9 : IVec S_ 1 := cmpf .oge main_arg3 main_cst_2
  let main_v10 : IVec S_ 1 := andi main_v8 main_v9
  let main_cst_3 : FVec F S_ .f32 := constant S_ .f32 0x7F800000#32
  let main_v11 : IVec S_ 1 := cmpf .olt main_arg3 main_cst_3
  let main_v12 : IVec S_ 1 := andi main_v10 main_v11
  main_v12
-- ==== Pre_kept.lean ====
abbrev S2x16384x16x64 : Shape := ⟨4, ![2, 16384, 16, 64]⟩
abbrev S2x16384x16 : Shape := ⟨3, ![2, 16384, 16]⟩
abbrev S_ : Shape := ⟨0, ![]⟩
abbrev S2x14x16 : Shape := ⟨3, ![2, 14, 16]⟩
abbrev S2x1x16 : Shape := ⟨3, ![2, 1, 16]⟩

class Facts : Prop where
  slicesBy_S2x16384x16_S2x14x16_0s1_2048s1024_0s1 : S2x16384x16.SlicesBy (![0, 2048, 0] : Fin 3 → Nat) ![1, 1024, 1] S2x14x16
  slices_S2x16384x16_S2x1x16_0_1023_0 : S2x16384x16.Slices ![0, 1023, 0] S2x1x16
  bcast_S2x1x16_S2x14x16_0_1_2 : S2x1x16.BroadcastsInDim S2x14x16 (![0, 1, 2] : Fin 3 → Fin S2x14x16.rank)
  bcast_S_S2x16384x16x64 : S_.BroadcastsInDim S2x16384x16x64 (![] : Fin 0 → Fin S2x16384x16x64.rank)
  reducesTo_S2x16384x16x64_S_d0_1_2_3 : S2x16384x16x64.ReducesTo [0, 1, 2, 3] S_
  h_S_ : 0 < S_.numel
  bcast_S_S2x16384x16 : S_.BroadcastsInDim S2x16384x16 (![] : Fin 0 → Fin S2x16384x16.rank)
  reducesTo_S2x16384x16_S_d0_1_2 : S2x16384x16.ReducesTo [0, 1, 2] S_
  bcast_S_S2x14x16 : S_.BroadcastsInDim S2x14x16 (![] : Fin 0 → Fin S2x14x16.rank)
  reducesTo_S2x14x16_S_d0_1_2 : S2x14x16.ReducesTo [0, 1, 2] S_

variable [Facts]

def fn_part1 {F : FTy → Type} [FloatOps F] (main_arg4 : FVec F S_ .f32) (main_v3 : FVec F S2x14x16 .f32) (main_v17 : IVec S_ 1) : IVec S_ 1 :=
  let main_cst_4 : FVec F S_ .f32 := constant S_ .f32 0x00000000#32
  let main_v18 : IVec S_ 1 := cmpf .oge main_arg4 main_cst_4
  let main_v19 : IVec S_ 1 := andi main_v17 main_v18
  let main_cst_5 : FVec F S_ .f32 := constant S_ .f32 0x7F800000#32
  let main_v20 : IVec S_ 1 := cmpf .olt main_arg4 main_cst_5
  let main_v21 : IVec S_ 1 := andi main_v19 main_v20
  let main_cst_6 : FVec F S_ .f32 := constant S_ .f32 0x40000000#32
  let main_v22 : FVec F S_ .f32 := Host.log main_cst_6
  let main_v23 : FVec F S2x14x16 .f32 := broadcastInDim S2x14x16 ![] bcast_S_S2x14x16 main_v22
  let main_v24 : FVec F S2x14x16 .f32 := Host.divf main_v3 main_v23
  let main_cst_7 : FVec F S_ .f32 := constant S_ .f32 0x40000000#32
  let main_v25 : FVec F S_ .f32 := mulf main_cst_7 main_arg4
  let main_cst_8 : FVec F S_ .f32 := constant S_ .f32 0x432A0000#32
  let main_v26 : FVec F S_ .f32 := addf main_v25 main_cst_8
  let main_v27 : FVec F S_ .f32 := Host.negf main_v26
  let main_v28 : FVec F S2x14x16 .f32 := broadcastInDim S2x14x16 ![] bcast_S_S2x14x16 main_v27
  let main_v29 : IVec S2x14x16 1 := cmpf .oge main_v24 main_v28
  let main_c_9 : IVec S_ 1 := constantI S_ 1 1#1
  let main_v30 : IVec S_ 1 := (fun x v => Host.reduce IntOp.andi x v reducesTo_S2x14x16_S_d0_1_2 h_S_) main_v29 main_c_9
  let main_v31 : IVec S_ 1 := andi main_v21 main_v30
  main_v31

def fn {F : FTy → Type} [FloatOps F] (main_arg0 : FVec F S2x16384x16x64 .f32) (main_arg1 : FVec F S2x16384x16x64 .f32) (main_arg2 : FVec F S2x16384x16x64 .f32) (main_arg3 : FVec F S2x16384x16 .f32) (main_arg4 : FVec F S_ .f32) : IVec S_ 1 :=
  let main_v0 : FVec F S2x14x16 .f32 := (Host.slice S2x14x16 ![0, 2048, 0] ![1, 1024, 1] · slicesBy_S2x16384x16_S2x14x16_0s1_2048s1024_0s1) main_arg3
  let main_v1 : FVec F S2x1x16 .f32 := (extractStridedSlice S2x1x16 ![0, 1023, 0] · slices_S2x16384x16_S2x1x16_0_1023_0) main_arg3
  let main_v2 : FVec F S2x14x16 .f32 := broadcastInDim S2x14x16 ![0, 1, 2] bcast_S2x1x16_S2x14x16_0_1_2 main_v1
  let main_v3 : FVec F S2x14x16 .f32 := subf main_v0 main_v2
  let main_v4 : FVec F S2x16384x16x64 .f32 := Host.absf main_arg0
  let main_cst : FVec F S_ .f32 := constant S_ .f32 0x7F800000#32
  let main_v5 : FVec F S2x16384x16x64 .f32 := broadcastInDim S2x16384x16x64 ![] bcast_S_S2x16384x16x64 main_cst
  let main_v6 : IVec S2x16384x16x64 1 := cmpf .olt main_v4 main_v5
  let main_c : IVec S_ 1 := constantI S_ 1 1#1
  let main_v7 : IVec S_ 1 := (fun x v => Host.reduce IntOp.andi x v reducesTo_S2x16384x16x64_S_d0_1_2_3 h_S_) main_v6 main_c
  let main_v8 : FVec F S2x16384x16x64 .f32 := Host.absf main_arg1
  let main_cst_0 : FVec F S_ .f32 := constant S_ .f32 0x7F800000#32
  let main_v9 : FVec F S2x16384x16x64 .f32 := broadcastInDim S2x16384x16x64 ![] bcast_S_S2x16384x16x64 main_cst_0
  let main_v10 : IVec S2x16384x16x64 1 := cmpf .olt main_v8 main_v9
  let main_c_1 : IVec S_ 1 := constantI S_ 1 1#1
  let main_v11 : IVec S_ 1 := (fun x v => Host.reduce IntOp.andi x v reducesTo_S2x16384x16x64_S_d0_1_2_3 h_S_) main_v10 main_c_1
  let main_v12 : IVec S_ 1 := andi main_v7 main_v11
  let main_v13 : FVec F S2x16384x16 .f32 := Host.absf main_arg3
  let main_cst_2 : FVec F S_ .f32 := constant S_ .f32 0x7F800000#32
  let main_v14 : FVec F S2x16384x16 .f32 := broadcastInDim S2x16384x16 ![] bcast_S_S2x16384x16 main_cst_2
  let main_v15 : IVec S2x16384x16 1 := cmpf .olt main_v13 main_v14
  let main_c_3 : IVec S_ 1 := constantI S_ 1 1#1
  let main_v16 : IVec S_ 1 := (fun x v => Host.reduce IntOp.andi x v reducesTo_S2x16384x16_S_d0_1_2 h_S_) main_v15 main_c_3
  let main_v17 : IVec S_ 1 := andi main_v12 main_v16
  fn_part1 (F := F) main_arg4 main_v3 main_v17
-- ==== Kernel.lean ====
abbrev S2x16384x16x96 : Shape := ⟨4, ![2, 16384, 16, 96]⟩
abbrev S2x16384x16x64 : Shape := ⟨4, ![2, 16384, 16, 64]⟩
abbrev S_ : Shape := ⟨0, ![]⟩
abbrev S2x16384x16x128 : Shape := ⟨4, ![2, 16384, 16, 128]⟩
abbrev S2x16x128x16384 : Shape := ⟨4, ![2, 16, 128, 16384]⟩
abbrev S2x16x16384x128 : Shape := ⟨4, ![2, 16, 16384, 128]⟩
abbrev S16x16384 : Shape := ⟨2, ![16, 16384]⟩
abbrev S2x16x16x16384 : Shape := ⟨4, ![2, 16, 16, 16384]⟩
abbrev S2x16x64x16384 : Shape := ⟨4, ![2, 16, 64, 16384]⟩
abbrev S2x16x80x16384 : Shape := ⟨4, ![2, 16, 80, 16384]⟩
abbrev S512 : Shape := ⟨1, ![512]⟩
abbrev S1 : Shape := ⟨1, ![1]⟩
abbrev S2 : Shape := ⟨1, ![2]⟩
abbrev S2x1024x16384 : Shape := ⟨3, ![2, 1024, 16384]⟩
abbrev S1x1x128x16384 : Shape := ⟨4, ![1, 1, 128, 16384]⟩
abbrev S1x1x16384x128 : Shape := ⟨4, ![1, 1, 16384, 128]⟩
abbrev S1x1x80x16384 : Shape := ⟨4, ![1, 1, 80, 16384]⟩
abbrev S1x64x16384 : Shape := ⟨3, ![1, 64, 16384]⟩
abbrev S8x80x256 : Shape := ⟨3, ![8, 80, 256]⟩
abbrev S1x1x128x256 : Shape := ⟨4, ![1, 1, 128, 256]⟩
abbrev S128x256 : Shape := ⟨2, ![128, 256]⟩
abbrev S1x1x256x128 : Shape := ⟨4, ![1, 1, 256, 128]⟩
abbrev S256x128 : Shape := ⟨2, ![256, 128]⟩
abbrev S256x256 : Shape := ⟨2, ![256, 256]⟩
abbrev S1x1x64x256 : Shape := ⟨4, ![1, 1, 64, 256]⟩
abbrev S64x256 : Shape := ⟨2, ![64, 256]⟩
abbrev S256 : Shape := ⟨1, ![256]⟩
abbrev S1x256 : Shape := ⟨2, ![1, 256]⟩
abbrev S1x64x256 : Shape := ⟨3, ![1, 64, 256]⟩
abbrev S1x1x256 : Shape := ⟨3, ![1, 1, 256]⟩

abbrev nBuf : Space → Nat
  | .hbm => 45
  | .vmem => 9
  | .smem => 3
  | _ => 0

abbrev bufTy : (tb : Table) → Fin (tcTables nBuf tb) → BufTy
  | .hbm, ⟨0, _⟩ => ⟨S2x16384x16x96, .f32⟩
  | .hbm, ⟨1, _⟩ => ⟨S2x16384x16x96, .f32⟩
  | .hbm, ⟨2, _⟩ => ⟨S2x16384x16x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x16384x16x96, .f32⟩
  | .hbm, ⟨9, _⟩ => ⟨S2x16384x16x96, .f32⟩
  | .hbm, ⟨10, _⟩ => ⟨S_, .i32⟩
  | .hbm, ⟨11, _⟩ => ⟨S_, .f32⟩
  | .hbm, ⟨12, _⟩ => ⟨S2x16384x16x128, .f32⟩
  | .hbm, ⟨13, _⟩ => ⟨S2x16384x16x128, .bf16⟩
  | .hbm, ⟨14, _⟩ => ⟨S2x16x128x16384, .bf16⟩
  | .hbm, ⟨15, _⟩ => ⟨S_, .i32⟩
  | .hbm, ⟨16, _⟩ => ⟨S_, .f32⟩
  | .hbm, ⟨17, _⟩ => ⟨S2x16384x16x128, .f32⟩
  | .hbm, ⟨18, _⟩ => ⟨S2x16384x16x128, .bf16⟩
  | .hbm, ⟨19, _⟩ => ⟨S2x16x16384x128, .bf16⟩
  | .hbm, ⟨20, _⟩ => ⟨S16x16384, .i32⟩
  | .hbm, ⟨21, _⟩ => ⟨S_, .i32⟩
  | .hbm, ⟨22, _⟩ => ⟨S16x16384, .i32⟩
  | .hbm, ⟨23, _⟩ => ⟨S16x16384, .i1⟩
  | .hbm, ⟨24, _⟩ => ⟨S_, .f32⟩
  | .hbm, ⟨25, _⟩ => ⟨S_, .f32⟩
  | .hbm, ⟨26, _⟩ => ⟨S16x16384, .f32⟩
  | .hbm, ⟨27, _⟩ => ⟨S16x16384, .f32⟩
  | .hbm, ⟨28, _⟩ => ⟨S16x16384, .f32⟩
  | .hbm, ⟨29, _⟩ => ⟨S16x16384, .f32⟩
  | .hbm, ⟨30, _⟩ => ⟨S16x16384, .bf16⟩
  | .hbm, ⟨31, _⟩ => ⟨S2x16x16x16384, .bf16⟩
  | .hbm, ⟨32, _⟩ => ⟨S2x16384x16x64, .bf16⟩
  | .hbm, ⟨33, _⟩ => ⟨S2x16x64x16384, .bf16⟩
  | .hbm, ⟨34, _⟩ => ⟨S2x16x80x16384, .bf16⟩
  | .hbm, ⟨35, _⟩ => ⟨S_, .f32⟩
  | .hbm, ⟨36, _⟩ => ⟨S512, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1, .f32⟩
  | .hbm, ⟨42, _⟩ => ⟨S1, .f32⟩
  | .hbm, ⟨43, _⟩ => ⟨S2, .f32⟩
  | .hbm, ⟨44, _⟩ => ⟨S2x1024x16384, .bf16⟩
  | .local _ .vmem, ⟨0, _⟩ => ⟨S1x1x128x16384, .bf16⟩
  | .local _ .vmem, ⟨1, _⟩ => ⟨S1x1x128x16384, .bf16⟩
  | .local _ .vmem, ⟨2, _⟩ => ⟨S1x1x16384x128, .bf16⟩
  | .local _ .vmem, ⟨3, _⟩ => ⟨S1x1x16384x128, .bf16⟩
  | .local _ .vmem, ⟨4, _⟩ => ⟨S1x1x80x16384, .bf16⟩
  | .local _ .vmem, ⟨5, _⟩ => ⟨S1x1x80x16384, .bf16⟩
  | .local _ .vmem, ⟨6, _⟩ => ⟨S1x64x16384, .bf16⟩
  | .local _ .vmem, ⟨7, _⟩ => ⟨S1x64x16384, .bf16⟩
  | .local _ .vmem, ⟨8, _⟩ => ⟨S8x80x256, .f32⟩
  | .local _ .smem, ⟨0, _⟩ => ⟨S512, .f32⟩
  | .local _ .smem, ⟨1, _⟩ => ⟨S512, .f32⟩
  | .local _ .smem, ⟨2, _⟩ => ⟨S2, .f32⟩
  | _, _ => ⟨S2x16384x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_cst_4 : Ref sig .tc := ⟨.hbm, 25, rfl⟩
abbrev main_call2_v0 : Ref sig .tc := ⟨.hbm, 26, rfl⟩
abbrev main_call2_v1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c8_i32_0 : BitVec 32 := 8#32
  let v4 : BitVec 32 := Scalar.addi c0_i32 c8_i32_0
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c2048_i32 : BitVec 32 := 2048#32
  let v5 : BitVec 32 := Scalar.muli arg10 c2048_i32
  v5
def k0_off1 (i : grid0.Coords) (k0_t1 : Fin k0_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32 : BitVec 32 := 8#32
  let v2 : BitVec 32 := Scalar.muli v1 c8_i32
  let c0_i32 : BitVec 32 := 0#32
  let c1_i32 : BitVec 32 := 1#32
  let arg10 : BitVec 32 := Scf.iv c0_i32 c1_i32 k0_t1
  let v50 : BitVec 32 := Scalar.addi v2 arg10
  let v51 : Index := Scalar.indexCast v50
  ![v51.toNat]
def k0_off2 (i : grid0.Coords) (arg11 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32 : BitVec 32 := 8#32
  let v2 : BitVec 32 := Scalar.muli v1 c8_i32
  let v53 : BitVec 32 := Scalar.addi v2 arg11
  let v54 : Index := Scalar.indexCast v53
  ![v54.toNat]

def k0_chk1 (i : grid0.Coords) (arg11 : BitVec 32) : Prop :=
  (∀ a, (k0_off2 i arg11) a + S1.size a ≤ S512.size a)
theorem k0_off2_inb : ∀ (i : grid0.Coords) (arg11 : BitVec 32) (k0_hw1 : k0_chk1 i arg11), ∀ a, (k0_off2 i arg11) a + S1.size a ≤ S512.size a := fun i arg11 k0_hw1 => k0_hw1

def k0_mult2 (v11 : BitVec 32) : BitVec 32 :=
  let c2048_i32_5 : BitVec 32 := 2048#32
  let v12 : BitVec 32 := Scalar.muli v11 c2048_i32_5
  v12

@[reducible] def k0_t2_loop (k0_t1 : Fin k0_t1_loop.trips) (v11 : BitVec 32) : Scf.Loop 32 :=
  let c0_i32_10 : BitVec 32 := 0#32
  let c8_i32_8 : BitVec 32 := 8#32
  let c0_i32 : BitVec 32 := 0#32
  let c1_i32 : BitVec 32 := 1#32
  let arg10 : BitVec 32 := Scf.iv c0_i32 c1_i32 k0_t1
  let c1_i32_6 : BitVec 32 := 1#32
  let v14 : BitVec 32 := Scalar.subi arg10 c1_i32_6
  let c0_i32_7 : BitVec 32 := 0#32
  let v15 : BitVec 32 := Scalar.maxsi v14 c0_i32_7
  let v16 : BitVec 32 := Scalar.subi v15 v11
  let v17 : BitVec 32 := Scalar.muli c8_i32_8 v16
  let c4_i32 : BitVec 32 := 4#32
  let v19 : BitVec 32 := Scalar.shrui v17 c4_i32
  let v20 : BitVec 32 := Scalar.subi v19 c0_i32_10
  let c1_i32_11 : BitVec 32 := 1#32
  let v22 : BitVec 32 := Scalar.divsi v20 c1_i32_11
  let v23 : BitVec 32 := Scalar.muli v22 c1_i32_11
  let v24 : BitVec 32 := Scalar.addi c0_i32_10 v23
  let c1_i32_12 : BitVec 32 := 1#32
  ⟨c0_i32_10, v24, c1_i32_12⟩
def k0_mult3 (k0_t1 : Fin k0_t1_loop.trips) (v11 : BitVec 32) (k0_t2 : Fin (k0_t2_loop k0_t1 v11).trips) : BitVec 32 :=
  let c2048_i32_5 : BitVec 32 := 2048#32
  let v12 : BitVec 32 := Scalar.muli v11 c2048_i32_5
  let v13 : BitVec 32 := v12
  let c0_i32_10 : BitVec 32 := 0#32
  let c1_i32_12 : BitVec 32 := 1#32
  let arg11 : BitVec 32 := Scf.iv c0_i32_10 c1_i32_12 k0_t2
  let c16_i32_23 : BitVec 32 := 16#32
  let v48 : BitVec 32 := Scalar.muli arg11 c16_i32_23
  let c256_i32_24 : BitVec 32 := 256#32
  let v49 : BitVec 32 := Scalar.muli v48 c256_i32_24
  let v50 : BitVec 32 := Scalar.addi v13 v49
  v50
def k0_off3 (k0_t1 : Fin k0_t1_loop.trips) (c0_i32_34 : BitVec 32) : Fin 4 → Nat :=
  let c0_35 : Index := 0#32
  let c0_36 : Index := 0#32
  let c0_37 : Index := 0#32
  let c0_i32 : BitVec 32 := 0#32
  let c1_i32 : BitVec 32 := 1#32
  let arg10 : BitVec 32 := Scf.iv c0_i32 c1_i32 k0_t1
  let c2048_i32 : BitVec 32 := 2048#32
  let v5 : BitVec 32 := Scalar.muli arg10 c2048_i32
  let v6 : BitVec 32 := v5
  let v68 : BitVec 32 := Scalar.addi v6 c0_i32_34
  let v69 : Index := Scalar.indexCast v68
  ![0, 0, 0, v69.toNat]
def k0_off4 (k0_t1 : Fin k0_t1_loop.trips) (v11 : BitVec 32) (k0_t2 : Fin (k0_t2_loop k0_t1 v11).trips) (c0_i32_25 : BitVec 32) : Fin 4 → Nat :=
  let c0_38 : Index := 0#32
  let c0_39 : Index := 0#32
  let c2048_i32_5 : BitVec 32 := 2048#32
  let v12 : BitVec 32 := Scalar.muli v11 c2048_i32_5
  let v13 : BitVec 32 := v12
  let c0_i32_10 : BitVec 32 := 0#32
  let c1_i32_12 : BitVec 32 := 1#32
  let arg11 : BitVec 32 := Scf.iv c0_i32_10 c1_i32_12 k0_t2
  let c16_i32_23 : BitVec 32 := 16#32
  let v48 : BitVec 32 := Scalar.muli arg11 c16_i32_23
  let c256_i32_24 : BitVec 32 := 256#32
  let v49 : BitVec 32 := Scalar.muli v48 c256_i32_24
  let v50 : BitVec 32 := Scalar.addi v13 v49
  let v51 : BitVec 32 := v50
  let v52 : BitVec 32 := Scalar.addi v51 c0_i32_25
  let v72 : Index := Scalar.indexCast v52
  let c0_40 : Index := 0#32
  ![0, 0, v72.toNat, 0]
def k0_off5 (k0_t1 : Fin k0_t1_loop.trips) (v11 : BitVec 32) (k0_t2 : Fin (k0_t2_loop k0_t1 v11).trips) (c0_i32_25 : BitVec 32) : Fin 4 → Nat :=
  let c0_170 : Index := 0#32
  let c0_171 : Index := 0#32
  let c0_172 : Index := 0#32
  let c2048_i32_5 : BitVec 32 := 2048#32
  let v12 : BitVec 32 := Scalar.muli v11 c2048_i32_5
  let v13 : BitVec 32 := v12
  let c0_i32_10 : BitVec 32 := 0#32
  let c1_i32_12 : BitVec 32 := 1#32
  let arg11 : BitVec 32 := Scf.iv c0_i32_10 c1_i32_12 k0_t2
  let c16_i32_23 : BitVec 32 := 16#32
  let v48 : BitVec 32 := Scalar.muli arg11 c16_i32_23
  let c256_i32_24 : BitVec 32 := 256#32
  let v49 : BitVec 32 := Scalar.muli v48 c256_i32_24
  let v50 : BitVec 32 := Scalar.addi v13 v49
  let v51 : BitVec 32 := v50
  let v52 : BitVec 32 := Scalar.addi v51 c0_i32_25
  let v207 : Index := Scalar.indexCast v52
  ![0, 0, 0, v207.toNat]
@[reducible] def k0_t3_loop (k0_t1 : Fin k0_t1_loop.trips) (v11 : BitVec 32) : Scf.Loop 32 :=
  let c0_i32_10 : BitVec 32 := 0#32
  let c8_i32_8 : BitVec 32 := 8#32
  let c0_i32 : BitVec 32 := 0#32
  let c1_i32 : BitVec 32 := 1#32
  let arg10 : BitVec 32 := Scf.iv c0_i32 c1_i32 k0_t1
  let c1_i32_6 : BitVec 32 := 1#32
  let v14 : BitVec 32 := Scalar.subi arg10 c1_i32_6
  let c0_i32_7 : BitVec 32 := 0#32
  let v15 : BitVec 32 := Scalar.maxsi v14 c0_i32_7
  let v16 : BitVec 32 := Scalar.subi v15 v11
  let v17 : BitVec 32 := Scalar.muli c8_i32_8 v16
  let c4_i32 : BitVec 32 := 4#32
  let v19 : BitVec 32 := Scalar.shrui v17 c4_i32
  let v20 : BitVec 32 := Scalar.subi v19 c0_i32_10
  let c1_i32_11 : BitVec 32 := 1#32
  let v22 : BitVec 32 := Scalar.divsi v20 c1_i32_11
  let v23 : BitVec 32 := Scalar.muli v22 c1_i32_11
  let v24 : BitVec 32 := Scalar.addi c0_i32_10 v23
  let v21 : BitVec 32 := Scalar.addi c0_i32_10 v20
  let c1_i32_13 : BitVec 32 := 1#32
  ⟨v24, v21, c1_i32_13⟩
def k0_mult4 (k0_t1 : Fin k0_t1_loop.trips) (v11 : BitVec 32) (k0_t3 : Fin (k0_t3_loop k0_t1 v11).trips) : BitVec 32 :=
  let c2048_i32_5 : BitVec 32 := 2048#32
  let v12 : BitVec 32 := Scalar.muli v11 c2048_i32_5
  let v13 : BitVec 32 := v12
  let c0_i32_10 : BitVec 32 := 0#32
  let c8_i32_8 : BitVec 32 := 8#32
  let c0_i32 : BitVec 32 := 0#32
  let c1_i32 : BitVec 32 := 1#32
  let arg10 : BitVec 32 := Scf.iv c0_i32 c1_i32 k0_t1
  let c1_i32_6 : BitVec 32 := 1#32
  let v14 : BitVec 32 := Scalar.subi arg10 c1_i32_6
  let c0_i32_7 : BitVec 32 := 0#32
  let v15 : BitVec 32 := Scalar.maxsi v14 c0_i32_7
  let v16 : BitVec 32 := Scalar.subi v15 v11
  let v17 : BitVec 32 := Scalar.muli c8_i32_8 v16
  let c4_i32 : BitVec 32 := 4#32
  let v19 : BitVec 32 := Scalar.shrui v17 c4_i32
  let v20 : BitVec 32 := Scalar.subi v19 c0_i32_10
  let c1_i32_11 : BitVec 32 := 1#32
  let v22 : BitVec 32 := Scalar.divsi v20 c1_i32_11
  let v23 : BitVec 32 := Scalar.muli v22 c1_i32_11
  let v24 : BitVec 32 := Scalar.addi c0_i32_10 v23
  let c1_i32_13 : BitVec 32 := 1#32
  let arg11 : BitVec 32 := Scf.iv v24 c1_i32_13 k0_t3
  let c16_i32_23 : BitVec 32 := 16#32
  let v48 : BitVec 32 := Scalar.muli arg11 c16_i32_23
  let c256_i32_24 : BitVec 32 := 256#32
  let v49 : BitVec 32 := Scalar.muli v48 c256_i32_24
  let v50 : BitVec 32 := Scalar.addi v13 v49
  v50
def k0_off6 (k0_t1 : Fin k0_t1_loop.trips) (c0_i32_34 : BitVec 32) : Fin 4 → Nat :=
  let c0_35 : Index := 0#32
  let c0_36 : Index := 0#32
  let c0_37 : Index := 0#32
  let c0_i32 : BitVec 32 := 0#32
  let c1_i32 : BitVec 32 := 1#32
  let arg10 : BitVec 32 := Scf.iv c0_i32 c1_i32 k0_t1
  let c2048_i32 : BitVec 32 := 2048#32
  let v5 : BitVec 32 := Scalar.muli arg10 c2048_i32
  let v6 : BitVec 32 := v5
  let v68 : BitVec 32 := Scalar.addi v6 c0_i32_34
  let v69 : Index := Scalar.indexCast v68
  ![0, 0, 0, v69.toNat]
def k0_off7 (k0_t1 : Fin k0_t1_loop.trips) (v11 : BitVec 32) (k0_t3 : Fin (k0_t3_loop k0_t1 v11).trips) (c0_i32_25 : BitVec 32) : Fin 4 → Nat :=
  let c0_38 : Index := 0#32
  let c0_39 : Index := 0#32
  let c2048_i32_5 : BitVec 32 := 2048#32
  let v12 : BitVec 32 := Scalar.muli v11 c2048_i32_5
  let v13 : BitVec 32 := v12
  let c0_i32_10 : BitVec 32 := 0#32
  let c8_i32_8 : BitVec 32 := 8#32
  let c0_i32 : BitVec 32 := 0#32
  let c1_i32 : BitVec 32 := 1#32
  let arg10 : BitVec 32 := Scf.iv c0_i32 c1_i32 k0_t1
  let c1_i32_6 : BitVec 32 := 1#32
  let v14 : BitVec 32 := Scalar.subi arg10 c1_i32_6
  let c0_i32_7 : BitVec 32 := 0#32
  let v15 : BitVec 32 := Scalar.maxsi v14 c0_i32_7
  let v16 : BitVec 32 := Scalar.subi v15 v11
  let v17 : BitVec 32 := Scalar.muli c8_i32_8 v16
  let c4_i32 : BitVec 32 := 4#32
  let v19 : BitVec 32 := Scalar.shrui v17 c4_i32
  let v20 : BitVec 32 := Scalar.subi v19 c0_i32_10
  let c1_i32_11 : BitVec 32 := 1#32
  let v22 : BitVec 32 := Scalar.divsi v20 c1_i32_11
  let v23 : BitVec 32 := Scalar.muli v22 c1_i32_11
  let v24 : BitVec 32 := Scalar.addi c0_i32_10 v23
  let c1_i32_13 : BitVec 32 := 1#32
  let arg11 : BitVec 32 := Scf.iv v24 c1_i32_13 k0_t3
  let c16_i32_23 : BitVec 32 := 16#32
  let v48 : BitVec 32 := Scalar.muli arg11 c16_i32_23
  let c256_i32_24 : BitVec 32 := 256#32
  let v49 : BitVec 32 := Scalar.muli v48 c256_i32_24
  let v50 : BitVec 32 := Scalar.addi v13 v49
  let v51 : BitVec 32 := v50
  let v52 : BitVec 32 := Scalar.addi v51 c0_i32_25
  let v72 : Index := Scalar.indexCast v52
  let c0_40 : Index := 0#32
  ![0, 0, v72.toNat, 0]
def k0_off8 (k0_t1 : Fin k0_t1_loop.trips) (v11 : BitVec 32) (k0_t3 : Fin (k0_t3_loop k0_t1 v11).trips) (c0_i32_25 : BitVec 32) : Fin 4 → Nat :=
  let c0_170 : Index := 0#32
  let c0_171 : Index := 0#32
  let c0_172 : Index := 0#32
  let c2048_i32_5 : BitVec 32 := 2048#32
  let v12 : BitVec 32 := Scalar.muli v11 c2048_i32_5
  let v13 : BitVec 32 := v12
  let c0_i32_10 : BitVec 32 := 0#32
  let c8_i32_8 : BitVec 32 := 8#32
  let c0_i32 : BitVec 32 := 0#32
  let c1_i32 : BitVec 32 := 1#32
  let arg10 : BitVec 32 := Scf.iv c0_i32 c1_i32 k0_t1
  let c1_i32_6 : BitVec 32 := 1#32
  let v14 : BitVec 32 := Scalar.subi arg10 c1_i32_6
  let c0_i32_7 : BitVec 32 := 0#32
  let v15 : BitVec 32 := Scalar.maxsi v14 c0_i32_7
  let v16 : BitVec 32 := Scalar.subi v15 v11
  let v17 : BitVec 32 := Scalar.muli c8_i32_8 v16
  let c4_i32 : BitVec 32 := 4#32
  let v19 : BitVec 32 := Scalar.shrui v17 c4_i32
  let v20 : BitVec 32 := Scalar.subi v19 c0_i32_10
  let c1_i32_11 : BitVec 32 := 1#32
  let v22 : BitVec 32 := Scalar.divsi v20 c1_i32_11
  let v23 : BitVec 32 := Scalar.muli v22 c1_i32_11
  let v24 : BitVec 32 := Scalar.addi c0_i32_10 v23
  let c1_i32_13 : BitVec 32 := 1#32
  let arg11 : BitVec 32 := Scf.iv v24 c1_i32_13 k0_t3
  let c16_i32_23 : BitVec 32 := 16#32
  let v48 : BitVec 32 := Scalar.muli arg11 c16_i32_23
  let c256_i32_24 : BitVec 32 := 256#32
  let v49 : BitVec 32 := Scalar.muli v48 c256_i32_24
  let v50 : BitVec 32 := Scalar.addi v13 v49
  let v51 : BitVec 32 := v50
  let v52 : BitVec 32 := Scalar.addi v51 c0_i32_25
  let v207 : Index := Scalar.indexCast v52
  ![0, 0, 0, v207.toNat]
def k0_mult5 (k0_t1 : Fin k0_t1_loop.trips) : BitVec 32 :=
  let c0_i32 : BitVec 32 := 0#32
  let c1_i32 : BitVec 32 := 1#32
  let arg10 : BitVec 32 := Scf.iv c0_i32 c1_i32 k0_t1
  let c2048_i32 : BitVec 32 := 2048#32
  let v5 : BitVec 32 := Scalar.muli arg10 c2048_i32
  let v6 : BitVec 32 := v5
  let c2048_i32_23 : BitVec 32 := 2048#32
  let v48 : BitVec 32 := Scalar.subi v6 c2048_i32_23
  v48
def k0_off9 (k0_t1 : Fin k0_t1_loop.trips) (c0_i32_32 : BitVec 32) : Fin 4 → Nat :=
  let c0_33 : Index := 0#32
  let c0_34 : Index := 0#32
  let c0_35 : Index := 0#32
  let c0_i32 : BitVec 32 := 0#32
  let c1_i32 : BitVec 32 := 1#32
  let arg10 : BitVec 32 := Scf.iv c0_i32 c1_i32 k0_t1
  let c2048_i32 : BitVec 32 := 2048#32
  let v5 : BitVec 32 := Scalar.muli arg10 c2048_i32
  let v6 : BitVec 32 := v5
  let v58 : BitVec 32 := Scalar.addi v6 c0_i32_32
  let v59 : Index := Scalar.indexCast v58
  ![0, 0, 0, v59.toNat]
def k0_off10 (k0_t1 : Fin k0_t1_loop.trips) (c0_i32_24 : BitVec 32) : Fin 4 → Nat :=
  let c0_36 : Index := 0#32
  let c0_37 : Index := 0#32
  let c0_i32 : BitVec 32 := 0#32
  let c1_i32 : BitVec 32 := 1#32
  let arg10 : BitVec 32 := Scf.iv c0_i32 c1_i32 k0_t1
  let c2048_i32 : BitVec 32 := 2048#32
  let v5 : BitVec 32 := Scalar.muli arg10 c2048_i32
  let v6 : BitVec 32 := v5
  let c2048_i32_23 : BitVec 32 := 2048#32
  let v48 : BitVec 32 := Scalar.subi v6 c2048_i32_23
  let v49 : BitVec 32 := v48
  let v50 : BitVec 32 := Scalar.addi v49 c0_i32_24
  let v62 : Index := Scalar.indexCast v50
  let c0_38 : Index := 0#32
  ![0, 0, v62.toNat, 0]
def k0_cond1 (k0_t1 : Fin k0_t1_loop.trips) (v11 : BitVec 32) : BitVec 1 :=
  let c0_i32 : BitVec 32 := 0#32
  let c1_i32 : BitVec 32 := 1#32
  let arg10 : BitVec 32 := Scf.iv c0_i32 c1_i32 k0_t1
  let c1_i32_16 : BitVec 32 := 1#32
  let v35 : BitVec 1 := Scalar.cmpi .sge arg10 c1_i32_16
  let c8_i32_8 : BitVec 32 := 8#32
  let c1_i32_6 : BitVec 32 := 1#32
  let v14 : BitVec 32 := Scalar.subi arg10 c1_i32_6
  let c0_i32_7 : BitVec 32 := 0#32
  let v15 : BitVec 32 := Scalar.maxsi v14 c0_i32_7
  let v16 : BitVec 32 := Scalar.subi v15 v11
  let v17 : BitVec 32 := Scalar.muli c8_i32_8 v16
  let c15_i32 : BitVec 32 := 15#32
  let v18 : BitVec 32 := Scalar.andi v17 c15_i32
  let c3_i32 : BitVec 32 := 3#32
  let v33 : BitVec 32 := Scalar.shrui v18 c3_i32
  let c1_i32_15 : BitVec 32 := 1#32
  let v34 : BitVec 32 := Scalar.addi v33 c1_i32_15
  let c1_i32_17 : BitVec 32 := 1#32
  let v36 : BitVec 1 := Scalar.cmpi .eq v34 c1_i32_17
  let v37 : BitVec 1 := Scalar.andi v35 v36
  let v38 : BitVec 32 := Scalar.extui v37
  let c0_i32_18 : BitVec 32 := 0#32
  let v39 : BitVec 1 := Scalar.cmpi .ne v38 c0_i32_18
  v39

def k0_off11 (k0_t1 : Fin k0_t1_loop.trips) (c0_i32_24 : BitVec 32) : Fin 4 → Nat :=
  let c0_168 : Index := 0#32
  let c0_169 : Index := 0#32
  let c0_170 : Index := 0#32
  let c0_i32 : BitVec 32 := 0#32
  let c1_i32 : BitVec 32 := 1#32
  let arg10 : BitVec 32 := Scf.iv c0_i32 c1_i32 k0_t1
  let c2048_i32 : BitVec 32 := 2048#32
  let v5 : BitVec 32 := Scalar.muli arg10 c2048_i32
  let v6 : BitVec 32 := v5
  let c2048_i32_23 : BitVec 32 := 2048#32
  let v48 : BitVec 32 := Scalar.subi v6 c2048_i32_23
  let v49 : BitVec 32 := v48
  let v50 : BitVec 32 := Scalar.addi v49 c0_i32_24
  let v197 : Index := Scalar.indexCast v50
  ![0, 0, 0, v197.toNat]
def k0_off12 (k0_t1 : Fin k0_t1_loop.trips) (c0_i32_14 : BitVec 32) : Fin 4 → Nat :=
  let c0_788 : Index := 0#32
  let c0_789 : Index := 0#32
  let c0_i32 : BitVec 32 := 0#32
  let c1_i32 : BitVec 32 := 1#32
  let arg10 : BitVec 32 := Scf.iv c0_i32 c1_i32 k0_t1
  let c2048_i32 : BitVec 32 := 2048#32
  let v5 : BitVec 32 := Scalar.muli arg10 c2048_i32
  let v6 : BitVec 32 := v5
  let v25 : BitVec 32 := Scalar.addi v6 c0_i32_14
  let v1134 : Index := Scalar.indexCast v25
  let c0_790 : Index := 0#32
  ![0, 0, v1134.toNat, 0]
def k0_off13 (k0_t1 : Fin k0_t1_loop.trips) (c0_i32_14 : BitVec 32) : Fin 4 → Nat :=
  let c0_988 : Index := 0#32
  let c0_989 : Index := 0#32
  let c0_990 : Index := 0#32
  let c0_i32 : BitVec 32 := 0#32
  let c1_i32 : BitVec 32 := 1#32
  let arg10 : BitVec 32 := Scf.iv c0_i32 c1_i32 k0_t1
  let c2048_i32 : BitVec 32 := 2048#32
  let v5 : BitVec 32 := Scalar.muli arg10 c2048_i32
  let v6 : BitVec 32 := v5
  let v25 : BitVec 32 := Scalar.addi v6 c0_i32_14
  let v1465 : Index := Scalar.indexCast v25
  ![0, 0, 0, v1465.toNat]
def k0_off14 (k0_t1 : Fin k0_t1_loop.trips) (c0_i32_1353 : BitVec 32) : Fin 3 → Nat :=
  let c0_1354 : Index := 0#32
  let c0_1355 : Index := 0#32
  let c0_i32 : BitVec 32 := 0#32
  let c1_i32 : BitVec 32 := 1#32
  let arg10 : BitVec 32 := Scf.iv c0_i32 c1_i32 k0_t1
  let c2048_i32 : BitVec 32 := 2048#32
  let v5 : BitVec 32 := Scalar.muli arg10 c2048_i32
  let v6 : BitVec 32 := v5
  let v2131 : BitVec 32 := Scalar.addi v6 c0_i32_1353
  let v2132 : Index := Scalar.indexCast v2131
  ![0, 0, v2132.toNat]
def k0_mult6 (k0_t1 : Fin k0_t1_loop.trips) : BitVec 32 :=
  let c0_i32 : BitVec 32 := 0#32
  let c1_i32 : BitVec 32 := 1#32
  let arg10 : BitVec 32 := Scf.iv c0_i32 c1_i32 k0_t1
  let c2048_i32 : BitVec 32 := 2048#32
  let v5 : BitVec 32 := Scalar.muli arg10 c2048_i32
  let v6 : BitVec 32 := v5
  let c4096_i32 : BitVec 32 := 4096#32
  let v48 : BitVec 32 := Scalar.subi v6 c4096_i32
  v48
def k0_off15 (k0_t1 : Fin k0_t1_loop.trips) (c0_i32_32 : BitVec 32) : Fin 4 → Nat :=
  let c0_33 : Index := 0#32
  let c0_34 : Index := 0#32
  let c0_35 : Index := 0#32
  let c0_i32 : BitVec 32 := 0#32
  let c1_i32 : BitVec 32 := 1#32
  let arg10 : BitVec 32 := Scf.iv c0_i32 c1_i32 k0_t1
  let c2048_i32 : BitVec 32 := 2048#32
  let v5 : BitVec 32 := Scalar.muli arg10 c2048_i32
  let v6 : BitVec 32 := v5
  let v66 : BitVec 32 := Scalar.addi v6 c0_i32_32
  let v67 : Index := Scalar.indexCast v66
  ![0, 0, 0, v67.toNat]
def k0_off16 (k0_t1 : Fin k0_t1_loop.trips) (c0_i32_23 : BitVec 32) : Fin 4 → Nat :=
  let c0_36 : Index := 0#32
  let c0_37 : Index := 0#32
  let c0_i32 : BitVec 32 := 0#32
  let c1_i32 : BitVec 32 := 1#32
  let arg10 : BitVec 32 := Scf.iv c0_i32 c1_i32 k0_t1
  let c2048_i32 : BitVec 32 := 2048#32
  let v5 : BitVec 32 := Scalar.muli arg10 c2048_i32
  let v6 : BitVec 32 := v5
  let c4096_i32 : BitVec 32 := 4096#32
  let v48 : BitVec 32 := Scalar.subi v6 c4096_i32
  let v49 : BitVec 32 := v48
  let v50 : BitVec 32 := Scalar.addi v49 c0_i32_23
  let v70 : Index := Scalar.indexCast v50
  let c0_38 : Index := 0#32
  ![0, 0, v70.toNat, 0]
def k0_cond2 (k0_t1 : Fin k0_t1_loop.trips) (v11 : BitVec 32) : BitVec 1 :=
  let c0_i32 : BitVec 32 := 0#32
  let c1_i32 : BitVec 32 := 1#32
  let arg10 : BitVec 32 := Scf.iv c0_i32 c1_i32 k0_t1
  let c1_i32_19 : BitVec 32 := 1#32
  let v40 : BitVec 1 := Scalar.cmpi .sge arg10 c1_i32_19
  let c8_i32_8 : BitVec 32 := 8#32
  let c1_i32_6 : BitVec 32 := 1#32
  let v14 : BitVec 32 := Scalar.subi arg10 c1_i32_6
  let c0_i32_7 : BitVec 32 := 0#32
  let v15 : BitVec 32 := Scalar.maxsi v14 c0_i32_7
  let v16 : BitVec 32 := Scalar.subi v15 v11
  let v17 : BitVec 32 := Scalar.muli c8_i32_8 v16
  let c15_i32 : BitVec 32 := 15#32
  let v18 : BitVec 32 := Scalar.andi v17 c15_i32
  let c3_i32 : BitVec 32 := 3#32
  let v33 : BitVec 32 := Scalar.shrui v18 c3_i32
  let c1_i32_15 : BitVec 32 := 1#32
  let v34 : BitVec 32 := Scalar.addi v33 c1_i32_15
  let c2_i32 : BitVec 32 := 2#32
  let v41 : BitVec 1 := Scalar.cmpi .eq v34 c2_i32
  let v42 : BitVec 1 := Scalar.andi v40 v41
  let v43 : BitVec 32 := Scalar.extui v42
  let c0_i32_20 : BitVec 32 := 0#32
  let v44 : BitVec 1 := Scalar.cmpi .ne v43 c0_i32_20
  v44

def k0_off17 (k0_t1 : Fin k0_t1_loop.trips) (c0_i32_23 : BitVec 32) : Fin 4 → Nat :=
  let c0_168 : Index := 0#32
  let c0_169 : Index := 0#32
  let c0_170 : Index := 0#32
  let c0_i32 : BitVec 32 := 0#32
  let c1_i32 : BitVec 32 := 1#32
  let arg10 : BitVec 32 := Scf.iv c0_i32 c1_i32 k0_t1
  let c2048_i32 : BitVec 32 := 2048#32
  let v5 : BitVec 32 := Scalar.muli arg10 c2048_i32
  let v6 : BitVec 32 := v5
  let c4096_i32 : BitVec 32 := 4096#32
  let v48 : BitVec 32 := Scalar.subi v6 c4096_i32
  let v49 : BitVec 32 := v48
  let v50 : BitVec 32 := Scalar.addi v49 c0_i32_23
  let v205 : Index := Scalar.indexCast v50
  ![0, 0, 0, v205.toNat]

def k0_chk2 (k0_t1 : Fin k0_t1_loop.trips) (v11 : BitVec 32) : Prop :=
  (2048 ∣ (k0_mult2 v11).toNat) ∧
  ((k0_t2_loop k0_t1 v11).OK) ∧
  (∀ k0_t2 : Fin (k0_t2_loop k0_t1 v11).trips, 2048 ∣ (k0_mult3 k0_t1 v11 k0_t2).toNat) ∧
  (∀ k0_t2 : Fin (k0_t2_loop k0_t1 v11).trips, ∀ (r : Fin 16), ∀ a, (k0_off4 k0_t1 v11 k0_t2 (BitVec.ofNat 32 (256 * r.val))) a + S1x1x256x128.size a ≤ S1x1x16384x128.size a) ∧
  (∀ k0_t2 : Fin (k0_t2_loop k0_t1 v11).trips, ∀ (r : Fin 16), ∀ a, (k0_off5 k0_t1 v11 k0_t2 (BitVec.ofNat 32 (256 * r.val))) a + S1x1x64x256.size a ≤ S1x1x80x16384.size a) ∧
  ((k0_t3_loop k0_t1 v11).OK) ∧
  (∀ k0_t3 : Fin (k0_t3_loop k0_t1 v11).trips, 2048 ∣ (k0_mult4 k0_t1 v11 k0_t3).toNat) ∧
  (∀ k0_t3 : Fin (k0_t3_loop k0_t1 v11).trips, ∀ (r : Fin 16), ∀ a, (k0_off7 k0_t1 v11 k0_t3 (BitVec.ofNat 32 (256 * r.val))) a + S1x1x256x128.size a ≤ S1x1x16384x128.size a) ∧
  (∀ k0_t3 : Fin (k0_t3_loop k0_t1 v11).trips, ∀ (r : Fin 16), ∀ a, (k0_off8 k0_t1 v11 k0_t3 (BitVec.ofNat 32 (256 * r.val))) a + S1x1x64x256.size a ≤ S1x1x80x16384.size a) ∧
  (∀ (k0_h1 : k0_cond1 k0_t1 v11 = 1#1), ∀ (r : Fin 8), ∀ a, (k0_off10 k0_t1 (BitVec.ofNat 32 (256 * r.val))) a + S1x1x256x128.size a ≤ S1x1x16384x128.size a) ∧
  (∀ (k0_h1 : k0_cond1 k0_t1 v11 = 1#1), ∀ (r : Fin 8), ∀ a, (k0_off11 k0_t1 (BitVec.ofNat 32 (256 * r.val))) a + S1x1x64x256.size a ≤ S1x1x80x16384.size a) ∧
  (∀ (k0_h2 : k0_cond2 k0_t1 v11 = 1#1), ∀ (r : Fin 16), ∀ a, (k0_off16 k0_t1 (BitVec.ofNat 32 (256 * r.val))) a + S1x1x256x128.size a ≤ S1x1x16384x128.size a) ∧
  (∀ (k0_h2 : k0_cond2 k0_t1 v11 = 1#1), ∀ (r : Fin 16), ∀ a, (k0_off17 k0_t1 (BitVec.ofNat 32 (256 * r.val))) a + S1x1x64x256.size a ≤ S1x1x80x16384.size a)
theorem k0_mult2_dvd : ∀ (k0_t1 : Fin k0_t1_loop.trips) (v11 : BitVec 32) (k0_hw2 : k0_chk2 k0_t1 v11), 2048 ∣ (k0_mult2 v11).toNat := fun k0_t1 v11 k0_hw2 => k0_hw2.1
theorem k0_t2_ok : ∀ (k0_t1 : Fin k0_t1_loop.trips) (v11 : BitVec 32) (k0_hw2 : k0_chk2 k0_t1 v11), (k0_t2_loop k0_t1 v11).OK := fun k0_t1 v11 k0_hw2 => k0_hw2.2.1
theorem k0_mult3_dvd : ∀ (k0_t1 : Fin k0_t1_loop.trips) (v11 : BitVec 32) (k0_hw2 : k0_chk2 k0_t1 v11) (k0_t2 : Fin (k0_t2_loop k0_t1 v11).trips), 2048 ∣ (k0_mult3 k0_t1 v11 k0_t2).toNat := fun k0_t1 v11 k0_hw2 k0_t2 => k0_hw2.2.2.1 k0_t2
theorem k0_off4_inb : ∀ (k0_t1 : Fin k0_t1_loop.trips) (v11 : BitVec 32) (k0_hw2 : k0_chk2 k0_t1 v11) (k0_t2 : Fin (k0_t2_loop k0_t1 v11).trips), ∀ (r : Fin 16), ∀ a, (k0_off4 k0_t1 v11 k0_t2 (BitVec.ofNat 32 (256 * r.val))) a + S1x1x256x128.size a ≤ S1x1x16384x128.size a := fun k0_t1 v11 k0_hw2 k0_t2 r => k0_hw2.2.2.2.1 k0_t2 r
theorem k0_off5_inb : ∀ (k0_t1 : Fin k0_t1_loop.trips) (v11 : BitVec 32) (k0_hw2 : k0_chk2 k0_t1 v11) (k0_t2 : Fin (k0_t2_loop k0_t1 v11).trips), ∀ (r : Fin 16), ∀ a, (k0_off5 k0_t1 v11 k0_t2 (BitVec.ofNat 32 (256 * r.val))) a + S1x1x64x256.size a ≤ S1x1x80x16384.size a := fun k0_t1 v11 k0_hw2 k0_t2 r => k0_hw2.2.2.2.2.1 k0_t2 r
theorem k0_t3_ok : ∀ (k0_t1 : Fin k0_t1_loop.trips) (v11 : BitVec 32) (k0_hw2 : k0_chk2 k0_t1 v11), (k0_t3_loop k0_t1 v11).OK := fun k0_t1 v11 k0_hw2 => k0_hw2.2.2.2.2.2.1
theorem k0_mult4_dvd : ∀ (k0_t1 : Fin k0_t1_loop.trips) (v11 : BitVec 32) (k0_hw2 : k0_chk2 k0_t1 v11) (k0_t3 : Fin (k0_t3_loop k0_t1 v11).trips), 2048 ∣ (k0_mult4 k0_t1 v11 k0_t3).toNat := fun k0_t1 v11 k0_hw2 k0_t3 => k0_hw2.2.2.2.2.2.2.1 k0_t3
theorem k0_off7_inb : ∀ (k0_t1 : Fin k0_t1_loop.trips) (v11 : BitVec 32) (k0_hw2 : k0_chk2 k0_t1 v11) (k0_t3 : Fin (k0_t3_loop k0_t1 v11).trips), ∀ (r : Fin 16), ∀ a, (k0_off7 k0_t1 v11 k0_t3 (BitVec.ofNat 32 (256 * r.val))) a + S1x1x256x128.size a ≤ S1x1x16384x128.size a := fun k0_t1 v11 k0_hw2 k0_t3 r => k0_hw2.2.2.2.2.2.2.2.1 k0_t3 r
theorem k0_off8_inb : ∀ (k0_t1 : Fin k0_t1_loop.trips) (v11 : BitVec 32) (k0_hw2 : k0_chk2 k0_t1 v11) (k0_t3 : Fin (k0_t3_loop k0_t1 v11).trips), ∀ (r : Fin 16), ∀ a, (k0_off8 k0_t1 v11 k0_t3 (BitVec.ofNat 32 (256 * r.val))) a + S1x1x64x256.size a ≤ S1x1x80x16384.size a := fun k0_t1 v11 k0_hw2 k0_t3 r => k0_hw2.2.2.2.2.2.2.2.2.1 k0_t3 r
theorem k0_off10_inb : ∀ (k0_t1 : Fin k0_t1_loop.trips) (v11 : BitVec 32) (k0_hw2 : k0_chk2 k0_t1 v11), ∀ (k0_h1 : k0_cond1 k0_t1 v11 = 1#1), ∀ (r : Fin 8), ∀ a, (k0_off10 k0_t1 (BitVec.ofNat 32 (256 * r.val))) a + S1x1x256x128.size a ≤ S1x1x16384x128.size a := fun k0_t1 v11 k0_hw2 k0_h1 r => k0_hw2.2.2.2.2.2.2.2.2.2.1 k0_h1 r
theorem k0_off11_inb : ∀ (k0_t1 : Fin k0_t1_loop.trips) (v11 : BitVec 32) (k0_hw2 : k0_chk2 k0_t1 v11), ∀ (k0_h1 : k0_cond1 k0_t1 v11 = 1#1), ∀ (r : Fin 8), ∀ a, (k0_off11 k0_t1 (BitVec.ofNat 32 (256 * r.val))) a + S1x1x64x256.size a ≤ S1x1x80x16384.size a := fun k0_t1 v11 k0_hw2 k0_h1 r => k0_hw2.2.2.2.2.2.2.2.2.2.2.1 k0_h1 r
theorem k0_off16_inb : ∀ (k0_t1 : Fin k0_t1_loop.trips) (v11 : BitVec 32) (k0_hw2 : k0_chk2 k0_t1 v11), ∀ (k0_h2 : k0_cond2 k0_t1 v11 = 1#1), ∀ (r : Fin 16), ∀ a, (k0_off16 k0_t1 (BitVec.ofNat 32 (256 * r.val))) a + S1x1x256x128.size a ≤ S1x1x16384x128.size a := fun k0_t1 v11 k0_hw2 k0_h2 r => k0_hw2.2.2.2.2.2.2.2.2.2.2.2.1 k0_h2 r
theorem k0_off17_inb : ∀ (k0_t1 : Fin k0_t1_loop.trips) (v11 : BitVec 32) (k0_hw2 : k0_chk2 k0_t1 v11), ∀ (k0_h2 : k0_cond2 k0_t1 v11 = 1#1), ∀ (r : Fin 16), ∀ a, (k0_off17 k0_t1 (BitVec.ofNat 32 (256 * r.val))) a + S1x1x64x256.size a ≤ S1x1x80x16384.size a := fun k0_t1 v11 k0_hw2 k0_h2 r => k0_hw2.2.2.2.2.2.2.2.2.2.2.2.2 k0_h2 r

def k0_off18 (k0_t1 : Fin k0_t1_loop.trips) (c0_i32_14 : BitVec 32) : Fin 4 → Nat :=
  let c0_1620 : Index := 0#32
  let c0_1621 : Index := 0#32
  let c0_i32 : BitVec 32 := 0#32
  let c1_i32 : BitVec 32 := 1#32
  let arg10 : BitVec 32 := Scf.iv c0_i32 c1_i32 k0_t1
  let c2048_i32 : BitVec 32 := 2048#32
  let v5 : BitVec 32 := Scalar.muli arg10 c2048_i32
  let v6 : BitVec 32 := v5
  let v25 : BitVec 32 := Scalar.addi v6 c0_i32_14
  let v2422 : Index := Scalar.indexCast v25
  let c0_1622 : Index := 0#32
  ![0, 0, v2422.toNat, 0]
def k0_off19 (k0_t1 : Fin k0_t1_loop.trips) (c0_i32_14 : BitVec 32) : Fin 4 → Nat :=
  let c0_1820 : Index := 0#32
  let c0_1821 : Index := 0#32
  let c0_1822 : Index := 0#32
  let c0_i32 : BitVec 32 := 0#32
  let c1_i32 : BitVec 32 := 1#32
  let arg10 : BitVec 32 := Scf.iv c0_i32 c1_i32 k0_t1
  let c2048_i32 : BitVec 32 := 2048#32
  let v5 : BitVec 32 := Scalar.muli arg10 c2048_i32
  let v6 : BitVec 32 := v5
  let v25 : BitVec 32 := Scalar.addi v6 c0_i32_14
  let v2753 : Index := Scalar.indexCast v25
  ![0, 0, 0, v2753.toNat]
def k0_off20 (k0_t1 : Fin k0_t1_loop.trips) (c0_i32_2185 : BitVec 32) : Fin 3 → Nat :=
  let c0_2186 : Index := 0#32
  let c0_2187 : Index := 0#32
  let c0_i32 : BitVec 32 := 0#32
  let c1_i32 : BitVec 32 := 1#32
  let arg10 : BitVec 32 := Scf.iv c0_i32 c1_i32 k0_t1
  let c2048_i32 : BitVec 32 := 2048#32
  let v5 : BitVec 32 := Scalar.muli arg10 c2048_i32
  let v6 : BitVec 32 := v5
  let v3419 : BitVec 32 := Scalar.addi v6 c0_i32_2185
  let v3420 : Index := Scalar.indexCast v3419
  ![0, 0, v3420.toNat]
def k0_cond3 (k0_t1 : Fin k0_t1_loop.trips) : BitVec 1 :=
  let c0_i32 : BitVec 32 := 0#32
  let c1_i32 : BitVec 32 := 1#32
  let arg10 : BitVec 32 := Scf.iv c0_i32 c1_i32 k0_t1
  let c0_i32_21 : BitVec 32 := 0#32
  let v45 : BitVec 1 := Scalar.cmpi .eq arg10 c0_i32_21
  let v46 : BitVec 32 := Scalar.extui v45
  let c0_i32_22 : BitVec 32 := 0#32
  let v47 : BitVec 1 := Scalar.cmpi .ne v46 c0_i32_22
  v47

def k0_off21 (k0_t1 : Fin k0_t1_loop.trips) (c0_i32_23 : BitVec 32) : Fin 4 → Nat :=
  let c0_24 : Index := 0#32
  let c0_25 : Index := 0#32
  let c0_26 : Index := 0#32
  let c0_i32 : BitVec 32 := 0#32
  let c1_i32 : BitVec 32 := 1#32
  let arg10 : BitVec 32 := Scf.iv c0_i32 c1_i32 k0_t1
  let c2048_i32 : BitVec 32 := 2048#32
  let v5 : BitVec 32 := Scalar.muli arg10 c2048_i32
  let v6 : BitVec 32 := v5
  let v48 : BitVec 32 := Scalar.addi v6 c0_i32_23
  let v49 : Index := Scalar.indexCast v48
  ![0, 0, 0, v49.toNat]
def k0_off22 (k0_t1 : Fin k0_t1_loop.trips) (c0_i32_14 : BitVec 32) : Fin 4 → Nat :=
  let c0_27 : Index := 0#32
  let c0_28 : Index := 0#32
  let c0_i32 : BitVec 32 := 0#32
  let c1_i32 : BitVec 32 := 1#32
  let arg10 : BitVec 32 := Scf.iv c0_i32 c1_i32 k0_t1
  let c2048_i32 : BitVec 32 := 2048#32
  let v5 : BitVec 32 := Scalar.muli arg10 c2048_i32
  let v6 : BitVec 32 := v5
  let v25 : BitVec 32 := Scalar.addi v6 c0_i32_14
  let v52 : Index := Scalar.indexCast v25
  let c0_29 : Index := 0#32
  ![0, 0, v52.toNat, 0]
def k0_off23 (k0_t1 : Fin k0_t1_loop.trips) (c0_i32_14 : BitVec 32) : Fin 4 → Nat :=
  let c0_147 : Index := 0#32
  let c0_148 : Index := 0#32
  let c0_149 : Index := 0#32
  let c0_i32 : BitVec 32 := 0#32
  let c1_i32 : BitVec 32 := 1#32
  let arg10 : BitVec 32 := Scf.iv c0_i32 c1_i32 k0_t1
  let c2048_i32 : BitVec 32 := 2048#32
  let v5 : BitVec 32 := Scalar.muli arg10 c2048_i32
  let v6 : BitVec 32 := v5
  let v25 : BitVec 32 := Scalar.addi v6 c0_i32_14
  let v191 : Index := Scalar.indexCast v25
  ![0, 0, 0, v191.toNat]
def k0_off24 (k0_t1 : Fin k0_t1_loop.trips) (c0_i32_512 : BitVec 32) : Fin 3 → Nat :=
  let c0_513 : Index := 0#32
  let c0_514 : Index := 0#32
  let c0_i32 : BitVec 32 := 0#32
  let c1_i32 : BitVec 32 := 1#32
  let arg10 : BitVec 32 := Scf.iv c0_i32 c1_i32 k0_t1
  let c2048_i32 : BitVec 32 := 2048#32
  let v5 : BitVec 32 := Scalar.muli arg10 c2048_i32
  let v6 : BitVec 32 := v5
  let v841 : BitVec 32 := Scalar.addi v6 c0_i32_512
  let v842 : Index := Scalar.indexCast v841
  ![0, 0, v842.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x128x16384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x80x16384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x16384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x16384x16x96 : Shape := ⟨4, ![2, 16384, 16, 96]⟩
abbrev S2x16384x16x64 : Shape := ⟨4, ![2, 16384, 16, 64]⟩
abbrev S_ : Shape := ⟨0, ![]⟩
abbrev S2x16x16384x16384 : Shape := ⟨4, ![2, 16, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x1x16384x16384 : Shape := ⟨4, ![1, 1, 16384, 16384]⟩
abbrev S2x16x16384 : Shape := ⟨3, ![2, 16, 16384]⟩
abbrev S2x16x16384x1 : Shape := ⟨4, ![2, 16, 16384, 1]⟩
abbrev S2x16x64x16384 : Shape := ⟨4, ![2, 16, 64, 16384]⟩
abbrev S2x1024x16384 : Shape := ⟨3, ![2, 1024, 16384]⟩

abbrev nBuf : Space → Nat
  | .hbm => 39
  | .vmem => 0
  | .smem => 0
  | _ => 0

abbrev bufTy : (tb : Table) → Fin (tcTables nBuf tb) → BufTy
  | .hbm, ⟨0, _⟩ => ⟨S2x16384x16x96, .f32⟩
  | .hbm, ⟨1, _⟩ => ⟨S2x16384x16x96, .f32⟩
  | .hbm, ⟨2, _⟩ => ⟨S2x16384x16x64, .f32⟩
  | .hbm, ⟨3, _⟩ => ⟨S_, .f32⟩
  | .hbm, ⟨4, _⟩ => ⟨S2x16x16384x16384, .f32⟩
  | .hbm, ⟨5, _⟩ => ⟨S_, .f32⟩
  | .hbm, ⟨6, _⟩ => ⟨S2x16x16384x16384, .f32⟩
  | .hbm, ⟨7, _⟩ => ⟨S2x16x16384x16384, .f32⟩
  | .hbm, ⟨8, _⟩ => ⟨S16384, .i32⟩
  | .hbm, ⟨9, _⟩ => ⟨S1x16384, .i32⟩
  | .hbm, ⟨10, _⟩ => ⟨S16384x1, .i32⟩
  | .hbm, ⟨11, _⟩ => ⟨S16384x16384, .i32⟩
  | .hbm, ⟨12, _⟩ => ⟨S16384x16384, .i32⟩
  | .hbm, ⟨13, _⟩ => ⟨S16384x16384, .i1⟩
  | .hbm, ⟨14, _⟩ => ⟨S1x1x16384x16384, .i1⟩
  | .hbm, ⟨15, _⟩ => ⟨S_, .f32⟩
  | .hbm, ⟨16, _⟩ => ⟨S_, .f32⟩
  | .hbm, ⟨17, _⟩ => ⟨S2x16x16384x16384, .i1⟩
  | .hbm, ⟨18, _⟩ => ⟨S2x16x16384x16384, .f32⟩
  | .hbm, ⟨19, _⟩ => ⟨S2x16x16384x16384, .f32⟩
  | .hbm, ⟨20, _⟩ => ⟨S_, .f32⟩
  | .hbm, ⟨21, _⟩ => ⟨S2x16x16384, .f32⟩
  | .hbm, ⟨22, _⟩ => ⟨S_, .f32⟩
  | .hbm, ⟨23, _⟩ => ⟨S2x16x16384, .f32⟩
  | .hbm, ⟨24, _⟩ => ⟨S2x16x16384, .f32⟩
  | .hbm, ⟨25, _⟩ => ⟨S2x16x16384x1, .f32⟩
  | .hbm, ⟨26, _⟩ => ⟨S2x16x16384x16384, .f32⟩
  | .hbm, ⟨27, _⟩ => ⟨S2x16x16384x16384, .f32⟩
  | .hbm, ⟨28, _⟩ => ⟨S2x16x16384x16384, .f32⟩
  | .hbm, ⟨29, _⟩ => ⟨S_, .f32⟩
  | .hbm, ⟨30, _⟩ => ⟨S2x16x16384, .f32⟩
  | .hbm, ⟨31, _⟩ => ⟨S2x16x16384x1, .f32⟩
  | .hbm, ⟨32, _⟩ => ⟨S2x16x16384x16384, .f32⟩
  | .hbm, ⟨33, _⟩ => ⟨S2x16x16384x16384, .f32⟩
  | .hbm, ⟨34, _⟩ => ⟨S2x16x64x16384, .f32⟩
  | .hbm, ⟨35, _⟩ => ⟨S2x16384x16x64, .f32⟩
  | .hbm, ⟨36, _⟩ => ⟨S2x16x64x16384, .f32⟩
  | .hbm, ⟨37, _⟩ => ⟨S2x1024x16384, .f32⟩
  | .hbm, ⟨38, _⟩ => ⟨S2x1024x16384, .bf16⟩
  | _, _ => ⟨S2x16384x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Kernel2.lean ====
abbrev S2x16384x1024 : Shape := ⟨3, ![2, 16384, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩

abbrev nBuf : Space → Nat
  | .hbm => 9
  | .vmem => 7
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32768x1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S2x16384x1024 : Shape := ⟨3, ![2, 16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16384x2816 : Shape := ⟨3, ![2, 16384, 2816]⟩
abbrev S32768x1024 : Shape := ⟨2, ![32768, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S2x16384x1024, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x1024, .f32⟩
  | .hbm, ⟨16, _⟩ => ⟨S2x16384x1024, .f32⟩
  | .hbm, ⟨17, _⟩ => ⟨S1x1x1024, .f32⟩
  | .hbm, ⟨18, _⟩ => ⟨S2x16384x1024, .f32⟩
  | .hbm, ⟨19, _⟩ => ⟨S2x16384x1024, .f32⟩
  | .hbm, ⟨20, _⟩ => ⟨S2x16384x5632, .f32⟩
  | .hbm, ⟨21, _⟩ => ⟨S2x16384x2816, .f32⟩
  | .hbm, ⟨22, _⟩ => ⟨S2x16384x2816, .f32⟩
  | .hbm, ⟨23, _⟩ => ⟨S2x16384x2816, .f32⟩
  | .hbm, ⟨24, _⟩ => ⟨S2x16384x2816, .f32⟩
  | .hbm, ⟨25, _⟩ => ⟨S_, .f32⟩
  | .hbm, ⟨26, _⟩ => ⟨S2x16384x2816, .f32⟩
  | .hbm, ⟨27, _⟩ => ⟨S2x16384x2816, .f32⟩
  | .hbm, ⟨28, _⟩ => ⟨S_, .f32⟩
  | .hbm, ⟨29, _⟩ => ⟨S2x16384x2816, .f32⟩
  | .hbm, ⟨30, _⟩ => ⟨S2x16384x2816, .f32⟩
  | .hbm, ⟨31, _⟩ => ⟨S2x16384x2816, .f32⟩
  | .hbm, ⟨32, _⟩ => ⟨S2x16384x2816, .f32⟩
  | .hbm, ⟨33, _⟩ => ⟨S2x16384x1024, .f32⟩
  | .hbm, ⟨34, _⟩ => ⟨S_, .f32⟩
  | .hbm, ⟨35, _⟩ => ⟨S2x16384x1024, .f32⟩
  | .hbm, ⟨36, _⟩ => ⟨S2x16384x1024, .f32⟩
  | .hbm, ⟨37, _⟩ => ⟨S2x16384x1024, .f32⟩
  | .hbm, ⟨38, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x2x16384x256 : Shape := ⟨4, ![2, 2, 16384, 256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S256x1024 : Shape := ⟨2, ![256, 1024]⟩
abbrev S2x1024x16384 : Shape := ⟨3, ![2, 1024, 16384]⟩
abbrev S32768x1024 : Shape := ⟨2, ![32768, 1024]⟩
abbrev S1x1024 : Shape := ⟨2, ![1, 1024]⟩
abbrev S2x32768x256 : Shape := ⟨3, ![2, 32768, 256]⟩
abbrev S512x1024 : Shape := ⟨2, ![512, 1024]⟩
abbrev S1x1024x512 : Shape := ⟨3, ![1, 1024, 512]⟩
abbrev S1x512x256 : Shape := ⟨3, ![1, 512, 256]⟩
abbrev S1024x512 : Shape := ⟨2, ![1024, 512]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩
abbrev S512x256 : Shape := ⟨2, ![512, 256]⟩

abbrev nBuf : Space → Nat
  | .hbm => 22
  | .vmem => 15
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x2x16384x256, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S1024x1024, .f32⟩
  | .hbm, ⟨9, _⟩ => ⟨S256x1024, .f32⟩
  | .hbm, ⟨10, _⟩ => ⟨S2x1024x16384, .f32⟩
  | .hbm, ⟨11, _⟩ => ⟨S2x1024x16384, .bf16⟩
  | .hbm, ⟨12, _⟩ => ⟨S32768x1024, .f32⟩
  | .hbm, ⟨13, _⟩ => ⟨S1024x1024, .bf16⟩
  | .hbm, ⟨14, _⟩ => ⟨S1x1024, .f32⟩
  | .hbm, ⟨15, _⟩ => ⟨S1024x5632, .bf16⟩
  | .hbm, ⟨16, _⟩ => ⟨S2816x1024, .bf16⟩
  | .hbm, ⟨17, _⟩ => ⟨S2x32768x256, .f32⟩
  | .hbm, ⟨18, _⟩ => ⟨S1x1024, .f32⟩
  | .hbm, ⟨19, _⟩ => ⟨S1024x1024, .bf16⟩
  | .hbm, ⟨20, _⟩ => ⟨S256x1024, .bf16⟩
  | .hbm, ⟨21, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x512x256, .f32⟩
  | .local _ .vmem, ⟨9, _⟩ => ⟨S1x512x256, .f32⟩
  | .local _ .vmem, ⟨10, _⟩ => ⟨S1x1024, .f32⟩
  | .local _ .vmem, ⟨11, _⟩ => ⟨S1024x1024, .bf16⟩
  | .local _ .vmem, ⟨12, _⟩ => ⟨S256x1024, .bf16⟩
  | .local _ .vmem, ⟨13, _⟩ => ⟨S512x1024, .f32⟩
  | .local _ .vmem, ⟨14, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S2x16384x1024 : Shape := ⟨3, ![2, 16384, 1024]⟩
abbrev S2x2x16384x256 : Shape := ⟨4, ![2, 2, 16384, 256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S256x1024 : Shape := ⟨2, ![256, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16384x2816 : Shape := ⟨3, ![2, 16384, 2816]⟩
abbrev S1x2x16384x256 : Shape := ⟨4, ![1, 2, 16384, 256]⟩
abbrev S2x16384x256 : Shape := ⟨3, ![2, 16384, 256]⟩
abbrev S32768x1024 : Shape := ⟨2, ![32768, 1024]⟩

abbrev nBuf : Space → Nat
  | .hbm => 77
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x2x16384x256, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S1024x1024, .f32⟩
  | .hbm, ⟨9, _⟩ => ⟨S256x1024, .f32⟩
  | .hbm, ⟨10, _⟩ => ⟨S2x16384x1024, .f32⟩
  | .hbm, ⟨11, _⟩ => ⟨S2x16384x1024, .f32⟩
  | .hbm, ⟨12, _⟩ => ⟨S2x16384x1024, .f32⟩
  | .hbm, ⟨13, _⟩ => ⟨S_, .f32⟩
  | .hbm, ⟨14, _⟩ => ⟨S2x16384, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S2x16384x1, .f32⟩
  | .hbm, ⟨23, _⟩ => ⟨S2x16384x1024, .f32⟩
  | .hbm, ⟨24, _⟩ => ⟨S2x16384x1024, .f32⟩
  | .hbm, ⟨25, _⟩ => ⟨S1x1x1024, .f32⟩
  | .hbm, ⟨26, _⟩ => ⟨S2x16384x1024, .f32⟩
  | .hbm, ⟨27, _⟩ => ⟨S2x16384x1024, .f32⟩
  | .hbm, ⟨28, _⟩ => ⟨S2x16384x5632, .f32⟩
  | .hbm, ⟨29, _⟩ => ⟨S2x16384x2816, .f32⟩
  | .hbm, ⟨30, _⟩ => ⟨S2x16384x2816, .f32⟩
  | .hbm, ⟨31, _⟩ => ⟨S2x16384x2816, .f32⟩
  | .hbm, ⟨32, _⟩ => ⟨S2x16384x2816, .f32⟩
  | .hbm, ⟨33, _⟩ => ⟨S_, .f32⟩
  | .hbm, ⟨34, _⟩ => ⟨S2x16384x2816, .f32⟩
  | .hbm, ⟨35, _⟩ => ⟨S2x16384x2816, .f32⟩
  | .hbm, ⟨36, _⟩ => ⟨S_, .f32⟩
  | .hbm, ⟨37, _⟩ => ⟨S2x16384x2816, .f32⟩
  | .hbm, ⟨38, _⟩ => ⟨S2x16384x2816, .f32⟩
  | .hbm, ⟨39, _⟩ => ⟨S2x16384x2816, .f32⟩
  | .hbm, ⟨40, _⟩ => ⟨S2x16384x2816, .f32⟩
  | .hbm, ⟨41, _⟩ => ⟨S2x16384x1024, .f32⟩
  | .hbm, ⟨42, _⟩ => ⟨S_, .f32⟩
  | .hbm, ⟨43, _⟩ => ⟨S2x16384x1024, .f32⟩
  | .hbm, ⟨44, _⟩ => ⟨S2x16384x1024, .f32⟩
  | .hbm, ⟨45, _⟩ => ⟨S2x16384x1024, .f32⟩
  | .hbm, ⟨46, _⟩ => ⟨S2x16384x1024, .f32⟩
  | .hbm, ⟨47, _⟩ => ⟨S_, .f32⟩
  | .hbm, ⟨48, _⟩ => ⟨S2x16384, .f32⟩
  | .hbm, ⟨49, _⟩ => ⟨S2x16384x1, .f32⟩
  | .hbm, ⟨50, _⟩ => ⟨S_, .f32⟩
  | .hbm, ⟨51, _⟩ => ⟨S2x16384x1, .f32⟩
  | .hbm, ⟨52, _⟩ => ⟨S2x16384x1, .f32⟩
  | .hbm, ⟨53, _⟩ => ⟨S_, .f32⟩
  | .hbm, ⟨54, _⟩ => ⟨S2x16384x1, .f32⟩
  | .hbm, ⟨55, _⟩ => ⟨S2x16384x1, .f32⟩
  | .hbm, ⟨56, _⟩ => ⟨S2x16384x1, .f32⟩
  | .hbm, ⟨57, _⟩ => ⟨S2x16384x1024, .f32⟩
  | .hbm, ⟨58, _⟩ => ⟨S2x16384x1024, .f32⟩
  | .hbm, ⟨59, _⟩ => ⟨S1x1x1024, .f32⟩
  | .hbm, ⟨60, _⟩ => ⟨S2x16384x1024, .f32⟩
  | .hbm, ⟨61, _⟩ => ⟨S2x16384x1024, .f32⟩
  | .hbm, ⟨62, _⟩ => ⟨S2x16384x1024, .f32⟩
  | .hbm, ⟨63, _⟩ => ⟨S2x16384x1024, .f32⟩
  | .hbm, ⟨64, _⟩ => ⟨S2x16384x1024, .f32⟩
  | .hbm, ⟨65, _⟩ => ⟨S_, .f32⟩
  | .hbm, ⟨66, _⟩ => ⟨S2x16384x1024, .f32⟩
  | .hbm, ⟨67, _⟩ => ⟨S2x16384x1024, .f32⟩
  | .hbm, ⟨68, _⟩ => ⟨S_, .f32⟩
  | .hbm, ⟨69, _⟩ => ⟨S2x16384x1024, .f32⟩
  | .hbm, ⟨70, _⟩ => ⟨S2x16384x1024, .f32⟩
  | .hbm, ⟨71, _⟩ => ⟨S1x2x16384x256, .f32⟩
  | .hbm, ⟨72, _⟩ => ⟨S2x16384x256, .f32⟩
  | .hbm, ⟨73, _⟩ => ⟨S2x16384x1024, .f32⟩
  | .hbm, ⟨74, _⟩ => ⟨S2x16384x1024, .f32⟩
  | .hbm, ⟨75, _⟩ => ⟨S2x16384x1024, .f32⟩
  | .hbm, ⟨76, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_6 : Ref sig .tc := ⟨.hbm, 65, rfl⟩
abbrev main_v40 : Ref sig .tc := ⟨.hbm, 66, rfl⟩
abbrev main_v41 : Ref sig .tc := ⟨.hbm, 67, rfl⟩
abbrev main_cst_7 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩

abbrev nD : Nat := 1
abbrev τ : Topo := Topo.v7x

variable {F : FTy → Type} [FloatOps F]
-- ==== Kernel4.lean ====
abbrev S2x16384x16x64 : Shape := ⟨4, ![2, 16384, 16, 64]⟩
abbrev S2x16384x16 : Shape := ⟨3, ![2, 16384, 16]⟩
abbrev S_ : Shape := ⟨0, ![]⟩
abbrev S2x16384x16x1 : Shape := ⟨4, ![2, 16384, 16, 1]⟩
abbrev S2x16384x16x3 : Shape := ⟨4, ![2, 16384, 16, 3]⟩
abbrev S2x16384x16x5 : Shape := ⟨4, ![2, 16384, 16, 5]⟩
abbrev S2x16384x16x53 : Shape := ⟨4, ![2, 16384, 16, 53]⟩
abbrev S2x16384x16x128 : Shape := ⟨4, ![2, 16384, 16, 128]⟩
abbrev S2x16x128x16384 : Shape := ⟨4, ![2, 16, 128, 16384]⟩
abbrev S2x16x16384x128 : Shape := ⟨4, ![2, 16, 16384, 128]⟩
abbrev S16x16384 : Shape := ⟨2, ![16, 16384]⟩
abbrev S2x16x16x16384 : Shape := ⟨4, ![2, 16, 16, 16384]⟩
abbrev S2x16x64x16384 : Shape := ⟨4, ![2, 16, 64, 16384]⟩
abbrev S2x16x80x16384 : Shape := ⟨4, ![2, 16, 80, 16384]⟩
abbrev S2x16x16384 : Shape := ⟨3, ![2, 16, 16384]⟩
abbrev S2x16x16 : Shape := ⟨3, ![2, 16, 16]⟩
abbrev S512 : Shape := ⟨1, ![512]⟩
abbrev S1 : Shape := ⟨1, ![1]⟩
abbrev S2 : Shape := ⟨1, ![2]⟩
abbrev S2x1024x16384 : Shape := ⟨3, ![2, 1024, 16384]⟩
abbrev S1x1x128x16384 : Shape := ⟨4, ![1, 1, 128, 16384]⟩
abbrev S1x1x16384x128 : Shape := ⟨4, ![1, 1, 16384, 128]⟩
abbrev S1x1x80x16384 : Shape := ⟨4, ![1, 1, 80, 16384]⟩
abbrev S1x64x16384 : Shape := ⟨3, ![1, 64, 16384]⟩
abbrev S4x80x256 : Shape := ⟨3, ![4, 80, 256]⟩
abbrev S1x1x128x256 : Shape := ⟨4, ![1, 1, 128, 256]⟩
abbrev S128x256 : Shape := ⟨2, ![128, 256]⟩
abbrev S1x1x256x128 : Shape := ⟨4, ![1, 1, 256, 128]⟩
abbrev S256x128 : Shape := ⟨2, ![256, 128]⟩
abbrev S256x256 : Shape := ⟨2, ![256, 256]⟩
abbrev S1x1x64x256 : Shape := ⟨4, ![1, 1, 64, 256]⟩
abbrev S64x256 : Shape := ⟨2, ![64, 256]⟩
abbrev S256 : Shape := ⟨1, ![256]⟩
abbrev S1x256 : Shape := ⟨2, ![1, 256]⟩
abbrev S1x64x256 : Shape := ⟨3, ![1, 64, 256]⟩
abbrev S1x1x256 : Shape := ⟨3, ![1, 1, 256]⟩

abbrev nBuf : Space → Nat
  | .hbm => 70
  | .vmem => 9
  | .smem => 3
  | _ => 0

abbrev bufTy : (tb : Table) → Fin (tcTables nBuf tb) → BufTy
  | .hbm, ⟨0, _⟩ => ⟨S2x16384x16x64, .f32⟩
  | .hbm, ⟨1, _⟩ => ⟨S2x16384x16x64, .f32⟩
  | .hbm, ⟨2, _⟩ => ⟨S2x16384x16x64, .f32⟩
  | .hbm, ⟨3, _⟩ => ⟨S2x16384x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2x16384x16, .f32⟩
  | .hbm, ⟨12, _⟩ => ⟨S2x16384x16, .f32⟩
  | .hbm, ⟨13, _⟩ => ⟨S2x16384x16, .bf16⟩
  | .hbm, ⟨14, _⟩ => ⟨S2x16384x16, .f32⟩
  | .hbm, ⟨15, _⟩ => ⟨S2x16384x16, .f32⟩
  | .hbm, ⟨16, _⟩ => ⟨S2x16384x16, .bf16⟩
  | .hbm, ⟨17, _⟩ => ⟨S2x16384x16, .f32⟩
  | .hbm, ⟨18, _⟩ => ⟨S2x16384x16, .f32⟩
  | .hbm, ⟨19, _⟩ => ⟨S2x16384x16, .f32⟩
  | .hbm, ⟨20, _⟩ => ⟨S2x16384x16, .bf16⟩
  | .hbm, ⟨21, _⟩ => ⟨S2x16384x16, .f32⟩
  | .hbm, ⟨22, _⟩ => ⟨S2x16384x16x1, .f32⟩
  | .hbm, ⟨23, _⟩ => ⟨S2x16384x16x1, .f32⟩
  | .hbm, ⟨24, _⟩ => ⟨S2x16384x16x1, .f32⟩
  | .hbm, ⟨25, _⟩ => ⟨S_, .f32⟩
  | .hbm, ⟨26, _⟩ => ⟨S2x16384x16x3, .f32⟩
  | .hbm, ⟨27, _⟩ => ⟨S_, .f32⟩
  | .hbm, ⟨28, _⟩ => ⟨S2x16384x16x5, .f32⟩
  | .hbm, ⟨29, _⟩ => ⟨S_, .f32⟩
  | .hbm, ⟨30, _⟩ => ⟨S2x16384x16x53, .f32⟩
  | .hbm, ⟨31, _⟩ => ⟨S2x16384x16x64, .f32⟩
  | .hbm, ⟨32, _⟩ => ⟨S2x16384x16x64, .f32⟩
  | .hbm, ⟨33, _⟩ => ⟨S2x16384x16x128, .f32⟩
  | .hbm, ⟨34, _⟩ => ⟨S2x16384x16x128, .bf16⟩
  | .hbm, ⟨35, _⟩ => ⟨S2x16x128x16384, .bf16⟩
  | .hbm, ⟨36, _⟩ => ⟨S2x16384x16x1, .f32⟩
  | .hbm, ⟨37, _⟩ => ⟨S2x16384x16x1, .f32⟩
  | .hbm, ⟨38, _⟩ => ⟨S2x16384x16x1, .f32⟩
  | .hbm, ⟨39, _⟩ => ⟨S2x16384x16x128, .f32⟩
  | .hbm, ⟨40, _⟩ => ⟨S2x16384x16x128, .bf16⟩
  | .hbm, ⟨41, _⟩ => ⟨S2x16x16384x128, .bf16⟩
  | .hbm, ⟨42, _⟩ => ⟨S16x16384, .i32⟩
  | .hbm, ⟨43, _⟩ => ⟨S_, .i32⟩
  | .hbm, ⟨44, _⟩ => ⟨S16x16384, .i32⟩
  | .hbm, ⟨45, _⟩ => ⟨S16x16384, .i1⟩
  | .hbm, ⟨46, _⟩ => ⟨S_, .f32⟩
  | .hbm, ⟨47, _⟩ => ⟨S_, .f32⟩
  | .hbm, ⟨48, _⟩ => ⟨S16x16384, .f32⟩
  | .hbm, ⟨49, _⟩ => ⟨S16x16384, .f32⟩
  | .hbm, ⟨50, _⟩ => ⟨S16x16384, .f32⟩
  | .hbm, ⟨51, _⟩ => ⟨S16x16384, .f32⟩
  | .hbm, ⟨52, _⟩ => ⟨S16x16384, .bf16⟩
  | .hbm, ⟨53, _⟩ => ⟨S2x16x16x16384, .bf16⟩
  | .hbm, ⟨54, _⟩ => ⟨S2x16384x16x64, .bf16⟩
  | .hbm, ⟨55, _⟩ => ⟨S2x16x64x16384, .bf16⟩
  | .hbm, ⟨56, _⟩ => ⟨S2x16x80x16384, .bf16⟩
  | .hbm, ⟨57, _⟩ => ⟨S2x16x16384, .f32⟩
  | .hbm, ⟨58, _⟩ => ⟨S2x16x16, .f32⟩
  | .hbm, ⟨59, _⟩ => ⟨S512, .f32⟩
  | .hbm, ⟨60, _⟩ => ⟨S2x16x16, .f32⟩
  | .hbm, ⟨61, _⟩ => ⟨S512, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S1, .f32⟩
  | .hbm, ⟨67, _⟩ => ⟨S1, .f32⟩
  | .hbm, ⟨68, _⟩ => ⟨S2, .f32⟩
  | .hbm, ⟨69, _⟩ => ⟨S2x1024x16384, .bf16⟩
  | .local _ .vmem, ⟨0, _⟩ => ⟨S1x1x128x16384, .bf16⟩
  | .local _ .vmem, ⟨1, _⟩ => ⟨S1x1x128x16384, .bf16⟩
  | .local _ .vmem, ⟨2, _⟩ => ⟨S1x1x16384x128, .bf16⟩
  | .local _ .vmem, ⟨3, _⟩ => ⟨S1x1x16384x128, .bf16⟩
  | .local _ .vmem, ⟨4, _⟩ => ⟨S1x1x80x16384, .bf16⟩
  | .local _ .vmem, ⟨5, _⟩ => ⟨S1x1x80x16384, .bf16⟩
  | .local _ .vmem, ⟨6, _⟩ => ⟨S1x64x16384, .bf16⟩
  | .local _ .vmem, ⟨7, _⟩ => ⟨S1x64x16384, .bf16⟩
  | .local _ .vmem, ⟨8, _⟩ => ⟨S4x80x256, .f32⟩
  | .local _ .smem, ⟨0, _⟩ => ⟨S512, .f32⟩
  | .local _ .smem, ⟨1, _⟩ => ⟨S512, .f32⟩
  | .local _ .smem, ⟨2, _⟩ => ⟨S2, .f32⟩
  | _, _ => ⟨S2x16384x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_cst_6 : Ref sig .tc := ⟨.hbm, 47, rfl⟩
abbrev main_call0_v0 : Ref sig .tc := ⟨.hbm, 48, rfl⟩
abbrev main_call0_v1 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c16_i32_1 : BitVec 32 := 16#32
  let v4 : BitVec 32 := Scalar.addi c0_i32 c16_i32_1
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  v5
def k0_off1 (i : grid0.Coords) (k0_t1 : Fin k0_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_0 : BitVec 32 := 16#32
  let v2 : BitVec 32 := Scalar.muli v1 c16_i32_0
  let c0_i32 : BitVec 32 := 0#32
  let c1_i32 : BitVec 32 := 1#32
  let arg10 : BitVec 32 := Scf.iv c0_i32 c1_i32 k0_t1
  let v56 : BitVec 32 := Scalar.addi v2 arg10
  let v57 : Index := Scalar.indexCast v56
  ![v57.toNat]
def k0_off2 (i : grid0.Coords) (arg11 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_0 : BitVec 32 := 16#32
  let v2 : BitVec 32 := Scalar.muli v1 c16_i32_0
  let v59 : BitVec 32 := Scalar.addi v2 arg11
  let v60 : Index := Scalar.indexCast v59
  ![v60.toNat]

def k0_chk1 (i : grid0.Coords) (arg11 : BitVec 32) : Prop :=
  (∀ a, (k0_off2 i arg11) a + S1.size a ≤ S512.size a)
theorem k0_off2_inb : ∀ (i : grid0.Coords) (arg11 : BitVec 32) (k0_hw1 : k0_chk1 i arg11), ∀ a, (k0_off2 i arg11) a + S1.size a ≤ S512.size a := fun i arg11 k0_hw1 => k0_hw1

def k0_mult2 (v11 : BitVec 32) : BitVec 32 :=
  let c1024_i32_6 : BitVec 32 := 1024#32
  let v12 : BitVec 32 := Scalar.muli v11 c1024_i32_6
  v12

@[reducible] def k0_t2_loop (k0_t1 : Fin k0_t1_loop.trips) (v11 : BitVec 32) : Scf.Loop 32 :=
  let c0_i32_11 : BitVec 32 := 0#32
  let c4_i32 : BitVec 32 := 4#32
  let c0_i32 : BitVec 32 := 0#32
  let c1_i32 : BitVec 32 := 1#32
  let arg10 : BitVec 32 := Scf.iv c0_i32 c1_i32 k0_t1
  let c1_i32_7 : BitVec 32 := 1#32
  let v14 : BitVec 32 := Scalar.subi arg10 c1_i32_7
  let c0_i32_8 : BitVec 32 := 0#32
  let v15 : BitVec 32 := Scalar.maxsi v14 c0_i32_8
  let v16 : BitVec 32 := Scalar.subi v15 v11
  let v17 : BitVec 32 := Scalar.muli c4_i32 v16
  let c4_i32_9 : BitVec 32 := 4#32
  let v19 : BitVec 32 := Scalar.shrui v17 c4_i32_9
  let v20 : BitVec 32 := Scalar.subi v19 c0_i32_11
  let c1_i32_12 : BitVec 32 := 1#32
  let v22 : BitVec 32 := Scalar.divsi v20 c1_i32_12
  let v23 : BitVec 32 := Scalar.muli v22 c1_i32_12
  let v24 : BitVec 32 := Scalar.addi c0_i32_11 v23
  let c1_i32_13 : BitVec 32 := 1#32
  ⟨c0_i32_11, v24, c1_i32_13⟩
def k0_mult3 (k0_t1 : Fin k0_t1_loop.trips) (v11 : BitVec 32) (k0_t2 : Fin (k0_t2_loop k0_t1 v11).trips) : BitVec 32 :=
  let c1024_i32_6 : BitVec 32 := 1024#32
  let v12 : BitVec 32 := Scalar.muli v11 c1024_i32_6
  let v13 : BitVec 32 := v12
  let c0_i32_11 : BitVec 32 := 0#32
  let c1_i32_13 : BitVec 32 := 1#32
  let arg11 : BitVec 32 := Scf.iv c0_i32_11 c1_i32_13 k0_t2
  let c16_i32_30 : BitVec 32 := 16#32
  let v54 : BitVec 32 := Scalar.muli arg11 c16_i32_30
  let c256_i32_31 : BitVec 32 := 256#32
  let v55 : BitVec 32 := Scalar.muli v54 c256_i32_31
  let v56 : BitVec 32 := Scalar.addi v13 v55
  v56
def k0_off3 (k0_t1 : Fin k0_t1_loop.trips) (c0_i32_37 : BitVec 32) : Fin 4 → Nat :=
  let c0_38 : Index := 0#32
  let c0_39 : Index := 0#32
  let c0_40 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let v74 : BitVec 32 := Scalar.addi v6 c0_i32_37
  let v75 : Index := Scalar.indexCast v74
  ![0, 0, 0, v75.toNat]
def k0_off4 (k0_t1 : Fin k0_t1_loop.trips) (v11 : BitVec 32) (k0_t2 : Fin (k0_t2_loop k0_t1 v11).trips) (c0_i32_32 : BitVec 32) : Fin 4 → Nat :=
  let c0_41 : Index := 0#32
  let c0_42 : Index := 0#32
  let c1024_i32_6 : BitVec 32 := 1024#32
  let v12 : BitVec 32 := Scalar.muli v11 c1024_i32_6
  let v13 : BitVec 32 := v12
  let c0_i32_11 : BitVec 32 := 0#32
  let c1_i32_13 : BitVec 32 := 1#32
  let arg11 : BitVec 32 := Scf.iv c0_i32_11 c1_i32_13 k0_t2
  let c16_i32_30 : BitVec 32 := 16#32
  let v54 : BitVec 32 := Scalar.muli arg11 c16_i32_30
  let c256_i32_31 : BitVec 32 := 256#32
  let v55 : BitVec 32 := Scalar.muli v54 c256_i32_31
  let v56 : BitVec 32 := Scalar.addi v13 v55
  let v57 : BitVec 32 := v56
  let v58 : BitVec 32 := Scalar.addi v57 c0_i32_32
  let v78 : Index := Scalar.indexCast v58
  let c0_43 : Index := 0#32
  ![0, 0, v78.toNat, 0]
def k0_off5 (k0_t1 : Fin k0_t1_loop.trips) (v11 : BitVec 32) (k0_t2 : Fin (k0_t2_loop k0_t1 v11).trips) (c0_i32_32 : BitVec 32) : Fin 4 → Nat :=
  let c0_109 : Index := 0#32
  let c0_110 : Index := 0#32
  let c0_111 : Index := 0#32
  let c1024_i32_6 : BitVec 32 := 1024#32
  let v12 : BitVec 32 := Scalar.muli v11 c1024_i32_6
  let v13 : BitVec 32 := v12
  let c0_i32_11 : BitVec 32 := 0#32
  let c1_i32_13 : BitVec 32 := 1#32
  let arg11 : BitVec 32 := Scf.iv c0_i32_11 c1_i32_13 k0_t2
  let c16_i32_30 : BitVec 32 := 16#32
  let v54 : BitVec 32 := Scalar.muli arg11 c16_i32_30
  let c256_i32_31 : BitVec 32 := 256#32
  let v55 : BitVec 32 := Scalar.muli v54 c256_i32_31
  let v56 : BitVec 32 := Scalar.addi v13 v55
  let v57 : BitVec 32 := v56
  let v58 : BitVec 32 := Scalar.addi v57 c0_i32_32
  let v149 : Index := Scalar.indexCast v58
  ![0, 0, 0, v149.toNat]
@[reducible] def k0_t3_loop (k0_t1 : Fin k0_t1_loop.trips) (v11 : BitVec 32) : Scf.Loop 32 :=
  let c0_i32_11 : BitVec 32 := 0#32
  let c4_i32 : BitVec 32 := 4#32
  let c0_i32 : BitVec 32 := 0#32
  let c1_i32 : BitVec 32 := 1#32
  let arg10 : BitVec 32 := Scf.iv c0_i32 c1_i32 k0_t1
  let c1_i32_7 : BitVec 32 := 1#32
  let v14 : BitVec 32 := Scalar.subi arg10 c1_i32_7
  let c0_i32_8 : BitVec 32 := 0#32
  let v15 : BitVec 32 := Scalar.maxsi v14 c0_i32_8
  let v16 : BitVec 32 := Scalar.subi v15 v11
  let v17 : BitVec 32 := Scalar.muli c4_i32 v16
  let c4_i32_9 : BitVec 32 := 4#32
  let v19 : BitVec 32 := Scalar.shrui v17 c4_i32_9
  let v20 : BitVec 32 := Scalar.subi v19 c0_i32_11
  let c1_i32_12 : BitVec 32 := 1#32
  let v22 : BitVec 32 := Scalar.divsi v20 c1_i32_12
  let v23 : BitVec 32 := Scalar.muli v22 c1_i32_12
  let v24 : BitVec 32 := Scalar.addi c0_i32_11 v23
  let v21 : BitVec 32 := Scalar.addi c0_i32_11 v20
  let c1_i32_14 : BitVec 32 := 1#32
  ⟨v24, v21, c1_i32_14⟩
def k0_mult4 (k0_t1 : Fin k0_t1_loop.trips) (v11 : BitVec 32) (k0_t3 : Fin (k0_t3_loop k0_t1 v11).trips) : BitVec 32 :=
  let c1024_i32_6 : BitVec 32 := 1024#32
  let v12 : BitVec 32 := Scalar.muli v11 c1024_i32_6
  let v13 : BitVec 32 := v12
  let c0_i32_11 : BitVec 32 := 0#32
  let c4_i32 : BitVec 32 := 4#32
  let c0_i32 : BitVec 32 := 0#32
  let c1_i32 : BitVec 32 := 1#32
  let arg10 : BitVec 32 := Scf.iv c0_i32 c1_i32 k0_t1
  let c1_i32_7 : BitVec 32 := 1#32
  let v14 : BitVec 32 := Scalar.subi arg10 c1_i32_7
  let c0_i32_8 : BitVec 32 := 0#32
  let v15 : BitVec 32 := Scalar.maxsi v14 c0_i32_8
  let v16 : BitVec 32 := Scalar.subi v15 v11
  let v17 : BitVec 32 := Scalar.muli c4_i32 v16
  let c4_i32_9 : BitVec 32 := 4#32
  let v19 : BitVec 32 := Scalar.shrui v17 c4_i32_9
  let v20 : BitVec 32 := Scalar.subi v19 c0_i32_11
  let c1_i32_12 : BitVec 32 := 1#32
  let v22 : BitVec 32 := Scalar.divsi v20 c1_i32_12
  let v23 : BitVec 32 := Scalar.muli v22 c1_i32_12
  let v24 : BitVec 32 := Scalar.addi c0_i32_11 v23
  let c1_i32_14 : BitVec 32 := 1#32
  let arg11 : BitVec 32 := Scf.iv v24 c1_i32_14 k0_t3
  let c16_i32_30 : BitVec 32 := 16#32
  let v54 : BitVec 32 := Scalar.muli arg11 c16_i32_30
  let c256_i32_31 : BitVec 32 := 256#32
  let v55 : BitVec 32 := Scalar.muli v54 c256_i32_31
  let v56 : BitVec 32 := Scalar.addi v13 v55
  v56
def k0_off6 (k0_t1 : Fin k0_t1_loop.trips) (c0_i32_37 : BitVec 32) : Fin 4 → Nat :=
  let c0_38 : Index := 0#32
  let c0_39 : Index := 0#32
  let c0_40 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let v74 : BitVec 32 := Scalar.addi v6 c0_i32_37
  let v75 : Index := Scalar.indexCast v74
  ![0, 0, 0, v75.toNat]
def k0_off7 (k0_t1 : Fin k0_t1_loop.trips) (v11 : BitVec 32) (k0_t3 : Fin (k0_t3_loop k0_t1 v11).trips) (c0_i32_32 : BitVec 32) : Fin 4 → Nat :=
  let c0_41 : Index := 0#32
  let c0_42 : Index := 0#32
  let c1024_i32_6 : BitVec 32 := 1024#32
  let v12 : BitVec 32 := Scalar.muli v11 c1024_i32_6
  let v13 : BitVec 32 := v12
  let c0_i32_11 : BitVec 32 := 0#32
  let c4_i32 : BitVec 32 := 4#32
  let c0_i32 : BitVec 32 := 0#32
  let c1_i32 : BitVec 32 := 1#32
  let arg10 : BitVec 32 := Scf.iv c0_i32 c1_i32 k0_t1
  let c1_i32_7 : BitVec 32 := 1#32
  let v14 : BitVec 32 := Scalar.subi arg10 c1_i32_7
  let c0_i32_8 : BitVec 32 := 0#32
  let v15 : BitVec 32 := Scalar.maxsi v14 c0_i32_8
  let v16 : BitVec 32 := Scalar.subi v15 v11
  let v17 : BitVec 32 := Scalar.muli c4_i32 v16
  let c4_i32_9 : BitVec 32 := 4#32
  let v19 : BitVec 32 := Scalar.shrui v17 c4_i32_9
  let v20 : BitVec 32 := Scalar.subi v19 c0_i32_11
  let c1_i32_12 : BitVec 32 := 1#32
  let v22 : BitVec 32 := Scalar.divsi v20 c1_i32_12
  let v23 : BitVec 32 := Scalar.muli v22 c1_i32_12
  let v24 : BitVec 32 := Scalar.addi c0_i32_11 v23
  let c1_i32_14 : BitVec 32 := 1#32
  let arg11 : BitVec 32 := Scf.iv v24 c1_i32_14 k0_t3
  let c16_i32_30 : BitVec 32 := 16#32
  let v54 : BitVec 32 := Scalar.muli arg11 c16_i32_30
  let c256_i32_31 : BitVec 32 := 256#32
  let v55 : BitVec 32 := Scalar.muli v54 c256_i32_31
  let v56 : BitVec 32 := Scalar.addi v13 v55
  let v57 : BitVec 32 := v56
  let v58 : BitVec 32 := Scalar.addi v57 c0_i32_32
  let v78 : Index := Scalar.indexCast v58
  let c0_43 : Index := 0#32
  ![0, 0, v78.toNat, 0]
def k0_off8 (k0_t1 : Fin k0_t1_loop.trips) (v11 : BitVec 32) (k0_t3 : Fin (k0_t3_loop k0_t1 v11).trips) (c0_i32_32 : BitVec 32) : Fin 4 → Nat :=
  let c0_109 : Index := 0#32
  let c0_110 : Index := 0#32
  let c0_111 : Index := 0#32
  let c1024_i32_6 : BitVec 32 := 1024#32
  let v12 : BitVec 32 := Scalar.muli v11 c1024_i32_6
  let v13 : BitVec 32 := v12
  let c0_i32_11 : BitVec 32 := 0#32
  let c4_i32 : BitVec 32 := 4#32
  let c0_i32 : BitVec 32 := 0#32
  let c1_i32 : BitVec 32 := 1#32
  let arg10 : BitVec 32 := Scf.iv c0_i32 c1_i32 k0_t1
  let c1_i32_7 : BitVec 32 := 1#32
  let v14 : BitVec 32 := Scalar.subi arg10 c1_i32_7
  let c0_i32_8 : BitVec 32 := 0#32
  let v15 : BitVec 32 := Scalar.maxsi v14 c0_i32_8
  let v16 : BitVec 32 := Scalar.subi v15 v11
  let v17 : BitVec 32 := Scalar.muli c4_i32 v16
  let c4_i32_9 : BitVec 32 := 4#32
  let v19 : BitVec 32 := Scalar.shrui v17 c4_i32_9
  let v20 : BitVec 32 := Scalar.subi v19 c0_i32_11
  let c1_i32_12 : BitVec 32 := 1#32
  let v22 : BitVec 32 := Scalar.divsi v20 c1_i32_12
  let v23 : BitVec 32 := Scalar.muli v22 c1_i32_12
  let v24 : BitVec 32 := Scalar.addi c0_i32_11 v23
  let c1_i32_14 : BitVec 32 := 1#32
  let arg11 : BitVec 32 := Scf.iv v24 c1_i32_14 k0_t3
  let c16_i32_30 : BitVec 32 := 16#32
  let v54 : BitVec 32 := Scalar.muli arg11 c16_i32_30
  let c256_i32_31 : BitVec 32 := 256#32
  let v55 : BitVec 32 := Scalar.muli v54 c256_i32_31
  let v56 : BitVec 32 := Scalar.addi v13 v55
  let v57 : BitVec 32 := v56
  let v58 : BitVec 32 := Scalar.addi v57 c0_i32_32
  let v149 : Index := Scalar.indexCast v58
  ![0, 0, 0, v149.toNat]
def k0_mult5 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let c1024_i32_30 : BitVec 32 := 1024#32
  let v54 : BitVec 32 := Scalar.subi v6 c1024_i32_30
  v54
def k0_off9 (k0_t1 : Fin k0_t1_loop.trips) (c0_i32_35 : BitVec 32) : Fin 4 → Nat :=
  let c0_36 : Index := 0#32
  let c0_37 : Index := 0#32
  let c0_38 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let v60 : BitVec 32 := Scalar.addi v6 c0_i32_35
  let v61 : Index := Scalar.indexCast v60
  ![0, 0, 0, v61.toNat]
def k0_off10 (k0_t1 : Fin k0_t1_loop.trips) (c0_i32_31 : BitVec 32) : Fin 4 → Nat :=
  let c0_39 : Index := 0#32
  let c0_40 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let c1024_i32_30 : BitVec 32 := 1024#32
  let v54 : BitVec 32 := Scalar.subi v6 c1024_i32_30
  let v55 : BitVec 32 := v54
  let v56 : BitVec 32 := Scalar.addi v55 c0_i32_31
  let v64 : Index := Scalar.indexCast v56
  let c0_41 : Index := 0#32
  ![0, 0, v64.toNat, 0]
def k0_cond1 (k0_t1 : Fin k0_t1_loop.trips) (v11 : BitVec 32) : BitVec 1 :=
  let c0_i32 : BitVec 32 := 0#32
  let c1_i32 : BitVec 32 := 1#32
  let arg10 : BitVec 32 := Scf.iv c0_i32 c1_i32 k0_t1
  let c1_i32_17 : BitVec 32 := 1#32
  let v31 : BitVec 1 := Scalar.cmpi .sge arg10 c1_i32_17
  let c4_i32 : BitVec 32 := 4#32
  let c1_i32_7 : BitVec 32 := 1#32
  let v14 : BitVec 32 := Scalar.subi arg10 c1_i32_7
  let c0_i32_8 : BitVec 32 := 0#32
  let v15 : BitVec 32 := Scalar.maxsi v14 c0_i32_8
  let v16 : BitVec 32 := Scalar.subi v15 v11
  let v17 : BitVec 32 := Scalar.muli c4_i32 v16
  let c15_i32 : BitVec 32 := 15#32
  let v18 : BitVec 32 := Scalar.andi v17 c15_i32
  let c2_i32 : BitVec 32 := 2#32
  let v29 : BitVec 32 := Scalar.shrui v18 c2_i32
  let c1_i32_16 : BitVec 32 := 1#32
  let v30 : BitVec 32 := Scalar.addi v29 c1_i32_16
  let c1_i32_18 : BitVec 32 := 1#32
  let v32 : BitVec 1 := Scalar.cmpi .eq v30 c1_i32_18
  let v33 : BitVec 1 := Scalar.andi v31 v32
  let v34 : BitVec 32 := Scalar.extui v33
  let c0_i32_19 : BitVec 32 := 0#32
  let v35 : BitVec 1 := Scalar.cmpi .ne v34 c0_i32_19
  v35

def k0_off11 (k0_t1 : Fin k0_t1_loop.trips) (c0_i32_31 : BitVec 32) : Fin 4 → Nat :=
  let c0_107 : Index := 0#32
  let c0_108 : Index := 0#32
  let c0_109 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let c1024_i32_30 : BitVec 32 := 1024#32
  let v54 : BitVec 32 := Scalar.subi v6 c1024_i32_30
  let v55 : BitVec 32 := v54
  let v56 : BitVec 32 := Scalar.addi v55 c0_i32_31
  let v135 : Index := Scalar.indexCast v56
  ![0, 0, 0, v135.toNat]
def k0_off12 (k0_t1 : Fin k0_t1_loop.trips) (c0_i32_15 : BitVec 32) : Fin 4 → Nat :=
  let c0_207 : Index := 0#32
  let c0_208 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let v25 : BitVec 32 := Scalar.addi v6 c0_i32_15
  let v280 : Index := Scalar.indexCast v25
  let c0_209 : Index := 0#32
  ![0, 0, v280.toNat, 0]
def k0_off13 (k0_t1 : Fin k0_t1_loop.trips) (c0_i32_15 : BitVec 32) : Fin 4 → Nat :=
  let c0_303 : Index := 0#32
  let c0_304 : Index := 0#32
  let c0_305 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let v25 : BitVec 32 := Scalar.addi v6 c0_i32_15
  let v451 : Index := Scalar.indexCast v25
  ![0, 0, 0, v451.toNat]
def k0_off14 (k0_t1 : Fin k0_t1_loop.trips) (c0_i32_386 : BitVec 32) : Fin 3 → Nat :=
  let c0_387 : Index := 0#32
  let c0_388 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let v621 : BitVec 32 := Scalar.addi v6 c0_i32_386
  let v622 : Index := Scalar.indexCast v621
  ![0, 0, v622.toNat]
def k0_mult6 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let c2048_i32 : BitVec 32 := 2048#32
  let v54 : BitVec 32 := Scalar.subi v6 c2048_i32
  v54
def k0_off15 (k0_t1 : Fin k0_t1_loop.trips) (c0_i32_35 : BitVec 32) : Fin 4 → Nat :=
  let c0_36 : Index := 0#32
  let c0_37 : Index := 0#32
  let c0_38 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let v64 : BitVec 32 := Scalar.addi v6 c0_i32_35
  let v65 : Index := Scalar.indexCast v64
  ![0, 0, 0, v65.toNat]
def k0_off16 (k0_t1 : Fin k0_t1_loop.trips) (c0_i32_30 : BitVec 32) : Fin 4 → Nat :=
  let c0_39 : Index := 0#32
  let c0_40 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let c2048_i32 : BitVec 32 := 2048#32
  let v54 : BitVec 32 := Scalar.subi v6 c2048_i32
  let v55 : BitVec 32 := v54
  let v56 : BitVec 32 := Scalar.addi v55 c0_i32_30
  let v68 : Index := Scalar.indexCast v56
  let c0_41 : Index := 0#32
  ![0, 0, v68.toNat, 0]
def k0_cond2 (k0_t1 : Fin k0_t1_loop.trips) (v11 : BitVec 32) : BitVec 1 :=
  let c0_i32 : BitVec 32 := 0#32
  let c1_i32 : BitVec 32 := 1#32
  let arg10 : BitVec 32 := Scf.iv c0_i32 c1_i32 k0_t1
  let c1_i32_20 : BitVec 32 := 1#32
  let v36 : BitVec 1 := Scalar.cmpi .sge arg10 c1_i32_20
  let c4_i32 : BitVec 32 := 4#32
  let c1_i32_7 : BitVec 32 := 1#32
  let v14 : BitVec 32 := Scalar.subi arg10 c1_i32_7
  let c0_i32_8 : BitVec 32 := 0#32
  let v15 : BitVec 32 := Scalar.maxsi v14 c0_i32_8
  let v16 : BitVec 32 := Scalar.subi v15 v11
  let v17 : BitVec 32 := Scalar.muli c4_i32 v16
  let c15_i32 : BitVec 32 := 15#32
  let v18 : BitVec 32 := Scalar.andi v17 c15_i32
  let c2_i32 : BitVec 32 := 2#32
  let v29 : BitVec 32 := Scalar.shrui v18 c2_i32
  let c1_i32_16 : BitVec 32 := 1#32
  let v30 : BitVec 32 := Scalar.addi v29 c1_i32_16
  let c2_i32_21 : BitVec 32 := 2#32
  let v37 : BitVec 1 := Scalar.cmpi .eq v30 c2_i32_21
  let v38 : BitVec 1 := Scalar.andi v36 v37
  let v39 : BitVec 32 := Scalar.extui v38
  let c0_i32_22 : BitVec 32 := 0#32
  let v40 : BitVec 1 := Scalar.cmpi .ne v39 c0_i32_22
  v40

def k0_off17 (k0_t1 : Fin k0_t1_loop.trips) (c0_i32_30 : BitVec 32) : Fin 4 → Nat :=
  let c0_107 : Index := 0#32
  let c0_108 : Index := 0#32
  let c0_109 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let c2048_i32 : BitVec 32 := 2048#32
  let v54 : BitVec 32 := Scalar.subi v6 c2048_i32
  let v55 : BitVec 32 := v54
  let v56 : BitVec 32 := Scalar.addi v55 c0_i32_30
  let v139 : Index := Scalar.indexCast v56
  ![0, 0, 0, v139.toNat]
def k0_off18 (k0_t1 : Fin k0_t1_loop.trips) (c0_i32_15 : BitVec 32) : Fin 4 → Nat :=
  let c0_415 : Index := 0#32
  let c0_416 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let v25 : BitVec 32 := Scalar.addi v6 c0_i32_15
  let v604 : Index := Scalar.indexCast v25
  let c0_417 : Index := 0#32
  ![0, 0, v604.toNat, 0]
def k0_off19 (k0_t1 : Fin k0_t1_loop.trips) (c0_i32_15 : BitVec 32) : Fin 4 → Nat :=
  let c0_511 : Index := 0#32
  let c0_512 : Index := 0#32
  let c0_513 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let v25 : BitVec 32 := Scalar.addi v6 c0_i32_15
  let v775 : Index := Scalar.indexCast v25
  ![0, 0, 0, v775.toNat]
def k0_off20 (k0_t1 : Fin k0_t1_loop.trips) (c0_i32_594 : BitVec 32) : Fin 3 → Nat :=
  let c0_595 : Index := 0#32
  let c0_596 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let v945 : BitVec 32 := Scalar.addi v6 c0_i32_594
  let v946 : Index := Scalar.indexCast v945
  ![0, 0, v946.toNat]
def k0_mult7 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let c3072_i32 : BitVec 32 := 3072#32
  let v54 : BitVec 32 := Scalar.subi v6 c3072_i32
  v54
def k0_off21 (k0_t1 : Fin k0_t1_loop.trips) (c0_i32_35 : BitVec 32) : Fin 4 → Nat :=
  let c0_36 : Index := 0#32
  let c0_37 : Index := 0#32
  let c0_38 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let v68 : BitVec 32 := Scalar.addi v6 c0_i32_35
  let v69 : Index := Scalar.indexCast v68
  ![0, 0, 0, v69.toNat]
def k0_off22 (k0_t1 : Fin k0_t1_loop.trips) (c0_i32_30 : BitVec 32) : Fin 4 → Nat :=
  let c0_39 : Index := 0#32
  let c0_40 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let c3072_i32 : BitVec 32 := 3072#32
  let v54 : BitVec 32 := Scalar.subi v6 c3072_i32
  let v55 : BitVec 32 := v54
  let v56 : BitVec 32 := Scalar.addi v55 c0_i32_30
  let v72 : Index := Scalar.indexCast v56
  let c0_41 : Index := 0#32
  ![0, 0, v72.toNat, 0]
def k0_cond3 (k0_t1 : Fin k0_t1_loop.trips) (v11 : BitVec 32) : BitVec 1 :=
  let c0_i32 : BitVec 32 := 0#32
  let c1_i32 : BitVec 32 := 1#32
  let arg10 : BitVec 32 := Scf.iv c0_i32 c1_i32 k0_t1
  let c1_i32_23 : BitVec 32 := 1#32
  let v41 : BitVec 1 := Scalar.cmpi .sge arg10 c1_i32_23
  let c4_i32 : BitVec 32 := 4#32
  let c1_i32_7 : BitVec 32 := 1#32
  let v14 : BitVec 32 := Scalar.subi arg10 c1_i32_7
  let c0_i32_8 : BitVec 32 := 0#32
  let v15 : BitVec 32 := Scalar.maxsi v14 c0_i32_8
  let v16 : BitVec 32 := Scalar.subi v15 v11
  let v17 : BitVec 32 := Scalar.muli c4_i32 v16
  let c15_i32 : BitVec 32 := 15#32
  let v18 : BitVec 32 := Scalar.andi v17 c15_i32
  let c2_i32 : BitVec 32 := 2#32
  let v29 : BitVec 32 := Scalar.shrui v18 c2_i32
  let c1_i32_16 : BitVec 32 := 1#32
  let v30 : BitVec 32 := Scalar.addi v29 c1_i32_16
  let c3_i32 : BitVec 32 := 3#32
  let v42 : BitVec 1 := Scalar.cmpi .eq v30 c3_i32
  let v43 : BitVec 1 := Scalar.andi v41 v42
  let v44 : BitVec 32 := Scalar.extui v43
  let c0_i32_24 : BitVec 32 := 0#32
  let v45 : BitVec 1 := Scalar.cmpi .ne v44 c0_i32_24
  v45

def k0_off23 (k0_t1 : Fin k0_t1_loop.trips) (c0_i32_30 : BitVec 32) : Fin 4 → Nat :=
  let c0_107 : Index := 0#32
  let c0_108 : Index := 0#32
  let c0_109 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let c3072_i32 : BitVec 32 := 3072#32
  let v54 : BitVec 32 := Scalar.subi v6 c3072_i32
  let v55 : BitVec 32 := v54
  let v56 : BitVec 32 := Scalar.addi v55 c0_i32_30
  let v143 : Index := Scalar.indexCast v56
  ![0, 0, 0, v143.toNat]
def k0_off24 (k0_t1 : Fin k0_t1_loop.trips) (c0_i32_15 : BitVec 32) : Fin 4 → Nat :=
  let c0_623 : Index := 0#32
  let c0_624 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let v25 : BitVec 32 := Scalar.addi v6 c0_i32_15
  let v928 : Index := Scalar.indexCast v25
  let c0_625 : Index := 0#32
  ![0, 0, v928.toNat, 0]
def k0_off25 (k0_t1 : Fin k0_t1_loop.trips) (c0_i32_15 : BitVec 32) : Fin 4 → Nat :=
  let c0_719 : Index := 0#32
  let c0_720 : Index := 0#32
  let c0_721 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let v25 : BitVec 32 := Scalar.addi v6 c0_i32_15
  let v1099 : Index := Scalar.indexCast v25
  ![0, 0, 0, v1099.toNat]
def k0_off26 (k0_t1 : Fin k0_t1_loop.trips) (c0_i32_802 : BitVec 32) : Fin 3 → Nat :=
  let c0_803 : Index := 0#32
  let c0_804 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let v1269 : BitVec 32 := Scalar.addi v6 c0_i32_802
  let v1270 : Index := Scalar.indexCast v1269
  ![0, 0, v1270.toNat]
def k0_mult8 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let c4096_i32 : BitVec 32 := 4096#32
  let v54 : BitVec 32 := Scalar.subi v6 c4096_i32
  v54
def k0_off27 (k0_t1 : Fin k0_t1_loop.trips) (c0_i32_35 : BitVec 32) : Fin 4 → Nat :=
  let c0_36 : Index := 0#32
  let c0_37 : Index := 0#32
  let c0_38 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let v72 : BitVec 32 := Scalar.addi v6 c0_i32_35
  let v73 : Index := Scalar.indexCast v72
  ![0, 0, 0, v73.toNat]
def k0_off28 (k0_t1 : Fin k0_t1_loop.trips) (c0_i32_30 : BitVec 32) : Fin 4 → Nat :=
  let c0_39 : Index := 0#32
  let c0_40 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let c4096_i32 : BitVec 32 := 4096#32
  let v54 : BitVec 32 := Scalar.subi v6 c4096_i32
  let v55 : BitVec 32 := v54
  let v56 : BitVec 32 := Scalar.addi v55 c0_i32_30
  let v76 : Index := Scalar.indexCast v56
  let c0_41 : Index := 0#32
  ![0, 0, v76.toNat, 0]
def k0_cond4 (k0_t1 : Fin k0_t1_loop.trips) (v11 : BitVec 32) : BitVec 1 :=
  let c0_i32 : BitVec 32 := 0#32
  let c1_i32 : BitVec 32 := 1#32
  let arg10 : BitVec 32 := Scf.iv c0_i32 c1_i32 k0_t1
  let c1_i32_25 : BitVec 32 := 1#32
  let v46 : BitVec 1 := Scalar.cmpi .sge arg10 c1_i32_25
  let c4_i32 : BitVec 32 := 4#32
  let c1_i32_7 : BitVec 32 := 1#32
  let v14 : BitVec 32 := Scalar.subi arg10 c1_i32_7
  let c0_i32_8 : BitVec 32 := 0#32
  let v15 : BitVec 32 := Scalar.maxsi v14 c0_i32_8
  let v16 : BitVec 32 := Scalar.subi v15 v11
  let v17 : BitVec 32 := Scalar.muli c4_i32 v16
  let c15_i32 : BitVec 32 := 15#32
  let v18 : BitVec 32 := Scalar.andi v17 c15_i32
  let c2_i32 : BitVec 32 := 2#32
  let v29 : BitVec 32 := Scalar.shrui v18 c2_i32
  let c1_i32_16 : BitVec 32 := 1#32
  let v30 : BitVec 32 := Scalar.addi v29 c1_i32_16
  let c4_i32_26 : BitVec 32 := 4#32
  let v47 : BitVec 1 := Scalar.cmpi .eq v30 c4_i32_26
  let v48 : BitVec 1 := Scalar.andi v46 v47
  let v49 : BitVec 32 := Scalar.extui v48
  let c0_i32_27 : BitVec 32 := 0#32
  let v50 : BitVec 1 := Scalar.cmpi .ne v49 c0_i32_27
  v50

def k0_off29 (k0_t1 : Fin k0_t1_loop.trips) (c0_i32_30 : BitVec 32) : Fin 4 → Nat :=
  let c0_107 : Index := 0#32
  let c0_108 : Index := 0#32
  let c0_109 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let c4096_i32 : BitVec 32 := 4096#32
  let v54 : BitVec 32 := Scalar.subi v6 c4096_i32
  let v55 : BitVec 32 := v54
  let v56 : BitVec 32 := Scalar.addi v55 c0_i32_30
  let v147 : Index := Scalar.indexCast v56
  ![0, 0, 0, v147.toNat]

def k0_chk2 (k0_t1 : Fin k0_t1_loop.trips) (v11 : BitVec 32) : Prop :=
  (1024 ∣ (k0_mult2 v11).toNat) ∧
  ((k0_t2_loop k0_t1 v11).OK) ∧
  (∀ k0_t2 : Fin (k0_t2_loop k0_t1 v11).trips, 1024 ∣ (k0_mult3 k0_t1 v11 k0_t2).toNat) ∧
  (∀ k0_t2 : Fin (k0_t2_loop k0_t1 v11).trips, ∀ (r : Fin 16), ∀ a, (k0_off4 k0_t1 v11 k0_t2 (BitVec.ofNat 32 (256 * r.val))) a + S1x1x256x128.size a ≤ S1x1x16384x128.size a) ∧
  (∀ k0_t2 : Fin (k0_t2_loop k0_t1 v11).trips, ∀ (r : Fin 16), ∀ a, (k0_off5 k0_t1 v11 k0_t2 (BitVec.ofNat 32 (256 * r.val))) a + S1x1x64x256.size a ≤ S1x1x80x16384.size a) ∧
  ((k0_t3_loop k0_t1 v11).OK) ∧
  (∀ k0_t3 : Fin (k0_t3_loop k0_t1 v11).trips, 1024 ∣ (k0_mult4 k0_t1 v11 k0_t3).toNat) ∧
  (∀ k0_t3 : Fin (k0_t3_loop k0_t1 v11).trips, ∀ (r : Fin 16), ∀ a, (k0_off7 k0_t1 v11 k0_t3 (BitVec.ofNat 32 (256 * r.val))) a + S1x1x256x128.size a ≤ S1x1x16384x128.size a) ∧
  (∀ k0_t3 : Fin (k0_t3_loop k0_t1 v11).trips, ∀ (r : Fin 16), ∀ a, (k0_off8 k0_t1 v11 k0_t3 (BitVec.ofNat 32 (256 * r.val))) a + S1x1x64x256.size a ≤ S1x1x80x16384.size a) ∧
  (∀ (k0_h1 : k0_cond1 k0_t1 v11 = 1#1), ∀ (r : Fin 4), ∀ a, (k0_off10 k0_t1 (BitVec.ofNat 32 (256 * r.val))) a + S1x1x256x128.size a ≤ S1x1x16384x128.size a) ∧
  (∀ (k0_h1 : k0_cond1 k0_t1 v11 = 1#1), ∀ (r : Fin 4), ∀ a, (k0_off11 k0_t1 (BitVec.ofNat 32 (256 * r.val))) a + S1x1x64x256.size a ≤ S1x1x80x16384.size a) ∧
  (∀ (k0_h2 : k0_cond2 k0_t1 v11 = 1#1), ∀ (r : Fin 8), ∀ a, (k0_off16 k0_t1 (BitVec.ofNat 32 (256 * r.val))) a + S1x1x256x128.size a ≤ S1x1x16384x128.size a) ∧
  (∀ (k0_h2 : k0_cond2 k0_t1 v11 = 1#1), ∀ (r : Fin 8), ∀ a, (k0_off17 k0_t1 (BitVec.ofNat 32 (256 * r.val))) a + S1x1x64x256.size a ≤ S1x1x80x16384.size a) ∧
  (∀ (k0_h3 : k0_cond3 k0_t1 v11 = 1#1), ∀ (r : Fin 12), ∀ a, (k0_off22 k0_t1 (BitVec.ofNat 32 (256 * r.val))) a + S1x1x256x128.size a ≤ S1x1x16384x128.size a) ∧
  (∀ (k0_h3 : k0_cond3 k0_t1 v11 = 1#1), ∀ (r : Fin 12), ∀ a, (k0_off23 k0_t1 (BitVec.ofNat 32 (256 * r.val))) a + S1x1x64x256.size a ≤ S1x1x80x16384.size a) ∧
  (∀ (k0_h4 : k0_cond4 k0_t1 v11 = 1#1), ∀ (r : Fin 16), ∀ a, (k0_off28 k0_t1 (BitVec.ofNat 32 (256 * r.val))) a + S1x1x256x128.size a ≤ S1x1x16384x128.size a) ∧
  (∀ (k0_h4 : k0_cond4 k0_t1 v11 = 1#1), ∀ (r : Fin 16), ∀ a, (k0_off29 k0_t1 (BitVec.ofNat 32 (256 * r.val))) a + S1x1x64x256.size a ≤ S1x1x80x16384.size a)
theorem k0_mult2_dvd : ∀ (k0_t1 : Fin k0_t1_loop.trips) (v11 : BitVec 32) (k0_hw2 : k0_chk2 k0_t1 v11), 1024 ∣ (k0_mult2 v11).toNat := fun k0_t1 v11 k0_hw2 => k0_hw2.1
theorem k0_t2_ok : ∀ (k0_t1 : Fin k0_t1_loop.trips) (v11 : BitVec 32) (k0_hw2 : k0_chk2 k0_t1 v11), (k0_t2_loop k0_t1 v11).OK := fun k0_t1 v11 k0_hw2 => k0_hw2.2.1
theorem k0_mult3_dvd : ∀ (k0_t1 : Fin k0_t1_loop.trips) (v11 : BitVec 32) (k0_hw2 : k0_chk2 k0_t1 v11) (k0_t2 : Fin (k0_t2_loop k0_t1 v11).trips), 1024 ∣ (k0_mult3 k0_t1 v11 k0_t2).toNat := fun k0_t1 v11 k0_hw2 k0_t2 => k0_hw2.2.2.1 k0_t2
theorem k0_off4_inb : ∀ (k0_t1 : Fin k0_t1_loop.trips) (v11 : BitVec 32) (k0_hw2 : k0_chk2 k0_t1 v11) (k0_t2 : Fin (k0_t2_loop k0_t1 v11).trips), ∀ (r : Fin 16), ∀ a, (k0_off4 k0_t1 v11 k0_t2 (BitVec.ofNat 32 (256 * r.val))) a + S1x1x256x128.size a ≤ S1x1x16384x128.size a := fun k0_t1 v11 k0_hw2 k0_t2 r => k0_hw2.2.2.2.1 k0_t2 r
theorem k0_off5_inb : ∀ (k0_t1 : Fin k0_t1_loop.trips) (v11 : BitVec 32) (k0_hw2 : k0_chk2 k0_t1 v11) (k0_t2 : Fin (k0_t2_loop k0_t1 v11).trips), ∀ (r : Fin 16), ∀ a, (k0_off5 k0_t1 v11 k0_t2 (BitVec.ofNat 32 (256 * r.val))) a + S1x1x64x256.size a ≤ S1x1x80x16384.size a := fun k0_t1 v11 k0_hw2 k0_t2 r => k0_hw2.2.2.2.2.1 k0_t2 r
theorem k0_t3_ok : ∀ (k0_t1 : Fin k0_t1_loop.trips) (v11 : BitVec 32) (k0_hw2 : k0_chk2 k0_t1 v11), (k0_t3_loop k0_t1 v11).OK := fun k0_t1 v11 k0_hw2 => k0_hw2.2.2.2.2.2.1
theorem k0_mult4_dvd : ∀ (k0_t1 : Fin k0_t1_loop.trips) (v11 : BitVec 32) (k0_hw2 : k0_chk2 k0_t1 v11) (k0_t3 : Fin (k0_t3_loop k0_t1 v11).trips), 1024 ∣ (k0_mult4 k0_t1 v11 k0_t3).toNat := fun k0_t1 v11 k0_hw2 k0_t3 => k0_hw2.2.2.2.2.2.2.1 k0_t3
theorem k0_off7_inb : ∀ (k0_t1 : Fin k0_t1_loop.trips) (v11 : BitVec 32) (k0_hw2 : k0_chk2 k0_t1 v11) (k0_t3 : Fin (k0_t3_loop k0_t1 v11).trips), ∀ (r : Fin 16), ∀ a, (k0_off7 k0_t1 v11 k0_t3 (BitVec.ofNat 32 (256 * r.val))) a + S1x1x256x128.size a ≤ S1x1x16384x128.size a := fun k0_t1 v11 k0_hw2 k0_t3 r => k0_hw2.2.2.2.2.2.2.2.1 k0_t3 r
theorem k0_off8_inb : ∀ (k0_t1 : Fin k0_t1_loop.trips) (v11 : BitVec 32) (k0_hw2 : k0_chk2 k0_t1 v11) (k0_t3 : Fin (k0_t3_loop k0_t1 v11).trips), ∀ (r : Fin 16), ∀ a, (k0_off8 k0_t1 v11 k0_t3 (BitVec.ofNat 32 (256 * r.val))) a + S1x1x64x256.size a ≤ S1x1x80x16384.size a := fun k0_t1 v11 k0_hw2 k0_t3 r => k0_hw2.2.2.2.2.2.2.2.2.1 k0_t3 r
theorem k0_off10_inb : ∀ (k0_t1 : Fin k0_t1_loop.trips) (v11 : BitVec 32) (k0_hw2 : k0_chk2 k0_t1 v11), ∀ (k0_h1 : k0_cond1 k0_t1 v11 = 1#1), ∀ (r : Fin 4), ∀ a, (k0_off10 k0_t1 (BitVec.ofNat 32 (256 * r.val))) a + S1x1x256x128.size a ≤ S1x1x16384x128.size a := fun k0_t1 v11 k0_hw2 k0_h1 r => k0_hw2.2.2.2.2.2.2.2.2.2.1 k0_h1 r
theorem k0_off11_inb : ∀ (k0_t1 : Fin k0_t1_loop.trips) (v11 : BitVec 32) (k0_hw2 : k0_chk2 k0_t1 v11), ∀ (k0_h1 : k0_cond1 k0_t1 v11 = 1#1), ∀ (r : Fin 4), ∀ a, (k0_off11 k0_t1 (BitVec.ofNat 32 (256 * r.val))) a + S1x1x64x256.size a ≤ S1x1x80x16384.size a := fun k0_t1 v11 k0_hw2 k0_h1 r => k0_hw2.2.2.2.2.2.2.2.2.2.2.1 k0_h1 r
theorem k0_off16_inb : ∀ (k0_t1 : Fin k0_t1_loop.trips) (v11 : BitVec 32) (k0_hw2 : k0_chk2 k0_t1 v11), ∀ (k0_h2 : k0_cond2 k0_t1 v11 = 1#1), ∀ (r : Fin 8), ∀ a, (k0_off16 k0_t1 (BitVec.ofNat 32 (256 * r.val))) a + S1x1x256x128.size a ≤ S1x1x16384x128.size a := fun k0_t1 v11 k0_hw2 k0_h2 r => k0_hw2.2.2.2.2.2.2.2.2.2.2.2.1 k0_h2 r
theorem k0_off17_inb : ∀ (k0_t1 : Fin k0_t1_loop.trips) (v11 : BitVec 32) (k0_hw2 : k0_chk2 k0_t1 v11), ∀ (k0_h2 : k0_cond2 k0_t1 v11 = 1#1), ∀ (r : Fin 8), ∀ a, (k0_off17 k0_t1 (BitVec.ofNat 32 (256 * r.val))) a + S1x1x64x256.size a ≤ S1x1x80x16384.size a := fun k0_t1 v11 k0_hw2 k0_h2 r => k0_hw2.2.2.2.2.2.2.2.2.2.2.2.2.1 k0_h2 r
theorem k0_off22_inb : ∀ (k0_t1 : Fin k0_t1_loop.trips) (v11 : BitVec 32) (k0_hw2 : k0_chk2 k0_t1 v11), ∀ (k0_h3 : k0_cond3 k0_t1 v11 = 1#1), ∀ (r : Fin 12), ∀ a, (k0_off22 k0_t1 (BitVec.ofNat 32 (256 * r.val))) a + S1x1x256x128.size a ≤ S1x1x16384x128.size a := fun k0_t1 v11 k0_hw2 k0_h3 r => k0_hw2.2.2.2.2.2.2.2.2.2.2.2.2.2.1 k0_h3 r
theorem k0_off23_inb : ∀ (k0_t1 : Fin k0_t1_loop.trips) (v11 : BitVec 32) (k0_hw2 : k0_chk2 k0_t1 v11), ∀ (k0_h3 : k0_cond3 k0_t1 v11 = 1#1), ∀ (r : Fin 12), ∀ a, (k0_off23 k0_t1 (BitVec.ofNat 32 (256 * r.val))) a + S1x1x64x256.size a ≤ S1x1x80x16384.size a := fun k0_t1 v11 k0_hw2 k0_h3 r => k0_hw2.2.2.2.2.2.2.2.2.2.2.2.2.2.2.1 k0_h3 r
theorem k0_off28_inb : ∀ (k0_t1 : Fin k0_t1_loop.trips) (v11 : BitVec 32) (k0_hw2 : k0_chk2 k0_t1 v11), ∀ (k0_h4 : k0_cond4 k0_t1 v11 = 1#1), ∀ (r : Fin 16), ∀ a, (k0_off28 k0_t1 (BitVec.ofNat 32 (256 * r.val))) a + S1x1x256x128.size a ≤ S1x1x16384x128.size a := fun k0_t1 v11 k0_hw2 k0_h4 r => k0_hw2.2.2.2.2.2.2.2.2.2.2.2.2.2.2.2.1 k0_h4 r
theorem k0_off29_inb : ∀ (k0_t1 : Fin k0_t1_loop.trips) (v11 : BitVec 32) (k0_hw2 : k0_chk2 k0_t1 v11), ∀ (k0_h4 : k0_cond4 k0_t1 v11 = 1#1), ∀ (r : Fin 16), ∀ a, (k0_off29 k0_t1 (BitVec.ofNat 32 (256 * r.val))) a + S1x1x64x256.size a ≤ S1x1x80x16384.size a := fun k0_t1 v11 k0_hw2 k0_h4 r => k0_hw2.2.2.2.2.2.2.2.2.2.2.2.2.2.2.2.2 k0_h4 r

def k0_off30 (k0_t1 : Fin k0_t1_loop.trips) (c0_i32_15 : BitVec 32) : Fin 4 → Nat :=
  let c0_831 : Index := 0#32
  let c0_832 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let v25 : BitVec 32 := Scalar.addi v6 c0_i32_15
  let v1252 : Index := Scalar.indexCast v25
  let c0_833 : Index := 0#32
  ![0, 0, v1252.toNat, 0]
def k0_off31 (k0_t1 : Fin k0_t1_loop.trips) (c0_i32_15 : BitVec 32) : Fin 4 → Nat :=
  let c0_927 : Index := 0#32
  let c0_928 : Index := 0#32
  let c0_929 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let v25 : BitVec 32 := Scalar.addi v6 c0_i32_15
  let v1423 : Index := Scalar.indexCast v25
  ![0, 0, 0, v1423.toNat]
def k0_off32 (k0_t1 : Fin k0_t1_loop.trips) (c0_i32_1010 : BitVec 32) : Fin 3 → Nat :=
  let c0_1011 : Index := 0#32
  let c0_1012 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let v1593 : BitVec 32 := Scalar.addi v6 c0_i32_1010
  let v1594 : Index := Scalar.indexCast v1593
  ![0, 0, v1594.toNat]
def k0_cond5 (k0_t1 : Fin k0_t1_loop.trips) : BitVec 1 :=
  let c0_i32 : BitVec 32 := 0#32
  let c1_i32 : BitVec 32 := 1#32
  let arg10 : BitVec 32 := Scf.iv c0_i32 c1_i32 k0_t1
  let c0_i32_28 : BitVec 32 := 0#32
  let v51 : BitVec 1 := Scalar.cmpi .eq arg10 c0_i32_28
  let v52 : BitVec 32 := Scalar.extui v51
  let c0_i32_29 : BitVec 32 := 0#32
  let v53 : BitVec 1 := Scalar.cmpi .ne v52 c0_i32_29
  v53

def k0_off33 (k0_t1 : Fin k0_t1_loop.trips) (c0_i32_30 : BitVec 32) : Fin 4 → Nat :=
  let c0_31 : Index := 0#32
  let c0_32 : Index := 0#32
  let c0_33 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let v54 : BitVec 32 := Scalar.addi v6 c0_i32_30
  let v55 : Index := Scalar.indexCast v54
  ![0, 0, 0, v55.toNat]
def k0_off34 (k0_t1 : Fin k0_t1_loop.trips) (c0_i32_15 : BitVec 32) : Fin 4 → Nat :=
  let c0_34 : Index := 0#32
  let c0_35 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let v25 : BitVec 32 := Scalar.addi v6 c0_i32_15
  let v58 : Index := Scalar.indexCast v25
  let c0_36 : Index := 0#32
  ![0, 0, v58.toNat, 0]
def k0_off35 (k0_t1 : Fin k0_t1_loop.trips) (c0_i32_15 : BitVec 32) : Fin 4 → Nat :=
  let c0_90 : Index := 0#32
  let c0_91 : Index := 0#32
  let c0_92 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let v25 : BitVec 32 := Scalar.addi v6 c0_i32_15
  let v133 : Index := Scalar.indexCast v25
  ![0, 0, 0, v133.toNat]
def k0_off36 (k0_t1 : Fin k0_t1_loop.trips) (c0_i32_173 : BitVec 32) : Fin 3 → Nat :=
  let c0_174 : Index := 0#32
  let c0_175 : Index := 0#32
  let c0_i32 : BitVec 32 := 0#32
  let c1_i32 : BitVec 32 := 1#32
  let arg10 : BitVec 32 := Scf.iv c0_i32 c1_i32 k0_t1
  let c1024_i32 : BitVec 32 := 1024#32
  let v5 : BitVec 32 := Scalar.muli arg10 c1024_i32
  let v6 : BitVec 32 := v5
  let v295 : BitVec 32 := Scalar.addi v6 c0_i32_173
  let v296 : Index := Scalar.indexCast v295
  ![0, 0, v296.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x128x16384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x80x16384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x16384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S2x16384x16x64 : Shape := ⟨4, ![2, 16384, 16, 64]⟩
abbrev S2x16384x16 : Shape := ⟨3, ![2, 16384, 16]⟩
abbrev S_ : Shape := ⟨0, ![]⟩
abbrev S2x16x16384 : Shape := ⟨3, ![2, 16, 16384]⟩
abbrev S2x16x16384x16384 : Shape := ⟨4, ![2, 16, 16384, 16384]⟩
abbrev S2x16x16384x1 : Shape := ⟨4, ![2, 16, 16384, 1]⟩
abbrev S2x16x1x16384 : Shape := ⟨4, ![2, 16, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x1x16384x16384 : Shape := ⟨4, ![1, 1, 16384, 16384]⟩
abbrev S2x16x64x16384 : Shape := ⟨4, ![2, 16, 64, 16384]⟩
abbrev S2x1024x16384 : Shape := ⟨3, ![2, 1024, 16384]⟩

abbrev nBuf : Space → Nat
  | .hbm => 47
  | .vmem => 0
  | .smem => 0
  | _ => 0

abbrev bufTy : (tb : Table) → Fin (tcTables nBuf tb) → BufTy
  | .hbm, ⟨0, _⟩ => ⟨S2x16384x16x64, .f32⟩
  | .hbm, ⟨1, _⟩ => ⟨S2x16384x16x64, .f32⟩
  | .hbm, ⟨2, _⟩ => ⟨S2x16384x16x64, .f32⟩
  | .hbm, ⟨3, _⟩ => ⟨S2x16384x16, .f32⟩
  | .hbm, ⟨4, _⟩ => ⟨S_, .f32⟩
  | .hbm, ⟨5, _⟩ => ⟨S2x16x16384, .f32⟩
  | .hbm, ⟨6, _⟩ => ⟨S2x16x16384x16384, .f32⟩
  | .hbm, ⟨7, _⟩ => ⟨S_, .f32⟩
  | .hbm, ⟨8, _⟩ => ⟨S2x16x16384x16384, .f32⟩
  | .hbm, ⟨9, _⟩ => ⟨S2x16x16384x16384, .f32⟩
  | .hbm, ⟨10, _⟩ => ⟨S2x16x16384x1, .f32⟩
  | .hbm, ⟨11, _⟩ => ⟨S2x16x16384x16384, .f32⟩
  | .hbm, ⟨12, _⟩ => ⟨S2x16x16384x16384, .f32⟩
  | .hbm, ⟨13, _⟩ => ⟨S2x16x1x16384, .f32⟩
  | .hbm, ⟨14, _⟩ => ⟨S2x16x16384x16384, .f32⟩
  | .hbm, ⟨15, _⟩ => ⟨S2x16x16384x16384, .f32⟩
  | .hbm, ⟨16, _⟩ => ⟨S16384, .i32⟩
  | .hbm, ⟨17, _⟩ => ⟨S1x16384, .i32⟩
  | .hbm, ⟨18, _⟩ => ⟨S16384x1, .i32⟩
  | .hbm, ⟨19, _⟩ => ⟨S16384x16384, .i32⟩
  | .hbm, ⟨20, _⟩ => ⟨S16384x16384, .i32⟩
  | .hbm, ⟨21, _⟩ => ⟨S16384x16384, .i1⟩
  | .hbm, ⟨22, _⟩ => ⟨S1x1x16384x16384, .i1⟩
  | .hbm, ⟨23, _⟩ => ⟨S_, .f32⟩
  | .hbm, ⟨24, _⟩ => ⟨S_, .f32⟩
  | .hbm, ⟨25, _⟩ => ⟨S2x16x16384x16384, .i1⟩
  | .hbm, ⟨26, _⟩ => ⟨S2x16x16384x16384, .f32⟩
  | .hbm, ⟨27, _⟩ => ⟨S2x16x16384x16384, .f32⟩
  | .hbm, ⟨28, _⟩ => ⟨S_, .f32⟩
  | .hbm, ⟨29, _⟩ => ⟨S2x16x16384, .f32⟩
  | .hbm, ⟨30, _⟩ => ⟨S_, .f32⟩
  | .hbm, ⟨31, _⟩ => ⟨S2x16x16384, .f32⟩
  | .hbm, ⟨32, _⟩ => ⟨S2x16x16384, .f32⟩
  | .hbm, ⟨33, _⟩ => ⟨S2x16x16384x1, .f32⟩
  | .hbm, ⟨34, _⟩ => ⟨S2x16x16384x16384, .f32⟩
  | .hbm, ⟨35, _⟩ => ⟨S2x16x16384x16384, .f32⟩
  | .hbm, ⟨36, _⟩ => ⟨S2x16x16384x16384, .f32⟩
  | .hbm, ⟨37, _⟩ => ⟨S_, .f32⟩
  | .hbm, ⟨38, _⟩ => ⟨S2x16x16384, .f32⟩
  | .hbm, ⟨39, _⟩ => ⟨S2x16x16384x1, .f32⟩
  | .hbm, ⟨40, _⟩ => ⟨S2x16x16384x16384, .f32⟩
  | .hbm, ⟨41, _⟩ => ⟨S2x16x16384x16384, .f32⟩
  | .hbm, ⟨42, _⟩ => ⟨S2x16x64x16384, .f32⟩
  | .hbm, ⟨43, _⟩ => ⟨S2x16384x16x64, .f32⟩
  | .hbm, ⟨44, _⟩ => ⟨S2x16x64x16384, .f32⟩
  | .hbm, ⟨45, _⟩ => ⟨S2x1024x16384, .f32⟩
  | .hbm, ⟨46, _⟩ => ⟨S2x1024x16384, .bf16⟩
  | _, _ => ⟨S2x16384x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Proof.Struct.lean ====
/-
The kernel body as a short program: the loads and stores of the printed text, in its order, written once
as recursions over the key blocks and the eight column chains of a query tile.
-/
module

public import proofs.«01_k».proof.Proof.Gen.KernelIdeal.Skeleton
public import Idealize.ShloMosaic.Lib.Pipeline.Regions

@[expose] public section

set_option maxRecDepth 16384

noncomputable section

namespace Cert.KernelIdeal.Att

open Idealize.ShloMosaic Idealize.SL.Sem Cert.KernelIdeal Cert.KernelIdeal.Gen

variable {F : FTy → Type} [FloatOps F]

/-- The programs of this kernel that return nothing. -/
abbrev PR (F : FTy → Type) [FloatOps F] := Prog (TpuEff nD τ sig (Elt F) (Λ₀ F) .tc) PUnit

/-- A block of 256 keys: where its keys and its values stand, the first chain that sees it, whether that
    chain sees it masked, and its first position. -/
structure Blk where
  ok : Fin 4 → Nat
  hk : ∀ a, ok a + S1x1x256x128.size a ≤ S1x1x16384x128.size a
  ov : Fin 4 → Nat
  hv : ∀ a, ov a + S1x1x64x256.size a ≤ S1x1x80x16384.size a
  d : Nat
  diag : Bool
  kb : BitVec 32

/-- Where the eight chains' queries stand, and the tile's first position. -/
structure Qs where
  oq : Fin 8 → Fin 4 → Nat
  hq : ∀ c a, oq c a + S1x1x128x256.size a ≤ S1x1x128x16384.size a
  q0 : BitVec 32

/-- The eight chains. -/
def chains : List (Fin 8) := [⟨0, by decide⟩, ⟨1, by decide⟩, ⟨2, by decide⟩, ⟨3, by decide⟩, ⟨4, by decide⟩,
  ⟨5, by decide⟩, ⟨6, by decide⟩, ⟨7, by decide⟩]

/-- Scores of one block of keys for one chain of queries. -/
def scoreV (x : Vec F S1x1x128x256 .bf16) (y : Vec F S1x1x256x128 .bf16) : FVec F S256x256 .f32 :=
  matmul dot_S256x128_S128x256_S256x256_1_0_0_1_n_n none
    (shapeCast S256x128 y shapeCasts_S1x1x256x128_S256x128) (shapeCast S128x256 x shapeCasts_S1x1x128x256_S128x256)
    (constant S256x256 .f32 0x00000000#32)

/-- Scores with the keys after the query left out. -/
def maskV (kb qb : BitVec 32) (s : FVec F S256x256 .f32) : FVec F S256x256 .f32 :=
  select (cmpi .sle (addi (broadcast S256x256 kb) (iota .tc S256x256 32 [0] iota_S256x256_d0_w32))
      (addi (broadcast S256x256 qb) (iota .tc S256x256 32 [1] iota_S256x256_d1_w32)))
    s (broadcast S256x256 (Scalar.ofBits .f32 0xFF800000#32))

/-- The weights of a block, before the division. -/
def expV (v3 : Elt F .f32) (s : FVec F S256x256 .f32) : FVec F S256x256 .f32 :=
  exp2 (subf s (broadcast S256x256 v3))

/-- The weighted sum of a block's values. -/
def pvV (v3 : Elt F .f32) (z : Vec F S1x1x64x256 .bf16) (s : FVec F S256x256 .f32) : FVec F S64x256 .f32 :=
  matmul dot_S64x256_S256x256_S64x256_1_0_0_1_n_n none (shapeCast S64x256 z shapeCasts_S1x1x64x256_S64x256)
    (truncf .bf16 (expV v3 s) bitsLt_bf16_f32) (constant S64x256 .f32 0x00000000#32)

/-- The sum of a block's weights. -/
def lV (v3 : Elt F .f32) (s : FVec F S256x256 .f32) : FVec F S1x256 .f32 :=
  shapeCast S1x256 (multiReduction .add [0] S256 (expV v3 s) 0x00000000#32 reduces_S256x256_S256 (.inl rfl) rfl)
    shapeCasts_S256_S1x256

/-- What a chain has summed so far: nothing, or a weighted sum with the sum of the weights. -/
abbrev Tot (F : FTy → Type) [FloatOps F] := Option (FVec F S64x256 .f32 × FVec F S1x256 .f32)

/-- One more block's sums. -/
def Tot.add (t : Tot F) (a : FVec F S64x256 .f32) (b : FVec F S1x256 .f32) : Tot F :=
  match t with
  | none => some (a, b)
  | some (x, y) => some (addf x a, addf y b)

/-- A vector standing where nothing has been computed. -/
def none256 : FVec F S256x256 .f32 := constant S256x256 .f32 0x00000000#32

/-- A chain's state: the scores of the block it is at and of the next one, and its sums. -/
structure CS (F : FTy → Type) [FloatOps F] where
  c : Fin 8
  s0 : FVec F S256x256 .f32
  s1 : FVec F S256x256 .f32
  t : Tot F

/-- The weighted sums of a chain, zero where it has none. -/
def Tot.fst (t : Tot F) : FVec F S64x256 .f32 :=
  match t with
  | none => constant S64x256 .f32 0x00000000#32
  | some p => p.1

/-- The sums of the weights of a chain, zero where it has none. -/
def Tot.snd (t : Tot F) : FVec F S1x256 .f32 :=
  match t with
  | none => constant S1x256 .f32 0x00000000#32
  | some p => p.2

section
variable (arg5 : Memref sig .tc .vmem S1x1x128x16384 .bf16) (arg6 : Memref sig .tc .vmem S1x1x16384x128 .bf16)
  (arg7 : Memref sig .tc .vmem S1x1x80x16384 .bf16) (v3 : Elt F .f32) (Q : Qs)

/-- The scores of a block for a chain that sees it. -/
def scoreK (b : Blk) (c : Fin 8) (K : FVec F S256x256 .f32 → PR F) : PR F :=
  .op (.load arg5 (Rect.unit (s := S1x1x128x16384) (Q.oq c) S1x1x128x256.size (Q.hq c)).toLoadRect
    (View.loadsAt_vmem h_S1x1x128x256)) fun x =>
  .op (.load arg6 (Rect.unit (s := S1x1x16384x128) b.ok S1x1x256x128.size b.hk).toLoadRect
    (View.loadsAt_vmem h_S1x1x256x128)) fun y =>
  K (bif b.diag && Nat.beq b.d c.val then
      maskV b.kb (Scalar.addi Q.q0 (BitVec.ofNat 32 (256 * c.val))) (scoreV x y)
    else scoreV x y)

/-- The scores of a block for a chain, where there is a block and the chain sees it. -/
def scoreK? (n : Option Blk) (c : Fin 8) (K : FVec F S256x256 .f32 → PR F) : PR F :=
  match n with
  | none => K none256
  | some b => match Nat.ble b.d c.val with
    | true => scoreK arg5 arg6 Q b c K
    | false => K none256

/-- A block's sums added to a chain's, where the chain sees it. -/
def sumK (b : Blk) (c : Fin 8) (s : FVec F S256x256 .f32) (t : Tot F) (K : Tot F → PR F) : PR F :=
  match Nat.ble b.d c.val with
  | true => .op (.load arg7 (Rect.unit (s := S1x1x80x16384) b.ov S1x1x64x256.size b.hv).toLoadRect
      (View.loadsAt_vmem h_S1x1x64x256)) fun z => K (t.add (pvV v3 z s) (lV v3 s))
  | false => K t

/-- One block, chain after chain: the scores two blocks ahead, then this block's sums. -/
def stepK (n : Option Blk) (b : Blk) : List (CS F) → (List (CS F) → PR F) → PR F
  | [], K => K []
  | x :: xs, K =>
    scoreK? arg5 arg6 Q n x.c fun s2 => sumK arg7 v3 b x.c x.s0 x.t fun t =>
      stepK n b xs fun r => K (⟨x.c, x.s1, s2, t⟩ :: r)

/-- The blocks of a list in order. -/
def runK : List Blk → List (CS F) → (List (CS F) → PR F) → PR F
  | [], xs, K => K xs
  | b :: bs, xs, K => stepK arg5 arg6 arg7 v3 Q (bs.tail.head?) b xs fun r => runK bs r K

/-- The scores of a block for every chain. -/
def headK (n : Option Blk) : List (CS F) → (List (CS F) → PR F) → PR F
  | [], K => K []
  | x :: xs, K => scoreK? arg5 arg6 Q n x.c fun s => headK n xs fun r => K (⟨x.c, x.s1, s, x.t⟩ :: r)

/-- The chains before the first block. -/
def start : List (CS F) := chains.map fun c => ⟨c, none256, none256, none⟩

/-- A list of blocks from its beginning. -/
def listK (bs : List Blk) (K : List (CS F) → PR F) : PR F :=
  headK arg5 arg6 Q bs.head? start fun r => headK arg5 arg6 Q bs.tail.head? r fun r =>
    runK arg5 arg6 arg7 v3 Q bs r K

end

/-- The accumulator's weighted sums of a chain. -/
abbrev accV (c : Fin 8) : Rect S8x80x256 :=
  Rect.unit (s := S8x80x256) ![c.val, 0, 0] S1x64x256.size (by revert c; decide)

/-- The accumulator's sums of weights of a chain. -/
abbrev accL (c : Fin 8) : Rect S8x80x256 :=
  Rect.unit (s := S8x80x256) ![c.val, 64, 0] S1x1x256.size (by revert c; decide)

/-- A chain's sums added to the accumulator's. -/
def newV (x : Vec F S1x64x256 .f32) (t : Tot F) : FVec F S64x256 .f32 :=
  addf (shapeCast S64x256 x shapeCasts_S1x64x256_S64x256) t.fst

/-- A chain's sums of weights added to the accumulator's. -/
def newL (x : Vec F S1x1x256 .f32) (t : Tot F) : FVec F S1x256 .f32 :=
  addf (shapeCast S1x256 x shapeCasts_S1x1x256_S1x256) t.snd

/-- Every chain's sums added into the accumulator. -/
def accK (arg9 : Memref sig .tc .vmem S8x80x256 .f32) : List (CS F) → PR F → PR F
  | [], K => K
  | x :: xs, K =>
    .op (.load arg9 (accV x.c).toLoadRect (View.loadsAt_vmem h_S1x64x256)) fun a =>
    .op (.load arg9 (accV x.c).toLoadRect (View.loadsAt_vmem h_S1x64x256)) fun _ =>
    .op (.store arg9 (accV x.c) (shapeCast S1x64x256 (newV a x.t) shapeCasts_S64x256_S1x64x256) Finset.univ
      (View.stores_vmem_bits_univ h_S1x64x256 rfl) (.inl rfl)) fun _ =>
    .op (.load arg9 (accL x.c).toLoadRect (View.loadsAt_vmem h_S1x1x256)) fun l =>
    .op (.load arg9 (accL x.c).toLoadRect (View.loadsAt_vmem h_S1x1x256)) fun _ =>
    .op (.store arg9 (accL x.c) (shapeCast S1x1x256 (newL l x.t) shapeCasts_S1x256_S1x1x256) Finset.univ
      (View.stores_vmem_bits_univ h_S1x1x256 rfl) (.inl rfl)) fun _ =>
    accK arg9 xs K

/-- Where the eight chains' results go. -/
structure Os where
  oo : Fin 8 → Fin 3 → Nat
  ho : ∀ c a, oo c a + S1x64x256.size a ≤ S1x64x16384.size a
  hp : ∀ c, (Rect.unit (s := S1x64x16384) (oo c) S1x64x256.size (ho c)).PackedRows (EltTy.packing .bf16)

/-- A chain's result: the weighted sums over the sums of weights. -/
def outV (a : Vec F S1x64x256 .f32) (l : Vec F S1x1x256 .f32) (t : Tot F) : FVec F S1x64x256 .bf16 :=
  shapeCast S1x64x256
    (truncf .bf16 (divf (newV a t) (broadcastTo S64x256 (newL l t) broadcasts_S1x256_S64x256)) bitsLt_bf16_f32)
    shapeCasts_S64x256_S1x64x256

/-- Every chain's result written out. -/
def outK (arg8 : Memref sig .tc .vmem S1x64x16384 .bf16) (harg8 : arg8.IsWhole)
    (arg9 : Memref sig .tc .vmem S8x80x256 .f32) (O : Os) : List (CS F) → PR F → PR F
  | [], K => K
  | x :: xs, K =>
    .op (.load arg9 (accV x.c).toLoadRect (View.loadsAt_vmem h_S1x64x256)) fun a =>
    .op (.load arg9 (accL x.c).toLoadRect (View.loadsAt_vmem h_S1x1x256)) fun l =>
    .op (.load arg8 (Rect.unit (s := S1x64x16384) (O.oo x.c) S1x64x256.size (O.ho x.c)).toLoadRect
      (View.loadsAt_vmem h_S1x64x256)) fun _ =>
    .op (.store arg8 (Rect.unit (s := S1x64x16384) (O.oo x.c) S1x64x256.size (O.ho x.c)) (outV a l x.t) Finset.univ
      (View.stores_vmem h_S1x64x256 (harg8.storeExact_slice rfl _ (O.hp x.c)) (fun _ => rfl)) (.inl rfl)) fun _ =>
    outK arg8 harg8 arg9 O xs K

/-- The first eight and sixteen numbers. -/
def f8 : List (Fin 8) := chains

/-- The first sixteen numbers. -/
def f16 : List (Fin 16) := [⟨0, by decide⟩, ⟨1, by decide⟩, ⟨2, by decide⟩, ⟨3, by decide⟩, ⟨4, by decide⟩,
  ⟨5, by decide⟩, ⟨6, by decide⟩, ⟨7, by decide⟩, ⟨8, by decide⟩, ⟨9, by decide⟩, ⟨10, by decide⟩, ⟨11, by decide⟩,
  ⟨12, by decide⟩, ⟨13, by decide⟩, ⟨14, by decide⟩, ⟨15, by decide⟩]

/-- Where a tile's queries stand, for the sixteen blocks of a trip. -/
def qs2 (t : Fin k0_t1_loop.trips) (q0 : BitVec 32) : Qs where
  oq c := k0_off3 t (BitVec.ofNat 32 (256 * c.val))
  hq c := k0_off3_inb t c
  q0 := q0

/-- The sixteen blocks of a trip. -/
def bs2 (t : Fin k0_t1_loop.trips) (v11 : BitVec 32) (h : k0_chk2 t v11) (u : Fin (k0_t2_loop t v11).trips) : List Blk :=
  f16.map fun r =>
    ⟨_, k0_off4_inb t v11 h u r, _, k0_off5_inb t v11 h u r, 0, false, 0#32⟩

/-- Where a tile's queries stand, for the sixteen blocks of a trip of the second loop. -/
def qs3 (t : Fin k0_t1_loop.trips) (q0 : BitVec 32) : Qs := ⟨_, k0_off6_inb t, q0⟩

/-- The sixteen blocks of a trip of the second loop. -/
def bs3 (t : Fin k0_t1_loop.trips) (v11 : BitVec 32) (h : k0_chk2 t v11) (u : Fin (k0_t3_loop t v11).trips) : List Blk :=
  f16.map fun r => ⟨_, k0_off7_inb t v11 h u r, _, k0_off8_inb t v11 h u r, 0, false, 0#32⟩

/-- Where a tile's queries stand, for an end with one group of eight blocks below the diagonal. -/
def qsF1 (t : Fin k0_t1_loop.trips) (q0 : BitVec 32) : Qs := ⟨_, k0_off9_inb t, q0⟩

/-- Eight blocks below the diagonal, then the eight on it. -/
def bsF1 (t : Fin k0_t1_loop.trips) (v11 q0 : BitVec 32) (h : k0_chk2 t v11) (h1 : k0_cond1 t v11 = 1#1) : List Blk :=
  (f8.map fun r => ⟨_, k0_off10_inb t v11 h h1 r, _, k0_off11_inb t v11 h h1 r, 0, false, 0#32⟩) ++
  (f8.map fun r =>
    ⟨_, k0_off12_inb t r, _, k0_off13_inb t r, r.val, true, Scalar.addi q0 (BitVec.ofNat 32 (256 * r.val))⟩)

/-- Where the results go, after one group below the diagonal. -/
def osF1 (t : Fin k0_t1_loop.trips) : Os := ⟨_, k0_off14_inb t, k0_off14_packedbf16 t⟩

/-- Where a tile's queries stand, for an end with two groups of eight blocks below the diagonal. -/
def qsF2 (t : Fin k0_t1_loop.trips) (q0 : BitVec 32) : Qs := ⟨_, k0_off15_inb t, q0⟩

/-- Sixteen blocks below the diagonal, then the eight on it. -/
def bsF2 (t : Fin k0_t1_loop.trips) (v11 q0 : BitVec 32) (h : k0_chk2 t v11) (h1 : k0_cond2 t v11 = 1#1) : List Blk :=
  (f16.map fun r => ⟨_, k0_off16_inb t v11 h h1 r, _, k0_off17_inb t v11 h h1 r, 0, false, 0#32⟩) ++
  (f8.map fun r =>
    ⟨_, k0_off18_inb t r, _, k0_off19_inb t r, r.val, true, Scalar.addi q0 (BitVec.ofNat 32 (256 * r.val))⟩)

/-- Where the results go, after two groups below the diagonal. -/
def osF2 (t : Fin k0_t1_loop.trips) : Os := ⟨_, k0_off20_inb t, k0_off20_packedbf16 t⟩

/-- Where the first tile's queries stand. -/
def qsF0 (t : Fin k0_t1_loop.trips) (q0 : BitVec 32) (h : k0_cond3 t = 1#1) : Qs := ⟨_, k0_off21_inb t h, q0⟩

/-- The eight blocks of the first tile. -/
def bsF0 (t : Fin k0_t1_loop.trips) (q0 : BitVec 32) (h : k0_cond3 t = 1#1) : List Blk :=
  f8.map fun r =>
    ⟨_, k0_off22_inb t h r, _, k0_off23_inb t h r, r.val, true, Scalar.addi q0 (BitVec.ofNat 32 (256 * r.val))⟩

/-- Where the first tile's results go. -/
def osF0 (t : Fin k0_t1_loop.trips) (h : k0_cond3 t = 1#1) : Os := ⟨_, k0_off24_inb t h, k0_off24_packedbf16 t h⟩

section
variable (i : grid0.Coords) (arg2 : Memref sig .tc .smem S512 .f32) (harg2 : arg2.IsWhole)
  (arg3 : Memref sig .tc .smem S512 .f32) (harg3 : arg3.IsWhole) (arg4 : Memref sig .tc .smem S2 .f32)
  (harg4 : arg4.IsWhole) (arg5 : Memref sig .tc .vmem S1x1x128x16384 .bf16) (harg5 : arg5.IsWhole)
  (arg6 : Memref sig .tc .vmem S1x1x16384x128 .bf16) (harg6 : arg6.IsWhole)
  (arg7 : Memref sig .tc .vmem S1x1x80x16384 .bf16) (harg7 : arg7.IsWhole)
  (arg8 : Memref sig .tc .vmem S1x64x16384 .bf16) (harg8 : arg8.IsWhole)
  (arg9 : Memref sig .tc .vmem S8x80x256 .f32) (harg9 : arg9.IsWhole) (v3 : Elt F .f32)

/-- A list of blocks, then the results. -/
def endK (Q : Qs) (bs : List Blk) (O : Os) (K : PR F) : PR F :=
  listK arg5 arg6 arg7 v3 Q bs fun r => outK arg8 harg8 arg9 O r K

/-- A list of blocks, then the accumulator. -/
def tripK (Q : Qs) (bs : List Blk) : PR F :=
  listK arg5 arg6 arg7 v3 Q bs fun r => accK arg9 r (pure ⟨⟩)

/-- One tile's first position. -/
def q0W (t : Fin k0_t1_loop.trips) : BitVec 32 := Scalar.muli (Scf.iv 0#32 1#32 t) 2048#32

/-- Everything, whole, of the accumulator. -/
abbrev accAll : Rect S8x80x256 := Rect.unit (s := S8x80x256) ![0, 0, 0] S8x80x256.size inb_S8x80x256_S8x80x256_0_0_0

/-- Zero everywhere. -/
def zeroAcc : FVec F S8x80x256 .f32 :=
  shapeCast S8x80x256 (broadcast S8x80x256 (Scalar.ofBits .f32 0x00000000#32)) shapeCasts_S8x80x256_S8x80x256

/-- A program run before another where a condition holds. -/
def ifK (c : Prop) [Decidable c] (a : c → PR F → PR F) (K : PR F) : PR F := if h : c then a h K else K

/-- What a tile's first part hands on. -/
abbrev PreT (t : Fin k0_t1_loop.trips) : Type :=
  Σ' (_ : BitVec 32) (_ : BitVec 32) (v11 : BitVec 32) (_ : k0_chk2 t v11) (_ : BitVec 32) (_ : BitVec 32)
    (_ : BitVec 32) (_ : BitVec 32) (_ : BitVec 32) (_ : BitVec 32) (_ : BitVec 32) (_ : BitVec 32), BitVec 32

/-- How many groups of eight blocks the main loop leaves over. -/
def leftW (t : Fin k0_t1_loop.trips) (v11 : BitVec 32) : BitVec 32 :=
  Scalar.shrui (Scalar.andi (Scalar.muli 8#32
    (Scalar.subi (Scalar.maxsi (Scalar.subi (Scf.iv 0#32 1#32 t) 1#32) 0#32) v11)) 15#32) 3#32

/-- What a tile's first part hands on, from the first group it takes. -/
def preV (t : Fin k0_t1_loop.trips) (v11 : BitVec 32) (h : k0_chk2 t v11) : PreT t :=
  ⟨Scf.iv 0#32 1#32 t, q0W t, v11, h, Scalar.addi (q0W t) 0#32, Scalar.addi (q0W t) 256#32,
    Scalar.addi (q0W t) 512#32, Scalar.addi (q0W t) 768#32, Scalar.addi (q0W t) 1024#32, Scalar.addi (q0W t) 1280#32,
    Scalar.addi (q0W t) 1536#32, Scalar.addi (q0W t) 1792#32, leftW t v11⟩

/-- A tile's first part: the accumulator zeroed, the first group, the main loops. -/
def preK (t : Fin k0_t1_loop.trips) : Prog (TpuEff nD τ sig (Elt F) (Λ₀ F) .tc) (PreT t) :=
  .op (.load arg9 accAll.toLoadRect (View.loadsAt_vmem h_S8x80x256)) fun _ =>
  .op (.store arg9 accAll zeroAcc Finset.univ (View.stores_vmem_bits_univ h_S8x80x256 rfl) (.inl rfl)) fun _ =>
  .op (.call (1 : (Λ₀ F).Label) ⟨i, t, arg2, harg2, arg3, harg3, arg4, harg4, 0#32⟩) fun (v11 : BitVec 32) =>
  .op (TpuEff.assume (k0_chk2 t v11) (k0_chk2.dec t v11)) fun h =>
  (Scf.Loop.for (k0_t2_loop t v11) (k0_t2_ok t v11 h.down) ⟨⟩ fun u _ =>
    tripK arg5 arg6 arg7 arg9 v3 (qs2 t (q0W t)) (bs2 t v11 h.down u)) >>= fun _ =>
  (Scf.Loop.for (k0_t3_loop t v11) (k0_t3_ok t v11 h.down) ⟨⟩ fun u _ =>
    tripK arg5 arg6 arg7 arg9 v3 (qs3 t (q0W t)) (bs3 t v11 h.down u)) >>= fun _ =>
  pure (preV t v11 h.down)

/-- A tile's last part: the blocks the main loop leaves, and the results. -/
def postK (t : Fin k0_t1_loop.trips) (v11 : BitVec 32) (h : k0_chk2 t v11) (q0 : BitVec 32) : PR F :=
  ifK (k0_cond1 t v11 = 1#1) (fun h1 => endK arg5 arg6 arg7 arg8 harg8 arg9 v3 (qsF1 t q0)
    (bsF1 t v11 q0 h h1) (osF1 t)) <|
  ifK (k0_cond2 t v11 = 1#1) (fun h2 => endK arg5 arg6 arg7 arg8 harg8 arg9 v3 (qsF2 t q0)
    (bsF2 t v11 q0 h h2) (osF2 t)) <|
  ifK (k0_cond3 t = 1#1) (fun h3 => endK arg5 arg6 arg7 arg8 harg8 arg9 v3 (qsF0 t q0 h3)
    (bsF0 t q0 h3) (osF0 t h3)) <|
  pure ⟨⟩

/-- One query tile. -/
def tileK (t : Fin k0_t1_loop.trips) : PR F :=
  preK i arg2 harg2 arg3 harg3 arg4 harg4 arg5 arg6 arg7 arg9 v3 t >>= fun r =>
    postK arg5 arg6 arg7 arg8 harg8 arg9 v3 t r.2.2.1 r.2.2.2.1 (q0W t)

/-- The whole body. -/
def bodyK : PR F :=
  smemLoad arg4 (Rect.unit (s := S2) ![1] S1.size inb_S2_S1_1) numel1_S1 rfl >>= fun v3 =>
  Scf.Loop.for k0_t1_loop k0_t1_ok ⟨⟩ (fun t _ =>
    tileK i arg2 harg2 arg3 harg3 arg4 harg4 arg5 arg6 arg7 arg8 harg8 arg9 v3 t) >>= fun _ => pure ⟨⟩

end

end Cert.KernelIdeal.Att

end
-- ==== Proof.Model.lean ====
/-
What the kernel body computes, as plain functions of the contents it is handed: the scores, the sums of one
chain over a list of key blocks, the accumulator, the first group of a tile and the results of a tile.
-/
module

public import proofs.«01_k».proof.Proof.Struct
public import Idealize.ShloMosaic.Lib.Pipeline.FrameBody

@[expose] public section

set_option maxRecDepth 16384

noncomputable section

namespace Cert.KernelIdeal.Att

open Idealize.ShloMosaic Idealize.SL.Sem Cert.KernelIdeal Cert.KernelIdeal.Gen

variable {F : FTy → Type} [FloatOps F]

/-- Where a chain's queries stand. -/
abbrev qR (Q : Qs) (c : Fin 8) : Rect S1x1x128x16384 :=
  Rect.unit (s := S1x1x128x16384) (Q.oq c) S1x1x128x256.size (Q.hq c)

/-- Where a block's keys stand. -/
abbrev kR (b : Blk) : Rect S1x1x16384x128 := Rect.unit (s := S1x1x16384x128) b.ok S1x1x256x128.size b.hk

/-- Where a block's values stand. -/
abbrev vR (b : Blk) : Rect S1x1x80x16384 := Rect.unit (s := S1x1x80x16384) b.ov S1x1x64x256.size b.hv

/-- Where a chain's results go. -/
abbrev oR (O : Os) (c : Fin 8) : Rect S1x64x16384 :=
  Rect.unit (s := S1x64x16384) (O.oo c) S1x64x256.size (O.ho c)

section
variable (X5 : Vec F S1x1x128x16384 .bf16) (X6 : Vec F S1x1x16384x128 .bf16) (X7 : Vec F S1x1x80x16384 .bf16)
  (v3 : Elt F .f32) (Q : Qs)

/-- The scores of a block for a chain that sees it. -/
def scoreP (b : Blk) (c : Fin 8) : FVec F S256x256 .f32 :=
  bif b.diag && Nat.beq b.d c.val then
    maskV b.kb (Scalar.addi Q.q0 (BitVec.ofNat 32 (256 * c.val))) (scoreV (View.ld X5 (qR Q c)) (View.ld X6 (kR b)))
  else scoreV (View.ld X5 (qR Q c)) (View.ld X6 (kR b))

/-- The scores of a block for a chain, where there is a block and the chain sees it. -/
def scoreP? (n : Option Blk) (c : Fin 8) : FVec F S256x256 .f32 :=
  match n with
  | none => none256
  | some b => match Nat.ble b.d c.val with
    | true => scoreP X5 X6 Q b c
    | false => none256

/-- A block's sums added to a chain's, where the chain sees it. -/
def sumP (b : Blk) (c : Fin 8) (s : FVec F S256x256 .f32) (t : Tot F) : Tot F :=
  match Nat.ble b.d c.val with
  | true => t.add (pvV v3 (View.ld X7 (vR b)) s) (lV v3 s)
  | false => t

/-- One block, one chain. -/
def stepP (n : Option Blk) (b : Blk) (x : CS F) : CS F :=
  ⟨x.c, x.s1, scoreP? X5 X6 Q n x.c, sumP X7 v3 b x.c x.s0 x.t⟩

/-- The blocks of a list in order, one chain. -/
def runP : List Blk → CS F → CS F
  | [], x => x
  | b :: bs, x => runP bs (stepP X5 X6 X7 v3 Q (bs.tail.head?) b x)

/-- The scores of a block for one chain. -/
def headP (n : Option Blk) (x : CS F) : CS F := ⟨x.c, x.s1, scoreP? X5 X6 Q n x.c, x.t⟩

/-- A list of blocks from its beginning, one chain. -/
def listP (bs : List Blk) (c : Fin 8) : CS F :=
  runP X5 X6 X7 v3 Q bs (headP X5 X6 Q bs.tail.head? (headP X5 X6 Q bs.head? ⟨c, none256, none256, none⟩))

/-- A chain's sums over a list of blocks. -/
def tot (bs : List Blk) (c : Fin 8) : Tot F :=
  bs.foldl (fun t b => sumP X7 v3 b c (scoreP? X5 X6 Q (some b) c) t) none

theorem sumP_congr (b : Blk) (c : Fin 8) (s s' : FVec F S256x256 .f32) (t : Tot F)
    (h : Nat.ble b.d c.val = true → s = s') : sumP X7 v3 b c s t = sumP X7 v3 b c s' t := by
  unfold sumP
  cases hb : Nat.ble b.d c.val with
  | true => rw [h hb]
  | false => rfl

theorem runP_c (bs : List Blk) (x : CS F) : (runP X5 X6 X7 v3 Q bs x).c = x.c := by
  induction bs generalizing x with
  | nil => rfl
  | cons b bs ih => exact ih _

theorem runP_t (c : Fin 8) (bs : List Blk) (t : Tot F) :
    (runP X5 X6 X7 v3 Q bs ⟨c, scoreP? X5 X6 Q bs.head? c, scoreP? X5 X6 Q bs.tail.head? c, t⟩).t
      = bs.foldl (fun t b => sumP X7 v3 b c (scoreP? X5 X6 Q (some b) c) t) t := by
  induction bs generalizing t with
  | nil => rfl
  | cons b bs ih => exact ih _

theorem listP_c (bs : List Blk) (c : Fin 8) : (listP X5 X6 X7 v3 Q bs c).c = c := runP_c ..

theorem listP_t (bs : List Blk) (c : Fin 8) : (listP X5 X6 X7 v3 Q bs c).t = tot X5 X6 X7 v3 Q bs c := runP_t ..

end

/-- One chain's sums added into the accumulator. -/
def acc1 (X9 : Vec F S8x80x256 .f32) (c : Fin 8) (t : Tot F) : Vec F S8x80x256 .f32 :=
  let Y : Vec F S8x80x256 .f32 :=
    (accV c).overlay X9 (shapeCast S1x64x256 (newV (View.ld X9 (accV c)) t) shapeCasts_S64x256_S1x64x256)
  (accL c).overlay Y (shapeCast S1x1x256 (newL (View.ld Y (accL c)) t) shapeCasts_S1x256_S1x1x256)

/-- Every chain's sums added into the accumulator. -/
def accP (tt : Fin 8 → Tot F) (X9 : Vec F S8x80x256 .f32) : Vec F S8x80x256 .f32 :=
  chains.foldl (fun X c => acc1 X c (tt c)) X9

/-- What a chain's results are, from the accumulator and the last sums. -/
def outP (X9 : Vec F S8x80x256 .f32) (tt : Fin 8 → Tot F) (c : Fin 8) : FVec F S1x64x256 .bf16 :=
  outV (View.ld X9 (accV c)) (View.ld X9 (accL c)) (tt c)

/-- Every chain's results written out. -/
def putP (O : Os) (w : Fin 8 → FVec F S1x64x256 .bf16) (X8 : Vec F S1x64x16384 .bf16) : Vec F S1x64x16384 .bf16 :=
  chains.foldl (fun X c => (oR O c).overlay X (w c)) X8

section
variable (X5 : Vec F S1x1x128x16384 .bf16) (X6 : Vec F S1x1x16384x128 .bf16) (X7 : Vec F S1x1x80x16384 .bf16)
  (v3 : Elt F .f32)

/-- The accumulator after the trips below `n`, from a family of steps. -/
def iterP {N : Nat} (f : Fin N → Vec F S8x80x256 .f32 → Vec F S8x80x256 .f32) (X : Vec F S8x80x256 .f32) :
    Nat → Vec F S8x80x256 .f32
  | 0 => X
  | n + 1 => if h : n < N then f ⟨n, h⟩ (iterP f X n) else iterP f X n

/-- The accumulator of a tile when its main loops are done. -/
def mainP (t : Fin k0_t1_loop.trips) (v11 : BitVec 32) (h : k0_chk2 t v11) : Vec F S8x80x256 .f32 :=
  iterP (fun u => accP (tot X5 X6 X7 v3 (qs3 t (q0W t)) (bs3 t v11 h u)))
    (iterP (fun u => accP (tot X5 X6 X7 v3 (qs2 t (q0W t)) (bs2 t v11 h u))) zeroAcc (k0_t2_loop t v11).trips)
    (k0_t3_loop t v11).trips

/-- The results of a tile. -/
def tileP (t : Fin k0_t1_loop.trips) (v11 : BitVec 32) (h : k0_chk2 t v11) (c : Fin 8) : FVec F S1x64x256 .bf16 :=
  if h3 : k0_cond3 t = 1#1 then
    outP (mainP X5 X6 X7 v3 t v11 h) (tot X5 X6 X7 v3 (qsF0 t (q0W t) h3) (bsF0 t (q0W t) h3)) c
  else if h2 : k0_cond2 t v11 = 1#1 then
    outP (mainP X5 X6 X7 v3 t v11 h) (tot X5 X6 X7 v3 (qsF2 t (q0W t)) (bsF2 t v11 (q0W t) h h2)) c
  else if h1 : k0_cond1 t v11 = 1#1 then
    outP (mainP X5 X6 X7 v3 t v11 h) (tot X5 X6 X7 v3 (qsF1 t (q0W t)) (bsF1 t v11 (q0W t) h h1)) c
  else fun _ => Scalar.ofBits .bf16 0#16

end

/-! ## The first group of a tile -/

section
variable (i : grid0.Coords) (X2 X3 : Vec F S512 .f32) (X4 : Vec F S2 .f32)

/-- The element a one-element piece of a table holds. -/
def word {s : Shape} {e : EltTy} (X : s.Idx → Elt F e) (r : Rect s) (h1 : r.shape.numel = 1) : Elt F e :=
  View.ld X r (Shape.Idx.first (h1.symm ▸ Nat.one_pos))

/-- Whether a group is left out whole. -/
def leaveP (t : Fin k0_t1_loop.trips) (g : BitVec 32) (h : k0_chk1 i g) : BitVec 1 :=
  Scalar.andi (Scalar.cmpi .slt g (Scalar.subi (Scf.iv 0#32 1#32 t) 1#32))
    (Scalar.cmpf .olt
      (Scalar.subf (word X2 (Rect.unit (s := S512) (k0_off1 i t) S1.size (k0_off1_inb i t)) numel1_S1)
        (word X3 (Rect.unit (s := S512) (k0_off2 i g) S1.size (k0_off2_inb i g h)) numel1_S1))
      (Scalar.subf (Scalar.ofBits .f32 0x00000000#32 : F .f32)
        (word X4 (Rect.unit (s := S2) ![0] S1.size inb_S2_S1_0) numel1_S1)))

/-- The first group that is not left out, looked for in at most `n` steps. -/
def firstP (t : Fin k0_t1_loop.trips) : Nat → BitVec 32 → BitVec 32
  | 0, g => g
  | n + 1, g => if h : k0_chk1 i g then
      (if leaveP i X2 X3 X4 t g h = 1#1 then firstP t n (Scalar.addi g 1#32) else g) else g

end

end Cert.KernelIdeal.Att

end
-- ==== Proof.BodyEq.lean ====
/-
The printed body is the short program of `Struct.lean`.
-/
module
public import proofs.«01_k».proof.Proof.Struct
@[expose] public section
set_option maxRecDepth 16384
set_option maxHeartbeats 4000000
noncomputable section
namespace Cert.KernelIdeal.Att
open Idealize.ShloMosaic Idealize.SL.Sem Cert.KernelIdeal Cert.KernelIdeal.Gen
variable {F : FTy → Type} [FloatOps F]
section
variable (i : grid0.Coords) (arg2 : Memref sig .tc .smem S512 .f32) (harg2 : arg2.IsWhole) (arg3 : Memref sig .tc .smem S512 .f32) (harg3 : arg3.IsWhole) (arg4 : Memref sig .tc .smem S2 .f32) (harg4 : arg4.IsWhole) (arg5 : Memref sig .tc .vmem S1x1x128x16384 .bf16) (harg5 : arg5.IsWhole) (arg6 : Memref sig .tc .vmem S1x1x16384x128 .bf16) (harg6 : arg6.IsWhole) (arg7 : Memref sig .tc .vmem S1x1x80x16384 .bf16) (harg7 : arg7.IsWhole) (arg8 : Memref sig .tc .vmem S1x64x16384 .bf16) (harg8 : arg8.IsWhole) (arg9 : Memref sig .tc .vmem S8x80x256 .f32) (harg9 : arg9.IsWhole)  (v3 : Elt F .f32)

/-- A printed trip of the main loop is the short one. -/
theorem t2_eq (t : Fin k0_t1_loop.trips) (c0 c1 v6 v11 v13 : BitVec 32) (h : k0_chk2 t v11) (u : Fin (k0_t2_loop t v11).trips) :
    k0_t2_body (F := F) i arg2 harg2 arg3 harg3 arg4 harg4 arg5 harg5 arg6 harg6 arg7 harg7 arg8 harg8 arg9 harg9 v3 c0 c1 t v6 v11 h v13 u ⟨⟩ =
      tripK arg5 arg6 arg7 arg9 v3 (qs2 t v6) (bs2 t v11 h u) := by
  chain_rfl

/-- A printed trip of the second loop is the short one. -/
theorem t3_eq (t : Fin k0_t1_loop.trips) (c0 c1 v6 v11 v13 v19 : BitVec 32) (h : k0_chk2 t v11)
    (u : Fin (k0_t3_loop t v11).trips) :
    k0_t3_body (F := F) i arg2 harg2 arg3 harg3 arg4 harg4 arg5 harg5 arg6 harg6 arg7 harg7 arg8 harg8 arg9 harg9 v3 c0 c1 t v6 v11 h v13 v19 u ⟨⟩ =
      tripK arg5 arg6 arg7 arg9 v3 (qs3 t v6) (bs3 t v11 h u) := by
  chain_rfl
/-- How many trips the main loop makes. -/
def mainW (t : Fin k0_t1_loop.trips) (v11 : BitVec 32) : BitVec 32 :=
  Scalar.addi 0#32 (Scalar.muli (Scalar.divsi (Scalar.subi (Scalar.shrui (Scalar.muli 8#32
    (Scalar.subi (Scalar.maxsi (Scalar.subi (Scf.iv 0#32 1#32 t) 1#32) 0#32) v11)) 4#32) 0#32) 1#32) 1#32)

/-- A tile's first part with the printed trips. -/
def preP (t : Fin k0_t1_loop.trips) : Prog (TpuEff nD τ sig (Elt F) (Λ₀ F) .tc) (PreT t) :=
  .op (.load arg9 accAll.toLoadRect (View.loadsAt_vmem h_S8x80x256)) fun _ =>
  .op (.store arg9 accAll zeroAcc Finset.univ (View.stores_vmem_bits_univ h_S8x80x256 rfl) (.inl rfl)) fun _ =>
  .op (.call (1 : (Λ₀ F).Label) ⟨i, t, arg2, harg2, arg3, harg3, arg4, harg4, 0#32⟩) fun (v11 : BitVec 32) =>
  .op (TpuEff.assume (k0_chk2 t v11) (k0_chk2.dec t v11)) fun h =>
  (Scf.Loop.for (k0_t2_loop t v11) (k0_t2_ok t v11 h.down) ⟨⟩ fun u _ =>
    k0_t2_body i arg2 harg2 arg3 harg3 arg4 harg4 arg5 harg5 arg6 harg6 arg7 harg7 arg8 harg8 arg9 harg9 v3 0#32 1#32 t (q0W t) v11 h.down (Scalar.muli v11 2048#32) u ⟨⟩) >>= fun _ =>
  (Scf.Loop.for (k0_t3_loop t v11) (k0_t3_ok t v11 h.down) ⟨⟩ fun u _ =>
    k0_t3_body i arg2 harg2 arg3 harg3 arg4 harg4 arg5 harg5 arg6 harg6 arg7 harg7 arg8 harg8 arg9 harg9 v3 0#32 1#32 t (q0W t) v11 h.down (Scalar.muli v11 2048#32) (mainW t v11) u ⟨⟩) >>= fun _ =>
  pure (preV t v11 h.down)

/-- The printed first part of a tile is the short one. -/
theorem pre_eq (t : Fin k0_t1_loop.trips) :
    k0_part331 (F := F) i arg2 harg2 arg3 harg3 arg4 harg4 arg5 harg5 arg6 harg6 arg7 harg7 arg8 harg8 arg9 harg9 v3 0#32 1#32 t =
      preK i arg2 harg2 arg3 harg3 arg4 harg4 arg5 arg6 arg7 arg9 v3 t := by
  have h : k0_part331 (F := F) i arg2 harg2 arg3 harg3 arg4 harg4 arg5 harg5 arg6 harg6 arg7 harg7 arg8 harg8 arg9 harg9 v3 0#32 1#32 t = preP i arg2 harg2 arg3 harg3 arg4 harg4 arg5 harg5 arg6 harg6 arg7 harg7 arg8 harg8 arg9 harg9 v3 t := by
    chain_rfl
  rw [h]
  unfold preP preK
  simp only [t2_eq, t3_eq]

omit [FloatOps F] in
/-- Two continuations that agree on what a tile's first part hands on. -/
theorem pre_bind [FloatOps F] (t : Fin k0_t1_loop.trips) (k1 k2 : PreT t → PR F)
    (h : ∀ v11 hw, k1 (preV t v11 hw) = k2 (preV t v11 hw)) :
    (preK i arg2 harg2 arg3 harg3 arg4 harg4 arg5 arg6 arg7 arg9 v3 t >>= k1) =
      (preK i arg2 harg2 arg3 harg3 arg4 harg4 arg5 arg6 arg7 arg9 v3 t >>= k2) := by
  unfold preK
  refine congrArg (Prog.op _) (funext fun _ => congrArg (Prog.op _) (funext fun _ => congrArg (Prog.op _)
    (funext fun v11 => congrArg (Prog.op _) (funext fun hw => ?_))))
  show (_ >>= _) >>= k1 = (_ >>= _) >>= k2
  simp only [bind_assoc, pure_bind, h]

/-- The printed tile is the short one. -/
theorem tile_eq (t : Fin k0_t1_loop.trips) :
    k0_t1_body (F := F) i arg2 harg2 arg3 harg3 arg4 harg4 arg5 harg5 arg6 harg6 arg7 harg7 arg8 harg8 arg9 harg9 v3 t ⟨⟩ =
      tileK i arg2 harg2 arg3 harg3 arg4 harg4 arg5 arg6 arg7 arg8 harg8 arg9 v3 t := by
  unfold k0_t1_body tileK
  refine (congrFun (congrArg bind (pre_eq _ _ _ _ _ _ _ _ _ _ _ _ _ _ _ _ _ v3 t)) _).trans ?_
  apply pre_bind
  intro v11 hw
  dsimp -zeta -zetaHave only [preV]
  extract_lets jp4 jp3 jp2
  have h3 : jp3 ⟨⟩ = ifK (k0_cond3 t = 1#1) (fun h3 => endK arg5 arg6 arg7 arg8 harg8 arg9 v3 (qsF0 t (q0W t) h3)
      (bsF0 t (q0W t) h3) (osF0 t h3)) (pure ⟨⟩) := by
    chain_rfl
  clear_value jp3
  have h2 : jp2 ⟨⟩ = ifK (k0_cond2 t v11 = 1#1) (fun h2 => endK arg5 arg6 arg7 arg8 harg8 arg9 v3 (qsF2 t (q0W t))
      (bsF2 t v11 (q0W t) hw h2) (osF2 t)) (jp3 ⟨⟩) := by
    chain_rfl
  clear_value jp2
  show _ = postK arg5 arg6 arg7 arg8 harg8 arg9 v3 t v11 hw (q0W t)
  unfold postK
  rw [← h3, ← h2]
  chain_rfl

end

/-- The printed body is the short one. -/
theorem body_eq (i : grid0.Coords) (arg2 : Memref sig .tc .smem S512 .f32) (harg2 : arg2.IsWhole) (arg3 : Memref sig .tc .smem S512 .f32) (harg3 : arg3.IsWhole) (arg4 : Memref sig .tc .smem S2 .f32) (harg4 : arg4.IsWhole) (arg5 : Memref sig .tc .vmem S1x1x128x16384 .bf16) (harg5 : arg5.IsWhole) (arg6 : Memref sig .tc .vmem S1x1x16384x128 .bf16) (harg6 : arg6.IsWhole) (arg7 : Memref sig .tc .vmem S1x1x80x16384 .bf16) (harg7 : arg7.IsWhole) (arg8 : Memref sig .tc .vmem S1x64x16384 .bf16) (harg8 : arg8.IsWhole) (arg9 : Memref sig .tc .vmem S8x80x256 .f32) (harg9 : arg9.IsWhole)  :
    cc0_attention_fixed (F := F) i arg2 harg2 arg3 harg3 arg4 harg4 arg5 harg5 arg6 harg6 arg7 harg7 arg8 harg8 arg9 harg9 =
      bodyK i arg2 harg2 arg3 harg3 arg4 harg4 arg5 arg6 arg7 arg8 harg8 arg9 := by
  have h : cc0_attention_fixed (F := F) i arg2 harg2 arg3 harg3 arg4 harg4 arg5 harg5 arg6 harg6 arg7 harg7 arg8 harg8 arg9 harg9 =
      (smemLoad arg4 (Rect.unit (s := S2) ![1] S1.size inb_S2_S1_1) numel1_S1 rfl >>= fun v3 =>
        Scf.Loop.for k0_t1_loop k0_t1_ok ⟨⟩ (fun t u => k0_t1_body i arg2 harg2 arg3 harg3 arg4 harg4 arg5 harg5 arg6 harg6 arg7 harg7 arg8 harg8 arg9 harg9 v3 t u) >>= fun _ => pure ⟨⟩) := by
    chain_rfl
  rw [h]
  unfold bodyK
  refine congrArg _ (funext fun v3 => congrArg (· >>= _) (congrArg _ (funext fun t => funext fun _ => ?_)))
  exact tile_eq _ _ _ _ _ _ _ _ _ _ _ _ _ _ _ _ _ _ _
end Cert.KernelIdeal.Att

end
-- ==== Proof.Wp.lean ====
/-
The structured body run: each of its recursions takes the buffers it is handed to the plain functions of
their contents.
-/
module

public import proofs.«01_k».proof.Proof.Model
public import proofs.«01_k».proof.Proof.BodyEq
public import Idealize.ShloMosaic.Lib.Tactic
public import Idealize.ShloMosaic.Lib.Pipeline.Kit

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- What the body's programs do, on core `c`, with a bound `bd` on the calls they may make. -/
abbrev W (c : Dev nD) (bd : Option Nat) {α : Type} (p : Prog (TpuEff nD τ sig (Elt F) (Λ₀ F) .tc) α)
    (Q : α → sProp 𝕄) : sProp 𝕄 :=
  wp frame (wpE (defs₀ (F := F)) Variants.nat c bd) Set.univ p Q

section
variable (c : Dev nD) (bd : Option Nat)

/-- A load through a rectangle reads the contents there. -/
theorem load_owns {α : Type} {sp : CoreSpace} {s : Shape} {e : EltTy} {m : Memref sig .tc sp s e} {r : Rect s}
    {hl : m.view.LoadsAt r.toLoadRect} {k : (r.shape.Idx → Elt F e) → Prog (TpuEff nD τ sig (Elt F) (Λ₀ F) .tc) α}
    {Q : α → sProp 𝕄} {q : PosShare TreeShare} (X : s.Idx → Elt F e) :
    (owns (c : Thread nD τ) m q X : sProp 𝕄)
      ⊢ iprop((owns (c : Thread nD τ) m q X -∗ W c bd (k (View.ld X r)) Q) -∗ W c bd (.op (.load m r.toLoadRect hl) k) Q) := by
  unfold owns
  iintro ⟨%f, %hf, H⟩ Hk
  have h := wp_load_rect (defs := defs₀ (F := F)) Variants.nat (c : Thread nD τ) bd (Γ := .empty) Set.univ (Q := Q) (m := m) (r := r) (hl := hl) (k := k)
    (q := q) (S := m.view.set) (f := f) (View.set_slice_subset m.view r)
  iapply h $$ H
  iintro H
  subst hf
  iapply Hk
  iexists f; isplitr; · ipureintro; rfl
  iexact H

/-- A store through a rectangle lays its payload over the contents. -/
theorem store_owns {α : Type} {sp : CoreSpace} {s : Shape} {e : EltTy} {m : Memref sig .tc sp s e} {r : Rect s}
    {w : r.shape.Idx → Elt F e} {hx : (m.access r).Stores Finset.univ} {hm : Finset.univ = Finset.univ ∨ ∀ a, r.stride a = 1}
    {k : PUnit → Prog (TpuEff nD τ sig (Elt F) (Λ₀ F) .tc) α}
    {Q : α → sProp 𝕄} (X : s.Idx → Elt F e) :
    (owns (c : Thread nD τ) m fullShare X : sProp 𝕄)
      ⊢ iprop((owns (c : Thread nD τ) m fullShare (r.overlay X w) -∗ W c bd (k ⟨⟩) Q)
        -∗ W c bd (.op (.store m r w Finset.univ hx hm) k) Q) := by
  unfold owns
  iintro ⟨%f, %hf, H⟩ Hk
  have h := wp_store (defs := defs₀ (F := F)) Variants.nat (c : Thread nD τ) bd (Γ := .empty) Set.univ (Q := Q) (m := m) (r := r) (w := w)
    (Mk := Finset.univ) (hx := hx) (hm := hm) (k := k) (S := m.view.set) (f := f)
    (by rw [View.setOn_univ]; exact View.set_slice_subset m.view r)
  iapply h $$ H
  iintro H
  subst hf
  iapply Hk
  iexists _; isplitr; swap; · iexact H
  ipureintro
  funext y
  by_cases hy : y ∈ r.set
  · obtain ⟨x, rfl⟩ : ∃ x, r.emb x = y := r.exists_idx_of_mem hy
    rw [Rect.overlay_emb]
    exact View.read_slice_write_emb r f w (Finset.mem_univ x)
  · rw [Rect.overlay_of_not_mem _ _ _ hy]
    exact View.read_slice_write_of_not_mem r f w Finset.univ (by rwa [Rect.map_emb_univ])

section
variable (arg5 : Memref sig .tc .vmem S1x1x128x16384 .bf16) (arg6 : Memref sig .tc .vmem S1x1x16384x128 .bf16)
  (arg7 : Memref sig .tc .vmem S1x1x80x16384 .bf16)
  (X5 : Vec F S1x1x128x16384 .bf16) (X6 : Vec F S1x1x16384x128 .bf16) (X7 : Vec F S1x1x80x16384 .bf16)
  (v3 : Elt F .f32) (Q : Qs) {α : Type}

/-- The queries, keys and values, held. -/
abbrev ins : sProp 𝕄 :=
  iprop(owns (c : Thread nD τ) arg5 fullShare X5 ∗ owns (c : Thread nD τ) arg6 fullShare X6
    ∗ owns (c : Thread nD τ) arg7 fullShare X7)

theorem scoreK_wp (b : Blk) (x : Fin 8) (K : FVec F S256x256 .f32 → PR F) (P : PUnit → sProp 𝕄) :
    (ins c arg5 arg6 arg7 X5 X6 X7 : sProp 𝕄)
      ⊢ iprop((ins c arg5 arg6 arg7 X5 X6 X7 -∗ W c bd (K (scoreP X5 X6 Q b x)) P)
        -∗ W c bd (scoreK arg5 arg6 Q b x K) P) := by
  unfold scoreK
  iintro ⟨H5, H6, H7⟩ Hk
  iapply (load_owns c bd X5) $$ H5
  iintro H5
  iapply (load_owns c bd X6) $$ H6
  iintro H6
  iapply Hk
  isplitl [H5]; · iexact H5
  isplitl [H6]; · iexact H6
  iexact H7

theorem scoreK?_wp (n : Option Blk) (x : Fin 8) (K : FVec F S256x256 .f32 → PR F) (P : PUnit → sProp 𝕄) :
    (ins c arg5 arg6 arg7 X5 X6 X7 : sProp 𝕄)
      ⊢ iprop((ins c arg5 arg6 arg7 X5 X6 X7 -∗ W c bd (K (scoreP? X5 X6 Q n x)) P)
        -∗ W c bd (scoreK? arg5 arg6 Q n x K) P) := by
  unfold scoreK? scoreP?
  cases n with
  | none => iintro H Hk; iapply Hk; iexact H
  | some b =>
    dsimp only
    cases Nat.ble b.d x.val with
    | true => exact scoreK_wp c bd arg5 arg6 arg7 X5 X6 X7 Q b x K P
    | false => iintro H Hk; iapply Hk; iexact H

theorem sumK_wp (b : Blk) (x : Fin 8) (s : FVec F S256x256 .f32) (t : Tot F) (K : Tot F → PR F) (P : PUnit → sProp 𝕄) :
    (ins c arg5 arg6 arg7 X5 X6 X7 : sProp 𝕄)
      ⊢ iprop((ins c arg5 arg6 arg7 X5 X6 X7 -∗ W c bd (K (sumP X7 v3 b x s t)) P)
        -∗ W c bd (sumK arg7 v3 b x s t K) P) := by
  unfold sumK sumP
  cases Nat.ble b.d x.val with
  | true =>
    iintro ⟨H5, H6, H7⟩ Hk
    iapply (load_owns c bd X7) $$ H7
    iintro H7
    iapply Hk
    isplitl [H5]; · iexact H5
    isplitl [H6]; · iexact H6
    iexact H7
  | false => iintro H Hk; iapply Hk; iexact H

theorem stepK_wp (n : Option Blk) (b : Blk) (xs : List (CS F)) :
    ∀ (K : List (CS F) → PR F) (P : PUnit → sProp 𝕄),
    (ins c arg5 arg6 arg7 X5 X6 X7 : sProp 𝕄)
      ⊢ iprop((ins c arg5 arg6 arg7 X5 X6 X7 -∗ W c bd (K (xs.map (stepP X5 X6 X7 v3 Q n b))) P)
        -∗ W c bd (stepK arg5 arg6 arg7 v3 Q n b xs K) P) := by
  induction xs with
  | nil => intro K P; iintro H Hk; iapply Hk; iexact H
  | cons x xs ih =>
    intro K P
    unfold stepK
    iintro H Hk
    iapply (scoreK?_wp c bd arg5 arg6 arg7 X5 X6 X7 Q n x.c) $$ H
    iintro H
    iapply (sumK_wp c bd arg5 arg6 arg7 X5 X6 X7 v3 b x.c x.s0 x.t) $$ H
    iintro H
    iapply (ih _ P) $$ H
    iexact Hk

theorem runK_wp (bs : List Blk) :
    ∀ (xs : List (CS F)) (K : List (CS F) → PR F) (P : PUnit → sProp 𝕄),
    (ins c arg5 arg6 arg7 X5 X6 X7 : sProp 𝕄)
      ⊢ iprop((ins c arg5 arg6 arg7 X5 X6 X7 -∗ W c bd (K (xs.map (runP X5 X6 X7 v3 Q bs))) P)
        -∗ W c bd (runK arg5 arg6 arg7 v3 Q bs xs K) P) := by
  induction bs with
  | nil =>
    intro xs K P
    rw [show xs.map (runP X5 X6 X7 v3 Q []) = xs from List.map_id xs]
    iintro H Hk; iapply Hk; iexact H
  | cons b bs ih =>
    intro xs K P
    unfold runK
    iintro H Hk
    iapply (stepK_wp c bd arg5 arg6 arg7 X5 X6 X7 v3 Q _ b xs) $$ H
    iintro H
    iapply (ih _ K P) $$ H
    rw [List.map_map]
    iexact Hk

theorem headK_wp (n : Option Blk) (xs : List (CS F)) :
    ∀ (K : List (CS F) → PR F) (P : PUnit → sProp 𝕄),
    (ins c arg5 arg6 arg7 X5 X6 X7 : sProp 𝕄)
      ⊢ iprop((ins c arg5 arg6 arg7 X5 X6 X7 -∗ W c bd (K (xs.map (headP X5 X6 Q n))) P)
        -∗ W c bd (headK arg5 arg6 Q n xs K) P) := by
  induction xs with
  | nil => intro K P; iintro H Hk; iapply Hk; iexact H
  | cons x xs ih =>
    intro K P
    unfold headK
    iintro H Hk
    iapply (scoreK?_wp c bd arg5 arg6 arg7 X5 X6 X7 Q n x.c) $$ H
    iintro H
    iapply (ih _ P) $$ H
    iexact Hk

theorem listK_wp (bs : List Blk) (K : List (CS F) → PR F) (P : PUnit → sProp 𝕄) :
    (ins c arg5 arg6 arg7 X5 X6 X7 : sProp 𝕄)
      ⊢ iprop((ins c arg5 arg6 arg7 X5 X6 X7 -∗ W c bd (K (chains.map (listP X5 X6 X7 v3 Q bs))) P)
        -∗ W c bd (listK arg5 arg6 arg7 v3 Q bs K) P) := by
  unfold listK start
  iintro H Hk
  iapply (headK_wp c bd arg5 arg6 arg7 X5 X6 X7 Q bs.head? _) $$ H
  iintro H
  iapply (headK_wp c bd arg5 arg6 arg7 X5 X6 X7 Q bs.tail.head? _) $$ H
  iintro H
  iapply (runK_wp c bd arg5 arg6 arg7 X5 X6 X7 v3 Q bs _ K P) $$ H
  rw [List.map_map, List.map_map, List.map_map]
  iexact Hk

end

section
variable (arg8 : Memref sig .tc .vmem S1x64x16384 .bf16) (harg8 : arg8.IsWhole)
  (arg9 : Memref sig .tc .vmem S8x80x256 .f32)

theorem accK_wp (xs : List (CS F)) :
    ∀ (X9 : Vec F S8x80x256 .f32) (K : PR F) (P : PUnit → sProp 𝕄),
    (owns (c : Thread nD τ) arg9 fullShare X9 : sProp 𝕄)
      ⊢ iprop((owns (c : Thread nD τ) arg9 fullShare (xs.foldl (fun X x => acc1 X x.c x.t) X9) -∗ W c bd K P)
        -∗ W c bd (accK arg9 xs K) P) := by
  induction xs with
  | nil => intro X9 K P; iintro H Hk; iapply Hk; iexact H
  | cons x xs ih =>
    intro X9 K P
    unfold accK
    iintro H Hk
    iapply (load_owns c bd X9) $$ H
    iintro H
    iapply (load_owns c bd X9) $$ H
    iintro H
    iapply (store_owns c bd X9) $$ H
    iintro H
    iapply (load_owns c bd _) $$ H
    iintro H
    iapply (load_owns c bd _) $$ H
    iintro H
    iapply (store_owns c bd _) $$ H
    iintro H
    iapply (ih _ K P) $$ H
    iexact Hk

theorem outK_wp (O : Os) (X9 : Vec F S8x80x256 .f32) (xs : List (CS F)) :
    ∀ (X8 : Vec F S1x64x16384 .bf16) (K : PR F) (P : PUnit → sProp 𝕄),
    iprop(owns (c : Thread nD τ) arg8 fullShare X8 ∗ owns (c : Thread nD τ) arg9 fullShare X9 : sProp 𝕄)
      ⊢ iprop((owns (c : Thread nD τ) arg8 fullShare
            (xs.foldl (fun X x => (oR O x.c).overlay X (outV (View.ld X9 (accV x.c)) (View.ld X9 (accL x.c)) x.t)) X8)
            ∗ owns (c : Thread nD τ) arg9 fullShare X9 -∗ W c bd K P)
        -∗ W c bd (outK arg8 harg8 arg9 O xs K) P) := by
  induction xs with
  | nil => intro X8 K P; iintro H Hk; iapply Hk; iexact H
  | cons x xs ih =>
    intro X8 K P
    unfold outK
    iintro ⟨H8, H9⟩ Hk
    iapply (load_owns c bd X9) $$ H9
    iintro H9
    iapply (load_owns c bd X9) $$ H9
    iintro H9
    iapply (load_owns c bd X8) $$ H8
    iintro H8
    iapply (store_owns c bd X8) $$ H8
    iintro H8
    iapply (ih _ K P) $$ [H8 H9]
    · isplitl [H8]; · iexact H8
      iexact H9
    iexact Hk

end

section
variable (arg5 : Memref sig .tc .vmem S1x1x128x16384 .bf16) (arg6 : Memref sig .tc .vmem S1x1x16384x128 .bf16)
  (arg7 : Memref sig .tc .vmem S1x1x80x16384 .bf16) (arg8 : Memref sig .tc .vmem S1x64x16384 .bf16) (harg8 : arg8.IsWhole)
  (arg9 : Memref sig .tc .vmem S8x80x256 .f32)
  (X5 : Vec F S1x1x128x16384 .bf16) (X6 : Vec F S1x1x16384x128 .bf16) (X7 : Vec F S1x1x80x16384 .bf16)
  (v3 : Elt F .f32) (Q : Qs)

theorem tripK_wp (bs : List Blk) (X9 : Vec F S8x80x256 .f32) (P : PUnit → sProp 𝕄) :
    iprop(ins c arg5 arg6 arg7 X5 X6 X7 ∗ owns (c : Thread nD τ) arg9 fullShare X9 : sProp 𝕄)
      ⊢ iprop((ins c arg5 arg6 arg7 X5 X6 X7
            ∗ owns (c : Thread nD τ) arg9 fullShare (accP (tot X5 X6 X7 v3 Q bs) X9) -∗ P ⟨⟩)
        -∗ W c bd (tripK arg5 arg6 arg7 arg9 v3 Q bs) P) := by
  unfold tripK
  iintro ⟨H, H9⟩ Hk
  iapply (listK_wp c bd arg5 arg6 arg7 X5 X6 X7 v3 Q bs) $$ H
  iintro H
  iapply (accK_wp c bd arg9 _ X9) $$ H9
  rw [show (chains.map (listP X5 X6 X7 v3 Q bs)).foldl (fun X x => acc1 X x.c x.t) X9 = accP (tot X5 X6 X7 v3 Q bs) X9 by
    rw [List.foldl_map]; unfold accP; simp only [listP_c, listP_t]]
  iintro H9
  iapply (le_wp_ret _ _ _ PUnit.unit P)
  iapply Hk
  isplitl [H]; · iexact H
  iexact H9

theorem endK_wp (bs : List Blk) (O : Os) (X8 : Vec F S1x64x16384 .bf16) (X9 : Vec F S8x80x256 .f32) (K : PR F)
    (P : PUnit → sProp 𝕄) :
    iprop(ins c arg5 arg6 arg7 X5 X6 X7 ∗ owns (c : Thread nD τ) arg8 fullShare X8
        ∗ owns (c : Thread nD τ) arg9 fullShare X9 : sProp 𝕄)
      ⊢ iprop((ins c arg5 arg6 arg7 X5 X6 X7
            ∗ owns (c : Thread nD τ) arg8 fullShare (putP O (outP X9 (tot X5 X6 X7 v3 Q bs)) X8)
            ∗ owns (c : Thread nD τ) arg9 fullShare X9 -∗ W c bd K P)
        -∗ W c bd (endK arg5 arg6 arg7 arg8 harg8 arg9 v3 Q bs O K) P) := by
  unfold endK
  iintro ⟨H, H8, H9⟩ Hk
  iapply (listK_wp c bd arg5 arg6 arg7 X5 X6 X7 v3 Q bs) $$ H
  iintro H
  iapply (outK_wp c bd arg8 harg8 arg9 O X9 _ X8) $$ [H8 H9]
  · isplitl [H8]; · iexact H8
    iexact H9
  rw [show (chains.map (listP X5 X6 X7 v3 Q bs)).foldl
      (fun X x => (oR O x.c).overlay X (outV (View.ld X9 (accV x.c)) (View.ld X9 (accL x.c)) x.t)) X8
      = putP O (outP X9 (tot X5 X6 X7 v3 Q bs)) X8 by
    rw [List.foldl_map]; unfold putP outP
    refine congrArg (fun f => List.foldl f X8 chains) (funext fun X => funext fun x => ?_)
    rw [← listP_t]
    have hc := listP_c X5 X6 X7 v3 Q bs x
    generalize listP X5 X6 X7 v3 Q bs x = y at hc ⊢
    subst hc
    rfl]
  iintro ⟨H8, H9⟩
  iapply Hk
  isplitl [H]; · iexact H
  isplitl [H8]; · iexact H8
  iexact H9

end

end

end Cert.KernelIdeal.Att

end
-- ==== Proof.Wp2.lean ====
/-
The search for a tile's first group, the main loops, the ends and the whole body run.
-/
module

public import proofs.«01_k».proof.Proof.Wp
public import Idealize.ShloMosaic.Lib.Pointwise.Index

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-! ## Facts of words -/

theorem trips1 : k0_t1_loop.trips = 8 := by decide +kernel

/-- The side condition of the search holds at every group a tile may look at. -/
theorem chk1_of (i : grid0.Coords) (g : BitVec 32) (hg : g.toNat ≤ 7) : k0_chk1 i g := by
  have h0 : (i 0).val < 2 := (i 0).isLt
  have h1 : (i 1).val < 16 := (i 1).isLt
  intro a
  have ha : a = 0 := Subsingleton.elim _ _
  subst ha
  show ((BitVec.ofNat 32 (i 0).val * 16#32 + BitVec.ofNat 32 (i 1).val) * 8#32 + g).toNat + 1 ≤ 512
  simp only [BitVec.toNat_add, BitVec.toNat_mul, BitVec.toNat_ofNat]
  omega

/-- The search goes on only below the last group it may take. -/
theorem slt_lim : ∀ (t : Fin 8) (g : Fin 8), g.val ≤ t.val - 1 →
    Scalar.cmpi .slt (BitVec.ofNat 32 g.val) (Scalar.subi (Scf.iv 0#32 1#32 t) 1#32) = 1#1 → g.val + 1 ≤ t.val - 1 := by
  decide +kernel

theorem lim_of_leave (t : Fin k0_t1_loop.trips) (g : BitVec 32) (hg : g.toNat ≤ t.val - 1)
    (h : Scalar.cmpi .slt g (Scalar.subi (Scf.iv 0#32 1#32 t) 1#32) = 1#1) : g.toNat + 1 ≤ t.val - 1 := by
  have ht : t.val < 8 := trips1 ▸ t.isLt
  have := slt_lim ⟨t.val, ht⟩ ⟨g.toNat, by omega⟩ hg
  dsimp only at this
  rw [BitVec.ofNat_toNat, BitVec.setWidth_eq] at this
  exact this h

theorem and_one : ∀ a b : BitVec 1, Scalar.andi a b = 1#1 → a = 1#1 := by decide

/-! ## The search for the first group -/

section
variable (c : Dev nD) (bd : Option Nat) (i : grid0.Coords)
  (arg2 : Memref sig .tc .smem S512 .f32) (harg2 : arg2.IsWhole)
  (arg3 : Memref sig .tc .smem S512 .f32) (harg3 : arg3.IsWhole) (arg4 : Memref sig .tc .smem S2 .f32)
  (harg4 : arg4.IsWhole) (X2 X3 : Vec F S512 .f32) (X4 : Vec F S2 .f32)

/-- One step of the search. -/
def whileK (t : Fin k0_t1_loop.trips) (g : BitVec 32) : Prog (TpuEff nD τ sig (Elt F) (Λ₀ F) .tc) (BitVec 32) :=
  .op (TpuEff.assume (k0_chk1 i g) (k0_chk1.dec i g)) fun h =>
  .op (.load arg2 (Rect.unit (s := S512) (k0_off1 i t) S1.size (k0_off1_inb i t)).toLoadRect
    (View.loadsAt_rect (View.loads_smem_one rfl numel1_S1))) fun a =>
  .op (.load arg3 (Rect.unit (s := S512) (k0_off2 i g) S1.size (k0_off2_inb i g h.down)).toLoadRect
    (View.loadsAt_rect (View.loads_smem_one rfl numel1_S1))) fun b =>
  .op (.load arg4 (Rect.unit (s := S2) ![0] S1.size inb_S2_S1_0).toLoadRect
    (View.loadsAt_rect (View.loads_smem_one rfl numel1_S1))) fun z =>
  if Scalar.andi (Scalar.cmpi .slt g (Scalar.subi (Scf.iv 0#32 1#32 t) 1#32))
    (Scalar.cmpf .olt (Scalar.subf (a (Shape.Idx.first (numel1_S1.symm ▸ Nat.one_pos))) (b (Shape.Idx.first (numel1_S1.symm ▸ Nat.one_pos))))
      (Scalar.subf (Scalar.ofBits .f32 0x00000000#32 : F .f32) (z (Shape.Idx.first (numel1_S1.symm ▸ Nat.one_pos))))) = 1#1 then
    .op (.call (1 : (Λ₀ F).Label) ⟨i, t, arg2, harg2, arg3, harg3, arg4, harg4, Scalar.addi g 1#32⟩) .ret
  else .ret g

theorem while_eq (t : Fin k0_t1_loop.trips) (g : BitVec 32) :
    cc0_while1 (F := F) i t arg2 harg2 arg3 harg3 arg4 harg4 g = whileK i arg2 harg2 arg3 harg3 arg4 harg4 t g := rfl

/-- The tables, held. -/
abbrev tabs : sProp 𝕄 :=
  iprop(owns (c : Thread nD τ) arg2 fullShare X2 ∗ owns (c : Thread nD τ) arg3 fullShare X3
    ∗ owns (c : Thread nD τ) arg4 fullShare X4)

theorem first_le (t : Fin k0_t1_loop.trips) (n : Nat) : ∀ g : BitVec 32, g.toNat + n = t.val - 1 →
    (firstP i X2 X3 X4 t n g).toNat ≤ t.val - 1 := by
  induction n with
  | zero => intro g hg; unfold firstP; omega
  | succ n ih =>
    intro g hg
    have ht : t.val < 8 := trips1 ▸ t.isLt
    unfold firstP
    split
    · split
      · refine ih _ ?_
        show (g + 1#32).toNat + n = _
        simp only [BitVec.toNat_add, BitVec.toNat_ofNat]
        omega
      · omega
    · omega

theorem while_wp (t : Fin k0_t1_loop.trips) (n : Nat) :
    ∀ (g : BitVec 32) (hg : g.toNat + n = t.val - 1) (P : BitVec 32 → sProp 𝕄),
    (tabs c arg2 arg3 arg4 X2 X3 X4 : sProp 𝕄)
      ⊢ iprop((tabs c arg2 arg3 arg4 X2 X3 X4 -∗ P (firstP i X2 X3 X4 t n g))
        -∗ W c (some n) (cc0_while1 (F := F) i t arg2 harg2 arg3 harg3 arg4 harg4 g) P) := by
  have ht : t.val < 8 := trips1 ▸ t.isLt
  induction n with
  | zero =>
    intro g hg P
    have hc : k0_chk1 i g := chk1_of i g (by omega)
    rw [while_eq]
    unfold whileK firstP
    iintro ⟨H2, H3, H4⟩ Hk
    iapply (wp_assume Variants.nat (c : Thread nD τ) (some 0) Set.univ hc)
    iapply (load_owns c (some 0) X2) $$ H2
    iintro H2
    iapply (load_owns c (some 0) X3) $$ H3
    iintro H3
    iapply (load_owns c (some 0) X4) $$ H4
    iintro H4
    rw [if_neg (fun h => absurd (lim_of_leave t g (by omega) (and_one _ _ h)) (by omega))]
    iapply (le_wp_ret _ _ _ g P)
    iapply Hk
    isplitl [H2]; · iexact H2
    isplitl [H3]; · iexact H3
    iexact H4
  | succ n ih =>
    intro g hg P
    have hc : k0_chk1 i g := chk1_of i g (by omega)
    rw [while_eq]
    unfold whileK firstP
    rw [dif_pos hc]
    iintro ⟨H2, H3, H4⟩ Hk
    iapply (wp_assume Variants.nat (c : Thread nD τ) (some (n + 1)) Set.univ hc)
    iapply (load_owns c (some (n + 1)) X2) $$ H2
    iintro H2
    iapply (load_owns c (some (n + 1)) X3) $$ H3
    iintro H3
    iapply (load_owns c (some (n + 1)) X4) $$ H4
    iintro H4
    by_cases hl : leaveP i X2 X3 X4 t g hc = 1#1
    · rw [if_pos, if_pos]
      rotate_left
      · exact hl
      · exact hl
      iapply (wp_call Variants.nat (c : Thread nD τ) (some (n + 1)) Set.univ n (by rintro u ⟨⟩; exact Nat.lt_succ_self n))
      iapply (ih (Scalar.addi g 1#32) (by
        show (g + 1#32).toNat + n = _
        simp only [BitVec.toNat_add, BitVec.toNat_ofNat]
        omega) _) $$ [H2 H3 H4]
      · isplitl [H2]; · iexact H2
        isplitl [H3]; · iexact H3
        iexact H4
      iintro H
      iapply (le_wp_ret _ _ _ _ P)
      iapply Hk
      iexact H
    · rw [if_neg, if_neg]
      rotate_left
      · exact hl
      · exact hl
      iapply (le_wp_ret _ _ _ g P)
      iapply Hk
      isplitl [H2]; · iexact H2
      isplitl [H3]; · iexact H3
      iexact H4

end

/-! ## The first group, and what holds of it -/

theorem chk2_all : ∀ (t : Fin k0_t1_loop.trips) (g : Fin 8), g.val ≤ t.val - 1 → k0_chk2 t (BitVec.ofNat 32 g.val) := by
  decide +kernel

theorem conds_all : ∀ (t : Fin k0_t1_loop.trips) (g : Fin 8), g.val ≤ t.val - 1 →
    (k0_cond3 t = 1#1 ∧ k0_cond1 t (BitVec.ofNat 32 g.val) ≠ 1#1 ∧ k0_cond2 t (BitVec.ofNat 32 g.val) ≠ 1#1)
    ∨ (k0_cond3 t ≠ 1#1 ∧ k0_cond1 t (BitVec.ofNat 32 g.val) = 1#1 ∧ k0_cond2 t (BitVec.ofNat 32 g.val) ≠ 1#1)
    ∨ (k0_cond3 t ≠ 1#1 ∧ k0_cond1 t (BitVec.ofNat 32 g.val) ≠ 1#1 ∧ k0_cond2 t (BitVec.ofNat 32 g.val) = 1#1) := by
  decide +kernel

theorem ofNat_group (t : Fin k0_t1_loop.trips) (g : BitVec 32) (hg : g.toNat ≤ t.val - 1) :
    ∃ g' : Fin 8, g = BitVec.ofNat 32 g'.val ∧ g'.val ≤ t.val - 1 := by
  have ht : t.val < 8 := trips1 ▸ t.isLt
  refine ⟨⟨g.toNat, by omega⟩, ?_, hg⟩
  rw [BitVec.ofNat_toNat, BitVec.setWidth_eq]

theorem chk2_of (t : Fin k0_t1_loop.trips) (g : BitVec 32) (hg : g.toNat ≤ t.val - 1) : k0_chk2 t g := by
  obtain ⟨g', rfl, h⟩ := ofNat_group t g hg
  exact chk2_all t g' h

theorem conds_of (t : Fin k0_t1_loop.trips) (g : BitVec 32) (hg : g.toNat ≤ t.val - 1) :
    (k0_cond3 t = 1#1 ∧ k0_cond1 t g ≠ 1#1 ∧ k0_cond2 t g ≠ 1#1)
    ∨ (k0_cond3 t ≠ 1#1 ∧ k0_cond1 t g = 1#1 ∧ k0_cond2 t g ≠ 1#1)
    ∨ (k0_cond3 t ≠ 1#1 ∧ k0_cond1 t g ≠ 1#1 ∧ k0_cond2 t g = 1#1) := by
  obtain ⟨g', rfl, h⟩ := ofNat_group t g hg
  exact conds_all t g' h

/-- The first group a tile takes. -/
def groupP (i : grid0.Coords) (X2 X3 : Vec F S512 .f32) (X4 : Vec F S2 .f32) (t : Fin k0_t1_loop.trips) : BitVec 32 :=
  firstP i X2 X3 X4 t (t.val - 1) 0#32

theorem group_le (i : grid0.Coords) (X2 X3 : Vec F S512 .f32) (X4 : Vec F S2 .f32) (t : Fin k0_t1_loop.trips) :
    (groupP i X2 X3 X4 t).toNat ≤ t.val - 1 :=
  first_le i X2 X3 X4 t (t.val - 1) 0#32 (by simp)

theorem group_chk (i : grid0.Coords) (X2 X3 : Vec F S512 .f32) (X4 : Vec F S2 .f32) (t : Fin k0_t1_loop.trips) :
    k0_chk2 t (groupP i X2 X3 X4 t) :=
  chk2_of t _ (group_le i X2 X3 X4 t)

/-! ## What a tile writes -/

/-- A result's place within its chain. -/
def colI (idx : S1x64x16384.Idx) : S1x64x256.Idx :=
  ix3 (n0 := 1) (n1 := 64) (n2 := 256) 0 (idx 1) ⟨(idx 2).val % 256, Nat.mod_lt _ (by decide)⟩

/-- The chain of a result's position. -/
def chainI (idx : S1x64x16384.Idx) : Fin 8 := ⟨(idx 2).val / 256 % 8, Nat.mod_lt _ (by decide)⟩

/-- A tile's results over what the array held. -/
def tileW (t : Nat) (w : Fin 8 → FVec F S1x64x256 .bf16) (X : Vec F S1x64x16384 .bf16) : Vec F S1x64x16384 .bf16 :=
  fun idx => if (idx 2).val / 2048 = t then w (chainI idx) (colI idx) else X idx

theorem overlay_chain (O : Os) (t : Nat) (c : Fin 8) (hO : O.oo c = ![0, 0, 2048 * t + 256 * c.val])
    (w : FVec F S1x64x256 .bf16) (X : Vec F S1x64x16384 .bf16) (idx : S1x64x16384.Idx) :
    (oR O c).overlay X w idx = if (idx 2).val / 2048 = t ∧ chainI idx = c then w (colI idx) else X idx := by
  have h0 : (idx 0).val < 1 := (idx 0).isLt
  have h1 : (idx 1).val < 64 := (idx 1).isLt
  have h2 : (idx 2).val < 16384 := (idx 2).isLt
  have hc := c.isLt
  split
  · rename_i h
    obtain ⟨ht, rfl⟩ := h
    have e : idx = (oR O (chainI idx)).emb (colI idx) := by
      funext a
      apply Fin.ext
      show _ = O.oo (chainI idx) a + 1 * (colI idx a).val
      rw [hO]
      fin_cases a
      · show (idx 0).val = 0 + 1 * 0; omega
      · show (idx 1).val = 0 + 1 * (idx 1).val; omega
      · show (idx 2).val = (2048 * t + 256 * ((idx 2).val / 256 % 8)) + 1 * ((idx 2).val % 256); omega
    exact (congrArg _ e).trans (Rect.overlay_emb _ _ _ _)
  · rename_i h
    refine Rect.overlay_of_not_mem _ _ _ ?_
    intro hm
    rw [Rect.mem_set_unit] at hm
    have := hm 2
    rw [hO] at this
    have hl : 2048 * t + 256 * c.val ≤ (idx 2).val := this.1
    have hr : (idx 2).val < 2048 * t + 256 * c.val + 256 := this.2
    refine h ⟨by omega, Fin.ext ?_⟩
    show (idx 2).val / 256 % 8 = c.val
    omega

theorem foldl_chain (O : Os) (t : Nat) (hO : ∀ c, O.oo c = ![0, 0, 2048 * t + 256 * c.val])
    (w : Fin 8 → FVec F S1x64x256 .bf16) (idx : S1x64x16384.Idx) (l : List (Fin 8)) : ∀ X : Vec F S1x64x16384 .bf16,
    l.foldl (fun X c => (oR O c).overlay X (w c)) X idx
      = if (idx 2).val / 2048 = t ∧ chainI idx ∈ l then w (chainI idx) (colI idx) else X idx := by
  induction l with
  | nil => intro X; simp
  | cons c l ih =>
    intro X
    rw [List.foldl_cons, ih, overlay_chain O t c (hO c)]
    by_cases h1 : (idx 2).val / 2048 = t <;> by_cases h2 : chainI idx = c <;> by_cases h3 : chainI idx ∈ l <;>
      simp [h1, h2, h3] <;> simp_all

theorem mem_chains : ∀ c : Fin 8, c ∈ chains := by decide

theorem putP_eq (O : Os) (t : Nat) (hO : ∀ c, O.oo c = ![0, 0, 2048 * t + 256 * c.val])
    (w : Fin 8 → FVec F S1x64x256 .bf16) (X : Vec F S1x64x16384 .bf16) : putP O w X = tileW t w X := by
  funext idx
  unfold putP tileW
  rw [foldl_chain O t hO w idx]
  simp [mem_chains]

/-! ## The loops, a tile, the body -/

section
variable (c : Dev nD) (bd : Option Nat) (arg9 : Memref sig .tc .vmem S8x80x256 .f32)

theorem loop_wp (L : Scf.Loop 32) (hok : L.OK) (body : Fin L.trips → PR F)
    (f : Fin L.trips → Vec F S8x80x256 .f32 → Vec F S8x80x256 .f32) (R : sProp 𝕄)
    (hbody : ∀ u X9 (P : PUnit → sProp 𝕄), iprop(R ∗ owns (c : Thread nD τ) arg9 fullShare X9)
      ⊢ iprop((R ∗ owns (c : Thread nD τ) arg9 fullShare (f u X9) -∗ P ⟨⟩) -∗ W c bd (body u) P))
    (X9 : Vec F S8x80x256 .f32) {α : Type} (kk : PUnit → Prog (TpuEff nD τ sig (Elt F) (Λ₀ F) .tc) α) (Q : α → sProp 𝕄) :
    iprop(R ∗ owns (c : Thread nD τ) arg9 fullShare X9)
      ⊢ iprop((R ∗ owns (c : Thread nD τ) arg9 fullShare (iterP f X9 L.trips) -∗ W c bd (kk ⟨⟩) Q)
        -∗ W c bd (Scf.Loop.for L hok ⟨⟩ (fun u _ => body u) >>= kk) Q) := by
  have h := Scf.wp_for_bind frame (wpE (defs₀ (F := F)) Variants.nat (c : Thread nD τ) bd) Set.univ L.lb L.ub L.st hok
    PUnit.unit (fun u _ => body u) (fun n _ => iprop(R ∗ owns (c : Thread nD τ) arg9 fullShare (iterP f X9 n)))
    (by
      intro k acc
      have e : iterP f X9 (k.val + 1) = f k (iterP f X9 k.val) := by
        show (if h : k.val < _ then f ⟨k.val, h⟩ (iterP f X9 k.val) else iterP f X9 k.val) = _
        rw [dif_pos k.isLt]
      iintro H
      iapply (hbody k (iterP f X9 k.val) (fun _ => iprop(R ∗ owns (c : Thread nD τ) arg9 fullShare (iterP f X9 (k.val + 1))))) $$ H
      rw [e]
      iintro H
      iexact H) (kk := kk) (Q := Q)
  refine .trans h ?_
  iintro H Hk
  iapply H
  iintro %acc H
  iapply Hk
  iexact H

end

end Cert.KernelIdeal.Att

end
-- ==== Proof.Wp3.lean ====
/-
A query tile runs, and the whole body.
-/
module

public import proofs.«01_k».proof.Proof.Wp2

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The accumulator overwritten whole. -/
theorem overlay_all (X Y : Vec F S8x80x256 .f32) : accAll.overlay X Y = Y := by
  funext idx
  have e : idx = accAll.emb idx := by
    funext a
    apply Fin.ext
    show _ = (![0, 0, 0] : Fin 3 → Nat) a + 1 * (idx a).val
    fin_cases a
    · show (idx 0).val = 0 + 1 * (idx 0).val; omega
    · show (idx 1).val = 0 + 1 * (idx 1).val; omega
    · show (idx 2).val = 0 + 1 * (idx 2).val; omega
  exact (congrArg _ e).trans ((Rect.overlay_emb _ _ _ _).trans rfl)

section
variable (c : Dev nD) (i : grid0.Coords)
  (arg2 : Memref sig .tc .smem S512 .f32) (harg2 : arg2.IsWhole)
  (arg3 : Memref sig .tc .smem S512 .f32) (harg3 : arg3.IsWhole) (arg4 : Memref sig .tc .smem S2 .f32)
  (harg4 : arg4.IsWhole) (arg5 : Memref sig .tc .vmem S1x1x128x16384 .bf16)
  (arg6 : Memref sig .tc .vmem S1x1x16384x128 .bf16)
  (arg7 : Memref sig .tc .vmem S1x1x80x16384 .bf16)
  (arg8 : Memref sig .tc .vmem S1x64x16384 .bf16) (harg8 : arg8.IsWhole)
  (arg9 : Memref sig .tc .vmem S8x80x256 .f32)
  (X2 X3 : Vec F S512 .f32) (X4 : Vec F S2 .f32)
  (X5 : Vec F S1x1x128x16384 .bf16) (X6 : Vec F S1x1x16384x128 .bf16) (X7 : Vec F S1x1x80x16384 .bf16)
  (v3 : Elt F .f32)

/-- The inputs and the tables, held. -/
abbrev rd : sProp 𝕄 :=
  iprop(ins c arg5 arg6 arg7 X5 X6 X7 ∗ tabs c arg2 arg3 arg4 X2 X3 X4)

theorem preK_wp (t : Fin k0_t1_loop.trips) (X9 : Vec F S8x80x256 .f32) (P : PreT t → sProp 𝕄) :
    iprop(rd c arg2 arg3 arg4 arg5 arg6 arg7 X2 X3 X4 X5 X6 X7 ∗ owns (c : Thread nD τ) arg9 fullShare X9 : sProp 𝕄)
      ⊢ iprop((rd c arg2 arg3 arg4 arg5 arg6 arg7 X2 X3 X4 X5 X6 X7
            ∗ owns (c : Thread nD τ) arg9 fullShare
              (mainP X5 X6 X7 v3 t (groupP i X2 X3 X4 t) (group_chk i X2 X3 X4 t))
          -∗ P (preV t (groupP i X2 X3 X4 t) (group_chk i X2 X3 X4 t)))
        -∗ W c none (preK i arg2 harg2 arg3 harg3 arg4 harg4 arg5 arg6 arg7 arg9 v3 t) P) := by
  have hl2 := loop_wp c none arg9 (k0_t2_loop t (groupP i X2 X3 X4 t))
    (k0_t2_ok t (groupP i X2 X3 X4 t) (group_chk i X2 X3 X4 t))
    (fun u => tripK arg5 arg6 arg7 arg9 v3 (qs2 t (q0W t)) (bs2 t (groupP i X2 X3 X4 t) (group_chk i X2 X3 X4 t) u))
    _ _ (fun u X9 P => tripK_wp c none arg5 arg6 arg7 arg9 X5 X6 X7 v3 _ _ X9 P) zeroAcc (α := PreT t)
  have hl3 := fun X9 => loop_wp c none arg9 (k0_t3_loop t (groupP i X2 X3 X4 t))
    (k0_t3_ok t (groupP i X2 X3 X4 t) (group_chk i X2 X3 X4 t))
    (fun u => tripK arg5 arg6 arg7 arg9 v3 (qs3 t (q0W t)) (bs3 t (groupP i X2 X3 X4 t) (group_chk i X2 X3 X4 t) u))
    _ _ (fun u X9 P => tripK_wp c none arg5 arg6 arg7 arg9 X5 X6 X7 v3 _ _ X9 P) X9 (α := PreT t)
  unfold preK
  iintro ⟨⟨H, Ht⟩, H9⟩ Hk
  iapply (load_owns c none X9) $$ H9
  iintro H9
  iapply (store_owns c none X9) $$ H9
  rw [overlay_all]
  iintro H9
  iapply (wp_call Variants.nat (c : Thread nD τ) none Set.univ (t.val - 1) (by rintro u ⟨⟩))
  iapply (while_wp c i arg2 harg2 arg3 harg3 arg4 harg4 X2 X3 X4 t (t.val - 1) 0#32 (by simp) _) $$ Ht
  iintro Ht
  iapply (wp_assume Variants.nat (c : Thread nD τ) none Set.univ (group_chk i X2 X3 X4 t))
  iapply (hl2 _ _) $$ [H H9]
  · isplitl [H]; · iexact H
    iexact H9
  iintro ⟨H, H9⟩
  iapply (hl3 _ _ _) $$ [H H9]
  · isplitl [H]; · iexact H
    iexact H9
  iintro ⟨H, H9⟩
  iapply (le_wp_ret _ _ _ (preV t (groupP i X2 X3 X4 t) (group_chk i X2 X3 X4 t)) P)
  iapply Hk
  isplitl [H Ht]
  · isplitl [H]; · iexact H
    iexact Ht
  iexact H9

/-- A tile's results, over what the array held. -/
def outT (t : Fin k0_t1_loop.trips) (X8 : Vec F S1x64x16384 .bf16) : Vec F S1x64x16384 .bf16 :=
  tileW t.val (tileP X5 X6 X7 v3 t (groupP i X2 X3 X4 t) (group_chk i X2 X3 X4 t)) X8

theorem post_wp (t : Fin k0_t1_loop.trips) (X8 : Vec F S1x64x16384 .bf16) (P : PUnit → sProp 𝕄) :
    iprop(rd c arg2 arg3 arg4 arg5 arg6 arg7 X2 X3 X4 X5 X6 X7 ∗ owns (c : Thread nD τ) arg8 fullShare X8
        ∗ owns (c : Thread nD τ) arg9 fullShare
              (mainP X5 X6 X7 v3 t (groupP i X2 X3 X4 t) (group_chk i X2 X3 X4 t)) : sProp 𝕄)
      ⊢ iprop((rd c arg2 arg3 arg4 arg5 arg6 arg7 X2 X3 X4 X5 X6 X7
            ∗ owns (c : Thread nD τ) arg8 fullShare (outT i X2 X3 X4 X5 X6 X7 v3 t X8)
            ∗ (∃ Y, owns (c : Thread nD τ) arg9 fullShare Y) -∗ P ⟨⟩)
        -∗ W c none (postK arg5 arg6 arg7 arg8 harg8 arg9 v3 t (groupP i X2 X3 X4 t) (group_chk i X2 X3 X4 t) (q0W t)) P) := by
  have hc := conds_of t (groupP i X2 X3 X4 t) (group_le i X2 X3 X4 t)
  unfold outT tileP postK ifK
  rcases hc with ⟨h3, h1, h2⟩ | ⟨h3, h1, h2⟩ | ⟨h3, h1, h2⟩
  · rw [dif_neg h1, dif_neg h2, dif_pos h3]
    iintro ⟨⟨H, Ht⟩, H8, H9⟩ Hk
    iapply (endK_wp c none arg5 arg6 arg7 arg8 harg8 arg9 X5 X6 X7 v3 _ _ _ X8 _ _ P) $$ [H H8 H9]
    · isplitl [H]; · iexact H
      isplitl [H8]; · iexact H8
      iexact H9
    rw [putP_eq _ t.val (fun r => k0_off24_eq t r)]
    simp only [dif_pos h3]
    iintro ⟨H, H8, H9⟩
    iapply (le_wp_ret _ _ _ _ P)
    iapply Hk
    isplitl [H Ht]
    · isplitl [H]; · iexact H
      iexact Ht
    isplitl [H8]; · iexact H8
    iexists _
    iexact H9
  · rw [dif_pos h1, dif_neg h2, dif_neg h3]
    iintro ⟨⟨H, Ht⟩, H8, H9⟩ Hk
    iapply (endK_wp c none arg5 arg6 arg7 arg8 harg8 arg9 X5 X6 X7 v3 _ _ _ X8 _ _ P) $$ [H H8 H9]
    · isplitl [H]; · iexact H
      isplitl [H8]; · iexact H8
      iexact H9
    rw [putP_eq _ t.val (fun r => k0_off14_eq t r)]
    simp only [dif_neg h3, dif_neg h2, dif_pos h1]
    iintro ⟨H, H8, H9⟩
    iapply (le_wp_ret _ _ _ _ P)
    iapply Hk
    isplitl [H Ht]
    · isplitl [H]; · iexact H
      iexact Ht
    isplitl [H8]; · iexact H8
    iexists _
    iexact H9
  · rw [dif_neg h1, dif_pos h2, dif_neg h3]
    iintro ⟨⟨H, Ht⟩, H8, H9⟩ Hk
    iapply (endK_wp c none arg5 arg6 arg7 arg8 harg8 arg9 X5 X6 X7 v3 _ _ _ X8 _ _ P) $$ [H H8 H9]
    · isplitl [H]; · iexact H
      isplitl [H8]; · iexact H8
      iexact H9
    rw [putP_eq _ t.val (fun r => k0_off20_eq t r)]
    simp only [dif_neg h3, dif_pos h2]
    iintro ⟨H, H8, H9⟩
    iapply (le_wp_ret _ _ _ _ P)
    iapply Hk
    isplitl [H Ht]
    · isplitl [H]; · iexact H
      iexact Ht
    isplitl [H8]; · iexact H8
    iexists _
    iexact H9

theorem tile_wp (t : Fin k0_t1_loop.trips) (X8 : Vec F S1x64x16384 .bf16) (X9 : Vec F S8x80x256 .f32)
    (P : PUnit → sProp 𝕄) :
    iprop(rd c arg2 arg3 arg4 arg5 arg6 arg7 X2 X3 X4 X5 X6 X7 ∗ owns (c : Thread nD τ) arg8 fullShare X8
        ∗ owns (c : Thread nD τ) arg9 fullShare X9 : sProp 𝕄)
      ⊢ iprop((rd c arg2 arg3 arg4 arg5 arg6 arg7 X2 X3 X4 X5 X6 X7
            ∗ owns (c : Thread nD τ) arg8 fullShare (outT i X2 X3 X4 X5 X6 X7 v3 t X8)
            ∗ (∃ Y, owns (c : Thread nD τ) arg9 fullShare Y) -∗ P ⟨⟩)
        -∗ W c none (tileK i arg2 harg2 arg3 harg3 arg4 harg4 arg5 arg6 arg7 arg8 harg8 arg9 v3 t) P) := by
  unfold tileK W
  rw [wp_bind]
  iintro ⟨H, H8, H9⟩ Hk
  iapply (preK_wp c i arg2 harg2 arg3 harg3 arg4 harg4 arg5 arg6 arg7 arg9 X2 X3 X4 X5 X6 X7 v3 t X9 _) $$ [H H9]
  · isplitl [H]; · iexact H
    iexact H9
  iintro ⟨H, H9⟩
  iapply (post_wp c i arg2 arg3 arg4 arg5 arg6 arg7 arg8 harg8 arg9 X2 X3 X4 X5 X6 X7 v3 t X8 P) $$ [H H8 H9]
  · isplitl [H]; · iexact H
    isplitl [H8]; · iexact H8
    iexact H9
  iexact Hk

/-- A tile's place in the loop. -/
def tileN (n : Nat) (h : n < 8) : Fin k0_t1_loop.trips := ⟨n, trips1 ▸ h⟩

/-- What every position holds when the body is done. -/
def outB : Vec F S1x64x16384 .bf16 := fun idx =>
  let t := tileN ((idx 2).val / 2048) (Nat.div_lt_of_lt_mul (show (idx 2).val < 2048 * 8 from (idx 2).isLt))
  tileP X5 X6 X7 v3 t (groupP i X2 X3 X4 t) (group_chk i X2 X3 X4 t) (chainI idx) (colI idx)

/-- What every position holds when `n` tiles are done. -/
def outN (d : Vec F S1x64x16384 .bf16) (n : Nat) : Vec F S1x64x16384 .bf16 := fun idx =>
  if (idx 2).val / 2048 < n then outB i X2 X3 X4 X5 X6 X7 v3 idx else d idx

theorem outN_succ (d : Vec F S1x64x16384 .bf16) (t : Fin k0_t1_loop.trips) :
    outT i X2 X3 X4 X5 X6 X7 v3 t (outN i X2 X3 X4 X5 X6 X7 v3 d t.val) = outN i X2 X3 X4 X5 X6 X7 v3 d (t.val + 1) := by
  funext idx
  unfold outT tileW outN
  by_cases h : (idx 2).val / 2048 = t.val
  · rw [if_pos h, if_pos (by omega)]
    unfold outB
    have e : tileN ((idx 2).val / 2048) (Nat.div_lt_of_lt_mul (show (idx 2).val < 2048 * 8 from (idx 2).isLt)) = t :=
      Fin.ext h
    dsimp only
    rw [e]
  · rw [if_neg h]
    by_cases h' : (idx 2).val / 2048 < t.val
    · rw [if_pos h', if_pos (by omega)]
    · rw [if_neg h', if_neg (by omega)]

theorem outN_zero (d : Vec F S1x64x16384 .bf16) : outN i X2 X3 X4 X5 X6 X7 v3 d 0 = d := by
  funext idx
  unfold outN
  rw [if_neg (Nat.not_lt_zero _)]

theorem outN_all (d : Vec F S1x64x16384 .bf16) :
    outN i X2 X3 X4 X5 X6 X7 v3 d k0_t1_loop.trips = outB i X2 X3 X4 X5 X6 X7 v3 := by
  funext idx
  unfold outN
  rw [if_pos]
  rw [trips1]
  exact Nat.div_lt_of_lt_mul (show (idx 2).val < 2048 * 8 from (idx 2).isLt)

end

section
variable (c : Dev nD) (i : grid0.Coords)
  (arg2 : Memref sig .tc .smem S512 .f32) (harg2 : arg2.IsWhole)
  (arg3 : Memref sig .tc .smem S512 .f32) (harg3 : arg3.IsWhole) (arg4 : Memref sig .tc .smem S2 .f32)
  (harg4 : arg4.IsWhole) (arg5 : Memref sig .tc .vmem S1x1x128x16384 .bf16) (harg5 : arg5.IsWhole)
  (arg6 : Memref sig .tc .vmem S1x1x16384x128 .bf16) (harg6 : arg6.IsWhole)
  (arg7 : Memref sig .tc .vmem S1x1x80x16384 .bf16) (harg7 : arg7.IsWhole)
  (arg8 : Memref sig .tc .vmem S1x64x16384 .bf16) (harg8 : arg8.IsWhole)
  (arg9 : Memref sig .tc .vmem S8x80x256 .f32) (harg9 : arg9.IsWhole)
  (X2 X3 : Vec F S512 .f32) (X4 : Vec F S2 .f32)
  (X5 : Vec F S1x1x128x16384 .bf16) (X6 : Vec F S1x1x16384x128 .bf16) (X7 : Vec F S1x1x80x16384 .bf16)

/-- The reference exponent, read from the third table. -/
def refW : Elt F .f32 := word X4 (Rect.unit (s := S2) ![1] S1.size inb_S2_S1_1) numel1_S1

theorem body_wp (d : Vec F S1x64x16384 .bf16) (X9 : Vec F S8x80x256 .f32) (P : PUnit → sProp 𝕄) :
    iprop(rd c arg2 arg3 arg4 arg5 arg6 arg7 X2 X3 X4 X5 X6 X7 ∗ owns (c : Thread nD τ) arg8 fullShare d
        ∗ owns (c : Thread nD τ) arg9 fullShare X9 : sProp 𝕄)
      ⊢ iprop((rd c arg2 arg3 arg4 arg5 arg6 arg7 X2 X3 X4 X5 X6 X7
            ∗ owns (c : Thread nD τ) arg8 fullShare (outB i X2 X3 X4 X5 X6 X7 (refW X4))
            ∗ (∃ Y, owns (c : Thread nD τ) arg9 fullShare Y) -∗ P ⟨⟩)
        -∗ W c none (cc0_attention_fixed i arg2 harg2 arg3 harg3 arg4 harg4 arg5 harg5 arg6 harg6 arg7 harg7 arg8 harg8
          arg9 harg9) P) := by
  have hloop := Scf.wp_for_bind frame (wpE (defs₀ (F := F)) Variants.nat (c : Thread nD τ) none) Set.univ
    k0_t1_loop.lb k0_t1_loop.ub k0_t1_loop.st k0_t1_ok PUnit.unit
    (fun t _ => tileK i arg2 harg2 arg3 harg3 arg4 harg4 arg5 arg6 arg7 arg8 harg8 arg9 (refW X4) t)
    (fun n _ => iprop(rd c arg2 arg3 arg4 arg5 arg6 arg7 X2 X3 X4 X5 X6 X7
      ∗ owns (c : Thread nD τ) arg8 fullShare (outN i X2 X3 X4 X5 X6 X7 (refW X4) d n)
      ∗ (∃ Y, owns (c : Thread nD τ) arg9 fullShare Y)))
    (by
      intro t acc
      iintro ⟨H, H8, %Y, H9⟩
      iapply (tile_wp c i arg2 harg2 arg3 harg3 arg4 harg4 arg5 arg6 arg7 arg8 harg8 arg9 X2 X3 X4 X5 X6 X7 (refW X4) t
        _ Y _) $$ [H H8 H9]
      · isplitl [H]; · iexact H
        isplitl [H8]; · iexact H8
        iexact H9
      rw [outN_succ]
      iintro H
      iexact H)
    (β := PUnit) (kk := fun _ => pure ⟨⟩) (Q := P)
  rw [body_eq]
  unfold bodyK
  iintro ⟨⟨H, H2, H3, H4⟩, H8, H9⟩ Hk
  iapply (load_owns c none X4) $$ H4
  iintro H4
  iapply (hloop) $$ [H H2 H3 H4 H8 H9]
  · isplitl [H H2 H3 H4]
    · isplitl [H]; · iexact H
      isplitl [H2]; · iexact H2
      isplitl [H3]; · iexact H3
      iexact H4
    rw [outN_zero]
    isplitl [H8]; · iexact H8
    iexists X9
    iexact H9
  rw [show Scf.trips k0_t1_loop.lb k0_t1_loop.ub k0_t1_loop.st = k0_t1_loop.trips from rfl, outN_all]
  iintro %acc H
  iapply (le_wp_ret _ _ _ _ P)
  iapply Hk
  iexact H

end

end Cert.KernelIdeal.Att

end
-- ==== Proof.Run.lean ====
/-
The call runs: what each window's block holds around the body, the body's obligation, and the launch.
-/
module

public import proofs.«01_k».proof.Proof.Wp3
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.ValueKit.Geometry

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations before the call. -/
abbrev hostOpss : List (List (HloOp τ sig (Elt F))) :=
  [hostOps0, hostOps0_1, hostOps0_2, hostOps0_3, hostOps0_4, hostOps0_5, hostOps0_6]

/-- What a buffer holds when the call starts. -/
def V (c : Dev nD) (b : Ref sig .tc) : Buf (Elt F) ((c : Thread nD τ).loc b) :=
  StableHlo.after hostOpss.flatten (fun b => m (c, b)) b

/-- A window's block at a grid point. -/
def blkOf (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What the body leaves in the result's block. -/
def outAt (c : Dev nD) (t : Fin (cfg0 (F := F)).N) : Vec F S1x64x16384 .bf16 :=
  outB (grid0.coords t) (blkOf m c 0 t) (blkOf m c 1 t) (blkOf m c 2 t) (blkOf m c 3 t) (blkOf m c 4 t) (blkOf m c 5 t)
    (refW (blkOf m c 2 t))

/-- What each window's block holds after the body. -/
def afterAt (c : Dev nD) : (w : Fin (cfg0 (F := F)).W) → (t : Fin (cfg0 (F := F)).N) → ((cfg0 (F := F)).win w).block.Idx → Elt F ((cfg0 (F := F)).win w).elt
  | 0 => fun t => blkOf m c 0 t
  | 1 => fun t => blkOf m c 1 t
  | 2 => fun t => blkOf m c 2 t
  | 3 => fun t => blkOf m c 3 t
  | 4 => fun t => blkOf m c 4 t
  | 5 => fun t => blkOf m c 5 t
  | 6 => fun t => outAt m c t

/-- The facts of the run on one core. -/
def dats (_ : Fin 1) (c : Dev nD) : Dat τ (Elt F) Unit ℕ (UR sig nD τ) ℕ (cfg0 (F := F)) c where
  A w := V m c (Pipeline.arrRef spec0 w)
  after w t := afterAt m c w t
  Φ _ := Pipeline.ΦA spec0 c
  q w := Pipeline.shareOf spec0 w
  owed _ := 0

theorem A_eq (c : Dev nD) (w : Fin (cfg0 (F := F)).W) : (dats m 0 c).A w = V m c (Pipeline.arrRef spec0 w) := by dsimp only [dats]

theorem before_0 (c : Dev nD) (t : Fin (cfg0 (F := F)).N) (d : ((cfg0 (F := F)).win 0).block.Idx → Elt F ((cfg0 (F := F)).win 0).elt) :
    (dats m 0 c).before 0 t d = blkOf m c 0 t :=
  (Dat.before_in_eq_fetched (dats m 0 c) 0 rfl (fun _ => rfl) (fun _ _ _ => rfl) (fun _ => rfl) t d).trans rfl
theorem before_1 (c : Dev nD) (t : Fin (cfg0 (F := F)).N) (d : ((cfg0 (F := F)).win 1).block.Idx → Elt F ((cfg0 (F := F)).win 1).elt) :
    (dats m 0 c).before 1 t d = blkOf m c 1 t :=
  (Dat.before_in_eq_fetched (dats m 0 c) 1 rfl (fun _ => rfl) (fun _ _ _ => rfl) (fun _ => rfl) t d).trans rfl
theorem before_2 (c : Dev nD) (t : Fin (cfg0 (F := F)).N) (d : ((cfg0 (F := F)).win 2).block.Idx → Elt F ((cfg0 (F := F)).win 2).elt) :
    (dats m 0 c).before 2 t d = blkOf m c 2 t :=
  (Dat.before_in_eq_fetched (dats m 0 c) 2 rfl (fun _ => rfl) (fun _ _ _ => rfl) (fun _ => rfl) t d).trans rfl
theorem before_3 (c : Dev nD) (t : Fin (cfg0 (F := F)).N) (d : ((cfg0 (F := F)).win 3).block.Idx → Elt F ((cfg0 (F := F)).win 3).elt) :
    (dats m 0 c).before 3 t d = blkOf m c 3 t :=
  (Dat.before_in_eq_fetched (dats m 0 c) 3 rfl (fun _ => rfl) (fun _ _ _ => rfl) (fun _ => rfl) t d).trans rfl
theorem before_4 (c : Dev nD) (t : Fin (cfg0 (F := F)).N) (d : ((cfg0 (F := F)).win 4).block.Idx → Elt F ((cfg0 (F := F)).win 4).elt) :
    (dats m 0 c).before 4 t d = blkOf m c 4 t :=
  (Dat.before_in_eq_fetched (dats m 0 c) 4 rfl (fun _ => rfl) (fun _ _ _ => rfl) (fun _ => rfl) t d).trans rfl
theorem before_5 (c : Dev nD) (t : Fin (cfg0 (F := F)).N) (d : ((cfg0 (F := F)).win 5).block.Idx → Elt F ((cfg0 (F := F)).win 5).elt) :
    (dats m 0 c).before 5 t d = blkOf m c 5 t :=
  (Dat.before_in_eq_fetched (dats m 0 c) 5 rfl (fun _ => rfl) (fun _ _ _ => rfl) (fun _ => rfl) t d).trans rfl

/-- What the body is called with. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 (F := F) t) fullShare ((dats m 0 c).before 0 t d))
    ∗ (∃ d, owns (c : Thread nD τ) (st0_1 (F := F) t) fullShare ((dats m 0 c).before 1 t d))
    ∗ (∃ d, owns (c : Thread nD τ) (st0_2 (F := F) t) fullShare ((dats m 0 c).before 2 t d))
    ∗ (∃ d, owns (c : Thread nD τ) (st0_3 (F := F) t) fullShare ((dats m 0 c).before 3 t d))
    ∗ (∃ d, owns (c : Thread nD τ) (st0_4 (F := F) t) fullShare ((dats m 0 c).before 4 t d))
    ∗ (∃ d, owns (c : Thread nD τ) (st0_5 (F := F) t) fullShare ((dats m 0 c).before 5 t d))
    ∗ (∃ d, owns (c : Thread nD τ) (st0_6 (F := F) t) fullShare ((dats m 0 c).before 6 t d)))

/-- What it returns. -/
def bodyPost (c : Dev nD) (t : Fin (cfg0 (F := F)).N) : sProp 𝕄 :=
  iprop((dats m 0 c).Φ t.succ ∗ (dats m 0 c).owesAt () t.succ
    ∗ owns (c : Thread nD τ) (st0_0 (F := F) t) fullShare ((dats m 0 c).after 0 t)
    ∗ owns (c : Thread nD τ) (st0_1 (F := F) t) fullShare ((dats m 0 c).after 1 t)
    ∗ owns (c : Thread nD τ) (st0_2 (F := F) t) fullShare ((dats m 0 c).after 2 t)
    ∗ owns (c : Thread nD τ) (st0_3 (F := F) t) fullShare ((dats m 0 c).after 3 t)
    ∗ owns (c : Thread nD τ) (st0_4 (F := F) t) fullShare ((dats m 0 c).after 4 t)
    ∗ owns (c : Thread nD τ) (st0_5 (F := F) t) fullShare ((dats m 0 c).after 5 t)
    ∗ owns (c : Thread nD τ) (st0_6 (F := F) t) fullShare ((dats m 0 c).after 6 t))

/-- The accumulator's buffer and the register, as the body holds them. -/
theorem Phi_eq (c : Dev nD) :
    (Pipeline.ΦA spec0 c : sProp 𝕄)
      = iprop((∃ d, owns (c : Thread nD τ) (Memref.whole cc0_scratch0) fullShare d) ∗ ∃ r, prngReg c r) := by
  rw [show (Pipeline.ΦA spec0 c : sProp 𝕄) = iprop(Pipeline.scopedRest spec0 c ∗ ∃ r, prngReg c r) from rfl, scopedRest0_eq]
  simp only [owns_whole]

theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  rw [show (dats m 0 c).Φ t.succ = (Pipeline.ΦA spec0 c : sProp 𝕄) from rfl,
    show (dats m 0 c).owesAt () t.succ = (dats m 0 c).owesAt () t.castSucc from rfl,
    show (dats m 0 c).Φ t.castSucc = (Pipeline.ΦA spec0 c : sProp 𝕄) from rfl, Phi_eq]
  simp only [before_0, before_1, before_2, before_3, before_4, before_5]
  iintro ⟨⟨⟨%Y, HS⟩, Hg⟩, HO, ⟨%d0, H0⟩, ⟨%d1, H1⟩, ⟨%d2, H2⟩, ⟨%d3, H3⟩, ⟨%d4, H4⟩, ⟨%d5, H5⟩, ⟨%d6, H6⟩⟩
  iapply (body_wp c (grid0.coords t) (st0_0 (F := F) t) _ (st0_1 (F := F) t) _ (st0_2 (F := F) t) _ (st0_3 (F := F) t) _
    (st0_4 (F := F) t) _ (st0_5 (F := F) t) _ (st0_6 (F := F) t) _ (Memref.whole cc0_scratch0) _
    (blkOf m c 0 t) (blkOf m c 1 t) (blkOf m c 2 t) (blkOf m c 3 t) (blkOf m c 4 t) (blkOf m c 5 t)
    ((dats m 0 c).before 6 t d6) Y _) $$ [H0 H1 H2 H3 H4 H5 H6 HS]
  · isplitl [H0 H1 H2 H3 H4 H5]
    · isplitl [H3 H4 H5]
      · isplitl [H3]; · iexact H3
        isplitl [H4]; · iexact H4
        iexact H5
      isplitl [H0]; · iexact H0
      isplitl [H1]; · iexact H1
      iexact H2
    isplitl [H6]; · iexact H6
    iexact HS
  iintro ⟨⟨⟨H3, H4, H5⟩, H0, H1, H2⟩, H6, HS⟩
  isplitl [HS Hg]
  · isplitl [HS]; · iexact HS
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) :
    BodyObligation (dats (F := F) m 0 c) (defs₀ (F := F)) Variants.nat () Set.univ := fun t => by
  rw [bigSep_W0, bigSep_W0, defs₀_row]
  exact triple_restated (sound_body m c t) rfl .rfl fun _ => .rfl

theorem hmain : Pipeline.HMain (Ix := Unit) (Name := ℕ) (U := UR sig nD τ) (Lvl := ℕ) cfgs 0 defs₀ Variants.nat m
    (main (F := F)) (V m) :=
  Pipeline.hmain_prefixes cfgs 0 defs₀ Variants.nat m main hostOpss
    ⟨hostOps0_sub, hostOps0_1_sub, hostOps0_2_sub, hostOps0_3_sub, hostOps0_4_sub, hostOps0_5_sub, hostOps0_6_sub⟩
    (by repeat' constructor) main_chain

set_option backward.isDefEq.respectTransparency.types false in
/-- The run: every array ends at what the write-backs leave in it, every other buffer as it was when the call started. -/
theorem run_main :
    θ_run defs (onTc (τ := τ) (main (F := F))) (s₀ m ρ)
      (fun r => Pipeline.FramePost cfgs (dats m) 0 (V m) r ∧ r.2.sem = fun _ => 0) :=
  Pipeline.θ_run_frame_shared (Q' := _) cfgs (dats m) 0 launch₀0 defs₀ Variants.nat m ρ main
    (hbody := fun c => (body_obligation m c).loose) (hq := fun _ _ _ => rfl) (howed := fun _ _ => rfl) (V := V m)
    (hmain := hmain m) (hA := A_eq m) (hΦ := fun _ _ => rfl)

end Cert.KernelIdeal.Att

end
-- ==== Proof.Machine.Args.lean ====
/-
The arguments of the machine program end as they began.
-/
module

public import proofs.«01_k».proof.Proof.Machine.Run
public import proofs.«01_k».proof.Defs
public import proofs.«01_k».proof.Proof.Gen.Kernel
public import Idealize.ShloMosaic.Lib.StableHlo.Run

@[expose] public section

set_option maxRecDepth 16384

noncomputable section

namespace Cert.Kernel.Att

open Idealize.ShloMosaic Idealize.ShloMosaic.TcCoe Idealize.SL.Sem Idealize.ShloMosaic.StableHlo
open Cert.Kernel Cert.Kernel.Gen

variable {F : FTy → Type} [FloatOps F]

variable (m : (ℓ : Loc nD τ sig) → Buf (Elt F) ℓ) (ρ : Dev nD → PrngReg)

theorem flat_eq : (hostOpss (F := F)).flatten
    = hostOps0 ++ (hostOps0_1 ++ (hostOps0_2 ++ (hostOps0_3 ++ (hostOps0_4 ++ (hostOps0_5 ++ (hostOps0_6 ++ [])))))) := rfl

theorem V_arg0 (c : Dev nD) : V m c main_arg0 = m ((c : Thread nD τ).loc main_arg0) := by
  unfold V
  simp only [flat_eq, hostOps0, hostOps0_1, hostOps0_2, hostOps0_3, hostOps0_4, hostOps0_5, hostOps0_6, List.cons_append,
    List.nil_append, TRef.ternary, TRef.unary, TRef.binary, TRef.toBuf, TRef.ofBuf, cast_eq]
  after_results_simp <;> rfl

theorem V_arg1 (c : Dev nD) : V m c main_arg1 = m ((c : Thread nD τ).loc main_arg1) := by
  unfold V
  simp only [flat_eq, hostOps0, hostOps0_1, hostOps0_2, hostOps0_3, hostOps0_4, hostOps0_5, hostOps0_6, List.cons_append,
    List.nil_append, TRef.ternary, TRef.unary, TRef.binary, TRef.toBuf, TRef.ofBuf, cast_eq]
  after_results_simp <;> rfl

theorem V_arg2 (c : Dev nD) : V m c main_arg2 = m ((c : Thread nD τ).loc main_arg2) := by
  unfold V
  simp only [flat_eq, hostOps0, hostOps0_1, hostOps0_2, hostOps0_3, hostOps0_4, hostOps0_5, hostOps0_6, List.cons_append,
    List.nil_append, TRef.ternary, TRef.unary, TRef.binary, TRef.toBuf, TRef.ofBuf, cast_eq]
  after_results_simp <;> rfl

theorem V_arg3 (c : Dev nD) : V m c main_arg3 = m ((c : Thread nD τ).loc main_arg3) := by
  unfold V
  simp only [flat_eq, hostOps0, hostOps0_1, hostOps0_2, hostOps0_3, hostOps0_4, hostOps0_5, hostOps0_6, List.cons_append,
    List.nil_append, TRef.ternary, TRef.unary, TRef.binary, TRef.toBuf, TRef.ofBuf, cast_eq]
  after_results_simp <;> rfl

/-- The arguments end as they began. -/
theorem args_kept {r : PUnit × MemSt nD τ sig (Elt F)} (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨((h c).2 main_arg0 (Pipeline.mem_restRefs_of main_arg0 (by decide) (by show ∀ w, (spec0 w).arr.view.ref ≠ main_arg0; decide))).trans (V_arg0 m c),
    ((h c).2 main_arg1 (Pipeline.mem_restRefs_of main_arg1 (by decide) (by show ∀ w, (spec0 w).arr.view.ref ≠ main_arg1; decide))).trans (V_arg1 m c),
    ((h c).2 main_arg2 (Pipeline.mem_restRefs_of main_arg2 (by decide) (by show ∀ w, (spec0 w).arr.view.ref ≠ main_arg2; decide))).trans (V_arg2 m c),
    ((h c).2 main_arg3 (Pipeline.mem_restRefs_of main_arg3 (by decide) (by show ∀ w, (spec0 w).arr.view.ref ≠ main_arg3; decide))).trans (V_arg3 m c)⟩

end Cert.Kernel.Att

end
-- ==== Proof.Host.lean ====
/-
What the host operations before the call leave in the call's operands, and the frames.
-/
module

public import proofs.«01_k».proof.Proof.Run
public import proofs.«01_k».proof.Proof.Machine.Args
public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Gen.Pre_finite
public import Idealize.ShloMosaic.Lib.StableHlo.Run

@[expose] public section

set_option maxRecDepth 16384

noncomputable section

namespace Cert.KernelIdeal.Att

open Idealize.ShloMosaic Idealize.ShloMosaic.TcCoe Idealize.SL.Sem Idealize.ShloMosaic.StableHlo
open Cert.KernelIdeal Cert.KernelIdeal.Gen

variable {F : FTy → Type} [FloatOps F]

variable (m : (ℓ : Loc nD τ sig) → Buf (Elt F) ℓ) (ρ : Dev nD → PrngReg)

/-- Padding with zeros to 128 features. -/
def padV (x : FVec F S2x16384x16x96 .f32) : FVec F S2x16384x16x128 .f32 :=
  pad S2x16384x16x128 ![0, 0, 0, 0] ![0, 0, 0, 32] ![0, 0, 0, 0] x (sitofp .f32 (constantI S_ 32 0#32))
    pads_S2x16384x16x96_S2x16384x16x128_000_000_000_0320 h_S_

/-- The queries as the call takes them. -/
def qtV (q : FVec F S2x16384x16x96 .f32) : FVec F S2x16x128x16384 .bf16 :=
  transpose S2x16x128x16384 [0, 2, 3, 1]
    (truncf .bf16 (padV (mulf q (broadcastInDim S2x16384x16x96 ![]  bcast_S_S2x16384x16x96
      (Host.divf (constant S_ .f32 0x3DD105EC#32) (Host.log (constant S_ .f32 0x40000000#32)))))) bitsLt_bf16_f32)
    transposes_S2x16384x16x128_S2x16x128x16384_0_2_3_1

/-- The keys as the call takes them. -/
def kpV (k : FVec F S2x16384x16x96 .f32) : FVec F S2x16x16384x128 .bf16 :=
  transpose S2x16x16384x128 [0, 2, 1, 3] (truncf .bf16 (padV k) bitsLt_bf16_f32)
    transposes_S2x16384x16x128_S2x16x16384x128_0_2_1_3

/-- The rows put under the values: a row of ones, then zeros. -/
def onesV : FVec F S16x16384 .f32 :=
  select (cmpi .eq (iotaInDim S16x16384 32 0) (broadcastInDim S16x16384 ![] bcast_S_S16x16384 (constantI S_ 32 0#32)))
    (broadcastInDim S16x16384 ![] bcast_S_S16x16384 (constant S_ .f32 0x3F800000#32))
    (broadcastInDim S16x16384 ![] bcast_S_S16x16384 (constant S_ .f32 0x00000000#32))

/-- The values as the call takes them. -/
def vtV (v : FVec F S2x16384x16x64 .f32) : FVec F S2x16x80x16384 .bf16 :=
  concatenate S2x16x80x16384 2
    [⟨S2x16x64x16384, transpose S2x16x64x16384 [0, 2, 3, 1] (truncf .bf16 v bitsLt_bf16_f32)
        transposes_S2x16384x16x64_S2x16x64x16384_0_2_3_1⟩,
      ⟨S2x16x16x16384, broadcastInDim S2x16x16x16384 ![2, 3] bcast_S16x16384_S2x16x16x16384_2_3
        (truncf .bf16 (onesV (F := F)) bitsLt_bf16_f32)⟩]
    concatenates_S2x16x64x16384_S2x16x16x16384_S2x16x80x16384_d2

/-- The first two tables: zeros. -/
def zerosV : FVec F S512 .f32 := broadcastInDim S512 ![] bcast_S_S512 (constant S_ .f32 0x00000000#32)

/-- The third table: the limit, and the bound. -/
def boundsV (b : FVec F S_ .f32) : FVec F S2 .f32 :=
  concatenate S2 0
    [⟨S1, broadcastInDim S1 ![] bcast_S_S1
        (addf (mulf (constant S_ .f32 0x40000000#32) b) (constant S_ .f32 0x432A0000#32))⟩,
      ⟨S1, broadcastInDim S1 ![] bcast_S_S1 b⟩] concatenates_S1_S1_S2_d0

theorem flat_eq : (hostOpss (F := F)).flatten
    = hostOps0 ++ (hostOps0_1 ++ (hostOps0_2 ++ (hostOps0_3 ++ (hostOps0_4 ++ (hostOps0_5 ++ (hostOps0_6 ++ [])))))) := rfl

theorem V_arg0 (c : Dev nD) : V m c main_arg0 = m ((c : Thread nD τ).loc main_arg0) := by
  unfold V
  simp only [flat_eq, hostOps0, hostOps0_1, hostOps0_2, hostOps0_3, hostOps0_4, hostOps0_5, hostOps0_6, List.cons_append,
    List.nil_append, TRef.ternary, TRef.unary, TRef.binary, TRef.toBuf, TRef.ofBuf, cast_eq]
  after_results_simp <;> rfl

theorem V_arg1 (c : Dev nD) : V m c main_arg1 = m ((c : Thread nD τ).loc main_arg1) := by
  unfold V
  simp only [flat_eq, hostOps0, hostOps0_1, hostOps0_2, hostOps0_3, hostOps0_4, hostOps0_5, hostOps0_6, List.cons_append,
    List.nil_append, TRef.ternary, TRef.unary, TRef.binary, TRef.toBuf, TRef.ofBuf, cast_eq]
  after_results_simp <;> rfl

theorem V_arg2 (c : Dev nD) : V m c main_arg2 = m ((c : Thread nD τ).loc main_arg2) := by
  unfold V
  simp only [flat_eq, hostOps0, hostOps0_1, hostOps0_2, hostOps0_3, hostOps0_4, hostOps0_5, hostOps0_6, List.cons_append,
    List.nil_append, TRef.ternary, TRef.unary, TRef.binary, TRef.toBuf, TRef.ofBuf, cast_eq]
  after_results_simp <;> rfl

theorem V_arg3 (c : Dev nD) : V m c main_arg3 = m ((c : Thread nD τ).loc main_arg3) := by
  unfold V
  simp only [flat_eq, hostOps0, hostOps0_1, hostOps0_2, hostOps0_3, hostOps0_4, hostOps0_5, hostOps0_6, List.cons_append,
    List.nil_append, TRef.ternary, TRef.unary, TRef.binary, TRef.toBuf, TRef.ofBuf, cast_eq]
  after_results_simp <;> rfl

theorem V_v6 (c : Dev nD) : V m c main_v6 = qtV (m ((c : Thread nD τ).loc main_arg0)) := by
  unfold V
  simp only [flat_eq, hostOps0, hostOps0_1, hostOps0_2, hostOps0_3, hostOps0_4, hostOps0_5, hostOps0_6, List.cons_append,
    List.nil_append, TRef.ternary, TRef.unary, TRef.binary, TRef.toBuf, TRef.ofBuf, cast_eq]
  after_results_simp <;> rfl

theorem V_v9 (c : Dev nD) : V m c main_v9 = kpV (m ((c : Thread nD τ).loc main_arg1)) := by
  unfold V
  simp only [flat_eq, hostOps0, hostOps0_1, hostOps0_2, hostOps0_3, hostOps0_4, hostOps0_5, hostOps0_6, List.cons_append,
    List.nil_append, TRef.ternary, TRef.unary, TRef.binary, TRef.toBuf, TRef.ofBuf, cast_eq]
  after_results_simp <;> rfl

theorem V_v19 (c : Dev nD) : V m c main_v19 = vtV (m ((c : Thread nD τ).loc main_arg2)) := by
  unfold V
  simp only [flat_eq, hostOps0, hostOps0_1, hostOps0_2, hostOps0_3, hostOps0_4, hostOps0_5, hostOps0_6, List.cons_append,
    List.nil_append, TRef.ternary, TRef.unary, TRef.binary, TRef.toBuf, TRef.ofBuf, cast_eq]
  after_results_simp <;> rfl

theorem V_v20 (c : Dev nD) : V m c main_v20 = zerosV := by
  unfold V
  simp only [flat_eq, hostOps0, hostOps0_1, hostOps0_2, hostOps0_3, hostOps0_4, hostOps0_5, hostOps0_6, List.cons_append,
    List.nil_append, TRef.ternary, TRef.unary, TRef.binary, TRef.toBuf, TRef.ofBuf, cast_eq]
  after_results_simp <;> rfl

theorem V_v25 (c : Dev nD) : V m c main_v25 = boundsV (m ((c : Thread nD τ).loc main_arg3)) := by
  unfold V
  simp only [flat_eq, hostOps0, hostOps0_1, hostOps0_2, hostOps0_3, hostOps0_4, hostOps0_5, hostOps0_6, List.cons_append,
    List.nil_append, TRef.ternary, TRef.unary, TRef.binary, TRef.toBuf, TRef.ofBuf, cast_eq]
  after_results_simp <;> rfl

/-- The arguments end as they began. -/
theorem args_kept {r : PUnit × MemSt nD τ sig (Elt F)} (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨((h c).2 main_arg0 (Pipeline.mem_restRefs_of main_arg0 (by decide) (by show ∀ w, (spec0 w).arr.view.ref ≠ main_arg0; decide))).trans (V_arg0 m c),
    ((h c).2 main_arg1 (Pipeline.mem_restRefs_of main_arg1 (by decide) (by show ∀ w, (spec0 w).arr.view.ref ≠ main_arg1; decide))).trans (V_arg1 m c),
    ((h c).2 main_arg2 (Pipeline.mem_restRefs_of main_arg2 (by decide) (by show ∀ w, (spec0 w).arr.view.ref ≠ main_arg2; decide))).trans (V_arg2 m c),
    ((h c).2 main_arg3 (Pipeline.mem_restRefs_of main_arg3 (by decide) (by show ∀ w, (spec0 w).arr.view.ref ≠ main_arg3; decide))).trans (V_arg3 m c)⟩

end Cert.KernelIdeal.Att

namespace Cert.Proof

open Idealize.ShloMosaic Idealize.SL.Sem

theorem frame_kernel : Cert.quiescent_Kernel (hKernel := Cert.Kernel.Gen.facts) := fun m ρ _ =>
  (θ_run Cert.Kernel.defs _ _).mono
    (fun _ h => ⟨fun c => Cert.Kernel.Att.args_kept (F := Bits) m h.1 c, h.2⟩)
    (Cert.Kernel.Att.run_main (F := Bits) m ρ)

theorem frame_kernelIdeal : Cert.quiescent_KernelIdeal (hKernelIdeal := Cert.KernelIdeal.Gen.facts) := fun m ρ _ =>
  (θ_run Cert.KernelIdeal.defs _ _).mono
    (fun _ h => ⟨fun c => Cert.KernelIdeal.Att.args_kept (F := Ideal) m h.1 c, h.2⟩)
    (Cert.KernelIdeal.Att.run_main (F := Ideal) m ρ)

theorem frame_kernelIdeal_pre : Cert.quiescent_KernelIdeal_pre_finite (hKernelIdeal := Cert.KernelIdeal.Gen.facts)
    (hPre_finite := Cert.Pre_finite.Gen.facts) := fun m ρ _ => frame_kernelIdeal m ρ trivial

theorem frame_referenceIdeal : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem frame_referenceIdeal_pre : Cert.quiescent_ReferenceIdeal_pre_finite
    (hReferenceIdeal := Cert.ReferenceIdeal.Gen.facts) (hPre_finite := Cert.Pre_finite.Gen.facts) := fun m ρ _ =>
  frame_referenceIdeal m ρ trivial

theorem preserves : Cert.preserves_Kernel_KernelIdeal := trivial

end Cert.Proof

end
-- ==== Proof.Value.Block.lean ====
/-
One block of keys for one chain of queries, over the idealized values.
-/
module

public import proofs.«01_k».proof.Proof.Model
public import Idealize.ShloMosaic.Lib.Pointwise

@[expose] public section

set_option maxRecDepth 16384

noncomputable section

namespace Cert.KernelIdeal.Att

open Idealize.ShloMosaic Idealize.SL.Sem Cert.KernelIdeal Cert.KernelIdeal.Gen

/-- A position of the sequence. -/
abbrev pos (n : ℕ) : Fin 16384 := Fin.ofNat 16384 n

section
variable (X5 : FVec Ideal S1x1x128x16384 .bf16) (X6 : FVec Ideal S1x1x16384x128 .bf16) (X7 : FVec Ideal S1x1x80x16384 .bf16)
  (v3 : EReal)

/-- A key's score against a query. -/
def scA (k q : Fin 16384) : EReal := ∑ d : Fin 128, X6 (ix4 0 0 k d) * X5 (ix4 0 0 d q)

/-- A key's weight for a query: none after it. -/
def wA (k q : Fin 16384) : EReal := if k.val ≤ q.val then Ideal.exp2 (scA X5 X6 k q - v3) else 0

/-- A block's weighted sum of values. -/
def bV (r : Fin 64) (q : Fin 16384) (n : ℕ) : EReal :=
  ∑ k : Fin 256, X7 (ix4 0 0 ⟨r.val, by omega⟩ (pos (256 * n + k.val))) * wA X5 X6 v3 (pos (256 * n + k.val)) q

/-- A block's sum of weights. -/
def bL (q : Fin 16384) (n : ℕ) : EReal := ∑ k : Fin 256, wA X5 X6 v3 (pos (256 * n + k.val)) q

end

/-- Block `n` of the keys, as tile `t` takes it. -/
structure At (b : Blk) (n t : ℕ) : Prop where
  ok : b.ok = ![0, 0, 256 * n, 0]
  ov : b.ov = ![0, 0, 0, 256 * n]
  lt : n < 64
  how : (b.diag = false ∧ b.d = 0 ∧ n < 8 * t)
    ∨ (b.diag = true ∧ b.d < 8 ∧ n = 8 * t + b.d ∧ b.kb = BitVec.ofNat 32 (256 * n))

/-- The queries of tile `t`. -/
structure QAt (Q : Qs) (t : ℕ) : Prop where
  oq : ∀ c : Fin 8, Q.oq c = ![0, 0, 0, 2048 * t + 256 * c.val]
  q0 : Q.q0 = BitVec.ofNat 32 (2048 * t)
  lt : t < 8

theorem val4 {a b c d : ℕ} (f : Fin 4 → ℕ) (h : f = ![a, b, c, d]) : f 0 = a ∧ f 1 = b ∧ f 2 = c ∧ f 3 = d := by
  subst h; exact ⟨rfl, rfl, rfl, rfl⟩

theorem ld_q (X5 : FVec Ideal S1x1x128x16384 .bf16) (Q : Qs) (t : ℕ) (hQ : QAt Q t) (c : Fin 8) (d : Fin 128) (j : Fin 256) :
    View.ld (Val := Elt Ideal) (e' := .bf16) X5 (qR Q c) (ix4 0 0 d j) = X5 (ix4 0 0 d (pos (2048 * t + 256 * c.val + j.val))) := by
  obtain ⟨h0, h1, h2, h3⟩ := val4 _ (hQ.oq c)
  have := hQ.lt
  show X5 _ = X5 _
  congr 1
  funext a
  apply Fin.ext
  fin_cases a
  · show Q.oq c 0 + 1 * 0 = 0; omega
  · show Q.oq c 1 + 1 * 0 = 0; omega
  · show Q.oq c 2 + 1 * d.val = d.val; omega
  · show Q.oq c 3 + 1 * j.val = (2048 * t + 256 * c.val + j.val) % 16384; omega

theorem ld_k (X6 : FVec Ideal S1x1x16384x128 .bf16) (b : Blk) (n t : ℕ) (hb : At b n t) (d : Fin 128) (k : Fin 256) :
    View.ld (Val := Elt Ideal) (e' := .bf16) X6 (kR b) (ix4 0 0 k d) = X6 (ix4 0 0 (pos (256 * n + k.val)) d) := by
  obtain ⟨h0, h1, h2, h3⟩ := val4 _ hb.ok
  have := hb.lt
  show X6 _ = X6 _
  congr 1
  funext a
  apply Fin.ext
  fin_cases a
  · show b.ok 0 + 1 * 0 = 0; omega
  · show b.ok 1 + 1 * 0 = 0; omega
  · show b.ok 2 + 1 * k.val = (256 * n + k.val) % 16384; omega
  · show b.ok 3 + 1 * d.val = d.val; omega

theorem ld_v (X7 : FVec Ideal S1x1x80x16384 .bf16) (b : Blk) (n t : ℕ) (hb : At b n t) (r : Fin 64) (k : Fin 256) :
    View.ld (Val := Elt Ideal) (e' := .bf16) X7 (vR b) (ix4 0 0 r k) = X7 (ix4 0 0 ⟨r.val, by omega⟩ (pos (256 * n + k.val))) := by
  obtain ⟨h0, h1, h2, h3⟩ := val4 _ hb.ov
  have := hb.lt
  show X7 _ = X7 _
  congr 1
  funext a
  apply Fin.ext
  fin_cases a
  · show b.ov 0 + 1 * 0 = 0; omega
  · show b.ov 1 + 1 * 0 = 0; omega
  · show b.ov 2 + 1 * r.val = r.val; omega
  · show b.ov 3 + 1 * k.val = (256 * n + k.val) % 16384; omega

theorem scoreV_at (x : FVec Ideal S1x1x128x256 .bf16) (y : FVec Ideal S1x1x256x128 .bf16) (k j : Fin 256) :
    scoreV (F := Ideal) x y (ix2 k j) = ∑ d : Fin 128, y (ix4 0 0 k d) * x (ix4 0 0 d j) := by
  pointwise! [scoreV]

theorem maskV_at (kb qb : BitVec 32) (s : FVec Ideal S256x256 .f32) (k j : Fin 256) :
    maskV (F := Ideal) kb qb s (ix2 k j)
      = Scalar.select (Scalar.cmpi .sle (kb + BitVec.ofNat 32 k.val) (qb + BitVec.ofNat 32 j.val)) (s (ix2 k j)) (⊥ : EReal) := by
  pointwise! [maskV]

theorem pvV_at (v3 : EReal) (z : FVec Ideal S1x1x64x256 .bf16) (s : FVec Ideal S256x256 .f32) (r : Fin 64) (j : Fin 256) :
    pvV (F := Ideal) v3 z s (ix2 r j) = ∑ k : Fin 256, z (ix4 0 0 r k) * Ideal.exp2 (s (ix2 k j) - v3) := by
  pointwise! [pvV, expV]

theorem lV_at (v3 : EReal) (s : FVec Ideal S256x256 .f32) (j : Fin 256) :
    lV (F := Ideal) v3 s (ix2 0 j) = ∑ k : Fin 256, Ideal.exp2 (s (ix2 k j) - v3) := by
  pointwise! [lV, expV]

/-- A word comparison of two positions. -/
theorem sle_pos (a b : ℕ) (ha : a < 16384) (hb : b < 16384) :
    Scalar.cmpi .sle (BitVec.ofNat 32 a) (BitVec.ofNat 32 b) = if a ≤ b then 1#1 else 0#1 := by
  have h : (BitVec.ofNat 32 a).sle (BitVec.ofNat 32 b) = decide (a ≤ b) := by
    rw [BitVec.sle_eq_decide, BitVec.toInt_eq_toNat_of_lt, BitVec.toInt_eq_toNat_of_lt]
    · simp only [BitVec.toNat_ofNat]
      rw [Nat.mod_eq_of_lt (by omega), Nat.mod_eq_of_lt (by omega)]
      simp
    · simp only [BitVec.toNat_ofNat]; omega
    · simp only [BitVec.toNat_ofNat]; omega
  show BitVec.ofBool _ = _
  rw [h]
  by_cases hab : a ≤ b <;> simp [hab]

section
variable (X5 : FVec Ideal S1x1x128x16384 .bf16) (X6 : FVec Ideal S1x1x16384x128 .bf16) (X7 : FVec Ideal S1x1x80x16384 .bf16)
  (v3 : EReal)

theorem score_ld (Q : Qs) (b : Blk) (n t : ℕ) (hQ : QAt Q t) (hb : At b n t) (c : Fin 8) (k j : Fin 256) :
    scoreV (F := Ideal) (View.ld X5 (qR Q c)) (View.ld X6 (kR b)) (ix2 k j)
      = scA X5 X6 (pos (256 * n + k.val)) (pos (2048 * t + 256 * c.val + j.val)) := by
  rw [scoreV_at]
  exact Finset.sum_congr rfl fun d _ => congrArg₂ (· * ·) (ld_k X6 b n t hb d k) (ld_q X5 Q t hQ c d j)

/-- The weights of a block a chain sees. -/
theorem exp_at (hv : ∃ r : ℝ, v3 = r) (Q : Qs) (b : Blk) (n t : ℕ) (hQ : QAt Q t) (hb : At b n t) (c : Fin 8)
    (hc : b.d ≤ c.val) (k j : Fin 256) :
    Ideal.exp2 (scoreP (F := Ideal) X5 X6 Q b c (ix2 k j) - v3)
      = wA X5 X6 v3 (pos (256 * n + k.val)) (pos (2048 * t + 256 * c.val + j.val)) := by
  have hlt := hb.lt
  have ht := hQ.lt
  have e1 : (pos (256 * n + k.val)).val = 256 * n + k.val := Nat.mod_eq_of_lt (by omega)
  have e2 : (pos (2048 * t + 256 * c.val + j.val)).val = 2048 * t + 256 * c.val + j.val := Nat.mod_eq_of_lt (by omega)
  unfold wA
  rw [e1, e2]
  unfold scoreP
  rcases hb.how with ⟨hd, h0, hn⟩ | ⟨hd, h8, hn, hkb⟩
  · rw [hd, if_pos (by omega)]
    simp only [Bool.false_and, cond_false]
    rw [score_ld X5 X6 Q b n t hQ hb]
  · by_cases hbc : b.d = c.val
    · have hq : Scalar.addi Q.q0 (BitVec.ofNat 32 (256 * c.val)) = BitVec.ofNat 32 (2048 * t + 256 * c.val) := by
        rw [hQ.q0]
        exact (BitVec.ofNat_add ..).symm
      rw [hd, hbc]
      simp only [Nat.beq_refl, Bool.and_self, cond_true]
      rw [maskV_at, hkb, hq, ← BitVec.ofNat_add, ← BitVec.ofNat_add, sle_pos _ _ (by omega) (by omega),
        score_ld X5 X6 Q b n t hQ hb]
      split
      · rfl
      · obtain ⟨r, rfl⟩ := hv
        show Ideal.exp2 ((⊥ : EReal) - (r : EReal)) = 0
        rw [EReal.bot_sub]
        exact Ideal.exp2_bot
    · have : Nat.beq b.d c.val = false := by
        rw [← Bool.not_eq_true, Nat.beq_eq]; exact hbc
      rw [hd, this, if_pos (by omega)]
      simp only [Bool.and_false, cond_false]
      rw [score_ld X5 X6 Q b n t hQ hb]

/-- A block a chain does not see weighs nothing. -/
theorem w_zero (n t : ℕ) (c j : ℕ) (h : 2048 * t + 256 * c + j < 256 * n) (hn : n < 64) (k : Fin 256) :
    wA X5 X6 v3 (pos (256 * n + k.val)) (pos (2048 * t + 256 * c + j)) = 0 := by
  have e1 : (pos (256 * n + k.val)).val = 256 * n + k.val := Nat.mod_eq_of_lt (by omega)
  have e2 : (pos (2048 * t + 256 * c + j)).val = 2048 * t + 256 * c + j := Nat.mod_eq_of_lt (by omega)
  unfold wA
  rw [e1, e2, if_neg (by omega)]

theorem bV_zero (r : Fin 64) (n t : ℕ) (c j : ℕ) (h : 2048 * t + 256 * c + j < 256 * n) (hn : n < 64) :
    bV X5 X6 X7 v3 r (pos (2048 * t + 256 * c + j)) n = 0 :=
  Finset.sum_eq_zero fun k _ => by rw [w_zero X5 X6 v3 n t c j h hn, mul_zero]

theorem bL_zero (n t : ℕ) (c j : ℕ) (h : 2048 * t + 256 * c + j < 256 * n) (hn : n < 64) :
    bL X5 X6 v3 (pos (2048 * t + 256 * c + j)) n = 0 :=
  Finset.sum_eq_zero fun k _ => w_zero X5 X6 v3 n t c j h hn k

theorem fst_add (t : Tot Ideal) (a : FVec Ideal S64x256 .f32) (b : FVec Ideal S1x256 .f32) (i : S64x256.Idx) :
    (t.add a b).fst i = t.fst i + a i := by
  cases t with
  | none => show a i = Ideal.ofBits .f32 0#32 + a i; rw [Ideal.ofBits_zero]; exact (zero_add _).symm
  | some p => rfl

theorem snd_add (t : Tot Ideal) (a : FVec Ideal S64x256 .f32) (b : FVec Ideal S1x256 .f32) (i : S1x256.Idx) :
    (t.add a b).snd i = t.snd i + b i := by
  cases t with
  | none => show b i = Ideal.ofBits .f32 0#32 + b i; rw [Ideal.ofBits_zero]; exact (zero_add _).symm
  | some p => rfl

theorem scoreP?_of (Q : Qs) (b : Blk) (c : Fin 8) (h : Nat.ble b.d c.val = true) :
    scoreP? (F := Ideal) X5 X6 Q (some b) c = scoreP X5 X6 Q b c := by
  unfold scoreP?; dsimp only; rw [h]

theorem sumP_of (b : Blk) (c : Fin 8) (s : FVec Ideal S256x256 .f32) (T : Tot Ideal) (h : Nat.ble b.d c.val = true) :
    sumP (F := Ideal) X7 v3 b c s T = T.add (pvV v3 (View.ld X7 (vR b)) s) (lV v3 s) := by
  unfold sumP; rw [h]

theorem sumP_not (b : Blk) (c : Fin 8) (s : FVec Ideal S256x256 .f32) (T : Tot Ideal) (h : Nat.ble b.d c.val = false) :
    sumP (F := Ideal) X7 v3 b c s T = T := by
  unfold sumP; rw [h]

/-- One block's sums, added. -/
theorem sumP_at (hv : ∃ r : ℝ, v3 = r) (Q : Qs) (b : Blk) (n t : ℕ) (hQ : QAt Q t) (hb : At b n t) (c : Fin 8)
    (T : Tot Ideal) (r : Fin 64) (j : Fin 256) :
    (sumP (F := Ideal) X7 v3 b c (scoreP? X5 X6 Q (some b) c) T).fst (ix2 r j)
        = T.fst (ix2 r j) + bV X5 X6 X7 v3 r (pos (2048 * t + 256 * c.val + j.val)) n
    ∧ (sumP (F := Ideal) X7 v3 b c (scoreP? X5 X6 Q (some b) c) T).snd (ix2 0 j)
        = T.snd (ix2 0 j) + bL X5 X6 v3 (pos (2048 * t + 256 * c.val + j.val)) n := by
  by_cases hc : b.d ≤ c.val
  · have ht : Nat.ble b.d c.val = true := Nat.ble_eq.mpr hc
    rw [scoreP?_of X5 X6 Q b c ht, sumP_of X7 v3 b c _ T ht]
    refine ⟨(fst_add ..).trans (congrArg _ ?_), (snd_add ..).trans (congrArg _ ?_)⟩
    · rw [pvV_at]
      exact Finset.sum_congr rfl fun k _ => congrArg₂ (· * ·) (ld_v X7 b n t hb r k)
        (exp_at X5 X6 v3 hv Q b n t hQ hb c hc k j)
    · rw [lV_at]
      exact Finset.sum_congr rfl fun k _ => exp_at X5 X6 v3 hv Q b n t hQ hb c hc k j
  · have hf : Nat.ble b.d c.val = false := by
      rw [← Bool.not_eq_true, Nat.ble_eq]; exact hc
    rw [sumP_not X7 v3 b c _ T hf]
    have hlt := hb.lt
    rcases hb.how with ⟨_, h0, _⟩ | ⟨_, h8, hn, _⟩
    · omega
    · have hj := j.isLt
      rw [bV_zero X5 X6 X7 v3 r n t c.val j.val (by omega) hlt, bL_zero X5 X6 v3 n t c.val j.val (by omega) hlt]
      exact ⟨(add_zero _).symm, (add_zero _).symm⟩

/-- A list of blocks' sums. -/
theorem tot_at (hv : ∃ r : ℝ, v3 = r) (Q : Qs) (t : ℕ) (hQ : QAt Q t) (c : Fin 8) (r : Fin 64) (j : Fin 256)
    (bs : List Blk) (ns : List ℕ) (h : List.Forall₂ (fun b n => At b n t) bs ns) :
    (tot (F := Ideal) X5 X6 X7 v3 Q bs c).fst (ix2 r j)
        = (ns.map (bV X5 X6 X7 v3 r (pos (2048 * t + 256 * c.val + j.val)))).sum
    ∧ (tot (F := Ideal) X5 X6 X7 v3 Q bs c).snd (ix2 0 j)
        = (ns.map (bL X5 X6 v3 (pos (2048 * t + 256 * c.val + j.val)))).sum := by
  suffices H : ∀ T : Tot Ideal,
      (bs.foldl (fun t b => sumP (F := Ideal) X7 v3 b c (scoreP? X5 X6 Q (some b) c) t) T).fst (ix2 r j)
        = T.fst (ix2 r j) + (ns.map (bV X5 X6 X7 v3 r (pos (2048 * t + 256 * c.val + j.val)))).sum
      ∧ (bs.foldl (fun t b => sumP (F := Ideal) X7 v3 b c (scoreP? X5 X6 Q (some b) c) t) T).snd (ix2 0 j)
        = T.snd (ix2 0 j) + (ns.map (bL X5 X6 v3 (pos (2048 * t + 256 * c.val + j.val)))).sum by
    obtain ⟨h1, h2⟩ := H none
    refine ⟨h1.trans ?_, h2.trans ?_⟩
    · show Ideal.ofBits .f32 0#32 + _ = _; rw [Ideal.ofBits_zero]; exact zero_add _
    · show Ideal.ofBits .f32 0#32 + _ = _; rw [Ideal.ofBits_zero]; exact zero_add _
  induction h with
  | nil => intro T; exact ⟨(add_zero _).symm, (add_zero _).symm⟩
  | cons hb _ ih =>
    intro T
    obtain ⟨h1, h2⟩ := sumP_at X5 X6 X7 v3 hv Q _ _ t hQ hb c T r j
    obtain ⟨i1, i2⟩ := ih (sumP (F := Ideal) X7 v3 _ c (scoreP? X5 X6 Q (some _) c) T)
    simp only [List.foldl_cons, List.map_cons, List.sum_cons]
    rw [i1, i2, h1, h2]
    exact ⟨add_assoc _ _ _, add_assoc _ _ _⟩

end

end Cert.KernelIdeal.Att

end
-- ==== Proof.Value.Words.lean ====
/-
Where the blocks of keys stand that a tile takes, when no group is left out.
-/
module

public import proofs.«01_k».proof.Proof.Wp2

@[expose] public section

set_option maxRecDepth 16384

noncomputable section

namespace Cert.KernelIdeal.Att

open Idealize.ShloMosaic Cert.KernelIdeal Cert.KernelIdeal.Gen

/-- The main loop makes half as many trips as there are groups before the last two. -/
theorem trips2 : ∀ t : Fin k0_t1_loop.trips, (k0_t2_loop t 0#32).trips = (t.val - 1) / 2 := by decide +kernel

/-- The second loop makes no trip. -/
theorem trips3 : ∀ t : Fin k0_t1_loop.trips, (k0_t3_loop t 0#32).trips = 0 := by decide +kernel

/-- The ends: none below the diagonal at the first tile, one group at an odd tile, two at an even one. -/
theorem ends : ∀ t : Fin k0_t1_loop.trips, (k0_cond3 t = 1#1 ↔ t.val = 0)
    ∧ (k0_cond2 t 0#32 = 1#1 ↔ t.val ≠ 0 ∧ t.val % 2 = 0) ∧ (k0_cond1 t 0#32 = 1#1 ↔ t.val % 2 = 1) := by
  decide +kernel

/-- Where the main loop's keys and values stand. -/
theorem main_at : ∀ (t : Fin k0_t1_loop.trips) (u : Fin (k0_t2_loop t 0#32).trips) (r : Fin 16),
    k0_off4 t 0#32 u (BitVec.ofNat 32 (256 * r.val)) = ![0, 0, 256 * (16 * u.val + r.val), 0]
    ∧ k0_off5 t 0#32 u (BitVec.ofNat 32 (256 * r.val)) = ![0, 0, 0, 256 * (16 * u.val + r.val)] := by decide +kernel

/-- Where one group below the diagonal stands. -/
theorem one_at : ∀ (t : Fin k0_t1_loop.trips), t.val ≠ 0 → ∀ r : Fin 8,
    k0_off10 t (BitVec.ofNat 32 (256 * r.val)) = ![0, 0, 256 * (8 * (t.val - 1) + r.val), 0]
    ∧ k0_off11 t (BitVec.ofNat 32 (256 * r.val)) = ![0, 0, 0, 256 * (8 * (t.val - 1) + r.val)] := by decide +kernel

/-- Where two groups below the diagonal stand. -/
theorem two_at : ∀ (t : Fin k0_t1_loop.trips), 2 ≤ t.val → ∀ r : Fin 16,
    k0_off16 t (BitVec.ofNat 32 (256 * r.val)) = ![0, 0, 256 * (8 * (t.val - 2) + r.val), 0]
    ∧ k0_off17 t (BitVec.ofNat 32 (256 * r.val)) = ![0, 0, 0, 256 * (8 * (t.val - 2) + r.val)] := by decide +kernel

/-- A tile's first position. -/
theorem q0_at : ∀ t : Fin k0_t1_loop.trips, q0W t = BitVec.ofNat 32 (2048 * t.val) := by decide +kernel

/-- A diagonal block's first position. -/
theorem kb_at : ∀ (t : Fin k0_t1_loop.trips) (r : Fin 8),
    Scalar.addi (q0W t) (BitVec.ofNat 32 (256 * r.val)) = BitVec.ofNat 32 (256 * (8 * t.val + r.val)) := by decide +kernel

end Cert.KernelIdeal.Att

end
-- ==== Proof.Value.Tile.lean ====
/-
A tile's results over the idealized values: the weighted sum of all the values over the sum of the weights.
-/
module

public import proofs.«01_k».proof.Proof.Value.Block
public import proofs.«01_k».proof.Proof.Value.Words
public import proofs.«01_k».proof.Proof.Wp3

@[expose] public section

set_option maxRecDepth 16384

noncomputable section

namespace Cert.KernelIdeal.Att

open Idealize.ShloMosaic Idealize.SL.Sem Cert.KernelIdeal Cert.KernelIdeal.Gen

/-! ## The accumulator -/

/-- What the accumulator holds of a chain's weighted sums. -/
def getV (X : FVec Ideal S8x80x256 .f32) (c : Fin 8) (r : Fin 64) (j : Fin 256) : EReal :=
  X (ix3 c ⟨r.val, by omega⟩ j)

/-- What the accumulator holds of a chain's sums of weights. -/
def getL (X : FVec Ideal S8x80x256 .f32) (c : Fin 8) (j : Fin 256) : EReal := X (ix3 c ⟨64, by decide⟩ j)

theorem emb_accV (c : Fin 8) (r : Fin 64) (j : Fin 256) :
    (accV c).emb (ix3 0 r j : S1x64x256.Idx) = (ix3 c ⟨r.val, by omega⟩ j : S8x80x256.Idx) := by
  funext a
  apply Fin.ext
  fin_cases a
  · show c.val + 1 * 0 = c.val; omega
  · show 0 + 1 * r.val = r.val; omega
  · show 0 + 1 * j.val = j.val; omega

theorem emb_accL (c : Fin 8) (j : Fin 256) :
    (accL c).emb (ix3 0 0 j : S1x1x256.Idx) = (ix3 c ⟨64, by decide⟩ j : S8x80x256.Idx) := by
  funext a
  apply Fin.ext
  fin_cases a
  · show c.val + 1 * 0 = c.val; omega
  · show 64 + 1 * 0 = 64; omega
  · show 0 + 1 * j.val = j.val; omega

theorem not_accV (c c' : Fin 8) (s : Fin 80) (j : Fin 256) (h : c ≠ c' ∨ 64 ≤ s.val) :
    (ix3 c s j : S8x80x256.Idx) ∉ (accV c').set := by
  rw [Rect.mem_set_unit]
  intro hm
  have h0 : c'.val ≤ c.val ∧ c.val < c'.val + 1 := hm 0
  have h1 : 0 ≤ s.val ∧ s.val < 0 + 64 := hm 1
  rcases h with h | h
  · exact h (Fin.ext (by omega))
  · omega

theorem not_accL (c c' : Fin 8) (s : Fin 80) (j : Fin 256) (h : c ≠ c' ∨ s.val < 64) :
    (ix3 c s j : S8x80x256.Idx) ∉ (accL c').set := by
  rw [Rect.mem_set_unit]
  intro hm
  have h0 : c'.val ≤ c.val ∧ c.val < c'.val + 1 := hm 0
  have h1 : 64 ≤ s.val ∧ s.val < 64 + 1 := hm 1
  rcases h with h | h
  · exact h (Fin.ext (by omega))
  · omega

theorem newV_at (X : FVec Ideal S8x80x256 .f32) (T : Tot Ideal) (c : Fin 8) (r : Fin 64) (j : Fin 256) :
    newV (F := Ideal) (View.ld X (accV c)) T (ix2 r j) = getV X c r j + T.fst (ix2 r j) := by
  have h : ∀ x : FVec Ideal S1x64x256 .f32, newV (F := Ideal) x T (ix2 r j) = x (ix3 0 r j) + T.fst (ix2 r j) := by
    intro x; pointwise! [newV]
  rw [h]
  exact congrArg (· + _) (congrArg X (emb_accV c r j))

theorem newL_at (X : FVec Ideal S8x80x256 .f32) (T : Tot Ideal) (c : Fin 8) (j : Fin 256) :
    newL (F := Ideal) (View.ld X (accL c)) T (ix2 0 j) = getL X c j + T.snd (ix2 0 j) := by
  have h : ∀ x : FVec Ideal S1x1x256 .f32, newL (F := Ideal) x T (ix2 0 j) = x (ix3 0 0 j) + T.snd (ix2 0 j) := by
    intro x; pointwise! [newL]
  rw [h]
  exact congrArg (· + _) (congrArg X (emb_accL c j))

/-- One chain's sums added. -/
theorem acc1_at (X : FVec Ideal S8x80x256 .f32) (T : Tot Ideal) (c c' : Fin 8) (r : Fin 64) (j : Fin 256) :
    getV (acc1 (F := Ideal) X c' T) c r j = getV X c r j + (if c = c' then T.fst (ix2 r j) else 0)
    ∧ getL (acc1 (F := Ideal) X c' T) c j = getL X c j + (if c = c' then T.snd (ix2 0 j) else 0) := by
  unfold acc1
  dsimp only
  by_cases h : c = c'
  · subst h
    rw [if_pos rfl, if_pos rfl]
    constructor
    · unfold getV
      rw [Rect.overlay_of_not_mem _ _ _ (not_accL c c _ j (.inr r.isLt)), ← emb_accV c r j, Rect.overlay_emb]
      have e : ∀ x : FVec Ideal S64x256 .f32,
          shapeCast S1x64x256 x shapeCasts_S64x256_S1x64x256 (ix3 0 r j) = x (ix2 r j) := by
        intro x; pointwise!
      rw [e, newV_at, emb_accV]
      rfl
    · unfold getL
      rw [← emb_accL c j, Rect.overlay_emb]
      have e : ∀ x : FVec Ideal S1x256 .f32,
          shapeCast S1x1x256 x shapeCasts_S1x256_S1x1x256 (ix3 0 0 j) = x (ix2 0 j) := by
        intro x; pointwise!
      rw [e, newL_at, emb_accL]
      unfold getL
      rw [Rect.overlay_of_not_mem _ _ _ (not_accV c c _ j (.inr (le_refl 64)))]
  · rw [if_neg h, if_neg h, add_zero, add_zero]
    constructor
    · unfold getV
      rw [Rect.overlay_of_not_mem _ _ _ (not_accL c c' _ j (.inl h)), Rect.overlay_of_not_mem _ _ _ (not_accV c c' _ j (.inl h))]
    · unfold getL
      rw [Rect.overlay_of_not_mem _ _ _ (not_accL c c' _ j (.inl h)), Rect.overlay_of_not_mem _ _ _ (not_accV c c' _ j (.inl h))]

/-- Every chain's sums added. -/
theorem accP_at (tt : Fin 8 → Tot Ideal) (X : FVec Ideal S8x80x256 .f32) (c : Fin 8) (r : Fin 64) (j : Fin 256) :
    getV (accP (F := Ideal) tt X) c r j = getV X c r j + (tt c).fst (ix2 r j)
    ∧ getL (accP (F := Ideal) tt X) c j = getL X c j + (tt c).snd (ix2 0 j) := by
  have H : ∀ (l : List (Fin 8)) (X : FVec Ideal S8x80x256 .f32), l.Nodup →
      getV (l.foldl (fun X c => acc1 (F := Ideal) X c (tt c)) X) c r j
        = getV X c r j + (if c ∈ l then (tt c).fst (ix2 r j) else 0)
      ∧ getL (l.foldl (fun X c => acc1 (F := Ideal) X c (tt c)) X) c j
        = getL X c j + (if c ∈ l then (tt c).snd (ix2 0 j) else 0) := by
    intro l
    induction l with
    | nil => intro X _; simp
    | cons a l ih =>
      intro X hn
      rw [List.nodup_cons] at hn
      obtain ⟨i1, i2⟩ := ih (acc1 X a (tt a)) hn.2
      obtain ⟨a1, a2⟩ := acc1_at X (tt a) c a r j
      rw [List.foldl_cons, i1, i2, a1, a2]
      by_cases hc : c = a
      · subst hc
        simp [hn.1]
      · simp [hc]
  obtain ⟨h1, h2⟩ := H chains X (by decide)
  rw [if_pos (mem_chains c)] at h1 h2
  exact ⟨h1, h2⟩

/-! ## Lists of blocks -/

theorem sum_list (f : ℕ → EReal) (n : ℕ) : ((List.range n).map f).sum = ∑ i ∈ Finset.range n, f i := by
  induction n with
  | zero => rfl
  | succ n ih => rw [List.range_succ, List.map_append, List.sum_append, ih, Finset.sum_range_succ]; simp

theorem sum_f8 (f : ℕ → EReal) : (f8.map fun r => f r.val).sum = ∑ i ∈ Finset.range 8, f i :=
  (congrArg List.sum (List.map_map (f := fun r : Fin 8 => r.val) (g := f) (l := f8)).symm).trans (sum_list f 8)

theorem sum_f16 (f : ℕ → EReal) : (f16.map fun r => f r.val).sum = ∑ i ∈ Finset.range 16, f i :=
  (congrArg List.sum (List.map_map (f := fun r : Fin 16 => r.val) (g := f) (l := f16)).symm).trans (sum_list f 16)

/-- Sums up to a place, then eight more. -/
theorem end0 (f : ℕ → EReal) (a b : ℕ) (h : b = a) :
    ∑ n ∈ Finset.range a, f n + ((f8.map fun r => b + r.val).map f).sum = ∑ n ∈ Finset.range (b + 8), f n := by
  subst h
  rw [List.map_map, Finset.sum_range_add]
  exact congrArg _ (sum_f8 fun x => f (b + x))

/-- Sums up to a place, then eight and eight more. -/
theorem end8 (f : ℕ → EReal) (a b : ℕ) (h : b = a + 8) :
    ∑ n ∈ Finset.range a, f n + (((f8.map fun r => a + r.val) ++ f8.map fun r => b + r.val).map f).sum
      = ∑ n ∈ Finset.range (b + 8), f n := by
  subst h
  rw [List.map_append, List.sum_append, ← add_assoc, end0 f a a rfl, end0 f (a + 8) (a + 8) rfl]

/-- Sums up to a place, then sixteen and eight more. -/
theorem end16 (f : ℕ → EReal) (a b : ℕ) (h : b = a + 16) :
    ∑ n ∈ Finset.range a, f n + (((f16.map fun r => a + r.val) ++ f8.map fun r => b + r.val).map f).sum
      = ∑ n ∈ Finset.range (b + 8), f n := by
  subst h
  have e : ∑ n ∈ Finset.range a, f n + ((f16.map fun r => a + r.val).map f).sum = ∑ n ∈ Finset.range (a + 16), f n := by
    rw [List.map_map, Finset.sum_range_add]
    exact congrArg _ (sum_f16 fun x => f (a + x))
  rw [List.map_append, List.sum_append, ← add_assoc, e, end0 f (a + 16) (a + 16) rfl]

theorem forall2_map {α : Type} (l : List α) (f : α → Blk) (g : α → ℕ) (t : ℕ) (h : ∀ r, At (f r) (g r) t) :
    List.Forall₂ (fun b n => At b n t) (l.map f) (l.map g) := by
  induction l with
  | nil => exact .nil
  | cons a l ih => exact .cons (h a) ih

/-- The queries' places, from a closed form of the offsets. -/
theorem qAt (t : Fin k0_t1_loop.trips) (Q : Qs) (hq : ∀ c : Fin 8, Q.oq c = ![0, 0, 0, 2048 * t.val + 256 * c.val])
    (h0 : Q.q0 = q0W t) : QAt Q t.val := ⟨hq, h0.trans (q0_at t), trips1 ▸ t.isLt⟩

/-- The blocks of a trip of the main loop. -/
theorem bs2_at (t : Fin k0_t1_loop.trips) (h : k0_chk2 t 0#32) (u : Fin (k0_t2_loop t 0#32).trips) :
    List.Forall₂ (fun b n => At b n t.val) (bs2 t 0#32 h u) (f16.map fun r => 16 * u.val + r.val) := by
  have hu : u.val < (t.val - 1) / 2 := trips2 t ▸ u.isLt
  have ht : t.val < 8 := trips1 ▸ t.isLt
  refine forall2_map _ _ _ _ fun r => ⟨(main_at t u r).1, (main_at t u r).2, by have := r.isLt; omega, .inl ⟨rfl, rfl, by have := r.isLt; omega⟩⟩

/-- The blocks on the diagonal, from closed forms of their places. -/
theorem diag_at (t : Fin k0_t1_loop.trips) (f : Fin 8 → Blk)
    (hk : ∀ r : Fin 8, (f r).ok = ![0, 0, 2048 * t.val + 256 * r.val, 0])
    (hv : ∀ r : Fin 8, (f r).ov = ![0, 0, 0, 2048 * t.val + 256 * r.val])
    (hd : ∀ r : Fin 8, (f r).diag = true ∧ (f r).d = r.val ∧ (f r).kb = Scalar.addi (q0W t) (BitVec.ofNat 32 (256 * r.val))) :
    List.Forall₂ (fun b n => At b n t.val) (f8.map f) (f8.map fun r => 8 * t.val + r.val) := by
  have ht : t.val < 8 := trips1 ▸ t.isLt
  refine forall2_map _ _ _ _ fun r => ?_
  have hr := r.isLt
  have e : 2048 * t.val + 256 * r.val = 256 * (8 * t.val + r.val) := by omega
  obtain ⟨d1, d2, d3⟩ := hd r
  exact ⟨e ▸ hk r, e ▸ hv r, by omega, .inr ⟨d1, by omega, by omega, d3.trans (kb_at t r)⟩⟩

section
variable (X5 : FVec Ideal S1x1x128x16384 .bf16) (X6 : FVec Ideal S1x1x16384x128 .bf16) (X7 : FVec Ideal S1x1x80x16384 .bf16)
  (v3 : EReal) (hv : ∃ r : ℝ, v3 = r)
include hv

omit hv in
theorem iterP_none {N : Nat} (f : Fin N → FVec Ideal S8x80x256 .f32 → FVec Ideal S8x80x256 .f32)
    (X : FVec Ideal S8x80x256 .f32) (n : ℕ) (h : n = 0) : iterP (F := Ideal) f X n = X := by
  subst h; rfl

/-- The accumulator when the main loop is done. -/
theorem mainP_at (t : Fin k0_t1_loop.trips) (h : k0_chk2 t 0#32) (c : Fin 8) (r : Fin 64) (j : Fin 256) :
    getV (mainP (F := Ideal) X5 X6 X7 v3 t 0#32 h) c r j
      = ∑ n ∈ Finset.range (16 * ((t.val - 1) / 2)), bV X5 X6 X7 v3 r (pos (2048 * t.val + 256 * c.val + j.val)) n
    ∧ getL (mainP (F := Ideal) X5 X6 X7 v3 t 0#32 h) c j
      = ∑ n ∈ Finset.range (16 * ((t.val - 1) / 2)), bL X5 X6 v3 (pos (2048 * t.val + 256 * c.val + j.val)) n := by
  have hQ : QAt (qs2 t (q0W t)) t.val := qAt t _ (k0_off3_eq t) rfl
  have H : ∀ n, n ≤ (k0_t2_loop t 0#32).trips →
      getV (iterP (fun u => accP (F := Ideal) (tot X5 X6 X7 v3 (qs2 t (q0W t)) (bs2 t 0#32 h u))) (zeroAcc (F := Ideal)) n) c r j
        = ∑ n ∈ Finset.range (16 * n), bV X5 X6 X7 v3 r (pos (2048 * t.val + 256 * c.val + j.val)) n
      ∧ getL (iterP (fun u => accP (F := Ideal) (tot X5 X6 X7 v3 (qs2 t (q0W t)) (bs2 t 0#32 h u))) (zeroAcc (F := Ideal)) n) c j
        = ∑ n ∈ Finset.range (16 * n), bL X5 X6 v3 (pos (2048 * t.val + 256 * c.val + j.val)) n := by
    intro n
    induction n with
    | zero =>
      intro _
      have hz : ∀ i, zeroAcc (F := Ideal) i = (0 : EReal) := by intro i; pointwise! [zeroAcc]
      exact ⟨hz (ix3 c ⟨r.val, by omega⟩ j), hz (ix3 c ⟨64, by decide⟩ j)⟩
    | succ n ih =>
      intro hn
      obtain ⟨i1, i2⟩ := ih (by omega)
      unfold iterP
      rw [dif_pos (by omega : n < _)]
      obtain ⟨a1, a2⟩ := accP_at (tot (F := Ideal) X5 X6 X7 v3 (qs2 t (q0W t)) (bs2 t 0#32 h ⟨n, by omega⟩))
        (iterP (fun u => accP (F := Ideal) (tot X5 X6 X7 v3 (qs2 t (q0W t)) (bs2 t 0#32 h u))) (zeroAcc (F := Ideal)) n) c r j
      obtain ⟨b1, b2⟩ := tot_at X5 X6 X7 v3 hv _ t.val hQ c r j _ _ (bs2_at t h ⟨n, by omega⟩)
      rw [a1, a2, i1, i2, b1, b2, List.map_map, List.map_map, show 16 * (n + 1) = 16 * n + 16 by omega,
        Finset.sum_range_add, Finset.sum_range_add]
      exact ⟨congrArg _ (sum_f16 fun x => bV X5 X6 X7 v3 r _ (16 * n + x)), congrArg _ (sum_f16 fun x => bL X5 X6 v3 _ (16 * n + x))⟩
  have e : mainP (F := Ideal) X5 X6 X7 v3 t 0#32 h
      = iterP (fun u => accP (F := Ideal) (tot X5 X6 X7 v3 (qs2 t (q0W t)) (bs2 t 0#32 h u))) (zeroAcc (F := Ideal)) (k0_t2_loop t 0#32).trips := by
    unfold mainP
    exact iterP_none _ _ _ (trips3 t)
  rw [e, ← trips2 t]
  exact H _ (le_refl _)

omit hv in
theorem outP_at (X : FVec Ideal S8x80x256 .f32) (tt : Fin 8 → Tot Ideal) (c : Fin 8) (r : Fin 64) (j : Fin 256) :
    outP (F := Ideal) X tt c (ix3 0 r j)
      = Ideal.div (getV X c r j + (tt c).fst (ix2 r j)) (getL X c j + (tt c).snd (ix2 0 j)) := by
  unfold outP outV
  have h : ∀ (a : FVec Ideal S64x256 .f32) (l : FVec Ideal S1x256 .f32),
      shapeCast S1x64x256 (truncf .bf16 (divf a (broadcastTo S64x256 l broadcasts_S1x256_S64x256)) bitsLt_bf16_f32)
        shapeCasts_S64x256_S1x64x256 (ix3 0 r j) = Ideal.div (a (ix2 r j)) (l (ix2 0 j)) := by
    intro a l; pointwise!
  rw [h, newV_at, newL_at]

/-- The blocks after a tile's last add nothing. -/
theorem tail_zero (t : ℕ) (ht : t < 8) (c : Fin 8) (j : Fin 256) (f : ℕ → EReal)
    (hf : ∀ n, 2048 * t + 256 * c.val + j.val < 256 * n → n < 64 → f n = 0) :
    ∑ n ∈ Finset.range (8 * t + 8), f n = ∑ n ∈ Finset.range 64, f n := by
  refine Finset.sum_subset (Finset.range_mono (by omega)) fun n h1 h2 => ?_
  rw [Finset.mem_range] at h1 h2
  have := c.isLt
  have := j.isLt
  exact hf n (by omega) h1

/-- A tile's result: the weighted sum over the sum of the weights, all blocks. -/
theorem tileP_at (t : Fin k0_t1_loop.trips) (h : k0_chk2 t 0#32) (c : Fin 8) (r : Fin 64) (j : Fin 256) :
    tileP (F := Ideal) X5 X6 X7 v3 t 0#32 h c (ix3 0 r j)
      = Ideal.div (∑ n ∈ Finset.range 64, bV X5 X6 X7 v3 r (pos (2048 * t.val + 256 * c.val + j.val)) n)
          (∑ n ∈ Finset.range 64, bL X5 X6 v3 (pos (2048 * t.val + 256 * c.val + j.val)) n) := by
  have ht : t.val < 8 := trips1 ▸ t.isLt
  obtain ⟨m1, m2⟩ := mainP_at X5 X6 X7 v3 hv t h c r j
  rw [← tail_zero v3 hv t.val ht c j _ (fun n h1 h2 => bV_zero X5 X6 X7 v3 r n t.val c.val j.val h1 h2),
    ← tail_zero v3 hv t.val ht c j _ (fun n h1 h2 => bL_zero X5 X6 v3 n t.val c.val j.val h1 h2)]
  obtain ⟨e3, e2, e1⟩ := ends t
  unfold tileP
  by_cases h3 : k0_cond3 t = 1#1
  · rw [dif_pos h3, outP_at, m1, m2]
    have hQ : QAt (qsF0 t (q0W t) h3) t.val := qAt t _ (k0_off21_eq t) rfl
    obtain ⟨b1, b2⟩ := tot_at X5 X6 X7 v3 hv _ t.val hQ c r j _ _
      (diag_at t (fun r => ⟨_, k0_off22_inb t h3 r, _, k0_off23_inb t h3 r, r.val, true, Scalar.addi (q0W t) (BitVec.ofNat 32 (256 * r.val))⟩)
        (k0_off22_eq t) (k0_off23_eq t) fun r => ⟨rfl, rfl, rfl⟩)
    have h0 := e3.mp h3
    exact congrArg₂ Ideal.div ((congrArg _ b1).trans (end0 _ _ _ (by omega))) ((congrArg _ b2).trans (end0 _ _ _ (by omega)))
  · rw [dif_neg h3]
    have h0 : t.val ≠ 0 := fun h => h3 (e3.mpr h)
    by_cases h2 : k0_cond2 t 0#32 = 1#1
    · rw [dif_pos h2, outP_at, m1, m2]
      have hQ : QAt (qsF2 t (q0W t)) t.val := qAt t _ (k0_off15_eq t) rfl
      have hp := (e2.mp h2).2
      have hb : List.Forall₂ (fun b n => At b n t.val) (f16.map fun r => (⟨_, k0_off16_inb t 0#32 h h2 r, _, k0_off17_inb t 0#32 h h2 r, 0, false, 0#32⟩ : Blk))
          (f16.map fun r => 8 * (t.val - 2) + r.val) :=
        forall2_map _ _ _ _ fun r => ⟨(two_at t (by omega) r).1, (two_at t (by omega) r).2, by have := r.isLt; omega,
          .inl ⟨rfl, rfl, by have := r.isLt; omega⟩⟩
      obtain ⟨b1, b2⟩ := tot_at X5 X6 X7 v3 hv _ t.val hQ c r j _ _ (List.rel_append hb
        (diag_at t (fun r => ⟨_, k0_off18_inb t r, _, k0_off19_inb t r, r.val, true, Scalar.addi (q0W t) (BitVec.ofNat 32 (256 * r.val))⟩)
          (k0_off18_eq t) (k0_off19_eq t) fun r => ⟨rfl, rfl, rfl⟩))
      have s1 : 16 * ((t.val - 1) / 2) = 8 * (t.val - 2) := by omega
      rw [s1]
      exact congrArg₂ Ideal.div ((congrArg _ b1).trans (end16 _ _ _ (by omega))) ((congrArg _ b2).trans (end16 _ _ _ (by omega)))
    · have hp : t.val % 2 = 1 := by
        by_contra hp
        exact h2 (e2.mpr ⟨h0, by omega⟩)
      have h1 := e1.mpr hp
      rw [dif_neg h2, dif_pos h1, outP_at, m1, m2]
      have hQ : QAt (qsF1 t (q0W t)) t.val := qAt t _ (k0_off9_eq t) rfl
      have hb : List.Forall₂ (fun b n => At b n t.val) (f8.map fun r => (⟨_, k0_off10_inb t 0#32 h h1 r, _, k0_off11_inb t 0#32 h h1 r, 0, false, 0#32⟩ : Blk))
          (f8.map fun r => 8 * (t.val - 1) + r.val) :=
        forall2_map _ _ _ _ fun r => ⟨(one_at t h0 r).1, (one_at t h0 r).2, by have := r.isLt; omega,
          .inl ⟨rfl, rfl, by have := r.isLt; omega⟩⟩
      obtain ⟨b1, b2⟩ := tot_at X5 X6 X7 v3 hv _ t.val hQ c r j _ _ (List.rel_append hb
        (diag_at t (fun r => ⟨_, k0_off12_inb t r, _, k0_off13_inb t r, r.val, true, Scalar.addi (q0W t) (BitVec.ofNat 32 (256 * r.val))⟩)
          (k0_off12_eq t) (k0_off13_eq t) fun r => ⟨rfl, rfl, rfl⟩))
      have s1 : 16 * ((t.val - 1) / 2) = 8 * (t.val - 1) := by omega
      rw [s1]
      exact congrArg₂ Ideal.div ((congrArg _ b1).trans (end8 _ _ _ (by omega))) ((congrArg _ b2).trans (end8 _ _ _ (by omega)))

end

end Cert.KernelIdeal.Att

end
-- ==== Proof.Value.Ref.lean ====
/-
The reference's result, element by element.
-/
module

public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.ReferenceIdeal.Value

open Idealize.ShloMosaic Idealize.ShloMosaic.TcCoe Idealize.SL.Sem Cert.ReferenceIdeal Cert.ReferenceIdeal.Gen

section
variable {F : FTy → Type} [FloatOps F]

/-- The masked logits. -/
def logitR (q k : FVec F S2x16384x16x96 .f32) : FVec F S2x16x16384x16384 .f32 :=
  select (broadcastInDim S2x16x16384x16384 ![0, 1, 2, 3] bcast_S1x1x16384x16384_S2x16x16384x16384_0_1_2_3 (broadcastInDim S1x1x16384x16384 ![2, 3] bcast_S16384x16384_S1x1x16384x16384_2_3 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0)))))) (mulf (Host.dotGeneral dot_S2x16384x16x96_S2x16384x16x96_S2x16x16384x16384_3_3_1_1_02_02 none q k) (broadcastInDim S2x16x16384x16384 ![] bcast_S_S2x16x16384x16384 (constant S_ .f32 0x3DD105EC#32))) (broadcastInDim S2x16x16384x16384 ![] bcast_S_S2x16x16384x16384 (id (constant S_ .f32 0xFF800000#32)))

/-- Exponentials of what is left over the row's maximum. -/
def expR (L : FVec F S2x16x16384x16384 .f32) : FVec F S2x16x16384x16384 .f32 :=
  Host.exp (subf L (broadcastInDim S2x16x16384x16384 ![0, 1, 2, 3] bcast_S2x16x16384x1_S2x16x16384x16384_0_1_2_3 (broadcastInDim S2x16x16384x1 ![0, 1, 2] bcast_S2x16x16384_S2x16x16384x1_0_1_2 (maximumf (broadcastInDim S2x16x16384 ![] bcast_S_S2x16x16384 (constant S_ .f32 0xFF800000#32)) (Host.reduce FloatOps.maximumf L (constant S_ .f32 0xFF800000#32) reducesTo_S2x16x16384x16384_S2x16x16384_d3 h_S_)))))

/-- The rows over their sums. -/
def softR (E : FVec F S2x16x16384x16384 .f32) : FVec F S2x16x16384x16384 .f32 :=
  Host.divf E (broadcastInDim S2x16x16384x16384 ![0, 1, 2, 3] bcast_S2x16x16384x1_S2x16x16384x16384_0_1_2_3 (broadcastInDim S2x16x16384x1 ![0, 1, 2] bcast_S2x16x16384_S2x16x16384x1_0_1_2 (Host.reduceAdd E (constant S_ .f32 0x00000000#32) reducesTo_S2x16x16384x16384_S2x16x16384_d3 h_S_)))

/-- The values, weighted, with channels before positions. -/
def outR (P : FVec F S2x16x16384x16384 .f32) (v : FVec F S2x16384x16x64 .f32) : FVec F S2x1024x16384 .bf16 :=
  truncf .bf16 (shapeCast _ (transpose S2x16x64x16384 [0, 2, 3, 1] (transpose S2x16384x16x64 [0, 3, 1, 2] (Host.dotGeneral dot_S2x16384x16x64_S2x16x16384x16384_S2x16x64x16384_1_3_3_2_02_01 none v P) transposes_S2x16x64x16384_S2x16384x16x64_0_3_1_2) transposes_S2x16384x16x64_S2x16x64x16384_0_2_3_1) shapeCasts_S2x16x64x16384_S2x1024x16384) bitsLt_bf16_f32

theorem res_eq (m : (ℓ : Loc nD τ sig) → Buf (Elt F) ℓ) (c : Dev nD) :
    res_out0 (F := F) m c = outR (softR (expR (logitR (m ((c.tc : Thread nD τ).loc main_arg0)) (m ((c.tc : Thread nD τ).loc main_arg1)))))
      (m ((c.tc : Thread nD τ).loc main_arg2)) := by
  unfold res_out0 res_main_v26 outR
  refine congrArg (fun X : FVec F S2x16x64x16384 .f32 => (truncf .bf16 (shapeCast S2x1024x16384 (transpose S2x16x64x16384 [0, 2, 3, 1] (transpose S2x16384x16x64 [0, 3, 1, 2] X transposes_S2x16x64x16384_S2x16384x16x64_0_3_1_2) transposes_S2x16384x16x64_S2x16x64x16384_0_2_3_1) shapeCasts_S2x16x64x16384_S2x1024x16384) bitsLt_bf16_f32)) ?_
  refine congrArg (fun X : FVec F S2x16x16384x16384 .f32 => Host.dotGeneral dot_S2x16384x16x64_S2x16x16384x16384_S2x16x64x16384_1_3_3_2_02_01 none (m ((c.tc : Thread nD τ).loc main_arg2)) X) ?_
  have e : ∀ A A' : FVec F S2x16x16384x16384 .f32, A = A' →
      Host.divf (Host.exp (subf A (broadcastInDim S2x16x16384x16384 ![0, 1, 2, 3] bcast_S2x16x16384x1_S2x16x16384x16384_0_1_2_3 (broadcastInDim S2x16x16384x1 ![0, 1, 2] bcast_S2x16x16384_S2x16x16384x1_0_1_2 (maximumf (broadcastInDim S2x16x16384 ![] bcast_S_S2x16x16384 (constant S_ .f32 0xFF800000#32)) (Host.reduce FloatOps.maximumf A (constant S_ .f32 0xFF800000#32) reducesTo_S2x16x16384x16384_S2x16x16384_d3 h_S_))))))
        (broadcastInDim S2x16x16384x16384 ![0, 1, 2, 3] bcast_S2x16x16384x1_S2x16x16384x16384_0_1_2_3 (broadcastInDim S2x16x16384x1 ![0, 1, 2] bcast_S2x16x16384_S2x16x16384x1_0_1_2 (Host.reduceAdd (Host.exp (subf A (broadcastInDim S2x16x16384x16384 ![0, 1, 2, 3] bcast_S2x16x16384x1_S2x16x16384x16384_0_1_2_3 (broadcastInDim S2x16x16384x1 ![0, 1, 2] bcast_S2x16x16384_S2x16x16384x1_0_1_2 (maximumf (broadcastInDim S2x16x16384 ![] bcast_S_S2x16x16384 (constant S_ .f32 0xFF800000#32)) (Host.reduce FloatOps.maximumf A (constant S_ .f32 0xFF800000#32) reducesTo_S2x16x16384x16384_S2x16x16384_d3 h_S_)))))) (constant S_ .f32 0x00000000#32) reducesTo_S2x16x16384x16384_S2x16x16384_d3 h_S_)))
      = softR (expR A') := by
    intro A A' h; subst h; unfold softR expR; rfl
  refine e _ (logitR _ _) ?_
  unfold logitR
  refine congr (congrArg₂ select ?_ ?_) ?_
  · refine congrArg (fun X : IVec S16384x16384 1 => broadcastInDim S2x16x16384x16384 ![0, 1, 2, 3] bcast_S1x1x16384x16384_S2x16x16384x16384_0_1_2_3 (broadcastInDim S1x1x16384x16384 ![2, 3] bcast_S16384x16384_S1x1x16384x16384_2_3 X)) ?_
    refine congrArg₂ (cmpi .sle) ?_ ?_
    · refine congrArg (fun X : IVec S1x16384 32 => broadcastInDim S16384x16384 ![0, 1] bcast_S1x16384_S16384x16384_0_1 X) ?_
      with_reducible rfl
    · refine congrArg (fun X : IVec S16384x1 32 => broadcastInDim S16384x16384 ![0, 1] bcast_S16384x1_S16384x16384_0_1 X) ?_
      with_reducible rfl
  · refine congrArg₂ mulf ?_ ?_
    · with_reducible rfl
    · with_reducible rfl
  · with_reducible rfl
end

theorem logitR_at (q k : FVec Ideal S2x16384x16x96 .f32) (b : Fin 2) (h : Fin 16) (s κ : Fin 16384) :
    logitR (F := Ideal) q k (ix4 b h s κ) = Scalar.select (IntOp.cmpi .sle (BitVec.ofNat 32 κ.val) (BitVec.ofNat 32 s.val))
      ((∑ d : Fin 96, q (ix4 b s h d) * k (ix4 b κ h d)) * Ideal.ofBits .f32 0x3DD105EC#32) (Ideal.ofBits .f32 0xFF800000#32) := by
  pointwise [logitR]
  rfl

theorem maxR_at (L : FVec Ideal S2x16x16384x16384 .f32) (c : FVec Ideal S_ .f32) (j : S2x16x16384.Idx) :
    Host.reduce FloatOps.maximumf L c reducesTo_S2x16x16384x16384_S2x16x16384_d3 h_S_ j
      = Finset.univ.fold max (c (Shape.Idx.first h_S_)) fun κ : Fin 16384 => L (ix4 (j 0) (j 1) (j 2) κ) := by
  simp only [pointwise]

theorem exp_at (L : FVec Ideal S2x16x16384x16384 .f32) (M : FVec Ideal S2x16x16384 .f32) (b : Fin 2) (h : Fin 16) (s κ : Fin 16384) :
    Host.exp (subf L (broadcastInDim S2x16x16384x16384 ![0, 1, 2, 3] bcast_S2x16x16384x1_S2x16x16384x16384_0_1_2_3 (broadcastInDim S2x16x16384x1 ![0, 1, 2] bcast_S2x16x16384_S2x16x16384x1_0_1_2 (maximumf (broadcastInDim S2x16x16384 ![] bcast_S_S2x16x16384 (constant S_ .f32 0xFF800000#32)) M)))) (ix4 b h s κ)
     = Ideal.exp (L (ix4 b h s κ) - max (Ideal.ofBits .f32 0xFF800000#32) (M (ix3 b h s))) := by
  pointwise

theorem expR_at (L : FVec Ideal S2x16x16384x16384 .f32) (b : Fin 2) (h : Fin 16) (s κ : Fin 16384) :
    expR (F := Ideal) L (ix4 b h s κ) = Ideal.exp (L (ix4 b h s κ) - max (Ideal.ofBits .f32 0xFF800000#32)
      (Finset.univ.fold max (Ideal.ofBits .f32 0xFF800000#32) fun κ : Fin 16384 => L (ix4 b h s κ))) := by
  unfold expR
  rw [exp_at, maxR_at]
  rfl

theorem softR_at (E : FVec Ideal S2x16x16384x16384 .f32) (b : Fin 2) (h : Fin 16) (s κ : Fin 16384) :
    softR (F := Ideal) E (ix4 b h s κ) = Ideal.div (E (ix4 b h s κ)) (∑ κ : Fin 16384, E (ix4 b h s κ)) := by
  pointwise [softR]

theorem outR_at (P : FVec Ideal S2x16x16384x16384 .f32) (v : FVec Ideal S2x16384x16x64 .f32) (b : Fin 2) (g : Fin 1024) (s : Fin 16384) :
    outR (F := Ideal) P v (ix3 b g s) = ∑ κ : Fin 16384, v (ix4 b κ ⟨g.val / 64, by omega⟩ ⟨g.val % 64, by omega⟩) * P (ix4 b ⟨g.val / 64, by omega⟩ s κ) := by
  pointwise [outR]

end Cert.ReferenceIdeal.Value

end
-- ==== Proof.Value.Math.lean ====
/-
Softmax with the row's maximum taken off, against the same sums with any fixed number taken off.
-/
module

public import Idealize.ShloMosaic.PureOps
public import Idealize.ShloMosaic.Lib.IdealHost

@[expose] public section

noncomputable section

namespace Cert.Soft

open Idealize.ShloMosaic

variable {N : ℕ}

/-- A sum times a number that is not negative, term by term. -/
theorem sum_mul_real {α : Type} (s : Finset α) (f : α → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

theorem sum_coe {α : Type} (s : Finset α) (f : α → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The row's maximum is a number. -/
theorem max_real (L : Fin N → EReal) (s : Fin N) (a : Fin N → ℝ) (hs : L s = a s) (hL : ∀ i, L i = a i ∨ L i = ⊥) :
    ∃ m : ℝ, max ⊥ (Finset.univ.fold max ⊥ L) = (m : EReal) := by
  have hb : Finset.univ.fold max ⊥ L ≠ ⊥ := by
    intro h
    have := (Finset.le_fold_max (s := Finset.univ) (b := (⊥ : EReal)) (f := L) (L s)).mpr (.inr ⟨s, Finset.mem_univ s, le_refl _⟩)
    rw [h, hs] at this
    exact absurd (le_bot_iff.mp this) (EReal.coe_ne_bot _)
  have ht : Finset.univ.fold max ⊥ L < ⊤ := by
    rw [Finset.fold_max_lt]
    refine ⟨bot_lt_top, fun i _ => ?_⟩
    rcases hL i with h | h <;> rw [h]
    · exact EReal.coe_lt_top _
    · exact bot_lt_top
  rw [max_eq_right bot_le]
  exact ⟨_, (EReal.coe_toReal ht.ne hb).symm⟩

/-- The two ways of weighing the values agree. -/
theorem soft (s : Fin N) (a : Fin N → ℝ) (p : Fin N → Prop) [DecidablePred p] (hs : p s) (v : Fin N → EReal) (bd : ℝ)
    (L : Fin N → EReal) (hL : ∀ i, L i = if p i then (a i : EReal) else ⊥)
    (w : Fin N → EReal) (hw : ∀ i, w i = if p i then Ideal.exp2 (((a i / Real.log 2 : ℝ) : EReal) - (bd : EReal)) else 0)
    (E : Fin N → EReal) (hE : ∀ i, E i = Ideal.exp (L i - max ⊥ (Finset.univ.fold max ⊥ L))) :
    Ideal.div (∑ i, v i * w i) (∑ i, w i) = ∑ i, v i * Ideal.div (E i) (∑ i, E i) := by
  obtain ⟨m, hm⟩ := max_real L s a (by rw [hL, if_pos hs]) fun i => by
    rw [hL]; split
    · exact .inl rfl
    · exact .inr rfl
  let e : Fin N → ℝ := fun i => if p i then Real.exp (a i - m) else 0
  have he0 : ∀ i, 0 ≤ e i := fun i => by
    show 0 ≤ ite _ _ _; split
    · exact (Real.exp_pos _).le
    · exact le_refl _
  have hEe : ∀ i, E i = (e i : EReal) := fun i => by
    rw [hE, hm, hL]
    show _ = ((ite _ _ _ : ℝ) : EReal)
    split
    · rw [← EReal.coe_sub]; exact Ideal.exp_coe _
    · rw [EReal.bot_sub]; exact Ideal.exp_bot
  let C : ℝ := Real.exp m * Real.rpow 2 (-bd)
  have hC : 0 < C := mul_pos (Real.exp_pos _) (Real.rpow_pos_of_pos two_pos _)
  have hwe : ∀ i, w i = ((C * e i : ℝ) : EReal) := fun i => by
    rw [hw]
    show _ = ((C * ite _ _ _ : ℝ) : EReal)
    split
    · rw [← EReal.coe_sub]
      refine (Ideal.exp2_coe _).trans (congrArg _ ?_)
      have hl : Real.log 2 ≠ 0 := (Real.log_pos one_lt_two).ne'
      show (2 : ℝ) ^ (a i / Real.log 2 - bd) = Real.exp m * (2 : ℝ) ^ (-bd) * Real.exp (a i - m)
      rw [Real.rpow_def_of_pos two_pos, Real.rpow_def_of_pos two_pos, ← Real.exp_add, ← Real.exp_add]
      congr 1
      field_simp
      ring
    · rw [mul_zero]; rfl
  have hS : 0 < ∑ i, e i := by
    refine lt_of_lt_of_le ?_ (Finset.single_le_sum (fun i _ => he0 i) (Finset.mem_univ s))
    show 0 < ite _ _ _
    rw [if_pos hs]
    exact Real.exp_pos _
  have hsE : ∑ i, E i = ((∑ i, e i : ℝ) : EReal) := by
    rw [← sum_coe]; exact Finset.sum_congr rfl fun i _ => hEe i
  have hsw : ∑ i, w i = ((C * ∑ i, e i : ℝ) : EReal) := by
    rw [Finset.mul_sum, ← sum_coe]; exact Finset.sum_congr rfl fun i _ => hwe i
  rw [hsE, hsw, Ideal.div_coe (mul_pos hC hS).ne', sum_mul_real _ _ _ (one_div_nonneg.mpr (mul_pos hC hS).le)]
  refine Finset.sum_congr rfl fun i _ => ?_
  rw [Ideal.div_coe hS.ne', hEe, hwe, mul_assoc, ← EReal.coe_mul, ← EReal.coe_mul]
  congr 2
  have := hS.ne'
  have := hC.ne'
  field_simp

end Cert.Soft

end
-- ==== Proof.Value.Operands.lean ====
/-
The call's operands at an index, over the idealized values.
-/
module

public import proofs.«01_k».proof.Proof.Host
public import Idealize.ShloMosaic.Lib.Pointwise
public import Idealize.ShloMosaic.Lib.IdealHost

@[expose] public section

set_option maxRecDepth 16384

noncomputable section

namespace Cert.KernelIdeal.Att

open Idealize.ShloMosaic Idealize.SL.Sem Cert.KernelIdeal Cert.KernelIdeal.Gen

/-- The factor of the scores, as a number. -/
theorem scale_real : ∃ r : ℝ, Ideal.ofBits .f32 0x3DD105EC#32 = (r : EReal) := by
  refine ⟨13698540 / 134217728, ?_⟩
  simp [Ideal.ofBits, Ideal.ieee, -EReal.coe_mul]
  norm_num

theorem two_real : Ideal.ofBits .f32 0x40000000#32 = ((2 : ℝ) : EReal) := by
  simp [Ideal.ofBits, Ideal.ieee, -EReal.coe_mul]
  norm_num

theorem room_real : Ideal.ofBits .f32 0x432A0000#32 = ((170 : ℝ) : EReal) := by
  simp [Ideal.ofBits, Ideal.ieee, -EReal.coe_mul]
  norm_num

theorem int_zero : FloatOps.sitofp (F := Ideal) FTy.f32 0#32 = (0 : EReal) := by
  show (((0#32 : BitVec 32).toInt : ℝ) : EReal) = 0
  simp

theorem qtV_at (q : FVec Ideal S2x16384x16x96 .f32) (b : Fin 2) (h : Fin 16) (d : Fin 128) (s : Fin 16384) :
    qtV (F := Ideal) q (ix4 b h d s) = if hd : d.val < 96 then q (ix4 b s h ⟨d.val, hd⟩)
      * Ideal.div (Ideal.ofBits .f32 0x3DD105EC#32) (Ideal.log (Ideal.ofBits .f32 0x40000000#32)) else 0 := by
  pointwise [qtV, padV]
  rw [int_zero]

theorem kpV_at (k : FVec Ideal S2x16384x16x96 .f32) (b : Fin 2) (h : Fin 16) (s : Fin 16384) (d : Fin 128) :
    kpV (F := Ideal) k (ix4 b h s d) = if hd : d.val < 96 then k (ix4 b s h ⟨d.val, hd⟩) else 0 := by
  pointwise [kpV, padV]
  rw [int_zero]

theorem vtV_at (v : FVec Ideal S2x16384x16x64 .f32) (b : Fin 2) (h : Fin 16) (r : Fin 64) (s : Fin 16384) :
    vtV (F := Ideal) v (ix4 b h ⟨r.val, by omega⟩ s) = v (ix4 b s h r) := by
  pointwise [vtV]

theorem zerosV_at (i : S512.Idx) : zerosV (F := Ideal) i = (0 : EReal) := Ideal.ofBits_zero .f32

theorem boundsV_0 (b : FVec Ideal S_ .f32) :
    boundsV (F := Ideal) b (ix1 0) = Ideal.ofBits .f32 0x40000000#32 * b ix0 + Ideal.ofBits .f32 0x432A0000#32 := by
  pointwise [boundsV]

theorem boundsV_1 (b : FVec Ideal S_ .f32) : boundsV (F := Ideal) b (ix1 1) = b ix0 := by
  pointwise [boundsV]

end Cert.KernelIdeal.Att

end
-- ==== Proof.Value.Weighted.lean ====
/-
One head's block of results, as the reference's weighted sums of that head's values.
-/
module

public import proofs.«01_k».proof.Proof.Value.Tile
public import proofs.«01_k».proof.Proof.Value.Ref
public import proofs.«01_k».proof.Proof.Value.Math
public import proofs.«01_k».proof.Proof.Value.Operands

@[expose] public section

set_option maxRecDepth 16384

noncomputable section

namespace Cert.KernelIdeal.Att

open Idealize.ShloMosaic Idealize.SL.Sem Cert.KernelIdeal Cert.KernelIdeal.Gen
open Cert.ReferenceIdeal.Value (logitR expR softR outR logitR_at expR_at softR_at outR_at)

/-- Blocks of 256 keys, one after another, are all keys. -/
theorem blocks_sum (f : Fin 16384 → EReal) :
    ∑ n ∈ Finset.range 64, ∑ k : Fin 256, f (pos (256 * n + k.val)) = ∑ κ : Fin 16384, f κ := by
  rw [Finset.sum_range, ← Fintype.sum_prod_type' (fun (n : Fin 64) (k : Fin 256) => f (pos (256 * n.val + k.val)))]
  refine Fintype.sum_equiv (finProdFinEquiv (m := 64) (n := 256)) _ (fun κ : Fin (64 * 256) => f κ) fun x => ?_
  refine congrArg f (Fin.ext ?_)
  have h1 := x.1.isLt
  have h2 := x.2.isLt
  show (256 * x.1.val + x.2.val) % 16384 = x.2.val + 256 * x.1.val
  omega

theorem log_two : Ideal.div (Ideal.ofBits .f32 0x3DD105EC#32) (Ideal.log (Ideal.ofBits .f32 0x40000000#32))
    = Ideal.ofBits .f32 0x3DD105EC#32 * ((1 / Real.log 2 : ℝ) : EReal) := by
  have hl : Real.log 2 ≠ 0 := (Real.log_pos one_lt_two).ne'
  rw [two_real, Ideal.log_coe, if_neg (not_le.mpr two_pos), Ideal.div_coe hl]

section
variable (q k : FVec Ideal S2x16384x16x96 .f32) (v : FVec Ideal S2x16384x16x64 .f32)
  (X5 : FVec Ideal S1x1x128x16384 .bf16) (X6 : FVec Ideal S1x1x16384x128 .bf16) (X7 : FVec Ideal S1x1x80x16384 .bf16)
  (b : Fin 2) (h : Fin 16)

/-- A score is the sum over the 96 features, in units of the logarithm of two. -/
theorem scA_real (fq fk : S2x16384x16x96.Idx → ℝ) (sc : ℝ) (hq : ∀ i, q i = (fq i : EReal)) (hk : ∀ i, k i = (fk i : EReal))
    (hsc : Ideal.ofBits .f32 0x3DD105EC#32 = (sc : EReal))
    (h5 : ∀ d s, X5 (ix4 0 0 d s) = qtV (F := Ideal) q (ix4 b h d s)) (h6 : ∀ s d, X6 (ix4 0 0 s d) = kpV (F := Ideal) k (ix4 b h s d))
    (κ s : Fin 16384) :
    scA X5 X6 κ s = (((∑ d : Fin 96, fq (ix4 b s h d) * fk (ix4 b κ h d)) * sc / Real.log 2 : ℝ) : EReal) := by
  unfold scA
  have e : ∀ d : Fin 128, X6 (ix4 0 0 κ d) * X5 (ix4 0 0 d s)
      = ((if hd : d.val < 96 then fk (ix4 b κ h ⟨d.val, hd⟩) * (fq (ix4 b s h ⟨d.val, hd⟩) * (sc * (1 / Real.log 2))) else 0 : ℝ) : EReal) := by
    intro d
    rw [h5, h6, qtV_at, kpV_at]
    by_cases hd : d.val < 96
    · rw [dif_pos hd, dif_pos hd, dif_pos hd, log_two, hsc, hq, hk, ← EReal.coe_mul, ← EReal.coe_mul, ← EReal.coe_mul]
    · rw [dif_neg hd, dif_neg hd, dif_neg hd, mul_zero]
      rfl
  rw [Finset.sum_congr rfl fun d _ => e d, Cert.Soft.sum_coe]
  refine congrArg _ ?_
  rw [show (∑ d : Fin 128, (if hd : d.val < 96 then fk (ix4 b κ h ⟨d.val, hd⟩) * (fq (ix4 b s h ⟨d.val, hd⟩) * (sc * (1 / Real.log 2))) else 0 : ℝ))
      = ∑ d : Fin (96 + 32), (if hd : d.val < 96 then fk (ix4 b κ h ⟨d.val, hd⟩) * (fq (ix4 b s h ⟨d.val, hd⟩) * (sc * (1 / Real.log 2))) else 0 : ℝ) from rfl,
    Fin.sum_univ_add]
  have z : (∑ i : Fin 32, (if hd : (Fin.natAdd 96 i).val < 96 then fk (ix4 b κ h ⟨(Fin.natAdd 96 i).val, hd⟩) * (fq (ix4 b s h ⟨(Fin.natAdd 96 i).val, hd⟩) * (sc * (1 / Real.log 2))) else 0 : ℝ)) = 0 :=
    Finset.sum_eq_zero fun i _ => dif_neg (by rw [Fin.val_natAdd]; omega)
  rw [z, add_zero, mul_div_assoc, Finset.sum_mul]
  refine Finset.sum_congr rfl fun d _ => ?_
  rw [dif_pos (show (Fin.castAdd 32 d).val < 96 from d.isLt)]
  show fk (ix4 b κ h d) * (fq (ix4 b s h d) * _) = _
  ring

/-- The weighted sums over their weights, as softmax weighs the values. -/
theorem head_eq (hq : ∀ i, ∃ r : ℝ, q i = (r : EReal)) (hk : ∀ i, ∃ r : ℝ, k i = (r : EReal)) (bd : ℝ)
    (h5 : ∀ d s, X5 (ix4 0 0 d s) = qtV (F := Ideal) q (ix4 b h d s)) (h6 : ∀ s d, X6 (ix4 0 0 s d) = kpV (F := Ideal) k (ix4 b h s d))
    (h7 : ∀ (r : Fin 64) s, X7 (ix4 0 0 ⟨r.val, by omega⟩ s) = vtV (F := Ideal) v (ix4 b h ⟨r.val, by omega⟩ s)) (r : Fin 64) (s : Fin 16384) :
    Ideal.div (∑ n ∈ Finset.range 64, bV X5 X6 X7 (bd : EReal) r s n) (∑ n ∈ Finset.range 64, bL X5 X6 (bd : EReal) s n)
      = ∑ κ : Fin 16384, v (ix4 b κ h r) * softR (F := Ideal) (expR (logitR q k)) (ix4 b h s κ) := by
  choose fq hfq using hq
  choose fk hfk using hk
  obtain ⟨sc, hsc⟩ := scale_real
  unfold bV bL
  rw [blocks_sum fun κ => X7 (ix4 0 0 ⟨r.val, by omega⟩ κ) * wA X5 X6 (bd : EReal) κ s, blocks_sum fun κ => wA X5 X6 (bd : EReal) κ s]
  have e7 : ∀ κ, X7 (ix4 0 0 ⟨r.val, by omega⟩ κ) = v (ix4 b κ h r) := fun κ => by rw [h7, vtV_at]
  simp only [e7, softR_at]
  refine Cert.Soft.soft s (fun κ => (∑ d : Fin 96, fq (ix4 b s h d) * fk (ix4 b κ h d)) * sc) (fun κ => κ.val ≤ s.val) (le_refl _)
    (fun κ => v (ix4 b κ h r)) bd (fun κ => logitR (F := Ideal) q k (ix4 b h s κ)) (fun κ => ?_) _ (fun κ => ?_) _ (fun κ => ?_)
  · rw [logitR_at, hsc]
    have hs := sle_pos κ.val s.val κ.isLt s.isLt
    have e : (∑ d : Fin 96, q (ix4 b s h d) * k (ix4 b κ h d)) * (sc : EReal)
        = (((∑ d : Fin 96, fq (ix4 b s h d) * fk (ix4 b κ h d)) * sc : ℝ) : EReal) := by
      rw [EReal.coe_mul, ← Cert.Soft.sum_coe]
      refine congrArg (· * (sc : EReal)) (Finset.sum_congr rfl fun d _ => ?_)
      rw [hfq, hfk, ← EReal.coe_mul]
    rw [e, show IntOp.cmpi .sle (BitVec.ofNat 32 κ.val) (BitVec.ofNat 32 s.val) = _ from hs]
    by_cases hle : κ.val ≤ s.val
    · rw [if_pos hle, if_pos hle]; rfl
    · rw [if_neg hle, if_neg hle]; rfl
  · unfold wA
    rw [scA_real q k X5 X6 b h fq fk sc hfq hfk hsc h5 h6]
  · rw [expR_at]
    rfl

end

end Cert.KernelIdeal.Att

end
-- ==== Proof.Value.Group.lean ====
/-
With zeros in the first two tables and a limit that is not negative, every tile begins at group zero.
-/
module

public import proofs.«01_k».proof.Proof.Wp3
public import Idealize.ShloMosaic.Lib.Pointwise
public import Idealize.ShloMosaic.Lib.IdealHost

@[expose] public section

set_option maxRecDepth 16384

noncomputable section

namespace Cert.KernelIdeal.Att

open Idealize.ShloMosaic Idealize.SL.Sem Cert.KernelIdeal Cert.KernelIdeal.Gen

variable (i : grid0.Coords) (X2 X3 : FVec Ideal S512 .f32) (X4 : FVec Ideal S2 .f32)

theorem word_zero (X : FVec Ideal S512 .f32) (h : ∀ i, X i = (0 : EReal)) (r : Rect S512) (h1 : r.shape.numel = 1) :
    word (F := Ideal) (e := .f32) X r h1 = (0 : EReal) := h _

theorem limit_word : word (F := Ideal) (e := .f32) X4 (Rect.unit (s := S2) ![0] S1.size inb_S2_S1_0) numel1_S1 = X4 (ix1 0) := by
  refine congrArg X4 (funext fun a => ?_)
  have ha : a = 0 := Subsingleton.elim _ _
  subst ha
  apply Fin.ext
  rfl

theorem refW_at : refW (F := Ideal) X4 = X4 (ix1 1) := by
  refine congrArg X4 (funext fun a => ?_)
  have ha : a = 0 := Subsingleton.elim _ _
  subst ha
  apply Fin.ext
  rfl

theorem stay (h2 : ∀ i, X2 i = (0 : EReal)) (h3 : ∀ i, X3 i = (0 : EReal)) (h4 : (0 : EReal) ≤ X4 (ix1 0))
    (t : Fin k0_t1_loop.trips) (g : BitVec 32) (h : k0_chk1 i g) : ¬ leaveP (F := Ideal) i X2 X3 X4 t g h = 1#1 := by
  unfold leaveP
  rw [word_zero X2 h2, word_zero X3 h3, limit_word]
  have e : Scalar.cmpf (F := Ideal) (φ := .f32) .olt (Scalar.subf (F := Ideal) (φ := .f32) (0 : EReal) (0 : EReal))
      (Scalar.subf (F := Ideal) (φ := .f32) (Scalar.ofBits .f32 0x00000000#32 : Ideal .f32) (X4 (ix1 0))) = 0#1 := by
    show Ideal.cmp .olt ((0 : EReal) - 0) (Ideal.ofBits .f32 0x00000000#32 - X4 (ix1 0)) = 0#1
    rw [show Ideal.ofBits .f32 0x00000000#32 = 0 from Ideal.ofBits_zero .f32]
    show BitVec.ofBool (decide ((0 : EReal) - 0 < 0 - X4 (ix1 0))) = 0#1
    rw [decide_eq_false]
    · rfl
    · rw [sub_zero, not_lt, zero_sub]
      exact EReal.neg_le_zero.mpr h4
  rw [e]
  generalize Scalar.cmpi .slt g (Scalar.subi (Scf.iv 0#32 1#32 t) 1#32) = x
  revert x
  decide

theorem group_zero (h2 : ∀ i, X2 i = (0 : EReal)) (h3 : ∀ i, X3 i = (0 : EReal)) (h4 : (0 : EReal) ≤ X4 (ix1 0))
    (t : Fin k0_t1_loop.trips) : groupP (F := Ideal) i X2 X3 X4 t = 0#32 := by
  unfold groupP
  cases t.val - 1 with
  | zero => rfl
  | succ n =>
    unfold firstP
    split
    · exact if_neg (stay i X2 X3 X4 h2 h3 h4 t _ _)
    · rfl

end Cert.KernelIdeal.Att

end
-- ==== Proof.Value.Pre.lean ====
/-
What the precondition says of the arguments: queries, keys and bound are numbers, and the bound is not negative.
-/
module

public import proofs.«01_k».proof.Defs
public import proofs.«01_k».proof.Proof.Gen.Pre_finite
public import Idealize.ShloMosaic.Lib.ReduceAll
public import Idealize.ShloMosaic.Lib.Pointwise
public import Idealize.ShloMosaic.Lib.IdealHost

@[expose] public section

set_option maxRecDepth 16384

noncomputable section

namespace Cert.Pre_finite

open Idealize.ShloMosaic Cert.Pre_finite.Gen

theorem real_of (x : EReal) (h : Ideal.cmp .olt (max x (-x)) (Ideal.ofBits .f32 0x7F800000#32) = 1#1) : ∃ r : ℝ, x = (r : EReal) := by
  have ht : Ideal.ofBits .f32 0x7F800000#32 = ⊤ := by rfl
  rw [ht] at h
  have h' : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  have h1 : x ≠ ⊤ := fun e => by rw [e] at h'; simp at h'
  have h2 : x ≠ ⊥ := fun e => by rw [e] at h'; simp at h'
  exact ⟨x.toReal, (EReal.coe_toReal h1 h2).symm⟩

theorem facts_of (q k : FVec Ideal S2x16384x16x96 .f32) (v : FVec Ideal S2x16384x16x64 .f32) (b : FVec Ideal S_ .f32)
    (h : fn (F := Ideal) q k v b = fun _ => 1#1) :
    (∀ i, ∃ r : ℝ, q i = (r : EReal)) ∧ (∀ i, ∃ r : ℝ, k i = (r : EReal)) ∧ ∃ r : ℝ, 0 ≤ r ∧ b ix0 = (r : EReal) := by
  have h0 := congrFun h ix0
  unfold fn at h0
  simp only [andi] at h0
  have split : ∀ x y : BitVec 1, x &&& y = 1#1 → x = 1#1 ∧ y = 1#1 := by decide
  obtain ⟨h123, h4⟩ := split _ _ h0
  obtain ⟨h12, h3⟩ := split _ _ h123
  obtain ⟨h1, h2⟩ := split _ _ h12
  refine ⟨fun i => real_of _ (Host.reduce_andi_all _ _ _ _ _ h1 i), fun i => real_of _ (Host.reduce_andi_all _ _ _ _ _ h2 i), ?_⟩
  have h3' : Ideal.cmp .oge (b ix0) (Ideal.ofBits .f32 0x00000000#32) = 1#1 := h3
  have h4' : Ideal.cmp .olt (b ix0) (Ideal.ofBits .f32 0x7F800000#32) = 1#1 := h4
  rw [Ideal.ofBits_zero .f32] at h3'
  rw [show Ideal.ofBits .f32 0x7F800000#32 = ⊤ from rfl] at h4'
  have of1 : ∀ x : Bool, BitVec.ofBool x = 1#1 → x = true := by decide
  have g3 : (0 : EReal) ≤ b ix0 := of_decide_eq_true (of1 _ h3')
  have g4 : b ix0 < ⊤ := of_decide_eq_true (of1 _ h4')
  have g5 : b ix0 ≠ ⊥ := fun e => by rw [e] at g3; exact absurd (le_bot_iff.mp g3) EReal.zero_ne_bot
  refine ⟨(b ix0).toReal, EReal.toReal_nonneg g3, (EReal.coe_toReal g4.ne g5).symm⟩

end Cert.Pre_finite

end
-- ==== Proof.Value.Final.lean ====
/-
The result array: every position holds the reference's weighted sum.
-/
module

public import proofs.«01_k».proof.Proof.Value.Weighted
public import proofs.«01_k».proof.Proof.Value.Group
public import proofs.«01_k».proof.Proof.Value.Pre

@[expose] public section

set_option maxRecDepth 16384

noncomputable section

namespace Cert.KernelIdeal.Att

open Idealize.ShloMosaic Idealize.ShloMosaic.TcCoe Idealize.SL.Sem Cert.KernelIdeal Cert.KernelIdeal.Gen
open Cert.ReferenceIdeal.Value (logitR expR softR outR logitR_at expR_at softR_at outR_at)

theorem idx2 : ∀ t : Fin (cfg0 (F := Ideal)).N, win0_2.index t = ![0] := (by decide +kernel : ∀ t : Fin grid0.N, _)
theorem idx3 : ∀ t : Fin (cfg0 (F := Ideal)).N, win0_3.index t = ![(grid0.coords t 0).val, (grid0.coords t 1).val, 0, 0] :=
  (by decide +kernel : ∀ t : Fin grid0.N, _)
theorem idx4 : ∀ t : Fin (cfg0 (F := Ideal)).N, win0_4.index t = ![(grid0.coords t 0).val, (grid0.coords t 1).val, 0, 0] :=
  (by decide +kernel : ∀ t : Fin grid0.N, _)
theorem idx5 : ∀ t : Fin (cfg0 (F := Ideal)).N, win0_5.index t = ![(grid0.coords t 0).val, (grid0.coords t 1).val, 0, 0] :=
  (by decide +kernel : ∀ t : Fin grid0.N, _)
theorem idx6 : ∀ t : Fin (cfg0 (F := Ideal)).N, win0_6.index t = ![(grid0.coords t 0).val, (grid0.coords t 1).val, 0] :=
  (by decide +kernel : ∀ t : Fin grid0.N, _)

/-- The batch entry and the head of a grid point. -/
abbrev bi (t : Fin (cfg0 (F := Ideal)).N) : Fin 2 := grid0.coords t 0
abbrev hi (t : Fin (cfg0 (F := Ideal)).N) : Fin 16 := grid0.coords t 1

variable (m : (ℓ : Loc nD τ sig) → Buf (Elt Ideal) ℓ)

theorem blk3_at (c : Dev nD) (t : Fin (cfg0 (F := Ideal)).N) (d : Fin 128) (s : Fin 16384) :
    blkOf (F := Ideal) m c 3 t (ix4 0 0 d s) = qtV (F := Ideal) (m ((c : Thread nD τ).loc main_arg0)) (ix4 (bi t) (hi t) d s) := by
  rw [← V_v6 m c]
  refine congrArg (V m c main_v6) (?_ : ((win0_3.blk t).view.emb (ix4 0 0 d s)) = ix4 (bi t) (hi t) d s)
  blk_ext [idx3] <;> rfl

theorem blk4_at (c : Dev nD) (t : Fin (cfg0 (F := Ideal)).N) (s : Fin 16384) (d : Fin 128) :
    blkOf (F := Ideal) m c 4 t (ix4 0 0 s d) = kpV (F := Ideal) (m ((c : Thread nD τ).loc main_arg1)) (ix4 (bi t) (hi t) s d) := by
  rw [← V_v9 m c]
  refine congrArg (V m c main_v9) (?_ : ((win0_4.blk t).view.emb (ix4 0 0 s d)) = ix4 (bi t) (hi t) s d)
  blk_ext [idx4] <;> rfl

theorem blk5_at (c : Dev nD) (t : Fin (cfg0 (F := Ideal)).N) (r : Fin 80) (s : Fin 16384) :
    blkOf (F := Ideal) m c 5 t (ix4 0 0 r s) = vtV (F := Ideal) (m ((c : Thread nD τ).loc main_arg2)) (ix4 (bi t) (hi t) r s) := by
  rw [← V_v19 m c]
  refine congrArg (V m c main_v19) (?_ : ((win0_5.blk t).view.emb (ix4 0 0 r s)) = ix4 (bi t) (hi t) r s)
  blk_ext [idx5] <;> rfl

theorem blk2_at (c : Dev nD) (t : Fin (cfg0 (F := Ideal)).N) (j : Fin 2) :
    blkOf (F := Ideal) m c 2 t (ix1 j) = boundsV (F := Ideal) (m ((c : Thread nD τ).loc main_arg3)) (ix1 j) := by
  rw [← V_v25 m c]
  refine congrArg (V m c main_v25) (?_ : ((win0_2.blk t).view.emb (ix1 j)) = ix1 j)
  blk_ext [idx2]

theorem blk0_at (c : Dev nD) (t : Fin (cfg0 (F := Ideal)).N) (i : S512.Idx) : blkOf (F := Ideal) m c 0 t i = (0 : EReal) := by
  show V m c main_v20 _ = _
  rw [V_v20 m c]
  exact zerosV_at _

theorem blk1_at (c : Dev nD) (t : Fin (cfg0 (F := Ideal)).N) (i : S512.Idx) : blkOf (F := Ideal) m c 1 t i = (0 : EReal) := by
  show V m c main_v20 _ = _
  rw [V_v20 m c]
  exact zerosV_at _

/-- A tile's results from whichever group is zero. -/
theorem tileP_zero (X5 : FVec Ideal S1x1x128x16384 .bf16) (X6 : FVec Ideal S1x1x16384x128 .bf16) (X7 : FVec Ideal S1x1x80x16384 .bf16)
    (v3 : EReal) (hv : ∃ r : ℝ, v3 = r) (t : Fin k0_t1_loop.trips) (g : BitVec 32) (h : k0_chk2 t g) (hg : g = 0#32) (c : Fin 8) (r : Fin 64) (j : Fin 256) :
    tileP (F := Ideal) X5 X6 X7 v3 t g h c (ix3 0 r j)
      = Ideal.div (∑ n ∈ Finset.range 64, bV X5 X6 X7 v3 r (pos (2048 * t.val + 256 * c.val + j.val)) n)
          (∑ n ∈ Finset.range 64, bL X5 X6 v3 (pos (2048 * t.val + 256 * c.val + j.val)) n) := by
  subst hg
  exact tileP_at X5 X6 X7 v3 hv t h c r j

/-- The arguments: queries, keys and values. -/
abbrev argQ (c : Dev nD) : FVec Ideal S2x16384x16x96 .f32 := m ((c : Thread nD τ).loc main_arg0)
abbrev argK (c : Dev nD) : FVec Ideal S2x16384x16x96 .f32 := m ((c : Thread nD τ).loc main_arg1)
abbrev argV (c : Dev nD) : FVec Ideal S2x16384x16x64 .f32 := m ((c : Thread nD τ).loc main_arg2)

/-- What the arguments must be: numbers, and a bound that is not negative. -/
structure Numbers (c : Dev nD) : Prop where
  q : ∀ i, ∃ r : ℝ, m ((c : Thread nD τ).loc main_arg0) i = (r : EReal)
  k : ∀ i, ∃ r : ℝ, m ((c : Thread nD τ).loc main_arg1) i = (r : EReal)
  b : ∃ r : ℝ, 0 ≤ r ∧ m ((c : Thread nD τ).loc main_arg3) ix0 = (r : EReal)

theorem limit_nonneg (b : FVec Ideal S_ .f32) (r : ℝ) (hr : 0 ≤ r) (hb : b ix0 = (r : EReal)) :
    (0 : EReal) ≤ boundsV (F := Ideal) b (ix1 0) := by
  rw [boundsV_0, two_real, room_real, hb, ← EReal.coe_mul, ← EReal.coe_add]
  exact EReal.coe_nonneg.mpr (by positivity)

theorem out_at (c : Dev nD) (hm : Numbers m c) (t : Fin (cfg0 (F := Ideal)).N) (r : Fin 64) (s : Fin 16384) :
    outAt (F := Ideal) m c t (ix3 0 r s)
      = ∑ κ : Fin 16384, argV m c (ix4 (bi t) κ (hi t) r)
          * softR (F := Ideal) (expR (logitR (argQ m c) (argK m c))) (ix4 (bi t) (hi t) s κ) := by
  obtain ⟨bd, hb0, hb⟩ := hm.b
  have hr : refW (F := Ideal) (blkOf m c 2 t) = (bd : EReal) := by
    refine (refW_at (blkOf m c 2 t)).trans ?_
    rw [blk2_at m c t 1, boundsV_1]
    exact hb
  have hl : (0 : EReal) ≤ blkOf (F := Ideal) m c 2 t (ix1 0) := by
    rw [blk2_at m c t 0]
    exact limit_nonneg _ bd hb0 hb
  rw [← head_eq (argQ m c) (argK m c) (argV m c)
    (blkOf m c 3 t) (blkOf m c 4 t) (blkOf m c 5 t) (bi t) (hi t) hm.q hm.k bd (blk3_at m c t) (blk4_at m c t) (fun r s => blk5_at m c t _ s) r s]
  unfold outAt outB
  rw [hr]
  have hs := s.isLt
  refine (tileP_zero (blkOf m c 3 t) (blkOf m c 4 t) (blkOf m c 5 t) (bd : EReal) ⟨bd, rfl⟩ _ _ _
    (group_zero _ _ _ _ (blk0_at m c t) (blk1_at m c t) hl _) _ r ⟨s.val % 256, Nat.mod_lt _ (by decide)⟩).trans ?_
  have e : pos (2048 * (s.val / 2048) + 256 * (s.val / 256 % 8) + s.val % 256) = s := Fin.ext (by
    show (2048 * (s.val / 2048) + 256 * (s.val / 256 % 8) + s.val % 256) % 16384 = s.val
    omega)
  exact congrArg (fun p => Ideal.div (∑ n ∈ Finset.range 64, bV (blkOf m c 3 t) (blkOf m c 4 t) (blkOf m c 5 t) (bd : EReal) r p n)
    (∑ n ∈ Finset.range 64, bL (blkOf m c 3 t) (blkOf m c 4 t) (bd : EReal) p n)) e

/-- The whole result. -/
theorem final (c : Dev nD) (hm : Numbers m c) : (dats (F := Ideal) m 0 c).arrAt 6 (cfg0 (F := Ideal)).N
    = outR (F := Ideal) (softR (expR (logitR (argQ m c) (argK m c))))
        (argV m c) := by
  refine (dats (F := Ideal) m 0 c).arrAt_eq_of_covers 6 _ (by decide +kernel) fun t hf y => ?_
  obtain ⟨r, s, rfl⟩ : ∃ (r : Fin 64) (s : Fin 16384), y = ix3 0 r s := ⟨y 1, y 2, funext fun a => by
    fin_cases a
    · exact Subsingleton.elim (α := Fin 1) _ _
    · rfl
    · rfl⟩
  have hh := (hi t).isLt
  have hr := r.isLt
  have e : (win0_6.blk t).view.emb (ix3 0 r s) = ix3 (bi t) (⟨64 * (hi t).val + r.val, by omega⟩ : Fin 1024) s := by
    blk_ext [idx6]
    · rfl
    · show (hi t).val * 64 + r.val = 64 * (hi t).val + r.val
      omega
  refine Eq.trans (?_ : _ = outAt (F := Ideal) m c t (ix3 0 r s)) ?_
  · rfl
  refine (out_at m c hm t r s).trans ?_
  refine Eq.trans ?_ (congrArg (outR (F := Ideal) (softR (expR (logitR (argQ m c) (argK m c)))) (argV m c)) e).symm
  rw [outR_at]
  have e1 : (⟨(64 * (hi t).val + r.val) / 64, by omega⟩ : Fin 16) = hi t := Fin.ext (by show (64 * (hi t).val + r.val) / 64 = _; omega)
  have e2 : (⟨(64 * (hi t).val + r.val) % 64, by omega⟩ : Fin 64) = r := Fin.ext (by show (64 * (hi t).val + r.val) % 64 = _; omega)
  exact (congrArg₂ (fun (h : Fin 16) (r : Fin 64) => ∑ κ : Fin 16384, argV m c (ix4 (bi t) κ h r)
    * softR (F := Ideal) (expR (logitR (argQ m c) (argK m c))) (ix4 (bi t) h s κ)) e1 e2).symm

end Cert.KernelIdeal.Att

end
-- ==== Proof.Value.Algebraic.lean ====
/-
The kernel computes what the reference computes.
-/
module

public import proofs.«01_k».proof.Proof.Value.Final

@[expose] public section

set_option maxRecDepth 16384

noncomputable section

namespace Cert.Proof

open Idealize.ShloMosaic Idealize.ShloMosaic.TcCoe Idealize.SL.Sem

/-- The weighted sums of the values, by what the three arguments are. -/
def sums (q k : FVec Ideal Cert.KernelIdeal.S2x16384x16x96 .f32) (v : FVec Ideal Cert.KernelIdeal.S2x16384x16x64 .f32) :
    FVec Ideal Cert.KernelIdeal.S2x1024x16384 .bf16 :=
  Cert.ReferenceIdeal.Value.outR (F := Ideal)
    (Cert.ReferenceIdeal.Value.softR (Cert.ReferenceIdeal.Value.expR (Cert.ReferenceIdeal.Value.logitR q k))) v

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => sums (Cert.KernelIdeal.Att.argQ m c) (Cert.KernelIdeal.Att.argK m c) (Cert.KernelIdeal.Att.argV m c), ?_, ?_⟩
  · refine (θ_run Cert.KernelIdeal.defs _ _).mono (fun r h c => ⟨?_, Cert.KernelIdeal.Att.args_kept (F := Ideal) m h.1 c⟩)
      (Cert.KernelIdeal.Att.run_main (F := Ideal) m g)
    have hf := Cert.Pre_finite.facts_of _ _ _ _ (hpre c)
    exact (h.1.out_eq c 6).trans (Cert.KernelIdeal.Att.final m c ⟨hf.1, hf.2.1, hf.2.2⟩)
  · refine (θ_run Cert.ReferenceIdeal.defs _ _).mono (fun r h c => ⟨?_, (h c).2⟩) (Cert.ReferenceIdeal.Value.run (F := Ideal) m' g')
    obtain ⟨h0, h1, h2, -⟩ := hagree c
    refine (h c).1.trans ((Cert.ReferenceIdeal.Value.res_eq (F := Ideal) m' c).trans ?_)
    rw [h0, h1, h2]
    rfl

end Cert.Proof

end
-- ==== Proof.Fox.Struct.lean ====
/-
The kernel body as a short program: the loads and stores of the printed text, in its order, written once
as recursions over the key blocks and the four column chains of a query tile.
-/
module

public import proofs.«01_k».proof.Proof.Gen.Kernel4Ideal.Skeleton
public import Idealize.ShloMosaic.Lib.Pipeline.Regions

@[expose] public section

set_option maxRecDepth 16384

noncomputable section

namespace Cert.Kernel4Ideal.Att

open Idealize.ShloMosaic Idealize.SL.Sem Cert.Kernel4Ideal Cert.Kernel4Ideal.Gen

variable {F : FTy → Type} [FloatOps F]

/-- The programs of this kernel that return nothing. -/
abbrev PR (F : FTy → Type) [FloatOps F] := Prog (TpuEff nD τ sig (Elt F) (Λ₀ F) .tc) PUnit

/-- A block of 256 keys: where its keys and its values stand, the first chain that sees it, whether that
    chain sees it masked, and its first position. -/
structure Blk where
  ok : Fin 4 → Nat
  hk : ∀ a, ok a + S1x1x256x128.size a ≤ S1x1x16384x128.size a
  ov : Fin 4 → Nat
  hv : ∀ a, ov a + S1x1x64x256.size a ≤ S1x1x80x16384.size a
  d : Nat
  diag : Bool
  kb : BitVec 32

/-- Where the four chains' queries stand, and the tile's first position. -/
structure Qs where
  oq : Fin 4 → Fin 4 → Nat
  hq : ∀ c a, oq c a + S1x1x128x256.size a ≤ S1x1x128x16384.size a
  q0 : BitVec 32

/-- The four chains. -/
def chains : List (Fin 4) := [⟨0, by decide⟩, ⟨1, by decide⟩, ⟨2, by decide⟩, ⟨3, by decide⟩]

/-- Scores of one block of keys for one chain of queries. -/
def scoreV (x : Vec F S1x1x128x256 .bf16) (y : Vec F S1x1x256x128 .bf16) : FVec F S256x256 .f32 :=
  matmul dot_S256x128_S128x256_S256x256_1_0_0_1_n_n none
    (shapeCast S256x128 y shapeCasts_S1x1x256x128_S256x128) (shapeCast S128x256 x shapeCasts_S1x1x128x256_S128x256)
    (constant S256x256 .f32 0x00000000#32)

/-- Scores with the keys after the query left out. -/
def maskV (kb qb : BitVec 32) (s : FVec F S256x256 .f32) : FVec F S256x256 .f32 :=
  select (cmpi .sle (addi (broadcast S256x256 kb) (iota .tc S256x256 32 [0] iota_S256x256_d0_w32))
      (addi (broadcast S256x256 qb) (iota .tc S256x256 32 [1] iota_S256x256_d1_w32)))
    s (broadcast S256x256 (Scalar.ofBits .f32 0xFF800000#32))

/-- The wfours of a block, before the division. -/
def expV (v3 : Elt F .f32) (s : FVec F S256x256 .f32) : FVec F S256x256 .f32 :=
  exp2 (subf s (broadcast S256x256 v3))

/-- The wfoured sum of a block's values. -/
def pvV (v3 : Elt F .f32) (z : Vec F S1x1x64x256 .bf16) (s : FVec F S256x256 .f32) : FVec F S64x256 .f32 :=
  matmul dot_S64x256_S256x256_S64x256_1_0_0_1_n_n none (shapeCast S64x256 z shapeCasts_S1x1x64x256_S64x256)
    (truncf .bf16 (expV v3 s) bitsLt_bf16_f32) (constant S64x256 .f32 0x00000000#32)

/-- The sum of a block's wfours. -/
def lV (v3 : Elt F .f32) (s : FVec F S256x256 .f32) : FVec F S1x256 .f32 :=
  shapeCast S1x256 (multiReduction .add [0] S256 (expV v3 s) 0x00000000#32 reduces_S256x256_S256 (.inl rfl) rfl)
    shapeCasts_S256_S1x256

/-- What a chain has summed so far: nothing, or a wfoured sum with the sum of the wfours. -/
abbrev Tot (F : FTy → Type) [FloatOps F] := Option (FVec F S64x256 .f32 × FVec F S1x256 .f32)

/-- One more block's sums. -/
def Tot.add (t : Tot F) (a : FVec F S64x256 .f32) (b : FVec F S1x256 .f32) : Tot F :=
  match t with
  | none => some (a, b)
  | some (x, y) => some (addf x a, addf y b)

/-- A vector standing where nothing has been computed. -/
def none256 : FVec F S256x256 .f32 := constant S256x256 .f32 0x00000000#32

/-- A chain's state: the scores of the block it is at and of the next one, and its sums. -/
structure CS (F : FTy → Type) [FloatOps F] where
  c : Fin 4
  s0 : FVec F S256x256 .f32
  s1 : FVec F S256x256 .f32
  t : Tot F

/-- The wfoured sums of a chain, zero where it has none. -/
def Tot.fst (t : Tot F) : FVec F S64x256 .f32 :=
  match t with
  | none => constant S64x256 .f32 0x00000000#32
  | some p => p.1

/-- The sums of the wfours of a chain, zero where it has none. -/
def Tot.snd (t : Tot F) : FVec F S1x256 .f32 :=
  match t with
  | none => constant S1x256 .f32 0x00000000#32
  | some p => p.2

section
variable (arg5 : Memref sig .tc .vmem S1x1x128x16384 .bf16) (arg6 : Memref sig .tc .vmem S1x1x16384x128 .bf16)
  (arg7 : Memref sig .tc .vmem S1x1x80x16384 .bf16) (v3 : Elt F .f32) (Q : Qs)

/-- The scores of a block for a chain that sees it. -/
def scoreK (b : Blk) (c : Fin 4) (K : FVec F S256x256 .f32 → PR F) : PR F :=
  .op (.load arg5 (Rect.unit (s := S1x1x128x16384) (Q.oq c) S1x1x128x256.size (Q.hq c)).toLoadRect
    (View.loadsAt_vmem h_S1x1x128x256)) fun x =>
  .op (.load arg6 (Rect.unit (s := S1x1x16384x128) b.ok S1x1x256x128.size b.hk).toLoadRect
    (View.loadsAt_vmem h_S1x1x256x128)) fun y =>
  K (bif b.diag && Nat.beq b.d c.val then
      maskV b.kb (Scalar.addi Q.q0 (BitVec.ofNat 32 (256 * c.val))) (scoreV x y)
    else scoreV x y)

/-- The scores of a block for a chain, where there is a block and the chain sees it. -/
def scoreK? (n : Option Blk) (c : Fin 4) (K : FVec F S256x256 .f32 → PR F) : PR F :=
  match n with
  | none => K none256
  | some b => match Nat.ble b.d c.val with
    | true => scoreK arg5 arg6 Q b c K
    | false => K none256

/-- A block's sums added to a chain's, where the chain sees it. -/
def sumK (b : Blk) (c : Fin 4) (s : FVec F S256x256 .f32) (t : Tot F) (K : Tot F → PR F) : PR F :=
  match Nat.ble b.d c.val with
  | true => .op (.load arg7 (Rect.unit (s := S1x1x80x16384) b.ov S1x1x64x256.size b.hv).toLoadRect
      (View.loadsAt_vmem h_S1x1x64x256)) fun z => K (t.add (pvV v3 z s) (lV v3 s))
  | false => K t

/-- One block, chain after chain: the scores two blocks ahead, then this block's sums. -/
def stepK (n : Option Blk) (b : Blk) : List (CS F) → (List (CS F) → PR F) → PR F
  | [], K => K []
  | x :: xs, K =>
    scoreK? arg5 arg6 Q n x.c fun s2 => sumK arg7 v3 b x.c x.s0 x.t fun t =>
      stepK n b xs fun r => K (⟨x.c, x.s1, s2, t⟩ :: r)

/-- The blocks of a list in order. -/
def runK : List Blk → List (CS F) → (List (CS F) → PR F) → PR F
  | [], xs, K => K xs
  | b :: bs, xs, K => stepK arg5 arg6 arg7 v3 Q (bs.tail.head?) b xs fun r => runK bs r K

/-- The scores of a block for every chain. -/
def headK (n : Option Blk) : List (CS F) → (List (CS F) → PR F) → PR F
  | [], K => K []
  | x :: xs, K => scoreK? arg5 arg6 Q n x.c fun s => headK n xs fun r => K (⟨x.c, x.s1, s, x.t⟩ :: r)

/-- The chains before the first block. -/
def start : List (CS F) := chains.map fun c => ⟨c, none256, none256, none⟩

/-- A list of blocks from its beginning. -/
def listK (bs : List Blk) (K : List (CS F) → PR F) : PR F :=
  headK arg5 arg6 Q bs.head? start fun r => headK arg5 arg6 Q bs.tail.head? r fun r =>
    runK arg5 arg6 arg7 v3 Q bs r K

end

/-- The accumulator's wfoured sums of a chain. -/
abbrev accV (c : Fin 4) : Rect S4x80x256 :=
  Rect.unit (s := S4x80x256) ![c.val, 0, 0] S1x64x256.size (by revert c; decide)

/-- The accumulator's sums of wfours of a chain. -/
abbrev accL (c : Fin 4) : Rect S4x80x256 :=
  Rect.unit (s := S4x80x256) ![c.val, 64, 0] S1x1x256.size (by revert c; decide)

/-- A chain's sums added to the accumulator's. -/
def newV (x : Vec F S1x64x256 .f32) (t : Tot F) : FVec F S64x256 .f32 :=
  addf (shapeCast S64x256 x shapeCasts_S1x64x256_S64x256) t.fst

/-- A chain's sums of wfours added to the accumulator's. -/
def newL (x : Vec F S1x1x256 .f32) (t : Tot F) : FVec F S1x256 .f32 :=
  addf (shapeCast S1x256 x shapeCasts_S1x1x256_S1x256) t.snd

/-- Every chain's sums added into the accumulator. -/
def accK (arg9 : Memref sig .tc .vmem S4x80x256 .f32) : List (CS F) → PR F → PR F
  | [], K => K
  | x :: xs, K =>
    .op (.load arg9 (accV x.c).toLoadRect (View.loadsAt_vmem h_S1x64x256)) fun a =>
    .op (.load arg9 (accV x.c).toLoadRect (View.loadsAt_vmem h_S1x64x256)) fun _ =>
    .op (.store arg9 (accV x.c) (shapeCast S1x64x256 (newV a x.t) shapeCasts_S64x256_S1x64x256) Finset.univ
      (View.stores_vmem_bits_univ h_S1x64x256 rfl) (.inl rfl)) fun _ =>
    .op (.load arg9 (accL x.c).toLoadRect (View.loadsAt_vmem h_S1x1x256)) fun l =>
    .op (.load arg9 (accL x.c).toLoadRect (View.loadsAt_vmem h_S1x1x256)) fun _ =>
    .op (.store arg9 (accL x.c) (shapeCast S1x1x256 (newL l x.t) shapeCasts_S1x256_S1x1x256) Finset.univ
      (View.stores_vmem_bits_univ h_S1x1x256 rfl) (.inl rfl)) fun _ =>
    accK arg9 xs K

/-- Where the four chains' results go. -/
structure Os where
  oo : Fin 4 → Fin 3 → Nat
  ho : ∀ c a, oo c a + S1x64x256.size a ≤ S1x64x16384.size a
  hp : ∀ c, (Rect.unit (s := S1x64x16384) (oo c) S1x64x256.size (ho c)).PackedRows (EltTy.packing .bf16)

/-- A chain's result: the wfoured sums over the sums of wfours. -/
def outV (a : Vec F S1x64x256 .f32) (l : Vec F S1x1x256 .f32) (t : Tot F) : FVec F S1x64x256 .bf16 :=
  shapeCast S1x64x256
    (truncf .bf16 (divf (newV a t) (broadcastTo S64x256 (newL l t) broadcasts_S1x256_S64x256)) bitsLt_bf16_f32)
    shapeCasts_S64x256_S1x64x256

/-- Every chain's result written out. -/
def outK (arg8 : Memref sig .tc .vmem S1x64x16384 .bf16) (harg8 : arg8.IsWhole)
    (arg9 : Memref sig .tc .vmem S4x80x256 .f32) (O : Os) : List (CS F) → PR F → PR F
  | [], K => K
  | x :: xs, K =>
    .op (.load arg9 (accV x.c).toLoadRect (View.loadsAt_vmem h_S1x64x256)) fun a =>
    .op (.load arg9 (accL x.c).toLoadRect (View.loadsAt_vmem h_S1x1x256)) fun l =>
    .op (.load arg8 (Rect.unit (s := S1x64x16384) (O.oo x.c) S1x64x256.size (O.ho x.c)).toLoadRect
      (View.loadsAt_vmem h_S1x64x256)) fun _ =>
    .op (.store arg8 (Rect.unit (s := S1x64x16384) (O.oo x.c) S1x64x256.size (O.ho x.c)) (outV a l x.t) Finset.univ
      (View.stores_vmem h_S1x64x256 (harg8.storeExact_slice rfl _ (O.hp x.c)) (fun _ => rfl)) (.inl rfl)) fun _ =>
    outK arg8 harg8 arg9 O xs K

/-- The first four numbers. -/
def f4 : List (Fin 4) := chains

/-- The first eight numbers. -/
def f8 : List (Fin 8) := [
  ⟨0, by decide⟩, ⟨1, by decide⟩, ⟨2, by decide⟩, ⟨3, by decide⟩, ⟨4, by decide⟩, ⟨5, by decide⟩, ⟨6, by decide⟩, ⟨7, by decide⟩]

/-- The first twelve numbers. -/
def f12 : List (Fin 12) := [
  ⟨0, by decide⟩, ⟨1, by decide⟩, ⟨2, by decide⟩, ⟨3, by decide⟩, ⟨4, by decide⟩, ⟨5, by decide⟩, ⟨6, by decide⟩, ⟨7, by decide⟩,
  ⟨8, by decide⟩, ⟨9, by decide⟩, ⟨10, by decide⟩, ⟨11, by decide⟩]

/-- The first sixteen numbers. -/
def f16 : List (Fin 16) := [
  ⟨0, by decide⟩, ⟨1, by decide⟩, ⟨2, by decide⟩, ⟨3, by decide⟩, ⟨4, by decide⟩, ⟨5, by decide⟩, ⟨6, by decide⟩, ⟨7, by decide⟩,
  ⟨8, by decide⟩, ⟨9, by decide⟩, ⟨10, by decide⟩, ⟨11, by decide⟩, ⟨12, by decide⟩, ⟨13, by decide⟩, ⟨14, by decide⟩, ⟨15, by decide⟩]

/-- Where a tile's queries stand, for the sixteen blocks of a trip. -/
def qs2 (t : Fin k0_t1_loop.trips) (q0 : BitVec 32) : Qs where
  oq c := k0_off3 t (BitVec.ofNat 32 (256 * c.val))
  hq c := k0_off3_inb t c
  q0 := q0

/-- The sixteen blocks of a trip. -/
def bs2 (t : Fin k0_t1_loop.trips) (v11 : BitVec 32) (h : k0_chk2 t v11) (u : Fin (k0_t2_loop t v11).trips) : List Blk :=
  f16.map fun r =>
    ⟨_, k0_off4_inb t v11 h u r, _, k0_off5_inb t v11 h u r, 0, false, 0#32⟩

/-- Where a tile's queries stand, for the sixteen blocks of a trip of the second loop. -/
def qs3 (t : Fin k0_t1_loop.trips) (q0 : BitVec 32) : Qs := ⟨_, k0_off6_inb t, q0⟩

/-- The sixteen blocks of a trip of the second loop. -/
def bs3 (t : Fin k0_t1_loop.trips) (v11 : BitVec 32) (h : k0_chk2 t v11) (u : Fin (k0_t3_loop t v11).trips) : List Blk :=
  f16.map fun r => ⟨_, k0_off7_inb t v11 h u r, _, k0_off8_inb t v11 h u r, 0, false, 0#32⟩

/-- Where a tile's queries stand, for an end with one group of four blocks below the diagonal. -/
def qsF1 (t : Fin k0_t1_loop.trips) (q0 : BitVec 32) : Qs := ⟨_, k0_off9_inb t, q0⟩

/-- Four blocks below the diagonal, then the four on it. -/
def bsF1 (t : Fin k0_t1_loop.trips) (v11 q0 : BitVec 32) (h : k0_chk2 t v11) (h1 : k0_cond1 t v11 = 1#1) : List Blk :=
  (f4.map fun r => ⟨_, k0_off10_inb t v11 h h1 r, _, k0_off11_inb t v11 h h1 r, 0, false, 0#32⟩) ++
  (f4.map fun r =>
    ⟨_, k0_off12_inb t r, _, k0_off13_inb t r, r.val, true, Scalar.addi q0 (BitVec.ofNat 32 (256 * r.val))⟩)

/-- Where the results go, after one group below the diagonal. -/
def osF1 (t : Fin k0_t1_loop.trips) : Os := ⟨_, k0_off14_inb t, k0_off14_packedbf16 t⟩

/-- Where a tile's queries stand, for an end with two groups of four blocks below the diagonal. -/
def qsF2 (t : Fin k0_t1_loop.trips) (q0 : BitVec 32) : Qs := ⟨_, k0_off15_inb t, q0⟩

/-- Eight blocks below the diagonal, then the four on it. -/
def bsF2 (t : Fin k0_t1_loop.trips) (v11 q0 : BitVec 32) (h : k0_chk2 t v11) (h1 : k0_cond2 t v11 = 1#1) : List Blk :=
  (f8.map fun r => ⟨_, k0_off16_inb t v11 h h1 r, _, k0_off17_inb t v11 h h1 r, 0, false, 0#32⟩) ++
  (f4.map fun r =>
    ⟨_, k0_off18_inb t r, _, k0_off19_inb t r, r.val, true, Scalar.addi q0 (BitVec.ofNat 32 (256 * r.val))⟩)

/-- Where the results go, after two groups below the diagonal. -/
def osF2 (t : Fin k0_t1_loop.trips) : Os := ⟨_, k0_off20_inb t, k0_off20_packedbf16 t⟩

/-- Where a tile's queries stand, for an end with three groups of four blocks below the diagonal. -/
def qsF3 (t : Fin k0_t1_loop.trips) (q0 : BitVec 32) : Qs := ⟨_, k0_off21_inb t, q0⟩

/-- Twelve blocks below the diagonal, then the four on it. -/
def bsF3 (t : Fin k0_t1_loop.trips) (v11 q0 : BitVec 32) (h : k0_chk2 t v11) (h1 : k0_cond3 t v11 = 1#1) : List Blk :=
  (f12.map fun r => ⟨_, k0_off22_inb t v11 h h1 r, _, k0_off23_inb t v11 h h1 r, 0, false, 0#32⟩) ++
  (f4.map fun r =>
    ⟨_, k0_off24_inb t r, _, k0_off25_inb t r, r.val, true, Scalar.addi q0 (BitVec.ofNat 32 (256 * r.val))⟩)

/-- Where the results go, after three groups below the diagonal. -/
def osF3 (t : Fin k0_t1_loop.trips) : Os := ⟨_, k0_off26_inb t, k0_off26_packedbf16 t⟩

/-- Where a tile's queries stand, for an end with four groups of four blocks below the diagonal. -/
def qsF4 (t : Fin k0_t1_loop.trips) (q0 : BitVec 32) : Qs := ⟨_, k0_off27_inb t, q0⟩

/-- Sixteen blocks below the diagonal, then the four on it. -/
def bsF4 (t : Fin k0_t1_loop.trips) (v11 q0 : BitVec 32) (h : k0_chk2 t v11) (h1 : k0_cond4 t v11 = 1#1) : List Blk :=
  (f16.map fun r => ⟨_, k0_off28_inb t v11 h h1 r, _, k0_off29_inb t v11 h h1 r, 0, false, 0#32⟩) ++
  (f4.map fun r =>
    ⟨_, k0_off30_inb t r, _, k0_off31_inb t r, r.val, true, Scalar.addi q0 (BitVec.ofNat 32 (256 * r.val))⟩)

/-- Where the results go, after four groups below the diagonal. -/
def osF4 (t : Fin k0_t1_loop.trips) : Os := ⟨_, k0_off32_inb t, k0_off32_packedbf16 t⟩

/-- Where the first tile's queries stand. -/
def qsF0 (t : Fin k0_t1_loop.trips) (q0 : BitVec 32) (h : k0_cond5 t = 1#1) : Qs := ⟨_, k0_off33_inb t h, q0⟩

/-- The four blocks of the first tile. -/
def bsF0 (t : Fin k0_t1_loop.trips) (q0 : BitVec 32) (h : k0_cond5 t = 1#1) : List Blk :=
  f4.map fun r =>
    ⟨_, k0_off34_inb t h r, _, k0_off35_inb t h r, r.val, true, Scalar.addi q0 (BitVec.ofNat 32 (256 * r.val))⟩

/-- Where the first tile's results go. -/
def osF0 (t : Fin k0_t1_loop.trips) (h : k0_cond5 t = 1#1) : Os := ⟨_, k0_off36_inb t h, k0_off36_packedbf16 t h⟩

section
variable (i : grid0.Coords) (arg2 : Memref sig .tc .smem S512 .f32) (harg2 : arg2.IsWhole)
  (arg3 : Memref sig .tc .smem S512 .f32) (harg3 : arg3.IsWhole) (arg4 : Memref sig .tc .smem S2 .f32)
  (harg4 : arg4.IsWhole) (arg5 : Memref sig .tc .vmem S1x1x128x16384 .bf16) (harg5 : arg5.IsWhole)
  (arg6 : Memref sig .tc .vmem S1x1x16384x128 .bf16) (harg6 : arg6.IsWhole)
  (arg7 : Memref sig .tc .vmem S1x1x80x16384 .bf16) (harg7 : arg7.IsWhole)
  (arg8 : Memref sig .tc .vmem S1x64x16384 .bf16) (harg8 : arg8.IsWhole)
  (arg9 : Memref sig .tc .vmem S4x80x256 .f32) (harg9 : arg9.IsWhole) (v3 : Elt F .f32)

/-- A list of blocks, then the results. -/
def endK (Q : Qs) (bs : List Blk) (O : Os) (K : PR F) : PR F :=
  listK arg5 arg6 arg7 v3 Q bs fun r => outK arg8 harg8 arg9 O r K

/-- A list of blocks, then the accumulator. -/
def tripK (Q : Qs) (bs : List Blk) : PR F :=
  listK arg5 arg6 arg7 v3 Q bs fun r => accK arg9 r (pure ⟨⟩)

/-- One tile's first position. -/
def q0W (t : Fin k0_t1_loop.trips) : BitVec 32 := Scalar.muli (Scf.iv 0#32 1#32 t) 1024#32

/-- Everything, whole, of the accumulator. -/
abbrev accAll : Rect S4x80x256 := Rect.unit (s := S4x80x256) ![0, 0, 0] S4x80x256.size inb_S4x80x256_S4x80x256_0_0_0

/-- Zero everywhere. -/
def zeroAcc : FVec F S4x80x256 .f32 :=
  shapeCast S4x80x256 (broadcast S4x80x256 (Scalar.ofBits .f32 0x00000000#32)) shapeCasts_S4x80x256_S4x80x256

/-- A program run before another where a condition holds. -/
def ifK (c : Prop) [Decidable c] (a : c → PR F → PR F) (K : PR F) : PR F := if h : c then a h K else K

/-- What a tile's first part hands on. -/
abbrev PreT (t : Fin k0_t1_loop.trips) : Type :=
  Σ' (_ : BitVec 32) (_ : BitVec 32) (v11 : BitVec 32) (_ : k0_chk2 t v11) (_ : BitVec 32) (_ : BitVec 32)
    (_ : BitVec 32) (_ : BitVec 32) (_ : BitVec 32), BitVec 32

/-- How many groups of four blocks the main loop leaves over, and one. -/
def leftW (t : Fin k0_t1_loop.trips) (v11 : BitVec 32) : BitVec 32 :=
  Scalar.addi (Scalar.shrui (Scalar.andi (Scalar.muli 4#32
    (Scalar.subi (Scalar.maxsi (Scalar.subi (Scf.iv 0#32 1#32 t) 1#32) 0#32) v11)) 15#32) 2#32) 1#32

/-- What a tile's first part hands on, from the first group it takes. -/
def preV (t : Fin k0_t1_loop.trips) (v11 : BitVec 32) (h : k0_chk2 t v11) : PreT t :=
  ⟨Scf.iv 0#32 1#32 t, q0W t, v11, h, Scalar.addi (q0W t) 0#32, Scalar.addi (q0W t) 256#32,
    Scalar.addi (q0W t) 512#32, Scalar.addi (q0W t) 768#32, leftW t v11,
    Scalar.extui (Scalar.andi (Scalar.cmpi .sge (Scf.iv 0#32 1#32 t) 1#32) (Scalar.cmpi .eq (leftW t v11) 1#32))⟩

/-- A tile's first part: the accumulator zeroed, the first group, the main loops. -/
def preK (t : Fin k0_t1_loop.trips) : Prog (TpuEff nD τ sig (Elt F) (Λ₀ F) .tc) (PreT t) :=
  .op (.load arg9 accAll.toLoadRect (View.loadsAt_vmem h_S4x80x256)) fun _ =>
  .op (.store arg9 accAll zeroAcc Finset.univ (View.stores_vmem_bits_univ h_S4x80x256 rfl) (.inl rfl)) fun _ =>
  .op (.call (1 : (Λ₀ F).Label) ⟨i, t, arg2, harg2, arg3, harg3, arg4, harg4, 0#32⟩) fun (v11 : BitVec 32) =>
  .op (TpuEff.assume (k0_chk2 t v11) (k0_chk2.dec t v11)) fun h =>
  (Scf.Loop.for (k0_t2_loop t v11) (k0_t2_ok t v11 h.down) ⟨⟩ fun u _ =>
    tripK arg5 arg6 arg7 arg9 v3 (qs2 t (q0W t)) (bs2 t v11 h.down u)) >>= fun _ =>
  (Scf.Loop.for (k0_t3_loop t v11) (k0_t3_ok t v11 h.down) ⟨⟩ fun u _ =>
    tripK arg5 arg6 arg7 arg9 v3 (qs3 t (q0W t)) (bs3 t v11 h.down u)) >>= fun _ =>
  pure (preV t v11 h.down)

/-- A tile's last part: the blocks the main loop leaves, and the results. -/
def postK (t : Fin k0_t1_loop.trips) (v11 : BitVec 32) (h : k0_chk2 t v11) (q0 : BitVec 32) : PR F :=
  ifK (k0_cond1 t v11 = 1#1) (fun h1 => endK arg5 arg6 arg7 arg8 harg8 arg9 v3 (qsF1 t q0)
    (bsF1 t v11 q0 h h1) (osF1 t)) <|
  ifK (k0_cond2 t v11 = 1#1) (fun h2 => endK arg5 arg6 arg7 arg8 harg8 arg9 v3 (qsF2 t q0)
    (bsF2 t v11 q0 h h2) (osF2 t)) <|
  ifK (k0_cond3 t v11 = 1#1) (fun h3 => endK arg5 arg6 arg7 arg8 harg8 arg9 v3 (qsF3 t q0)
    (bsF3 t v11 q0 h h3) (osF3 t)) <|
  ifK (k0_cond4 t v11 = 1#1) (fun h4 => endK arg5 arg6 arg7 arg8 harg8 arg9 v3 (qsF4 t q0)
    (bsF4 t v11 q0 h h4) (osF4 t)) <|
  ifK (k0_cond5 t = 1#1) (fun h5 => endK arg5 arg6 arg7 arg8 harg8 arg9 v3 (qsF0 t q0 h5)
    (bsF0 t q0 h5) (osF0 t h5)) <|
  pure ⟨⟩

/-- One query tile. -/
def tileK (t : Fin k0_t1_loop.trips) : PR F :=
  preK i arg2 harg2 arg3 harg3 arg4 harg4 arg5 arg6 arg7 arg9 v3 t >>= fun r =>
    postK arg5 arg6 arg7 arg8 harg8 arg9 v3 t r.2.2.1 r.2.2.2.1 (q0W t)

/-- The whole body. -/
def bodyK : PR F :=
  smemLoad arg4 (Rect.unit (s := S2) ![1] S1.size inb_S2_S1_1) numel1_S1 rfl >>= fun v3 =>
  Scf.Loop.for k0_t1_loop k0_t1_ok ⟨⟩ (fun t _ =>
    tileK i arg2 harg2 arg3 harg3 arg4 harg4 arg5 arg6 arg7 arg8 harg8 arg9 v3 t) >>= fun _ => pure ⟨⟩

end

end Cert.Kernel4Ideal.Att

end
-- ==== Proof.Fox.Model.lean ====
/-
What the kernel body computes, as plain functions of the contents it is handed: the scores, the sums of one
chain over a list of key blocks, the accumulator, the first group of a tile and the results of a tile.
-/
module

public import proofs.«01_k».proof.Proof.Fox.Struct
public import Idealize.ShloMosaic.Lib.Pipeline.FrameBody

@[expose] public section

set_option maxRecDepth 16384

noncomputable section

namespace Cert.Kernel4Ideal.Att

open Idealize.ShloMosaic Idealize.SL.Sem Cert.Kernel4Ideal Cert.Kernel4Ideal.Gen

variable {F : FTy → Type} [FloatOps F]

/-- Where a chain's queries stand. -/
abbrev qR (Q : Qs) (c : Fin 4) : Rect S1x1x128x16384 :=
  Rect.unit (s := S1x1x128x16384) (Q.oq c) S1x1x128x256.size (Q.hq c)

/-- Where a block's keys stand. -/
abbrev kR (b : Blk) : Rect S1x1x16384x128 := Rect.unit (s := S1x1x16384x128) b.ok S1x1x256x128.size b.hk

/-- Where a block's values stand. -/
abbrev vR (b : Blk) : Rect S1x1x80x16384 := Rect.unit (s := S1x1x80x16384) b.ov S1x1x64x256.size b.hv

/-- Where a chain's results go. -/
abbrev oR (O : Os) (c : Fin 4) : Rect S1x64x16384 :=
  Rect.unit (s := S1x64x16384) (O.oo c) S1x64x256.size (O.ho c)

section
variable (X5 : Vec F S1x1x128x16384 .bf16) (X6 : Vec F S1x1x16384x128 .bf16) (X7 : Vec F S1x1x80x16384 .bf16)
  (v3 : Elt F .f32) (Q : Qs)

/-- The scores of a block for a chain that sees it. -/
def scoreP (b : Blk) (c : Fin 4) : FVec F S256x256 .f32 :=
  bif b.diag && Nat.beq b.d c.val then
    maskV b.kb (Scalar.addi Q.q0 (BitVec.ofNat 32 (256 * c.val))) (scoreV (View.ld X5 (qR Q c)) (View.ld X6 (kR b)))
  else scoreV (View.ld X5 (qR Q c)) (View.ld X6 (kR b))

/-- The scores of a block for a chain, where there is a block and the chain sees it. -/
def scoreP? (n : Option Blk) (c : Fin 4) : FVec F S256x256 .f32 :=
  match n with
  | none => none256
  | some b => match Nat.ble b.d c.val with
    | true => scoreP X5 X6 Q b c
    | false => none256

/-- A block's sums added to a chain's, where the chain sees it. -/
def sumP (b : Blk) (c : Fin 4) (s : FVec F S256x256 .f32) (t : Tot F) : Tot F :=
  match Nat.ble b.d c.val with
  | true => t.add (pvV v3 (View.ld X7 (vR b)) s) (lV v3 s)
  | false => t

/-- One block, one chain. -/
def stepP (n : Option Blk) (b : Blk) (x : CS F) : CS F :=
  ⟨x.c, x.s1, scoreP? X5 X6 Q n x.c, sumP X7 v3 b x.c x.s0 x.t⟩

/-- The blocks of a list in order, one chain. -/
def runP : List Blk → CS F → CS F
  | [], x => x
  | b :: bs, x => runP bs (stepP X5 X6 X7 v3 Q (bs.tail.head?) b x)

/-- The scores of a block for one chain. -/
def headP (n : Option Blk) (x : CS F) : CS F := ⟨x.c, x.s1, scoreP? X5 X6 Q n x.c, x.t⟩

/-- A list of blocks from its beginning, one chain. -/
def listP (bs : List Blk) (c : Fin 4) : CS F :=
  runP X5 X6 X7 v3 Q bs (headP X5 X6 Q bs.tail.head? (headP X5 X6 Q bs.head? ⟨c, none256, none256, none⟩))

/-- A chain's sums over a list of blocks. -/
def tot (bs : List Blk) (c : Fin 4) : Tot F :=
  bs.foldl (fun t b => sumP X7 v3 b c (scoreP? X5 X6 Q (some b) c) t) none

theorem sumP_congr (b : Blk) (c : Fin 4) (s s' : FVec F S256x256 .f32) (t : Tot F)
    (h : Nat.ble b.d c.val = true → s = s') : sumP X7 v3 b c s t = sumP X7 v3 b c s' t := by
  unfold sumP
  cases hb : Nat.ble b.d c.val with
  | true => rw [h hb]
  | false => rfl

theorem runP_c (bs : List Blk) (x : CS F) : (runP X5 X6 X7 v3 Q bs x).c = x.c := by
  induction bs generalizing x with
  | nil => rfl
  | cons b bs ih => exact ih _

theorem runP_t (c : Fin 4) (bs : List Blk) (t : Tot F) :
    (runP X5 X6 X7 v3 Q bs ⟨c, scoreP? X5 X6 Q bs.head? c, scoreP? X5 X6 Q bs.tail.head? c, t⟩).t
      = bs.foldl (fun t b => sumP X7 v3 b c (scoreP? X5 X6 Q (some b) c) t) t := by
  induction bs generalizing t with
  | nil => rfl
  | cons b bs ih => exact ih _

theorem listP_c (bs : List Blk) (c : Fin 4) : (listP X5 X6 X7 v3 Q bs c).c = c := runP_c ..

theorem listP_t (bs : List Blk) (c : Fin 4) : (listP X5 X6 X7 v3 Q bs c).t = tot X5 X6 X7 v3 Q bs c := runP_t ..

end

/-- One chain's sums added into the accumulator. -/
def acc1 (X9 : Vec F S4x80x256 .f32) (c : Fin 4) (t : Tot F) : Vec F S4x80x256 .f32 :=
  let Y : Vec F S4x80x256 .f32 :=
    (accV c).overlay X9 (shapeCast S1x64x256 (newV (View.ld X9 (accV c)) t) shapeCasts_S64x256_S1x64x256)
  (accL c).overlay Y (shapeCast S1x1x256 (newL (View.ld Y (accL c)) t) shapeCasts_S1x256_S1x1x256)

/-- Every chain's sums added into the accumulator. -/
def accP (tt : Fin 4 → Tot F) (X9 : Vec F S4x80x256 .f32) : Vec F S4x80x256 .f32 :=
  chains.foldl (fun X c => acc1 X c (tt c)) X9

/-- What a chain's results are, from the accumulator and the last sums. -/
def outP (X9 : Vec F S4x80x256 .f32) (tt : Fin 4 → Tot F) (c : Fin 4) : FVec F S1x64x256 .bf16 :=
  outV (View.ld X9 (accV c)) (View.ld X9 (accL c)) (tt c)

/-- Every chain's results written out. -/
def putP (O : Os) (w : Fin 4 → FVec F S1x64x256 .bf16) (X8 : Vec F S1x64x16384 .bf16) : Vec F S1x64x16384 .bf16 :=
  chains.foldl (fun X c => (oR O c).overlay X (w c)) X8

section
variable (X5 : Vec F S1x1x128x16384 .bf16) (X6 : Vec F S1x1x16384x128 .bf16) (X7 : Vec F S1x1x80x16384 .bf16)
  (v3 : Elt F .f32)

/-- The accumulator after the trips below `n`, from a family of steps. -/
def iterP {N : Nat} (f : Fin N → Vec F S4x80x256 .f32 → Vec F S4x80x256 .f32) (X : Vec F S4x80x256 .f32) :
    Nat → Vec F S4x80x256 .f32
  | 0 => X
  | n + 1 => if h : n < N then f ⟨n, h⟩ (iterP f X n) else iterP f X n

/-- The accumulator of a tile when its main loops are done. -/
def mainP (t : Fin k0_t1_loop.trips) (v11 : BitVec 32) (h : k0_chk2 t v11) : Vec F S4x80x256 .f32 :=
  iterP (fun u => accP (tot X5 X6 X7 v3 (qs3 t (q0W t)) (bs3 t v11 h u)))
    (iterP (fun u => accP (tot X5 X6 X7 v3 (qs2 t (q0W t)) (bs2 t v11 h u))) zeroAcc (k0_t2_loop t v11).trips)
    (k0_t3_loop t v11).trips

/-- The results of a tile. -/
def tileP (t : Fin k0_t1_loop.trips) (v11 : BitVec 32) (h : k0_chk2 t v11) (c : Fin 4) : FVec F S1x64x256 .bf16 :=
  if h5 : k0_cond5 t = 1#1 then
    outP (mainP X5 X6 X7 v3 t v11 h) (tot X5 X6 X7 v3 (qsF0 t (q0W t) h5) (bsF0 t (q0W t) h5)) c
  else if h4 : k0_cond4 t v11 = 1#1 then
    outP (mainP X5 X6 X7 v3 t v11 h) (tot X5 X6 X7 v3 (qsF4 t (q0W t)) (bsF4 t v11 (q0W t) h h4)) c
  else if h3 : k0_cond3 t v11 = 1#1 then
    outP (mainP X5 X6 X7 v3 t v11 h) (tot X5 X6 X7 v3 (qsF3 t (q0W t)) (bsF3 t v11 (q0W t) h h3)) c
  else if h2 : k0_cond2 t v11 = 1#1 then
    outP (mainP X5 X6 X7 v3 t v11 h) (tot X5 X6 X7 v3 (qsF2 t (q0W t)) (bsF2 t v11 (q0W t) h h2)) c
  else if h1 : k0_cond1 t v11 = 1#1 then
    outP (mainP X5 X6 X7 v3 t v11 h) (tot X5 X6 X7 v3 (qsF1 t (q0W t)) (bsF1 t v11 (q0W t) h h1)) c
  else fun _ => Scalar.ofBits .bf16 0#16

end

/-! ## The first group of a tile -/

section
variable (i : grid0.Coords) (X2 X3 : Vec F S512 .f32) (X4 : Vec F S2 .f32)

/-- The element a one-element piece of a table holds. -/
def word {s : Shape} {e : EltTy} (X : s.Idx → Elt F e) (r : Rect s) (h1 : r.shape.numel = 1) : Elt F e :=
  View.ld X r (Shape.Idx.first (h1.symm ▸ Nat.one_pos))

/-- Whether a group is left out whole. -/
def leaveP (t : Fin k0_t1_loop.trips) (g : BitVec 32) (h : k0_chk1 i g) : BitVec 1 :=
  Scalar.andi (Scalar.cmpi .slt g (Scalar.subi (Scf.iv 0#32 1#32 t) 1#32))
    (Scalar.cmpf .olt
      (Scalar.subf (word X2 (Rect.unit (s := S512) (k0_off1 i t) S1.size (k0_off1_inb i t)) numel1_S1)
        (word X3 (Rect.unit (s := S512) (k0_off2 i g) S1.size (k0_off2_inb i g h)) numel1_S1))
      (Scalar.subf (Scalar.ofBits .f32 0x00000000#32 : F .f32)
        (word X4 (Rect.unit (s := S2) ![0] S1.size inb_S2_S1_0) numel1_S1)))

/-- The first group that is not left out, looked for in at most `n` steps. -/
def firstP (t : Fin k0_t1_loop.trips) : Nat → BitVec 32 → BitVec 32
  | 0, g => g
  | n + 1, g => if h : k0_chk1 i g then
      (if leaveP i X2 X3 X4 t g h = 1#1 then firstP t n (Scalar.addi g 1#32) else g) else g

end

end Cert.Kernel4Ideal.Att

end
-- ==== Proof.Fox.Value.Block.lean ====
/-
One block of keys for one chain of queries, over the idealized values.
-/
module

public import proofs.«01_k».proof.Proof.Fox.Model
public import Idealize.ShloMosaic.Lib.Pointwise

@[expose] public section

set_option maxRecDepth 16384

noncomputable section

namespace Cert.Kernel4Ideal.Att

open Idealize.ShloMosaic Idealize.SL.Sem Cert.Kernel4Ideal Cert.Kernel4Ideal.Gen

/-- A position of the sequence. -/
abbrev pos (n : ℕ) : Fin 16384 := Fin.ofNat 16384 n

section
variable (X5 : FVec Ideal S1x1x128x16384 .bf16) (X6 : FVec Ideal S1x1x16384x128 .bf16) (X7 : FVec Ideal S1x1x80x16384 .bf16)
  (v3 : EReal)

/-- A key's score against a query. -/
def scA (k q : Fin 16384) : EReal := ∑ d : Fin 128, X6 (ix4 0 0 k d) * X5 (ix4 0 0 d q)

/-- A key's wfour for a query: none after it. -/
def wA (k q : Fin 16384) : EReal := if k.val ≤ q.val then Ideal.exp2 (scA X5 X6 k q - v3) else 0

/-- A block's wfoured sum of values. -/
def bV (r : Fin 64) (q : Fin 16384) (n : ℕ) : EReal :=
  ∑ k : Fin 256, X7 (ix4 0 0 ⟨r.val, by omega⟩ (pos (256 * n + k.val))) * wA X5 X6 v3 (pos (256 * n + k.val)) q

/-- A block's sum of wfours. -/
def bL (q : Fin 16384) (n : ℕ) : EReal := ∑ k : Fin 256, wA X5 X6 v3 (pos (256 * n + k.val)) q

end

/-- Block `n` of the keys, as tile `t` takes it. -/
structure At (b : Blk) (n t : ℕ) : Prop where
  ok : b.ok = ![0, 0, 256 * n, 0]
  ov : b.ov = ![0, 0, 0, 256 * n]
  lt : n < 64
  how : (b.diag = false ∧ b.d = 0 ∧ n < 4 * t)
    ∨ (b.diag = true ∧ b.d < 4 ∧ n = 4 * t + b.d ∧ b.kb = BitVec.ofNat 32 (256 * n))

/-- The queries of tile `t`. -/
structure QAt (Q : Qs) (t : ℕ) : Prop where
  oq : ∀ c : Fin 4, Q.oq c = ![0, 0, 0, 1024 * t + 256 * c.val]
  q0 : Q.q0 = BitVec.ofNat 32 (1024 * t)
  lt : t < 16

theorem val4 {a b c d : ℕ} (f : Fin 4 → ℕ) (h : f = ![a, b, c, d]) : f 0 = a ∧ f 1 = b ∧ f 2 = c ∧ f 3 = d := by
  subst h; exact ⟨rfl, rfl, rfl, rfl⟩

theorem ld_q (X5 : FVec Ideal S1x1x128x16384 .bf16) (Q : Qs) (t : ℕ) (hQ : QAt Q t) (c : Fin 4) (d : Fin 128) (j : Fin 256) :
    View.ld (Val := Elt Ideal) (e' := .bf16) X5 (qR Q c) (ix4 0 0 d j) = X5 (ix4 0 0 d (pos (1024 * t + 256 * c.val + j.val))) := by
  obtain ⟨h0, h1, h2, h3⟩ := val4 _ (hQ.oq c)
  have := hQ.lt
  show X5 _ = X5 _
  congr 1
  funext a
  apply Fin.ext
  fin_cases a
  · show Q.oq c 0 + 1 * 0 = 0; omega
  · show Q.oq c 1 + 1 * 0 = 0; omega
  · show Q.oq c 2 + 1 * d.val = d.val; omega
  · show Q.oq c 3 + 1 * j.val = (1024 * t + 256 * c.val + j.val) % 16384; omega

theorem ld_k (X6 : FVec Ideal S1x1x16384x128 .bf16) (b : Blk) (n t : ℕ) (hb : At b n t) (d : Fin 128) (k : Fin 256) :
    View.ld (Val := Elt Ideal) (e' := .bf16) X6 (kR b) (ix4 0 0 k d) = X6 (ix4 0 0 (pos (256 * n + k.val)) d) := by
  obtain ⟨h0, h1, h2, h3⟩ := val4 _ hb.ok
  have := hb.lt
  show X6 _ = X6 _
  congr 1
  funext a
  apply Fin.ext
  fin_cases a
  · show b.ok 0 + 1 * 0 = 0; omega
  · show b.ok 1 + 1 * 0 = 0; omega
  · show b.ok 2 + 1 * k.val = (256 * n + k.val) % 16384; omega
  · show b.ok 3 + 1 * d.val = d.val; omega

theorem ld_v (X7 : FVec Ideal S1x1x80x16384 .bf16) (b : Blk) (n t : ℕ) (hb : At b n t) (r : Fin 64) (k : Fin 256) :
    View.ld (Val := Elt Ideal) (e' := .bf16) X7 (vR b) (ix4 0 0 r k) = X7 (ix4 0 0 ⟨r.val, by omega⟩ (pos (256 * n + k.val))) := by
  obtain ⟨h0, h1, h2, h3⟩ := val4 _ hb.ov
  have := hb.lt
  show X7 _ = X7 _
  congr 1
  funext a
  apply Fin.ext
  fin_cases a
  · show b.ov 0 + 1 * 0 = 0; omega
  · show b.ov 1 + 1 * 0 = 0; omega
  · show b.ov 2 + 1 * r.val = r.val; omega
  · show b.ov 3 + 1 * k.val = (256 * n + k.val) % 16384; omega

theorem scoreV_at (x : FVec Ideal S1x1x128x256 .bf16) (y : FVec Ideal S1x1x256x128 .bf16) (k j : Fin 256) :
    scoreV (F := Ideal) x y (ix2 k j) = ∑ d : Fin 128, y (ix4 0 0 k d) * x (ix4 0 0 d j) := by
  pointwise! [scoreV]

theorem maskV_at (kb qb : BitVec 32) (s : FVec Ideal S256x256 .f32) (k j : Fin 256) :
    maskV (F := Ideal) kb qb s (ix2 k j)
      = Scalar.select (Scalar.cmpi .sle (kb + BitVec.ofNat 32 k.val) (qb + BitVec.ofNat 32 j.val)) (s (ix2 k j)) (⊥ : EReal) := by
  pointwise! [maskV]

theorem pvV_at (v3 : EReal) (z : FVec Ideal S1x1x64x256 .bf16) (s : FVec Ideal S256x256 .f32) (r : Fin 64) (j : Fin 256) :
    pvV (F := Ideal) v3 z s (ix2 r j) = ∑ k : Fin 256, z (ix4 0 0 r k) * Ideal.exp2 (s (ix2 k j) - v3) := by
  pointwise! [pvV, expV]

theorem lV_at (v3 : EReal) (s : FVec Ideal S256x256 .f32) (j : Fin 256) :
    lV (F := Ideal) v3 s (ix2 0 j) = ∑ k : Fin 256, Ideal.exp2 (s (ix2 k j) - v3) := by
  pointwise! [lV, expV]

/-- A word comparison of two positions. -/
theorem sle_pos (a b : ℕ) (ha : a < 16384) (hb : b < 16384) :
    Scalar.cmpi .sle (BitVec.ofNat 32 a) (BitVec.ofNat 32 b) = if a ≤ b then 1#1 else 0#1 := by
  have h : (BitVec.ofNat 32 a).sle (BitVec.ofNat 32 b) = decide (a ≤ b) := by
    rw [BitVec.sle_eq_decide, BitVec.toInt_eq_toNat_of_lt, BitVec.toInt_eq_toNat_of_lt]
    · simp only [BitVec.toNat_ofNat]
      rw [Nat.mod_eq_of_lt (by omega), Nat.mod_eq_of_lt (by omega)]
      simp
    · simp only [BitVec.toNat_ofNat]; omega
    · simp only [BitVec.toNat_ofNat]; omega
  show BitVec.ofBool _ = _
  rw [h]
  by_cases hab : a ≤ b <;> simp [hab]

section
variable (X5 : FVec Ideal S1x1x128x16384 .bf16) (X6 : FVec Ideal S1x1x16384x128 .bf16) (X7 : FVec Ideal S1x1x80x16384 .bf16)
  (v3 : EReal)

theorem score_ld (Q : Qs) (b : Blk) (n t : ℕ) (hQ : QAt Q t) (hb : At b n t) (c : Fin 4) (k j : Fin 256) :
    scoreV (F := Ideal) (View.ld X5 (qR Q c)) (View.ld X6 (kR b)) (ix2 k j)
      = scA X5 X6 (pos (256 * n + k.val)) (pos (1024 * t + 256 * c.val + j.val)) := by
  rw [scoreV_at]
  exact Finset.sum_congr rfl fun d _ => congrArg₂ (· * ·) (ld_k X6 b n t hb d k) (ld_q X5 Q t hQ c d j)

/-- The wfours of a block a chain sees. -/
theorem exp_at (hv : ∃ r : ℝ, v3 = r) (Q : Qs) (b : Blk) (n t : ℕ) (hQ : QAt Q t) (hb : At b n t) (c : Fin 4)
    (hc : b.d ≤ c.val) (k j : Fin 256) :
    Ideal.exp2 (scoreP (F := Ideal) X5 X6 Q b c (ix2 k j) - v3)
      = wA X5 X6 v3 (pos (256 * n + k.val)) (pos (1024 * t + 256 * c.val + j.val)) := by
  have hlt := hb.lt
  have ht := hQ.lt
  have e1 : (pos (256 * n + k.val)).val = 256 * n + k.val := Nat.mod_eq_of_lt (by omega)
  have e2 : (pos (1024 * t + 256 * c.val + j.val)).val = 1024 * t + 256 * c.val + j.val := Nat.mod_eq_of_lt (by omega)
  unfold wA
  rw [e1, e2]
  unfold scoreP
  rcases hb.how with ⟨hd, h0, hn⟩ | ⟨hd, h8, hn, hkb⟩
  · rw [hd, if_pos (by omega)]
    simp only [Bool.false_and, cond_false]
    rw [score_ld X5 X6 Q b n t hQ hb]
  · by_cases hbc : b.d = c.val
    · have hq : Scalar.addi Q.q0 (BitVec.ofNat 32 (256 * c.val)) = BitVec.ofNat 32 (1024 * t + 256 * c.val) := by
        rw [hQ.q0]
        exact (BitVec.ofNat_add ..).symm
      rw [hd, hbc]
      simp only [Nat.beq_refl, Bool.and_self, cond_true]
      rw [maskV_at, hkb, hq, ← BitVec.ofNat_add, ← BitVec.ofNat_add, sle_pos _ _ (by omega) (by omega),
        score_ld X5 X6 Q b n t hQ hb]
      split
      · rfl
      · obtain ⟨r, rfl⟩ := hv
        show Ideal.exp2 ((⊥ : EReal) - (r : EReal)) = 0
        rw [EReal.bot_sub]
        exact Ideal.exp2_bot
    · have : Nat.beq b.d c.val = false := by
        rw [← Bool.not_eq_true, Nat.beq_eq]; exact hbc
      rw [hd, this, if_pos (by omega)]
      simp only [Bool.and_false, cond_false]
      rw [score_ld X5 X6 Q b n t hQ hb]

/-- A block a chain does not see weighs nothing. -/
theorem w_zero (n t : ℕ) (c j : ℕ) (h : 1024 * t + 256 * c + j < 256 * n) (hn : n < 64) (k : Fin 256) :
    wA X5 X6 v3 (pos (256 * n + k.val)) (pos (1024 * t + 256 * c + j)) = 0 := by
  have e1 : (pos (256 * n + k.val)).val = 256 * n + k.val := Nat.mod_eq_of_lt (by omega)
  have e2 : (pos (1024 * t + 256 * c + j)).val = 1024 * t + 256 * c + j := Nat.mod_eq_of_lt (by omega)
  unfold wA
  rw [e1, e2, if_neg (by omega)]

theorem bV_zero (r : Fin 64) (n t : ℕ) (c j : ℕ) (h : 1024 * t + 256 * c + j < 256 * n) (hn : n < 64) :
    bV X5 X6 X7 v3 r (pos (1024 * t + 256 * c + j)) n = 0 :=
  Finset.sum_eq_zero fun k _ => by rw [w_zero X5 X6 v3 n t c j h hn, mul_zero]

theorem bL_zero (n t : ℕ) (c j : ℕ) (h : 1024 * t + 256 * c + j < 256 * n) (hn : n < 64) :
    bL X5 X6 v3 (pos (1024 * t + 256 * c + j)) n = 0 :=
  Finset.sum_eq_zero fun k _ => w_zero X5 X6 v3 n t c j h hn k

theorem fst_add (t : Tot Ideal) (a : FVec Ideal S64x256 .f32) (b : FVec Ideal S1x256 .f32) (i : S64x256.Idx) :
    (t.add a b).fst i = t.fst i + a i := by
  cases t with
  | none => show a i = Ideal.ofBits .f32 0#32 + a i; rw [Ideal.ofBits_zero]; exact (zero_add _).symm
  | some p => rfl

theorem snd_add (t : Tot Ideal) (a : FVec Ideal S64x256 .f32) (b : FVec Ideal S1x256 .f32) (i : S1x256.Idx) :
    (t.add a b).snd i = t.snd i + b i := by
  cases t with
  | none => show b i = Ideal.ofBits .f32 0#32 + b i; rw [Ideal.ofBits_zero]; exact (zero_add _).symm
  | some p => rfl

theorem scoreP?_of (Q : Qs) (b : Blk) (c : Fin 4) (h : Nat.ble b.d c.val = true) :
    scoreP? (F := Ideal) X5 X6 Q (some b) c = scoreP X5 X6 Q b c := by
  unfold scoreP?; dsimp only; rw [h]

theorem sumP_of (b : Blk) (c : Fin 4) (s : FVec Ideal S256x256 .f32) (T : Tot Ideal) (h : Nat.ble b.d c.val = true) :
    sumP (F := Ideal) X7 v3 b c s T = T.add (pvV v3 (View.ld X7 (vR b)) s) (lV v3 s) := by
  unfold sumP; rw [h]

theorem sumP_not (b : Blk) (c : Fin 4) (s : FVec Ideal S256x256 .f32) (T : Tot Ideal) (h : Nat.ble b.d c.val = false) :
    sumP (F := Ideal) X7 v3 b c s T = T := by
  unfold sumP; rw [h]

/-- One block's sums, added. -/
theorem sumP_at (hv : ∃ r : ℝ, v3 = r) (Q : Qs) (b : Blk) (n t : ℕ) (hQ : QAt Q t) (hb : At b n t) (c : Fin 4)
    (T : Tot Ideal) (r : Fin 64) (j : Fin 256) :
    (sumP (F := Ideal) X7 v3 b c (scoreP? X5 X6 Q (some b) c) T).fst (ix2 r j)
        = T.fst (ix2 r j) + bV X5 X6 X7 v3 r (pos (1024 * t + 256 * c.val + j.val)) n
    ∧ (sumP (F := Ideal) X7 v3 b c (scoreP? X5 X6 Q (some b) c) T).snd (ix2 0 j)
        = T.snd (ix2 0 j) + bL X5 X6 v3 (pos (1024 * t + 256 * c.val + j.val)) n := by
  by_cases hc : b.d ≤ c.val
  · have ht : Nat.ble b.d c.val = true := Nat.ble_eq.mpr hc
    rw [scoreP?_of X5 X6 Q b c ht, sumP_of X7 v3 b c _ T ht]
    refine ⟨(fst_add ..).trans (congrArg _ ?_), (snd_add ..).trans (congrArg _ ?_)⟩
    · rw [pvV_at]
      exact Finset.sum_congr rfl fun k _ => congrArg₂ (· * ·) (ld_v X7 b n t hb r k)
        (exp_at X5 X6 v3 hv Q b n t hQ hb c hc k j)
    · rw [lV_at]
      exact Finset.sum_congr rfl fun k _ => exp_at X5 X6 v3 hv Q b n t hQ hb c hc k j
  · have hf : Nat.ble b.d c.val = false := by
      rw [← Bool.not_eq_true, Nat.ble_eq]; exact hc
    rw [sumP_not X7 v3 b c _ T hf]
    have hlt := hb.lt
    rcases hb.how with ⟨_, h0, _⟩ | ⟨_, h8, hn, _⟩
    · omega
    · have hj := j.isLt
      rw [bV_zero X5 X6 X7 v3 r n t c.val j.val (by omega) hlt, bL_zero X5 X6 v3 n t c.val j.val (by omega) hlt]
      exact ⟨(add_zero _).symm, (add_zero _).symm⟩

/-- A list of blocks' sums. -/
theorem tot_at (hv : ∃ r : ℝ, v3 = r) (Q : Qs) (t : ℕ) (hQ : QAt Q t) (c : Fin 4) (r : Fin 64) (j : Fin 256)
    (bs : List Blk) (ns : List ℕ) (h : List.Forall₂ (fun b n => At b n t) bs ns) :
    (tot (F := Ideal) X5 X6 X7 v3 Q bs c).fst (ix2 r j)
        = (ns.map (bV X5 X6 X7 v3 r (pos (1024 * t + 256 * c.val + j.val)))).sum
    ∧ (tot (F := Ideal) X5 X6 X7 v3 Q bs c).snd (ix2 0 j)
        = (ns.map (bL X5 X6 v3 (pos (1024 * t + 256 * c.val + j.val)))).sum := by
  suffices H : ∀ T : Tot Ideal,
      (bs.foldl (fun t b => sumP (F := Ideal) X7 v3 b c (scoreP? X5 X6 Q (some b) c) t) T).fst (ix2 r j)
        = T.fst (ix2 r j) + (ns.map (bV X5 X6 X7 v3 r (pos (1024 * t + 256 * c.val + j.val)))).sum
      ∧ (bs.foldl (fun t b => sumP (F := Ideal) X7 v3 b c (scoreP? X5 X6 Q (some b) c) t) T).snd (ix2 0 j)
        = T.snd (ix2 0 j) + (ns.map (bL X5 X6 v3 (pos (1024 * t + 256 * c.val + j.val)))).sum by
    obtain ⟨h1, h2⟩ := H none
    refine ⟨h1.trans ?_, h2.trans ?_⟩
    · show Ideal.ofBits .f32 0#32 + _ = _; rw [Ideal.ofBits_zero]; exact zero_add _
    · show Ideal.ofBits .f32 0#32 + _ = _; rw [Ideal.ofBits_zero]; exact zero_add _
  induction h with
  | nil => intro T; exact ⟨(add_zero _).symm, (add_zero _).symm⟩
  | cons hb _ ih =>
    intro T
    obtain ⟨h1, h2⟩ := sumP_at X5 X6 X7 v3 hv Q _ _ t hQ hb c T r j
    obtain ⟨i1, i2⟩ := ih (sumP (F := Ideal) X7 v3 _ c (scoreP? X5 X6 Q (some _) c) T)
    simp only [List.foldl_cons, List.map_cons, List.sum_cons]
    rw [i1, i2, h1, h2]
    exact ⟨add_assoc _ _ _, add_assoc _ _ _⟩

end

end Cert.Kernel4Ideal.Att

end
-- ==== Proof.Fox.BodyEq.lean ====
/-
The printed body is the short program of `Struct.lean`.
-/
module
public import proofs.«01_k».proof.Proof.Fox.Struct
@[expose] public section
set_option maxRecDepth 16384
set_option maxHeartbeats 4000000
noncomputable section
namespace Cert.Kernel4Ideal.Att
open Idealize.ShloMosaic Idealize.SL.Sem Cert.Kernel4Ideal Cert.Kernel4Ideal.Gen
variable {F : FTy → Type} [FloatOps F]
section
variable (i : grid0.Coords) (arg2 : Memref sig .tc .smem S512 .f32) (harg2 : arg2.IsWhole) (arg3 : Memref sig .tc .smem S512 .f32) (harg3 : arg3.IsWhole) (arg4 : Memref sig .tc .smem S2 .f32) (harg4 : arg4.IsWhole) (arg5 : Memref sig .tc .vmem S1x1x128x16384 .bf16) (harg5 : arg5.IsWhole) (arg6 : Memref sig .tc .vmem S1x1x16384x128 .bf16) (harg6 : arg6.IsWhole) (arg7 : Memref sig .tc .vmem S1x1x80x16384 .bf16) (harg7 : arg7.IsWhole) (arg8 : Memref sig .tc .vmem S1x64x16384 .bf16) (harg8 : arg8.IsWhole) (arg9 : Memref sig .tc .vmem S4x80x256 .f32) (harg9 : arg9.IsWhole)  (v3 : Elt F .f32)

/-- A printed trip of the main loop is the short one. -/
theorem t2_eq (t : Fin k0_t1_loop.trips) (c0 c1 v6 v11 v13 : BitVec 32) (h : k0_chk2 t v11) (u : Fin (k0_t2_loop t v11).trips) :
    k0_t2_body (F := F) i arg2 harg2 arg3 harg3 arg4 harg4 arg5 harg5 arg6 harg6 arg7 harg7 arg8 harg8 arg9 harg9 v3 c0 c1 t v6 v11 h v13 u ⟨⟩ =
      tripK arg5 arg6 arg7 arg9 v3 (qs2 t v6) (bs2 t v11 h u) := by
  chain_rfl

/-- A printed trip of the second loop is the short one. -/
theorem t3_eq (t : Fin k0_t1_loop.trips) (c0 c1 v6 v11 v13 v19 : BitVec 32) (h : k0_chk2 t v11)
    (u : Fin (k0_t3_loop t v11).trips) :
    k0_t3_body (F := F) i arg2 harg2 arg3 harg3 arg4 harg4 arg5 harg5 arg6 harg6 arg7 harg7 arg8 harg8 arg9 harg9 v3 c0 c1 t v6 v11 h v13 v19 u ⟨⟩ =
      tripK arg5 arg6 arg7 arg9 v3 (qs3 t v6) (bs3 t v11 h u) := by
  chain_rfl
/-- How many trips the main loop makes. -/
def mainW (t : Fin k0_t1_loop.trips) (v11 : BitVec 32) : BitVec 32 :=
  Scalar.addi 0#32 (Scalar.muli (Scalar.divsi (Scalar.subi (Scalar.shrui (Scalar.muli 4#32
    (Scalar.subi (Scalar.maxsi (Scalar.subi (Scf.iv 0#32 1#32 t) 1#32) 0#32) v11)) 4#32) 0#32) 1#32) 1#32)

/-- A tile's first part with the printed trips. -/
def preP (t : Fin k0_t1_loop.trips) : Prog (TpuEff nD τ sig (Elt F) (Λ₀ F) .tc) (PreT t) :=
  .op (.load arg9 accAll.toLoadRect (View.loadsAt_vmem h_S4x80x256)) fun _ =>
  .op (.store arg9 accAll zeroAcc Finset.univ (View.stores_vmem_bits_univ h_S4x80x256 rfl) (.inl rfl)) fun _ =>
  .op (.call (1 : (Λ₀ F).Label) ⟨i, t, arg2, harg2, arg3, harg3, arg4, harg4, 0#32⟩) fun (v11 : BitVec 32) =>
  .op (TpuEff.assume (k0_chk2 t v11) (k0_chk2.dec t v11)) fun h =>
  (Scf.Loop.for (k0_t2_loop t v11) (k0_t2_ok t v11 h.down) ⟨⟩ fun u _ =>
    k0_t2_body i arg2 harg2 arg3 harg3 arg4 harg4 arg5 harg5 arg6 harg6 arg7 harg7 arg8 harg8 arg9 harg9 v3 0#32 1#32 t (q0W t) v11 h.down (Scalar.muli v11 1024#32) u ⟨⟩) >>= fun _ =>
  (Scf.Loop.for (k0_t3_loop t v11) (k0_t3_ok t v11 h.down) ⟨⟩ fun u _ =>
    k0_t3_body i arg2 harg2 arg3 harg3 arg4 harg4 arg5 harg5 arg6 harg6 arg7 harg7 arg8 harg8 arg9 harg9 v3 0#32 1#32 t (q0W t) v11 h.down (Scalar.muli v11 1024#32) (mainW t v11) u ⟨⟩) >>= fun _ =>
  pure (preV t v11 h.down)

/-- The printed first part of a tile is the short one. -/
theorem pre_eq (t : Fin k0_t1_loop.trips) :
    k0_part206 (F := F) i arg2 harg2 arg3 harg3 arg4 harg4 arg5 harg5 arg6 harg6 arg7 harg7 arg8 harg8 arg9 harg9 v3 0#32 1#32 t =
      preK i arg2 harg2 arg3 harg3 arg4 harg4 arg5 arg6 arg7 arg9 v3 t := by
  have h : k0_part206 (F := F) i arg2 harg2 arg3 harg3 arg4 harg4 arg5 harg5 arg6 harg6 arg7 harg7 arg8 harg8 arg9 harg9 v3 0#32 1#32 t = preP i arg2 harg2 arg3 harg3 arg4 harg4 arg5 harg5 arg6 harg6 arg7 harg7 arg8 harg8 arg9 harg9 v3 t := by
    chain_rfl
  rw [h]
  unfold preP preK
  simp only [t2_eq, t3_eq]

omit [FloatOps F] in
/-- Two continuations that agree on what a tile's first part hands on. -/
theorem pre_bind [FloatOps F] (t : Fin k0_t1_loop.trips) (k1 k2 : PreT t → PR F)
    (h : ∀ v11 hw, k1 (preV t v11 hw) = k2 (preV t v11 hw)) :
    (preK i arg2 harg2 arg3 harg3 arg4 harg4 arg5 arg6 arg7 arg9 v3 t >>= k1) =
      (preK i arg2 harg2 arg3 harg3 arg4 harg4 arg5 arg6 arg7 arg9 v3 t >>= k2) := by
  unfold preK
  refine congrArg (Prog.op _) (funext fun _ => congrArg (Prog.op _) (funext fun _ => congrArg (Prog.op _)
    (funext fun v11 => congrArg (Prog.op _) (funext fun hw => ?_))))
  show (_ >>= _) >>= k1 = (_ >>= _) >>= k2
  simp only [bind_assoc, pure_bind, h]

/-- The printed tile is the short one. -/
theorem tile_eq (t : Fin k0_t1_loop.trips) :
    k0_t1_body (F := F) i arg2 harg2 arg3 harg3 arg4 harg4 arg5 harg5 arg6 harg6 arg7 harg7 arg8 harg8 arg9 harg9 v3 t ⟨⟩ =
      tileK i arg2 harg2 arg3 harg3 arg4 harg4 arg5 arg6 arg7 arg8 harg8 arg9 v3 t := by
  unfold k0_t1_body tileK
  refine (congrFun (congrArg bind (pre_eq _ _ _ _ _ _ _ _ _ _ _ _ _ _ _ _ _ v3 t)) _).trans ?_
  apply pre_bind
  intro v11 hw
  dsimp -zeta -zetaHave only [preV]
  extract_lets jp6 jp5 jp4 jp3 jp2
  have h5 : jp5 ⟨⟩ = ifK (k0_cond5 t = 1#1) (fun h5 => endK arg5 arg6 arg7 arg8 harg8 arg9 v3 (qsF0 t (q0W t) h5)
      (bsF0 t (q0W t) h5) (osF0 t h5)) (pure ⟨⟩) := by
    chain_rfl
  clear_value jp5
  have h4 : jp4 ⟨⟩ = ifK (k0_cond4 t v11 = 1#1) (fun h4 => endK arg5 arg6 arg7 arg8 harg8 arg9 v3 (qsF4 t (q0W t))
      (bsF4 t v11 (q0W t) hw h4) (osF4 t)) (jp5 ⟨⟩) := by
    chain_rfl
  clear_value jp4
  have h3 : jp3 ⟨⟩ = ifK (k0_cond3 t v11 = 1#1) (fun h3 => endK arg5 arg6 arg7 arg8 harg8 arg9 v3 (qsF3 t (q0W t))
      (bsF3 t v11 (q0W t) hw h3) (osF3 t)) (jp4 ⟨⟩) := by
    chain_rfl
  clear_value jp3
  have h2 : jp2 ⟨⟩ = ifK (k0_cond2 t v11 = 1#1) (fun h2 => endK arg5 arg6 arg7 arg8 harg8 arg9 v3 (qsF2 t (q0W t))
      (bsF2 t v11 (q0W t) hw h2) (osF2 t)) (jp3 ⟨⟩) := by
    chain_rfl
  clear_value jp2
  show _ = postK arg5 arg6 arg7 arg8 harg8 arg9 v3 t v11 hw (q0W t)
  unfold postK
  rw [← h5, ← h4, ← h3, ← h2]
  chain_rfl

end

/-- The printed body is the short one. -/
theorem body_eq (i : grid0.Coords) (arg2 : Memref sig .tc .smem S512 .f32) (harg2 : arg2.IsWhole) (arg3 : Memref sig .tc .smem S512 .f32) (harg3 : arg3.IsWhole) (arg4 : Memref sig .tc .smem S2 .f32) (harg4 : arg4.IsWhole) (arg5 : Memref sig .tc .vmem S1x1x128x16384 .bf16) (harg5 : arg5.IsWhole) (arg6 : Memref sig .tc .vmem S1x1x16384x128 .bf16) (harg6 : arg6.IsWhole) (arg7 : Memref sig .tc .vmem S1x1x80x16384 .bf16) (harg7 : arg7.IsWhole) (arg8 : Memref sig .tc .vmem S1x64x16384 .bf16) (harg8 : arg8.IsWhole) (arg9 : Memref sig .tc .vmem S4x80x256 .f32) (harg9 : arg9.IsWhole)  :
    cc0_attention_fixed (F := F) i arg2 harg2 arg3 harg3 arg4 harg4 arg5 harg5 arg6 harg6 arg7 harg7 arg8 harg8 arg9 harg9 =
      bodyK i arg2 harg2 arg3 harg3 arg4 harg4 arg5 arg6 arg7 arg8 harg8 arg9 := by
  have h : cc0_attention_fixed (F := F) i arg2 harg2 arg3 harg3 arg4 harg4 arg5 harg5 arg6 harg6 arg7 harg7 arg8 harg8 arg9 harg9 =
      (smemLoad arg4 (Rect.unit (s := S2) ![1] S1.size inb_S2_S1_1) numel1_S1 rfl >>= fun v3 =>
        Scf.Loop.for k0_t1_loop k0_t1_ok ⟨⟩ (fun t u => k0_t1_body i arg2 harg2 arg3 harg3 arg4 harg4 arg5 harg5 arg6 harg6 arg7 harg7 arg8 harg8 arg9 harg9 v3 t u) >>= fun _ => pure ⟨⟩) := by
    chain_rfl
  rw [h]
  unfold bodyK
  refine congrArg _ (funext fun v3 => congrArg (· >>= _) (congrArg _ (funext fun t => funext fun _ => ?_)))
  exact tile_eq _ _ _ _ _ _ _ _ _ _ _ _ _ _ _ _ _ _ _
end Cert.Kernel4Ideal.Att

end
-- ==== Proof.Fox.Wp.lean ====
/-
The structured body run: each of its recursions takes the buffers it is handed to the plain functions of
their contents.
-/
module

public import proofs.«01_k».proof.Proof.Fox.Model
public import proofs.«01_k».proof.Proof.Fox.BodyEq
public import Idealize.ShloMosaic.Lib.Tactic
public import Idealize.ShloMosaic.Lib.Pipeline.Kit

@[expose] public section

set_option maxRecDepth 16384

noncomputable section

namespace Cert.Kernel4Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal Cert.Kernel4Ideal.Gen

variable {F : FTy → Type} [FloatOps F]

local notation "𝕄" => MT nD τ sig Unit (Elt F) ℕ (UR sig nD τ) ℕ

/-- What the body's programs do, on core `c`, with a bound `bd` on the calls they may make. -/
abbrev W (c : Dev nD) (bd : Option Nat) {α : Type} (p : Prog (TpuEff nD τ sig (Elt F) (Λ₀ F) .tc) α)
    (Q : α → sProp 𝕄) : sProp 𝕄 :=
  wp frame (wpE (defs₀ (F := F)) Variants.nat c bd) Set.univ p Q

section
variable (c : Dev nD) (bd : Option Nat)

/-- A load through a rectangle reads the contents there. -/
theorem load_owns {α : Type} {sp : CoreSpace} {s : Shape} {e : EltTy} {m : Memref sig .tc sp s e} {r : Rect s}
    {hl : m.view.LoadsAt r.toLoadRect} {k : (r.shape.Idx → Elt F e) → Prog (TpuEff nD τ sig (Elt F) (Λ₀ F) .tc) α}
    {Q : α → sProp 𝕄} {q : PosShare TreeShare} (X : s.Idx → Elt F e) :
    (owns (c : Thread nD τ) m q X : sProp 𝕄)
      ⊢ iprop((owns (c : Thread nD τ) m q X -∗ W c bd (k (View.ld X r)) Q) -∗ W c bd (.op (.load m r.toLoadRect hl) k) Q) := by
  unfold owns
  iintro ⟨%f, %hf, H⟩ Hk
  have h := wp_load_rect (defs := defs₀ (F := F)) Variants.nat (c : Thread nD τ) bd (Γ := .empty) Set.univ (Q := Q) (m := m) (r := r) (hl := hl) (k := k)
    (q := q) (S := m.view.set) (f := f) (View.set_slice_subset m.view r)
  iapply h $$ H
  iintro H
  subst hf
  iapply Hk
  iexists f; isplitr; · ipureintro; rfl
  iexact H

/-- A store through a rectangle lays its payload over the contents. -/
theorem store_owns {α : Type} {sp : CoreSpace} {s : Shape} {e : EltTy} {m : Memref sig .tc sp s e} {r : Rect s}
    {w : r.shape.Idx → Elt F e} {hx : (m.access r).Stores Finset.univ} {hm : Finset.univ = Finset.univ ∨ ∀ a, r.stride a = 1}
    {k : PUnit → Prog (TpuEff nD τ sig (Elt F) (Λ₀ F) .tc) α}
    {Q : α → sProp 𝕄} (X : s.Idx → Elt F e) :
    (owns (c : Thread nD τ) m fullShare X : sProp 𝕄)
      ⊢ iprop((owns (c : Thread nD τ) m fullShare (r.overlay X w) -∗ W c bd (k ⟨⟩) Q)
        -∗ W c bd (.op (.store m r w Finset.univ hx hm) k) Q) := by
  unfold owns
  iintro ⟨%f, %hf, H⟩ Hk
  have h := wp_store (defs := defs₀ (F := F)) Variants.nat (c : Thread nD τ) bd (Γ := .empty) Set.univ (Q := Q) (m := m) (r := r) (w := w)
    (Mk := Finset.univ) (hx := hx) (hm := hm) (k := k) (S := m.view.set) (f := f)
    (by rw [View.setOn_univ]; exact View.set_slice_subset m.view r)
  iapply h $$ H
  iintro H
  subst hf
  iapply Hk
  iexists _; isplitr; swap; · iexact H
  ipureintro
  funext y
  by_cases hy : y ∈ r.set
  · obtain ⟨x, rfl⟩ : ∃ x, r.emb x = y := r.exists_idx_of_mem hy
    rw [Rect.overlay_emb]
    exact View.read_slice_write_emb r f w (Finset.mem_univ x)
  · rw [Rect.overlay_of_not_mem _ _ _ hy]
    exact View.read_slice_write_of_not_mem r f w Finset.univ (by rwa [Rect.map_emb_univ])

section
variable (arg5 : Memref sig .tc .vmem S1x1x128x16384 .bf16) (arg6 : Memref sig .tc .vmem S1x1x16384x128 .bf16)
  (arg7 : Memref sig .tc .vmem S1x1x80x16384 .bf16)
  (X5 : Vec F S1x1x128x16384 .bf16) (X6 : Vec F S1x1x16384x128 .bf16) (X7 : Vec F S1x1x80x16384 .bf16)
  (v3 : Elt F .f32) (Q : Qs) {α : Type}

/-- The queries, keys and values, held. -/
abbrev ins : sProp 𝕄 :=
  iprop(owns (c : Thread nD τ) arg5 fullShare X5 ∗ owns (c : Thread nD τ) arg6 fullShare X6
    ∗ owns (c : Thread nD τ) arg7 fullShare X7)

theorem scoreK_wp (b : Blk) (x : Fin 4) (K : FVec F S256x256 .f32 → PR F) (P : PUnit → sProp 𝕄) :
    (ins c arg5 arg6 arg7 X5 X6 X7 : sProp 𝕄)
      ⊢ iprop((ins c arg5 arg6 arg7 X5 X6 X7 -∗ W c bd (K (scoreP X5 X6 Q b x)) P)
        -∗ W c bd (scoreK arg5 arg6 Q b x K) P) := by
  unfold scoreK
  iintro ⟨H5, H6, H7⟩ Hk
  iapply (load_owns c bd X5) $$ H5
  iintro H5
  iapply (load_owns c bd X6) $$ H6
  iintro H6
  iapply Hk
  isplitl [H5]; · iexact H5
  isplitl [H6]; · iexact H6
  iexact H7

theorem scoreK?_wp (n : Option Blk) (x : Fin 4) (K : FVec F S256x256 .f32 → PR F) (P : PUnit → sProp 𝕄) :
    (ins c arg5 arg6 arg7 X5 X6 X7 : sProp 𝕄)
      ⊢ iprop((ins c arg5 arg6 arg7 X5 X6 X7 -∗ W c bd (K (scoreP? X5 X6 Q n x)) P)
        -∗ W c bd (scoreK? arg5 arg6 Q n x K) P) := by
  unfold scoreK? scoreP?
  cases n with
  | none => iintro H Hk; iapply Hk; iexact H
  | some b =>
    dsimp only
    cases Nat.ble b.d x.val with
    | true => exact scoreK_wp c bd arg5 arg6 arg7 X5 X6 X7 Q b x K P
    | false => iintro H Hk; iapply Hk; iexact H

theorem sumK_wp (b : Blk) (x : Fin 4) (s : FVec F S256x256 .f32) (t : Tot F) (K : Tot F → PR F) (P : PUnit → sProp 𝕄) :
    (ins c arg5 arg6 arg7 X5 X6 X7 : sProp 𝕄)
      ⊢ iprop((ins c arg5 arg6 arg7 X5 X6 X7 -∗ W c bd (K (sumP X7 v3 b x s t)) P)
        -∗ W c bd (sumK arg7 v3 b x s t K) P) := by
  unfold sumK sumP
  cases Nat.ble b.d x.val with
  | true =>
    iintro ⟨H5, H6, H7⟩ Hk
    iapply (load_owns c bd X7) $$ H7
    iintro H7
    iapply Hk
    isplitl [H5]; · iexact H5
    isplitl [H6]; · iexact H6
    iexact H7
  | false => iintro H Hk; iapply Hk; iexact H

theorem stepK_wp (n : Option Blk) (b : Blk) (xs : List (CS F)) :
    ∀ (K : List (CS F) → PR F) (P : PUnit → sProp 𝕄),
    (ins c arg5 arg6 arg7 X5 X6 X7 : sProp 𝕄)
      ⊢ iprop((ins c arg5 arg6 arg7 X5 X6 X7 -∗ W c bd (K (xs.map (stepP X5 X6 X7 v3 Q n b))) P)
        -∗ W c bd (stepK arg5 arg6 arg7 v3 Q n b xs K) P) := by
  induction xs with
  | nil => intro K P; iintro H Hk; iapply Hk; iexact H
  | cons x xs ih =>
    intro K P
    unfold stepK
    iintro H Hk
    iapply (scoreK?_wp c bd arg5 arg6 arg7 X5 X6 X7 Q n x.c) $$ H
    iintro H
    iapply (sumK_wp c bd arg5 arg6 arg7 X5 X6 X7 v3 b x.c x.s0 x.t) $$ H
    iintro H
    iapply (ih _ P) $$ H
    iexact Hk

theorem runK_wp (bs : List Blk) :
    ∀ (xs : List (CS F)) (K : List (CS F) → PR F) (P : PUnit → sProp 𝕄),
    (ins c arg5 arg6 arg7 X5 X6 X7 : sProp 𝕄)
      ⊢ iprop((ins c arg5 arg6 arg7 X5 X6 X7 -∗ W c bd (K (xs.map (runP X5 X6 X7 v3 Q bs))) P)
        -∗ W c bd (runK arg5 arg6 arg7 v3 Q bs xs K) P) := by
  induction bs with
  | nil =>
    intro xs K P
    rw [show xs.map (runP X5 X6 X7 v3 Q []) = xs from List.map_id xs]
    iintro H Hk; iapply Hk; iexact H
  | cons b bs ih =>
    intro xs K P
    unfold runK
    iintro H Hk
    iapply (stepK_wp c bd arg5 arg6 arg7 X5 X6 X7 v3 Q _ b xs) $$ H
    iintro H
    iapply (ih _ K P) $$ H
    rw [List.map_map]
    iexact Hk

theorem headK_wp (n : Option Blk) (xs : List (CS F)) :
    ∀ (K : List (CS F) → PR F) (P : PUnit → sProp 𝕄),
    (ins c arg5 arg6 arg7 X5 X6 X7 : sProp 𝕄)
      ⊢ iprop((ins c arg5 arg6 arg7 X5 X6 X7 -∗ W c bd (K (xs.map (headP X5 X6 Q n))) P)
        -∗ W c bd (headK arg5 arg6 Q n xs K) P) := by
  induction xs with
  | nil => intro K P; iintro H Hk; iapply Hk; iexact H
  | cons x xs ih =>
    intro K P
    unfold headK
    iintro H Hk
    iapply (scoreK?_wp c bd arg5 arg6 arg7 X5 X6 X7 Q n x.c) $$ H
    iintro H
    iapply (ih _ P) $$ H
    iexact Hk

theorem listK_wp (bs : List Blk) (K : List (CS F) → PR F) (P : PUnit → sProp 𝕄) :
    (ins c arg5 arg6 arg7 X5 X6 X7 : sProp 𝕄)
      ⊢ iprop((ins c arg5 arg6 arg7 X5 X6 X7 -∗ W c bd (K (chains.map (listP X5 X6 X7 v3 Q bs))) P)
        -∗ W c bd (listK arg5 arg6 arg7 v3 Q bs K) P) := by
  unfold listK start
  iintro H Hk
  iapply (headK_wp c bd arg5 arg6 arg7 X5 X6 X7 Q bs.head? _) $$ H
  iintro H
  iapply (headK_wp c bd arg5 arg6 arg7 X5 X6 X7 Q bs.tail.head? _) $$ H
  iintro H
  iapply (runK_wp c bd arg5 arg6 arg7 X5 X6 X7 v3 Q bs _ K P) $$ H
  rw [List.map_map, List.map_map, List.map_map]
  iexact Hk

end

section
variable (arg8 : Memref sig .tc .vmem S1x64x16384 .bf16) (harg8 : arg8.IsWhole)
  (arg9 : Memref sig .tc .vmem S4x80x256 .f32)

theorem accK_wp (xs : List (CS F)) :
    ∀ (X9 : Vec F S4x80x256 .f32) (K : PR F) (P : PUnit → sProp 𝕄),
    (owns (c : Thread nD τ) arg9 fullShare X9 : sProp 𝕄)
      ⊢ iprop((owns (c : Thread nD τ) arg9 fullShare (xs.foldl (fun X x => acc1 X x.c x.t) X9) -∗ W c bd K P)
        -∗ W c bd (accK arg9 xs K) P) := by
  induction xs with
  | nil => intro X9 K P; iintro H Hk; iapply Hk; iexact H
  | cons x xs ih =>
    intro X9 K P
    unfold accK
    iintro H Hk
    iapply (load_owns c bd X9) $$ H
    iintro H
    iapply (load_owns c bd X9) $$ H
    iintro H
    iapply (store_owns c bd X9) $$ H
    iintro H
    iapply (load_owns c bd _) $$ H
    iintro H
    iapply (load_owns c bd _) $$ H
    iintro H
    iapply (store_owns c bd _) $$ H
    iintro H
    iapply (ih _ K P) $$ H
    iexact Hk

theorem outK_wp (O : Os) (X9 : Vec F S4x80x256 .f32) (xs : List (CS F)) :
    ∀ (X8 : Vec F S1x64x16384 .bf16) (K : PR F) (P : PUnit → sProp 𝕄),
    iprop(owns (c : Thread nD τ) arg8 fullShare X8 ∗ owns (c : Thread nD τ) arg9 fullShare X9 : sProp 𝕄)
      ⊢ iprop((owns (c : Thread nD τ) arg8 fullShare
            (xs.foldl (fun X x => (oR O x.c).overlay X (outV (View.ld X9 (accV x.c)) (View.ld X9 (accL x.c)) x.t)) X8)
            ∗ owns (c : Thread nD τ) arg9 fullShare X9 -∗ W c bd K P)
        -∗ W c bd (outK arg8 harg8 arg9 O xs K) P) := by
  induction xs with
  | nil => intro X8 K P; iintro H Hk; iapply Hk; iexact H
  | cons x xs ih =>
    intro X8 K P
    unfold outK
    iintro ⟨H8, H9⟩ Hk
    iapply (load_owns c bd X9) $$ H9
    iintro H9
    iapply (load_owns c bd X9) $$ H9
    iintro H9
    iapply (load_owns c bd X8) $$ H8
    iintro H8
    iapply (store_owns c bd X8) $$ H8
    iintro H8
    iapply (ih _ K P) $$ [H8 H9]
    · isplitl [H8]; · iexact H8
      iexact H9
    iexact Hk

end

section
variable (arg5 : Memref sig .tc .vmem S1x1x128x16384 .bf16) (arg6 : Memref sig .tc .vmem S1x1x16384x128 .bf16)
  (arg7 : Memref sig .tc .vmem S1x1x80x16384 .bf16) (arg8 : Memref sig .tc .vmem S1x64x16384 .bf16) (harg8 : arg8.IsWhole)
  (arg9 : Memref sig .tc .vmem S4x80x256 .f32)
  (X5 : Vec F S1x1x128x16384 .bf16) (X6 : Vec F S1x1x16384x128 .bf16) (X7 : Vec F S1x1x80x16384 .bf16)
  (v3 : Elt F .f32) (Q : Qs)

theorem tripK_wp (bs : List Blk) (X9 : Vec F S4x80x256 .f32) (P : PUnit → sProp 𝕄) :
    iprop(ins c arg5 arg6 arg7 X5 X6 X7 ∗ owns (c : Thread nD τ) arg9 fullShare X9 : sProp 𝕄)
      ⊢ iprop((ins c arg5 arg6 arg7 X5 X6 X7
            ∗ owns (c : Thread nD τ) arg9 fullShare (accP (tot X5 X6 X7 v3 Q bs) X9) -∗ P ⟨⟩)
        -∗ W c bd (tripK arg5 arg6 arg7 arg9 v3 Q bs) P) := by
  unfold tripK
  iintro ⟨H, H9⟩ Hk
  iapply (listK_wp c bd arg5 arg6 arg7 X5 X6 X7 v3 Q bs) $$ H
  iintro H
  iapply (accK_wp c bd arg9 _ X9) $$ H9
  rw [show (chains.map (listP X5 X6 X7 v3 Q bs)).foldl (fun X x => acc1 X x.c x.t) X9 = accP (tot X5 X6 X7 v3 Q bs) X9 by
    rw [List.foldl_map]; unfold accP; simp only [listP_c, listP_t]]
  iintro H9
  iapply (le_wp_ret _ _ _ PUnit.unit P)
  iapply Hk
  isplitl [H]; · iexact H
  iexact H9

theorem endK_wp (bs : List Blk) (O : Os) (X8 : Vec F S1x64x16384 .bf16) (X9 : Vec F S4x80x256 .f32) (K : PR F)
    (P : PUnit → sProp 𝕄) :
    iprop(ins c arg5 arg6 arg7 X5 X6 X7 ∗ owns (c : Thread nD τ) arg8 fullShare X8
        ∗ owns (c : Thread nD τ) arg9 fullShare X9 : sProp 𝕄)
      ⊢ iprop((ins c arg5 arg6 arg7 X5 X6 X7
            ∗ owns (c : Thread nD τ) arg8 fullShare (putP O (outP X9 (tot X5 X6 X7 v3 Q bs)) X8)
            ∗ owns (c : Thread nD τ) arg9 fullShare X9 -∗ W c bd K P)
        -∗ W c bd (endK arg5 arg6 arg7 arg8 harg8 arg9 v3 Q bs O K) P) := by
  unfold endK
  iintro ⟨H, H8, H9⟩ Hk
  iapply (listK_wp c bd arg5 arg6 arg7 X5 X6 X7 v3 Q bs) $$ H
  iintro H
  iapply (outK_wp c bd arg8 harg8 arg9 O X9 _ X8) $$ [H8 H9]
  · isplitl [H8]; · iexact H8
    iexact H9
  rw [show (chains.map (listP X5 X6 X7 v3 Q bs)).foldl
      (fun X x => (oR O x.c).overlay X (outV (View.ld X9 (accV x.c)) (View.ld X9 (accL x.c)) x.t)) X8
      = putP O (outP X9 (tot X5 X6 X7 v3 Q bs)) X8 by
    rw [List.foldl_map]; unfold putP outP
    refine congrArg (fun f => List.foldl f X8 chains) (funext fun X => funext fun x => ?_)
    rw [← listP_t]
    have hc := listP_c X5 X6 X7 v3 Q bs x
    generalize listP X5 X6 X7 v3 Q bs x = y at hc ⊢
    subst hc
    rfl]
  iintro ⟨H8, H9⟩
  iapply Hk
  isplitl [H]; · iexact H
  isplitl [H8]; · iexact H8
  iexact H9

end

end

end Cert.Kernel4Ideal.Att

end
-- ==== Proof.Fox.Wp2.lean ====
/-
The search for a tile's first group, the main loops, the ends and the whole body run.
-/
module

public import proofs.«01_k».proof.Proof.Fox.Wp
public import Idealize.ShloMosaic.Lib.Pointwise.Index

@[expose] public section

set_option maxRecDepth 16384

noncomputable section

namespace Cert.Kernel4Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal Cert.Kernel4Ideal.Gen

variable {F : FTy → Type} [FloatOps F]

local notation "𝕄" => MT nD τ sig Unit (Elt F) ℕ (UR sig nD τ) ℕ

/-! ## Facts of words -/

theorem trips1 : k0_t1_loop.trips = 16 := by decide +kernel

/-- The side condition of the search holds at every group a tile may look at. -/
theorem chk1_of (i : grid0.Coords) (g : BitVec 32) (hg : g.toNat ≤ 15) : k0_chk1 i g := by
  have h0 : (i 0).val < 2 := (i 0).isLt
  have h1 : (i 1).val < 16 := (i 1).isLt
  intro a
  have ha : a = 0 := Subsingleton.elim _ _
  subst ha
  show ((BitVec.ofNat 32 (i 0).val * 16#32 + BitVec.ofNat 32 (i 1).val) * 16#32 + g).toNat + 1 ≤ 512
  simp only [BitVec.toNat_add, BitVec.toNat_mul, BitVec.toNat_ofNat]
  omega

/-- The search goes on only below the last group it may take. -/
theorem slt_lim : ∀ (t : Fin 16) (g : Fin 16), g.val ≤ t.val - 1 →
    Scalar.cmpi .slt (BitVec.ofNat 32 g.val) (Scalar.subi (Scf.iv 0#32 1#32 t) 1#32) = 1#1 → g.val + 1 ≤ t.val - 1 := by
  decide +kernel

theorem lim_of_leave (t : Fin k0_t1_loop.trips) (g : BitVec 32) (hg : g.toNat ≤ t.val - 1)
    (h : Scalar.cmpi .slt g (Scalar.subi (Scf.iv 0#32 1#32 t) 1#32) = 1#1) : g.toNat + 1 ≤ t.val - 1 := by
  have ht : t.val < 16 := trips1 ▸ t.isLt
  have := slt_lim ⟨t.val, ht⟩ ⟨g.toNat, by omega⟩ hg
  dsimp only at this
  rw [BitVec.ofNat_toNat, BitVec.setWidth_eq] at this
  exact this h

theorem and_one : ∀ a b : BitVec 1, Scalar.andi a b = 1#1 → a = 1#1 := by decide

/-! ## The search for the first group -/

section
variable (c : Dev nD) (bd : Option Nat) (i : grid0.Coords)
  (arg2 : Memref sig .tc .smem S512 .f32) (harg2 : arg2.IsWhole)
  (arg3 : Memref sig .tc .smem S512 .f32) (harg3 : arg3.IsWhole) (arg4 : Memref sig .tc .smem S2 .f32)
  (harg4 : arg4.IsWhole) (X2 X3 : Vec F S512 .f32) (X4 : Vec F S2 .f32)

/-- One step of the search. -/
def whileK (t : Fin k0_t1_loop.trips) (g : BitVec 32) : Prog (TpuEff nD τ sig (Elt F) (Λ₀ F) .tc) (BitVec 32) :=
  .op (TpuEff.assume (k0_chk1 i g) (k0_chk1.dec i g)) fun h =>
  .op (.load arg2 (Rect.unit (s := S512) (k0_off1 i t) S1.size (k0_off1_inb i t)).toLoadRect
    (View.loadsAt_rect (View.loads_smem_one rfl numel1_S1))) fun a =>
  .op (.load arg3 (Rect.unit (s := S512) (k0_off2 i g) S1.size (k0_off2_inb i g h.down)).toLoadRect
    (View.loadsAt_rect (View.loads_smem_one rfl numel1_S1))) fun b =>
  .op (.load arg4 (Rect.unit (s := S2) ![0] S1.size inb_S2_S1_0).toLoadRect
    (View.loadsAt_rect (View.loads_smem_one rfl numel1_S1))) fun z =>
  if Scalar.andi (Scalar.cmpi .slt g (Scalar.subi (Scf.iv 0#32 1#32 t) 1#32))
    (Scalar.cmpf .olt (Scalar.subf (a (Shape.Idx.first (numel1_S1.symm ▸ Nat.one_pos))) (b (Shape.Idx.first (numel1_S1.symm ▸ Nat.one_pos))))
      (Scalar.subf (Scalar.ofBits .f32 0x00000000#32 : F .f32) (z (Shape.Idx.first (numel1_S1.symm ▸ Nat.one_pos))))) = 1#1 then
    .op (.call (1 : (Λ₀ F).Label) ⟨i, t, arg2, harg2, arg3, harg3, arg4, harg4, Scalar.addi g 1#32⟩) .ret
  else .ret g

theorem while_eq (t : Fin k0_t1_loop.trips) (g : BitVec 32) :
    cc0_while1 (F := F) i t arg2 harg2 arg3 harg3 arg4 harg4 g = whileK i arg2 harg2 arg3 harg3 arg4 harg4 t g := rfl

/-- The tables, held. -/
abbrev tabs : sProp 𝕄 :=
  iprop(owns (c : Thread nD τ) arg2 fullShare X2 ∗ owns (c : Thread nD τ) arg3 fullShare X3
    ∗ owns (c : Thread nD τ) arg4 fullShare X4)

theorem first_le (t : Fin k0_t1_loop.trips) (n : Nat) : ∀ g : BitVec 32, g.toNat + n = t.val - 1 →
    (firstP i X2 X3 X4 t n g).toNat ≤ t.val - 1 := by
  induction n with
  | zero => intro g hg; unfold firstP; omega
  | succ n ih =>
    intro g hg
    have ht : t.val < 16 := trips1 ▸ t.isLt
    unfold firstP
    split
    · split
      · refine ih _ ?_
        show (g + 1#32).toNat + n = _
        simp only [BitVec.toNat_add, BitVec.toNat_ofNat]
        omega
      · omega
    · omega

theorem while_wp (t : Fin k0_t1_loop.trips) (n : Nat) :
    ∀ (g : BitVec 32) (hg : g.toNat + n = t.val - 1) (P : BitVec 32 → sProp 𝕄),
    (tabs c arg2 arg3 arg4 X2 X3 X4 : sProp 𝕄)
      ⊢ iprop((tabs c arg2 arg3 arg4 X2 X3 X4 -∗ P (firstP i X2 X3 X4 t n g))
        -∗ W c (some n) (cc0_while1 (F := F) i t arg2 harg2 arg3 harg3 arg4 harg4 g) P) := by
  have ht : t.val < 16 := trips1 ▸ t.isLt
  induction n with
  | zero =>
    intro g hg P
    have hc : k0_chk1 i g := chk1_of i g (by omega)
    rw [while_eq]
    unfold whileK firstP
    iintro ⟨H2, H3, H4⟩ Hk
    iapply (wp_assume Variants.nat (c : Thread nD τ) (some 0) Set.univ hc)
    iapply (load_owns c (some 0) X2) $$ H2
    iintro H2
    iapply (load_owns c (some 0) X3) $$ H3
    iintro H3
    iapply (load_owns c (some 0) X4) $$ H4
    iintro H4
    rw [if_neg (fun h => absurd (lim_of_leave t g (by omega) (and_one _ _ h)) (by omega))]
    iapply (le_wp_ret _ _ _ g P)
    iapply Hk
    isplitl [H2]; · iexact H2
    isplitl [H3]; · iexact H3
    iexact H4
  | succ n ih =>
    intro g hg P
    have hc : k0_chk1 i g := chk1_of i g (by omega)
    rw [while_eq]
    unfold whileK firstP
    rw [dif_pos hc]
    iintro ⟨H2, H3, H4⟩ Hk
    iapply (wp_assume Variants.nat (c : Thread nD τ) (some (n + 1)) Set.univ hc)
    iapply (load_owns c (some (n + 1)) X2) $$ H2
    iintro H2
    iapply (load_owns c (some (n + 1)) X3) $$ H3
    iintro H3
    iapply (load_owns c (some (n + 1)) X4) $$ H4
    iintro H4
    by_cases hl : leaveP i X2 X3 X4 t g hc = 1#1
    · rw [if_pos, if_pos]
      rotate_left
      · exact hl
      · exact hl
      iapply (wp_call Variants.nat (c : Thread nD τ) (some (n + 1)) Set.univ n (by rintro u ⟨⟩; exact Nat.lt_succ_self n))
      iapply (ih (Scalar.addi g 1#32) (by
        show (g + 1#32).toNat + n = _
        simp only [BitVec.toNat_add, BitVec.toNat_ofNat]
        omega) _) $$ [H2 H3 H4]
      · isplitl [H2]; · iexact H2
        isplitl [H3]; · iexact H3
        iexact H4
      iintro H
      iapply (le_wp_ret _ _ _ _ P)
      iapply Hk
      iexact H
    · rw [if_neg, if_neg]
      rotate_left
      · exact hl
      · exact hl
      iapply (le_wp_ret _ _ _ g P)
      iapply Hk
      isplitl [H2]; · iexact H2
      isplitl [H3]; · iexact H3
      iexact H4

end

/-! ## The first group, and what holds of it -/

theorem chk2_all : ∀ (t : Fin k0_t1_loop.trips) (g : Fin 16), g.val ≤ t.val - 1 → k0_chk2 t (BitVec.ofNat 32 g.val) := by
  decide +kernel

theorem conds_all : ∀ (t : Fin k0_t1_loop.trips) (g : Fin 16), g.val ≤ t.val - 1 →
    (k0_cond5 t = 1#1 ∧ k0_cond1 t (BitVec.ofNat 32 g.val) ≠ 1#1 ∧ k0_cond2 t (BitVec.ofNat 32 g.val) ≠ 1#1 ∧ k0_cond3 t (BitVec.ofNat 32 g.val) ≠ 1#1 ∧ k0_cond4 t (BitVec.ofNat 32 g.val) ≠ 1#1)
    ∨ (k0_cond5 t ≠ 1#1 ∧ k0_cond1 t (BitVec.ofNat 32 g.val) = 1#1 ∧ k0_cond2 t (BitVec.ofNat 32 g.val) ≠ 1#1 ∧ k0_cond3 t (BitVec.ofNat 32 g.val) ≠ 1#1 ∧ k0_cond4 t (BitVec.ofNat 32 g.val) ≠ 1#1)
    ∨ (k0_cond5 t ≠ 1#1 ∧ k0_cond1 t (BitVec.ofNat 32 g.val) ≠ 1#1 ∧ k0_cond2 t (BitVec.ofNat 32 g.val) = 1#1 ∧ k0_cond3 t (BitVec.ofNat 32 g.val) ≠ 1#1 ∧ k0_cond4 t (BitVec.ofNat 32 g.val) ≠ 1#1)
    ∨ (k0_cond5 t ≠ 1#1 ∧ k0_cond1 t (BitVec.ofNat 32 g.val) ≠ 1#1 ∧ k0_cond2 t (BitVec.ofNat 32 g.val) ≠ 1#1 ∧ k0_cond3 t (BitVec.ofNat 32 g.val) = 1#1 ∧ k0_cond4 t (BitVec.ofNat 32 g.val) ≠ 1#1)
    ∨ (k0_cond5 t ≠ 1#1 ∧ k0_cond1 t (BitVec.ofNat 32 g.val) ≠ 1#1 ∧ k0_cond2 t (BitVec.ofNat 32 g.val) ≠ 1#1 ∧ k0_cond3 t (BitVec.ofNat 32 g.val) ≠ 1#1 ∧ k0_cond4 t (BitVec.ofNat 32 g.val) = 1#1) := by
  decide +kernel

theorem ofNat_group (t : Fin k0_t1_loop.trips) (g : BitVec 32) (hg : g.toNat ≤ t.val - 1) :
    ∃ g' : Fin 16, g = BitVec.ofNat 32 g'.val ∧ g'.val ≤ t.val - 1 := by
  have ht : t.val < 16 := trips1 ▸ t.isLt
  refine ⟨⟨g.toNat, by omega⟩, ?_, hg⟩
  rw [BitVec.ofNat_toNat, BitVec.setWidth_eq]

theorem chk2_of (t : Fin k0_t1_loop.trips) (g : BitVec 32) (hg : g.toNat ≤ t.val - 1) : k0_chk2 t g := by
  obtain ⟨g', rfl, h⟩ := ofNat_group t g hg
  exact chk2_all t g' h

theorem conds_of (t : Fin k0_t1_loop.trips) (g : BitVec 32) (hg : g.toNat ≤ t.val - 1) :
    (k0_cond5 t = 1#1 ∧ k0_cond1 t g ≠ 1#1 ∧ k0_cond2 t g ≠ 1#1 ∧ k0_cond3 t g ≠ 1#1 ∧ k0_cond4 t g ≠ 1#1)
    ∨ (k0_cond5 t ≠ 1#1 ∧ k0_cond1 t g = 1#1 ∧ k0_cond2 t g ≠ 1#1 ∧ k0_cond3 t g ≠ 1#1 ∧ k0_cond4 t g ≠ 1#1)
    ∨ (k0_cond5 t ≠ 1#1 ∧ k0_cond1 t g ≠ 1#1 ∧ k0_cond2 t g = 1#1 ∧ k0_cond3 t g ≠ 1#1 ∧ k0_cond4 t g ≠ 1#1)
    ∨ (k0_cond5 t ≠ 1#1 ∧ k0_cond1 t g ≠ 1#1 ∧ k0_cond2 t g ≠ 1#1 ∧ k0_cond3 t g = 1#1 ∧ k0_cond4 t g ≠ 1#1)
    ∨ (k0_cond5 t ≠ 1#1 ∧ k0_cond1 t g ≠ 1#1 ∧ k0_cond2 t g ≠ 1#1 ∧ k0_cond3 t g ≠ 1#1 ∧ k0_cond4 t g = 1#1) := by
  obtain ⟨g', rfl, h⟩ := ofNat_group t g hg
  exact conds_all t g' h

/-- The first group a tile takes. -/
def groupP (i : grid0.Coords) (X2 X3 : Vec F S512 .f32) (X4 : Vec F S2 .f32) (t : Fin k0_t1_loop.trips) : BitVec 32 :=
  firstP i X2 X3 X4 t (t.val - 1) 0#32

theorem group_le (i : grid0.Coords) (X2 X3 : Vec F S512 .f32) (X4 : Vec F S2 .f32) (t : Fin k0_t1_loop.trips) :
    (groupP i X2 X3 X4 t).toNat ≤ t.val - 1 :=
  first_le i X2 X3 X4 t (t.val - 1) 0#32 (by simp)

theorem group_chk (i : grid0.Coords) (X2 X3 : Vec F S512 .f32) (X4 : Vec F S2 .f32) (t : Fin k0_t1_loop.trips) :
    k0_chk2 t (groupP i X2 X3 X4 t) :=
  chk2_of t _ (group_le i X2 X3 X4 t)

/-! ## What a tile writes -/

/-- A result's place within its chain. -/
def colI (idx : S1x64x16384.Idx) : S1x64x256.Idx :=
  ix3 (n0 := 1) (n1 := 64) (n2 := 256) 0 (idx 1) ⟨(idx 2).val % 256, Nat.mod_lt _ (by decide)⟩

/-- The chain of a result's position. -/
def chainI (idx : S1x64x16384.Idx) : Fin 4 := ⟨(idx 2).val / 256 % 4, Nat.mod_lt _ (by decide)⟩

/-- A tile's results over what the array held. -/
def tileW (t : Nat) (w : Fin 4 → FVec F S1x64x256 .bf16) (X : Vec F S1x64x16384 .bf16) : Vec F S1x64x16384 .bf16 :=
  fun idx => if (idx 2).val / 1024 = t then w (chainI idx) (colI idx) else X idx

theorem overlay_chain (O : Os) (t : Nat) (c : Fin 4) (hO : O.oo c = ![0, 0, 1024 * t + 256 * c.val])
    (w : FVec F S1x64x256 .bf16) (X : Vec F S1x64x16384 .bf16) (idx : S1x64x16384.Idx) :
    (oR O c).overlay X w idx = if (idx 2).val / 1024 = t ∧ chainI idx = c then w (colI idx) else X idx := by
  have h0 : (idx 0).val < 1 := (idx 0).isLt
  have h1 : (idx 1).val < 64 := (idx 1).isLt
  have h2 : (idx 2).val < 16384 := (idx 2).isLt
  have hc := c.isLt
  split
  · rename_i h
    obtain ⟨ht, rfl⟩ := h
    have e : idx = (oR O (chainI idx)).emb (colI idx) := by
      funext a
      apply Fin.ext
      show _ = O.oo (chainI idx) a + 1 * (colI idx a).val
      rw [hO]
      fin_cases a
      · show (idx 0).val = 0 + 1 * 0; omega
      · show (idx 1).val = 0 + 1 * (idx 1).val; omega
      · show (idx 2).val = (1024 * t + 256 * ((idx 2).val / 256 % 4)) + 1 * ((idx 2).val % 256); omega
    exact (congrArg _ e).trans (Rect.overlay_emb _ _ _ _)
  · rename_i h
    refine Rect.overlay_of_not_mem _ _ _ ?_
    intro hm
    rw [Rect.mem_set_unit] at hm
    have := hm 2
    rw [hO] at this
    have hl : 1024 * t + 256 * c.val ≤ (idx 2).val := this.1
    have hr : (idx 2).val < 1024 * t + 256 * c.val + 256 := this.2
    refine h ⟨by omega, Fin.ext ?_⟩
    show (idx 2).val / 256 % 4 = c.val
    omega

theorem foldl_chain (O : Os) (t : Nat) (hO : ∀ c, O.oo c = ![0, 0, 1024 * t + 256 * c.val])
    (w : Fin 4 → FVec F S1x64x256 .bf16) (idx : S1x64x16384.Idx) (l : List (Fin 4)) : ∀ X : Vec F S1x64x16384 .bf16,
    l.foldl (fun X c => (oR O c).overlay X (w c)) X idx
      = if (idx 2).val / 1024 = t ∧ chainI idx ∈ l then w (chainI idx) (colI idx) else X idx := by
  induction l with
  | nil => intro X; simp
  | cons c l ih =>
    intro X
    rw [List.foldl_cons, ih, overlay_chain O t c (hO c)]
    by_cases h1 : (idx 2).val / 1024 = t <;> by_cases h2 : chainI idx = c <;> by_cases h3 : chainI idx ∈ l <;>
      simp [h1, h2, h3] <;> simp_all

theorem mem_chains : ∀ c : Fin 4, c ∈ chains := by decide

theorem putP_eq (O : Os) (t : Nat) (hO : ∀ c, O.oo c = ![0, 0, 1024 * t + 256 * c.val])
    (w : Fin 4 → FVec F S1x64x256 .bf16) (X : Vec F S1x64x16384 .bf16) : putP O w X = tileW t w X := by
  funext idx
  unfold putP tileW
  rw [foldl_chain O t hO w idx]
  simp [mem_chains]

/-! ## The loops, a tile, the body -/

section
variable (c : Dev nD) (bd : Option Nat) (arg9 : Memref sig .tc .vmem S4x80x256 .f32)

theorem loop_wp (L : Scf.Loop 32) (hok : L.OK) (body : Fin L.trips → PR F)
    (f : Fin L.trips → Vec F S4x80x256 .f32 → Vec F S4x80x256 .f32) (R : sProp 𝕄)
    (hbody : ∀ u X9 (P : PUnit → sProp 𝕄), iprop(R ∗ owns (c : Thread nD τ) arg9 fullShare X9)
      ⊢ iprop((R ∗ owns (c : Thread nD τ) arg9 fullShare (f u X9) -∗ P ⟨⟩) -∗ W c bd (body u) P))
    (X9 : Vec F S4x80x256 .f32) {α : Type} (kk : PUnit → Prog (TpuEff nD τ sig (Elt F) (Λ₀ F) .tc) α) (Q : α → sProp 𝕄) :
    iprop(R ∗ owns (c : Thread nD τ) arg9 fullShare X9)
      ⊢ iprop((R ∗ owns (c : Thread nD τ) arg9 fullShare (iterP f X9 L.trips) -∗ W c bd (kk ⟨⟩) Q)
        -∗ W c bd (Scf.Loop.for L hok ⟨⟩ (fun u _ => body u) >>= kk) Q) := by
  have h := Scf.wp_for_bind frame (wpE (defs₀ (F := F)) Variants.nat (c : Thread nD τ) bd) Set.univ L.lb L.ub L.st hok
    PUnit.unit (fun u _ => body u) (fun n _ => iprop(R ∗ owns (c : Thread nD τ) arg9 fullShare (iterP f X9 n)))
    (by
      intro k acc
      have e : iterP f X9 (k.val + 1) = f k (iterP f X9 k.val) := by
        show (if h : k.val < _ then f ⟨k.val, h⟩ (iterP f X9 k.val) else iterP f X9 k.val) = _
        rw [dif_pos k.isLt]
      iintro H
      iapply (hbody k (iterP f X9 k.val) (fun _ => iprop(R ∗ owns (c : Thread nD τ) arg9 fullShare (iterP f X9 (k.val + 1))))) $$ H
      rw [e]
      iintro H
      iexact H) (kk := kk) (Q := Q)
  refine .trans h ?_
  iintro H Hk
  iapply H
  iintro %acc H
  iapply Hk
  iexact H

end

end Cert.Kernel4Ideal.Att

end
-- ==== Proof.Fox.Value.Words.lean ====
/-
Where the blocks of keys stand that a tile takes, when no group is left out.
-/
module

public import proofs.«01_k».proof.Proof.Fox.Wp2

@[expose] public section

set_option maxRecDepth 16384

noncomputable section

namespace Cert.Kernel4Ideal.Att

open Idealize.ShloMosaic Cert.Kernel4Ideal Cert.Kernel4Ideal.Gen

/-- The main loop makes a trip for every four groups before the last. -/
theorem trips2 : ∀ t : Fin k0_t1_loop.trips, (k0_t2_loop t 0#32).trips = (t.val - 1) / 4 := by decide +kernel

/-- The second loop makes no trip. -/
theorem trips3 : ∀ t : Fin k0_t1_loop.trips, (k0_t3_loop t 0#32).trips = 0 := by decide +kernel

/-- The ends: none below the diagonal at the first tile, else as many groups as the main loop leaves. -/
theorem ends : ∀ t : Fin k0_t1_loop.trips, (k0_cond5 t = 1#1 ↔ t.val = 0)
    ∧ (k0_cond4 t 0#32 = 1#1 ↔ t.val ≠ 0 ∧ (t.val - 1) % 4 = 3) ∧ (k0_cond3 t 0#32 = 1#1 ↔ t.val ≠ 0 ∧ (t.val - 1) % 4 = 2)
    ∧ (k0_cond2 t 0#32 = 1#1 ↔ t.val ≠ 0 ∧ (t.val - 1) % 4 = 1) ∧ (k0_cond1 t 0#32 = 1#1 ↔ t.val ≠ 0 ∧ (t.val - 1) % 4 = 0) := by
  decide +kernel

/-- Where the main loop's keys and values stand. -/
theorem main_at : ∀ (t : Fin k0_t1_loop.trips) (u : Fin (k0_t2_loop t 0#32).trips) (r : Fin 16),
    k0_off4 t 0#32 u (BitVec.ofNat 32 (256 * r.val)) = ![0, 0, 256 * (16 * u.val + r.val), 0]
    ∧ k0_off5 t 0#32 u (BitVec.ofNat 32 (256 * r.val)) = ![0, 0, 0, 256 * (16 * u.val + r.val)] := by decide +kernel

/-- Where one group below the diagonal stands. -/
theorem one_at : ∀ (t : Fin k0_t1_loop.trips), 1 ≤ t.val → ∀ r : Fin 4,
    k0_off10 t (BitVec.ofNat 32 (256 * r.val)) = ![0, 0, 256 * (4 * (t.val - 1) + r.val), 0]
    ∧ k0_off11 t (BitVec.ofNat 32 (256 * r.val)) = ![0, 0, 0, 256 * (4 * (t.val - 1) + r.val)] := by decide +kernel

/-- Where two groups below the diagonal stand. -/
theorem two_at : ∀ (t : Fin k0_t1_loop.trips), 2 ≤ t.val → ∀ r : Fin 8,
    k0_off16 t (BitVec.ofNat 32 (256 * r.val)) = ![0, 0, 256 * (4 * (t.val - 2) + r.val), 0]
    ∧ k0_off17 t (BitVec.ofNat 32 (256 * r.val)) = ![0, 0, 0, 256 * (4 * (t.val - 2) + r.val)] := by decide +kernel

/-- Where three groups below the diagonal stand. -/
theorem three_at : ∀ (t : Fin k0_t1_loop.trips), 3 ≤ t.val → ∀ r : Fin 12,
    k0_off22 t (BitVec.ofNat 32 (256 * r.val)) = ![0, 0, 256 * (4 * (t.val - 3) + r.val), 0]
    ∧ k0_off23 t (BitVec.ofNat 32 (256 * r.val)) = ![0, 0, 0, 256 * (4 * (t.val - 3) + r.val)] := by decide +kernel

/-- Where four groups below the diagonal stand. -/
theorem four_at : ∀ (t : Fin k0_t1_loop.trips), 4 ≤ t.val → ∀ r : Fin 16,
    k0_off28 t (BitVec.ofNat 32 (256 * r.val)) = ![0, 0, 256 * (4 * (t.val - 4) + r.val), 0]
    ∧ k0_off29 t (BitVec.ofNat 32 (256 * r.val)) = ![0, 0, 0, 256 * (4 * (t.val - 4) + r.val)] := by decide +kernel

/-- A tile's first position. -/
theorem q0_at : ∀ t : Fin k0_t1_loop.trips, q0W t = BitVec.ofNat 32 (1024 * t.val) := by decide +kernel

/-- A diagonal block's first position. -/
theorem kb_at : ∀ (t : Fin k0_t1_loop.trips) (r : Fin 4),
    Scalar.addi (q0W t) (BitVec.ofNat 32 (256 * r.val)) = BitVec.ofNat 32 (256 * (4 * t.val + r.val)) := by decide +kernel

end Cert.Kernel4Ideal.Att

end
-- ==== Proof.Fox.Wp3.lean ====
/-
A query tile runs, and the whole body.
-/
module

public import proofs.«01_k».proof.Proof.Fox.Wp2

@[expose] public section

set_option maxRecDepth 16384

noncomputable section

namespace Cert.Kernel4Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal Cert.Kernel4Ideal.Gen

variable {F : FTy → Type} [FloatOps F]

local notation "𝕄" => MT nD τ sig Unit (Elt F) ℕ (UR sig nD τ) ℕ

/-- The accumulator overwritten whole. -/
theorem overlay_all (X Y : Vec F S4x80x256 .f32) : accAll.overlay X Y = Y := by
  funext idx
  have e : idx = accAll.emb idx := by
    funext a
    apply Fin.ext
    show _ = (![0, 0, 0] : Fin 3 → Nat) a + 1 * (idx a).val
    fin_cases a
    · show (idx 0).val = 0 + 1 * (idx 0).val; omega
    · show (idx 1).val = 0 + 1 * (idx 1).val; omega
    · show (idx 2).val = 0 + 1 * (idx 2).val; omega
  exact (congrArg _ e).trans ((Rect.overlay_emb _ _ _ _).trans rfl)

section
variable (c : Dev nD) (i : grid0.Coords)
  (arg2 : Memref sig .tc .smem S512 .f32) (harg2 : arg2.IsWhole)
  (arg3 : Memref sig .tc .smem S512 .f32) (harg3 : arg3.IsWhole) (arg4 : Memref sig .tc .smem S2 .f32)
  (harg4 : arg4.IsWhole) (arg5 : Memref sig .tc .vmem S1x1x128x16384 .bf16)
  (arg6 : Memref sig .tc .vmem S1x1x16384x128 .bf16)
  (arg7 : Memref sig .tc .vmem S1x1x80x16384 .bf16)
  (arg8 : Memref sig .tc .vmem S1x64x16384 .bf16) (harg8 : arg8.IsWhole)
  (arg9 : Memref sig .tc .vmem S4x80x256 .f32)
  (X2 X3 : Vec F S512 .f32) (X4 : Vec F S2 .f32)
  (X5 : Vec F S1x1x128x16384 .bf16) (X6 : Vec F S1x1x16384x128 .bf16) (X7 : Vec F S1x1x80x16384 .bf16)
  (v3 : Elt F .f32)

/-- The inputs and the tables, held. -/
abbrev rd : sProp 𝕄 :=
  iprop(ins c arg5 arg6 arg7 X5 X6 X7 ∗ tabs c arg2 arg3 arg4 X2 X3 X4)

theorem preK_wp (t : Fin k0_t1_loop.trips) (X9 : Vec F S4x80x256 .f32) (P : PreT t → sProp 𝕄) :
    iprop(rd c arg2 arg3 arg4 arg5 arg6 arg7 X2 X3 X4 X5 X6 X7 ∗ owns (c : Thread nD τ) arg9 fullShare X9 : sProp 𝕄)
      ⊢ iprop((rd c arg2 arg3 arg4 arg5 arg6 arg7 X2 X3 X4 X5 X6 X7
            ∗ owns (c : Thread nD τ) arg9 fullShare
              (mainP X5 X6 X7 v3 t (groupP i X2 X3 X4 t) (group_chk i X2 X3 X4 t))
          -∗ P (preV t (groupP i X2 X3 X4 t) (group_chk i X2 X3 X4 t)))
        -∗ W c none (preK i arg2 harg2 arg3 harg3 arg4 harg4 arg5 arg6 arg7 arg9 v3 t) P) := by
  have hl2 := loop_wp c none arg9 (k0_t2_loop t (groupP i X2 X3 X4 t))
    (k0_t2_ok t (groupP i X2 X3 X4 t) (group_chk i X2 X3 X4 t))
    (fun u => tripK arg5 arg6 arg7 arg9 v3 (qs2 t (q0W t)) (bs2 t (groupP i X2 X3 X4 t) (group_chk i X2 X3 X4 t) u))
    _ _ (fun u X9 P => tripK_wp c none arg5 arg6 arg7 arg9 X5 X6 X7 v3 _ _ X9 P) zeroAcc (α := PreT t)
  have hl3 := fun X9 => loop_wp c none arg9 (k0_t3_loop t (groupP i X2 X3 X4 t))
    (k0_t3_ok t (groupP i X2 X3 X4 t) (group_chk i X2 X3 X4 t))
    (fun u => tripK arg5 arg6 arg7 arg9 v3 (qs3 t (q0W t)) (bs3 t (groupP i X2 X3 X4 t) (group_chk i X2 X3 X4 t) u))
    _ _ (fun u X9 P => tripK_wp c none arg5 arg6 arg7 arg9 X5 X6 X7 v3 _ _ X9 P) X9 (α := PreT t)
  unfold preK
  iintro ⟨⟨H, Ht⟩, H9⟩ Hk
  iapply (load_owns c none X9) $$ H9
  iintro H9
  iapply (store_owns c none X9) $$ H9
  rw [overlay_all]
  iintro H9
  iapply (wp_call Variants.nat (c : Thread nD τ) none Set.univ (t.val - 1) (by rintro u ⟨⟩))
  iapply (while_wp c i arg2 harg2 arg3 harg3 arg4 harg4 X2 X3 X4 t (t.val - 1) 0#32 (by simp) _) $$ Ht
  iintro Ht
  iapply (wp_assume Variants.nat (c : Thread nD τ) none Set.univ (group_chk i X2 X3 X4 t))
  iapply (hl2 _ _) $$ [H H9]
  · isplitl [H]; · iexact H
    iexact H9
  iintro ⟨H, H9⟩
  iapply (hl3 _ _ _) $$ [H H9]
  · isplitl [H]; · iexact H
    iexact H9
  iintro ⟨H, H9⟩
  iapply (le_wp_ret _ _ _ (preV t (groupP i X2 X3 X4 t) (group_chk i X2 X3 X4 t)) P)
  iapply Hk
  isplitl [H Ht]
  · isplitl [H]; · iexact H
    iexact Ht
  iexact H9

/-- A tile's results, over what the array held. -/
def outT (t : Fin k0_t1_loop.trips) (X8 : Vec F S1x64x16384 .bf16) : Vec F S1x64x16384 .bf16 :=
  tileW t.val (tileP X5 X6 X7 v3 t (groupP i X2 X3 X4 t) (group_chk i X2 X3 X4 t)) X8

theorem post_wp (t : Fin k0_t1_loop.trips) (X8 : Vec F S1x64x16384 .bf16) (P : PUnit → sProp 𝕄) :
    iprop(rd c arg2 arg3 arg4 arg5 arg6 arg7 X2 X3 X4 X5 X6 X7 ∗ owns (c : Thread nD τ) arg8 fullShare X8
        ∗ owns (c : Thread nD τ) arg9 fullShare
              (mainP X5 X6 X7 v3 t (groupP i X2 X3 X4 t) (group_chk i X2 X3 X4 t)) : sProp 𝕄)
      ⊢ iprop((rd c arg2 arg3 arg4 arg5 arg6 arg7 X2 X3 X4 X5 X6 X7
            ∗ owns (c : Thread nD τ) arg8 fullShare (outT i X2 X3 X4 X5 X6 X7 v3 t X8)
            ∗ (∃ Y, owns (c : Thread nD τ) arg9 fullShare Y) -∗ P ⟨⟩)
        -∗ W c none (postK arg5 arg6 arg7 arg8 harg8 arg9 v3 t (groupP i X2 X3 X4 t) (group_chk i X2 X3 X4 t) (q0W t)) P) := by
  have hc := conds_of t (groupP i X2 X3 X4 t) (group_le i X2 X3 X4 t)
  unfold outT tileP postK ifK
  rcases hc with ⟨h5, h1, h2, h3, h4⟩ | ⟨h5, h1, h2, h3, h4⟩ | ⟨h5, h1, h2, h3, h4⟩ | ⟨h5, h1, h2, h3, h4⟩ | ⟨h5, h1, h2, h3, h4⟩
  · rw [dif_neg h1, dif_neg h2, dif_neg h3, dif_neg h4, dif_pos h5]
    iintro ⟨⟨H, Ht⟩, H8, H9⟩ Hk
    iapply (endK_wp c none arg5 arg6 arg7 arg8 harg8 arg9 X5 X6 X7 v3 _ _ _ X8 _ _ P) $$ [H H8 H9]
    · isplitl [H]; · iexact H
      isplitl [H8]; · iexact H8
      iexact H9
    rw [putP_eq _ t.val (fun r => k0_off36_eq t r)]
    simp only [dif_pos h5]
    iintro ⟨H, H8, H9⟩
    iapply (le_wp_ret _ _ _ _ P)
    iapply Hk
    isplitl [H Ht]
    · isplitl [H]; · iexact H
      iexact Ht
    isplitl [H8]; · iexact H8
    iexists _
    iexact H9
  · rw [dif_pos h1, dif_neg h2, dif_neg h3, dif_neg h4, dif_neg h5]
    iintro ⟨⟨H, Ht⟩, H8, H9⟩ Hk
    iapply (endK_wp c none arg5 arg6 arg7 arg8 harg8 arg9 X5 X6 X7 v3 _ _ _ X8 _ _ P) $$ [H H8 H9]
    · isplitl [H]; · iexact H
      isplitl [H8]; · iexact H8
      iexact H9
    rw [putP_eq _ t.val (fun r => k0_off14_eq t r)]
    simp only [dif_neg h5, dif_neg h4, dif_neg h3, dif_neg h2, dif_pos h1]
    iintro ⟨H, H8, H9⟩
    iapply (le_wp_ret _ _ _ _ P)
    iapply Hk
    isplitl [H Ht]
    · isplitl [H]; · iexact H
      iexact Ht
    isplitl [H8]; · iexact H8
    iexists _
    iexact H9
  · rw [dif_neg h1, dif_pos h2, dif_neg h3, dif_neg h4, dif_neg h5]
    iintro ⟨⟨H, Ht⟩, H8, H9⟩ Hk
    iapply (endK_wp c none arg5 arg6 arg7 arg8 harg8 arg9 X5 X6 X7 v3 _ _ _ X8 _ _ P) $$ [H H8 H9]
    · isplitl [H]; · iexact H
      isplitl [H8]; · iexact H8
      iexact H9
    rw [putP_eq _ t.val (fun r => k0_off20_eq t r)]
    simp only [dif_neg h5, dif_neg h4, dif_neg h3, dif_pos h2]
    iintro ⟨H, H8, H9⟩
    iapply (le_wp_ret _ _ _ _ P)
    iapply Hk
    isplitl [H Ht]
    · isplitl [H]; · iexact H
      iexact Ht
    isplitl [H8]; · iexact H8
    iexists _
    iexact H9
  · rw [dif_neg h1, dif_neg h2, dif_pos h3, dif_neg h4, dif_neg h5]
    iintro ⟨⟨H, Ht⟩, H8, H9⟩ Hk
    iapply (endK_wp c none arg5 arg6 arg7 arg8 harg8 arg9 X5 X6 X7 v3 _ _ _ X8 _ _ P) $$ [H H8 H9]
    · isplitl [H]; · iexact H
      isplitl [H8]; · iexact H8
      iexact H9
    rw [putP_eq _ t.val (fun r => k0_off26_eq t r)]
    simp only [dif_neg h5, dif_neg h4, dif_pos h3]
    iintro ⟨H, H8, H9⟩
    iapply (le_wp_ret _ _ _ _ P)
    iapply Hk
    isplitl [H Ht]
    · isplitl [H]; · iexact H
      iexact Ht
    isplitl [H8]; · iexact H8
    iexists _
    iexact H9
  · rw [dif_neg h1, dif_neg h2, dif_neg h3, dif_pos h4, dif_neg h5]
    iintro ⟨⟨H, Ht⟩, H8, H9⟩ Hk
    iapply (endK_wp c none arg5 arg6 arg7 arg8 harg8 arg9 X5 X6 X7 v3 _ _ _ X8 _ _ P) $$ [H H8 H9]
    · isplitl [H]; · iexact H
      isplitl [H8]; · iexact H8
      iexact H9
    rw [putP_eq _ t.val (fun r => k0_off32_eq t r)]
    simp only [dif_neg h5, dif_pos h4]
    iintro ⟨H, H8, H9⟩
    iapply (le_wp_ret _ _ _ _ P)
    iapply Hk
    isplitl [H Ht]
    · isplitl [H]; · iexact H
      iexact Ht
    isplitl [H8]; · iexact H8
    iexists _
    iexact H9

theorem tile_wp (t : Fin k0_t1_loop.trips) (X8 : Vec F S1x64x16384 .bf16) (X9 : Vec F S4x80x256 .f32)
    (P : PUnit → sProp 𝕄) :
    iprop(rd c arg2 arg3 arg4 arg5 arg6 arg7 X2 X3 X4 X5 X6 X7 ∗ owns (c : Thread nD τ) arg8 fullShare X8
        ∗ owns (c : Thread nD τ) arg9 fullShare X9 : sProp 𝕄)
      ⊢ iprop((rd c arg2 arg3 arg4 arg5 arg6 arg7 X2 X3 X4 X5 X6 X7
            ∗ owns (c : Thread nD τ) arg8 fullShare (outT i X2 X3 X4 X5 X6 X7 v3 t X8)
            ∗ (∃ Y, owns (c : Thread nD τ) arg9 fullShare Y) -∗ P ⟨⟩)
        -∗ W c none (tileK i arg2 harg2 arg3 harg3 arg4 harg4 arg5 arg6 arg7 arg8 harg8 arg9 v3 t) P) := by
  unfold tileK W
  rw [wp_bind]
  iintro ⟨H, H8, H9⟩ Hk
  iapply (preK_wp c i arg2 harg2 arg3 harg3 arg4 harg4 arg5 arg6 arg7 arg9 X2 X3 X4 X5 X6 X7 v3 t X9 _) $$ [H H9]
  · isplitl [H]; · iexact H
    iexact H9
  iintro ⟨H, H9⟩
  iapply (post_wp c i arg2 arg3 arg4 arg5 arg6 arg7 arg8 harg8 arg9 X2 X3 X4 X5 X6 X7 v3 t X8 P) $$ [H H8 H9]
  · isplitl [H]; · iexact H
    isplitl [H8]; · iexact H8
    iexact H9
  iexact Hk

/-- A tile's place in the loop. -/
def tileN (n : Nat) (h : n < 16) : Fin k0_t1_loop.trips := ⟨n, trips1 ▸ h⟩

/-- What every position holds when the body is done. -/
def outB : Vec F S1x64x16384 .bf16 := fun idx =>
  let t := tileN ((idx 2).val / 1024) (Nat.div_lt_of_lt_mul (show (idx 2).val < 1024 * 16 from (idx 2).isLt))
  tileP X5 X6 X7 v3 t (groupP i X2 X3 X4 t) (group_chk i X2 X3 X4 t) (chainI idx) (colI idx)

/-- What every position holds when `n` tiles are done. -/
def outN (d : Vec F S1x64x16384 .bf16) (n : Nat) : Vec F S1x64x16384 .bf16 := fun idx =>
  if (idx 2).val / 1024 < n then outB i X2 X3 X4 X5 X6 X7 v3 idx else d idx

theorem outN_succ (d : Vec F S1x64x16384 .bf16) (t : Fin k0_t1_loop.trips) :
    outT i X2 X3 X4 X5 X6 X7 v3 t (outN i X2 X3 X4 X5 X6 X7 v3 d t.val) = outN i X2 X3 X4 X5 X6 X7 v3 d (t.val + 1) := by
  funext idx
  unfold outT tileW outN
  by_cases h : (idx 2).val / 1024 = t.val
  · rw [if_pos h, if_pos (by omega)]
    unfold outB
    have e : tileN ((idx 2).val / 1024) (Nat.div_lt_of_lt_mul (show (idx 2).val < 1024 * 16 from (idx 2).isLt)) = t :=
      Fin.ext h
    dsimp only
    rw [e]
  · rw [if_neg h]
    by_cases h' : (idx 2).val / 1024 < t.val
    · rw [if_pos h', if_pos (by omega)]
    · rw [if_neg h', if_neg (by omega)]

theorem outN_zero (d : Vec F S1x64x16384 .bf16) : outN i X2 X3 X4 X5 X6 X7 v3 d 0 = d := by
  funext idx
  unfold outN
  rw [if_neg (Nat.not_lt_zero _)]

theorem outN_all (d : Vec F S1x64x16384 .bf16) :
    outN i X2 X3 X4 X5 X6 X7 v3 d k0_t1_loop.trips = outB i X2 X3 X4 X5 X6 X7 v3 := by
  funext idx
  unfold outN
  rw [if_pos]
  rw [trips1]
  exact Nat.div_lt_of_lt_mul (show (idx 2).val < 1024 * 16 from (idx 2).isLt)

end

section
variable (c : Dev nD) (i : grid0.Coords)
  (arg2 : Memref sig .tc .smem S512 .f32) (harg2 : arg2.IsWhole)
  (arg3 : Memref sig .tc .smem S512 .f32) (harg3 : arg3.IsWhole) (arg4 : Memref sig .tc .smem S2 .f32)
  (harg4 : arg4.IsWhole) (arg5 : Memref sig .tc .vmem S1x1x128x16384 .bf16) (harg5 : arg5.IsWhole)
  (arg6 : Memref sig .tc .vmem S1x1x16384x128 .bf16) (harg6 : arg6.IsWhole)
  (arg7 : Memref sig .tc .vmem S1x1x80x16384 .bf16) (harg7 : arg7.IsWhole)
  (arg8 : Memref sig .tc .vmem S1x64x16384 .bf16) (harg8 : arg8.IsWhole)
  (arg9 : Memref sig .tc .vmem S4x80x256 .f32) (harg9 : arg9.IsWhole)
  (X2 X3 : Vec F S512 .f32) (X4 : Vec F S2 .f32)
  (X5 : Vec F S1x1x128x16384 .bf16) (X6 : Vec F S1x1x16384x128 .bf16) (X7 : Vec F S1x1x80x16384 .bf16)

/-- The reference exponent, read from the third table. -/
def refW : Elt F .f32 := word X4 (Rect.unit (s := S2) ![1] S1.size inb_S2_S1_1) numel1_S1

theorem body_wp (d : Vec F S1x64x16384 .bf16) (X9 : Vec F S4x80x256 .f32) (P : PUnit → sProp 𝕄) :
    iprop(rd c arg2 arg3 arg4 arg5 arg6 arg7 X2 X3 X4 X5 X6 X7 ∗ owns (c : Thread nD τ) arg8 fullShare d
        ∗ owns (c : Thread nD τ) arg9 fullShare X9 : sProp 𝕄)
      ⊢ iprop((rd c arg2 arg3 arg4 arg5 arg6 arg7 X2 X3 X4 X5 X6 X7
            ∗ owns (c : Thread nD τ) arg8 fullShare (outB i X2 X3 X4 X5 X6 X7 (refW X4))
            ∗ (∃ Y, owns (c : Thread nD τ) arg9 fullShare Y) -∗ P ⟨⟩)
        -∗ W c none (cc0_attention_fixed i arg2 harg2 arg3 harg3 arg4 harg4 arg5 harg5 arg6 harg6 arg7 harg7 arg8 harg8
          arg9 harg9) P) := by
  have hloop := Scf.wp_for_bind frame (wpE (defs₀ (F := F)) Variants.nat (c : Thread nD τ) none) Set.univ
    k0_t1_loop.lb k0_t1_loop.ub k0_t1_loop.st k0_t1_ok PUnit.unit
    (fun t _ => tileK i arg2 harg2 arg3 harg3 arg4 harg4 arg5 arg6 arg7 arg8 harg8 arg9 (refW X4) t)
    (fun n _ => iprop(rd c arg2 arg3 arg4 arg5 arg6 arg7 X2 X3 X4 X5 X6 X7
      ∗ owns (c : Thread nD τ) arg8 fullShare (outN i X2 X3 X4 X5 X6 X7 (refW X4) d n)
      ∗ (∃ Y, owns (c : Thread nD τ) arg9 fullShare Y)))
    (by
      intro t acc
      iintro ⟨H, H8, %Y, H9⟩
      iapply (tile_wp c i arg2 harg2 arg3 harg3 arg4 harg4 arg5 arg6 arg7 arg8 harg8 arg9 X2 X3 X4 X5 X6 X7 (refW X4) t
        _ Y _) $$ [H H8 H9]
      · isplitl [H]; · iexact H
        isplitl [H8]; · iexact H8
        iexact H9
      rw [outN_succ]
      iintro H
      iexact H)
    (β := PUnit) (kk := fun _ => pure ⟨⟩) (Q := P)
  rw [body_eq]
  unfold bodyK
  iintro ⟨⟨H, H2, H3, H4⟩, H8, H9⟩ Hk
  iapply (load_owns c none X4) $$ H4
  iintro H4
  iapply (hloop) $$ [H H2 H3 H4 H8 H9]
  · isplitl [H H2 H3 H4]
    · isplitl [H]; · iexact H
      isplitl [H2]; · iexact H2
      isplitl [H3]; · iexact H3
      iexact H4
    rw [outN_zero]
    isplitl [H8]; · iexact H8
    iexists X9
    iexact H9
  rw [show Scf.trips k0_t1_loop.lb k0_t1_loop.ub k0_t1_loop.st = k0_t1_loop.trips from rfl, outN_all]
  iintro %acc H
  iapply (le_wp_ret _ _ _ _ P)
  iapply Hk
  iexact H

end

end Cert.Kernel4Ideal.Att

end
-- ==== Proof.Fox.Value.Tile.lean ====
/-
A tile's results over the idealized values: the wfoured sum of all the values over the sum of the wfours.
-/
module

public import proofs.«01_k».proof.Proof.Fox.Value.Block
public import proofs.«01_k».proof.Proof.Fox.Value.Words
public import proofs.«01_k».proof.Proof.Fox.Wp3

@[expose] public section

set_option maxRecDepth 16384

noncomputable section

namespace Cert.Kernel4Ideal.Att

open Idealize.ShloMosaic Idealize.SL.Sem Cert.Kernel4Ideal Cert.Kernel4Ideal.Gen

/-! ## The accumulator -/

/-- What the accumulator holds of a chain's wfoured sums. -/
def getV (X : FVec Ideal S4x80x256 .f32) (c : Fin 4) (r : Fin 64) (j : Fin 256) : EReal :=
  X (ix3 c ⟨r.val, by omega⟩ j)

/-- What the accumulator holds of a chain's sums of wfours. -/
def getL (X : FVec Ideal S4x80x256 .f32) (c : Fin 4) (j : Fin 256) : EReal := X (ix3 c ⟨64, by decide⟩ j)

theorem emb_accV (c : Fin 4) (r : Fin 64) (j : Fin 256) :
    (accV c).emb (ix3 0 r j : S1x64x256.Idx) = (ix3 c ⟨r.val, by omega⟩ j : S4x80x256.Idx) := by
  funext a
  apply Fin.ext
  fin_cases a
  · show c.val + 1 * 0 = c.val; omega
  · show 0 + 1 * r.val = r.val; omega
  · show 0 + 1 * j.val = j.val; omega

theorem emb_accL (c : Fin 4) (j : Fin 256) :
    (accL c).emb (ix3 0 0 j : S1x1x256.Idx) = (ix3 c ⟨64, by decide⟩ j : S4x80x256.Idx) := by
  funext a
  apply Fin.ext
  fin_cases a
  · show c.val + 1 * 0 = c.val; omega
  · show 64 + 1 * 0 = 64; omega
  · show 0 + 1 * j.val = j.val; omega

theorem not_accV (c c' : Fin 4) (s : Fin 80) (j : Fin 256) (h : c ≠ c' ∨ 64 ≤ s.val) :
    (ix3 c s j : S4x80x256.Idx) ∉ (accV c').set := by
  rw [Rect.mem_set_unit]
  intro hm
  have h0 : c'.val ≤ c.val ∧ c.val < c'.val + 1 := hm 0
  have h1 : 0 ≤ s.val ∧ s.val < 0 + 64 := hm 1
  rcases h with h | h
  · exact h (Fin.ext (by omega))
  · omega

theorem not_accL (c c' : Fin 4) (s : Fin 80) (j : Fin 256) (h : c ≠ c' ∨ s.val < 64) :
    (ix3 c s j : S4x80x256.Idx) ∉ (accL c').set := by
  rw [Rect.mem_set_unit]
  intro hm
  have h0 : c'.val ≤ c.val ∧ c.val < c'.val + 1 := hm 0
  have h1 : 64 ≤ s.val ∧ s.val < 64 + 1 := hm 1
  rcases h with h | h
  · exact h (Fin.ext (by omega))
  · omega

theorem newV_at (X : FVec Ideal S4x80x256 .f32) (T : Tot Ideal) (c : Fin 4) (r : Fin 64) (j : Fin 256) :
    newV (F := Ideal) (View.ld X (accV c)) T (ix2 r j) = getV X c r j + T.fst (ix2 r j) := by
  have h : ∀ x : FVec Ideal S1x64x256 .f32, newV (F := Ideal) x T (ix2 r j) = x (ix3 0 r j) + T.fst (ix2 r j) := by
    intro x; pointwise! [newV]
  rw [h]
  exact congrArg (· + _) (congrArg X (emb_accV c r j))

theorem newL_at (X : FVec Ideal S4x80x256 .f32) (T : Tot Ideal) (c : Fin 4) (j : Fin 256) :
    newL (F := Ideal) (View.ld X (accL c)) T (ix2 0 j) = getL X c j + T.snd (ix2 0 j) := by
  have h : ∀ x : FVec Ideal S1x1x256 .f32, newL (F := Ideal) x T (ix2 0 j) = x (ix3 0 0 j) + T.snd (ix2 0 j) := by
    intro x; pointwise! [newL]
  rw [h]
  exact congrArg (· + _) (congrArg X (emb_accL c j))

/-- One chain's sums added. -/
theorem acc1_at (X : FVec Ideal S4x80x256 .f32) (T : Tot Ideal) (c c' : Fin 4) (r : Fin 64) (j : Fin 256) :
    getV (acc1 (F := Ideal) X c' T) c r j = getV X c r j + (if c = c' then T.fst (ix2 r j) else 0)
    ∧ getL (acc1 (F := Ideal) X c' T) c j = getL X c j + (if c = c' then T.snd (ix2 0 j) else 0) := by
  unfold acc1
  dsimp only
  by_cases h : c = c'
  · subst h
    rw [if_pos rfl, if_pos rfl]
    constructor
    · unfold getV
      rw [Rect.overlay_of_not_mem _ _ _ (not_accL c c _ j (.inr r.isLt)), ← emb_accV c r j, Rect.overlay_emb]
      have e : ∀ x : FVec Ideal S64x256 .f32,
          shapeCast S1x64x256 x shapeCasts_S64x256_S1x64x256 (ix3 0 r j) = x (ix2 r j) := by
        intro x; pointwise!
      rw [e, newV_at, emb_accV]
      rfl
    · unfold getL
      rw [← emb_accL c j, Rect.overlay_emb]
      have e : ∀ x : FVec Ideal S1x256 .f32,
          shapeCast S1x1x256 x shapeCasts_S1x256_S1x1x256 (ix3 0 0 j) = x (ix2 0 j) := by
        intro x; pointwise!
      rw [e, newL_at, emb_accL]
      unfold getL
      rw [Rect.overlay_of_not_mem _ _ _ (not_accV c c _ j (.inr (le_refl 64)))]
  · rw [if_neg h, if_neg h, add_zero, add_zero]
    constructor
    · unfold getV
      rw [Rect.overlay_of_not_mem _ _ _ (not_accL c c' _ j (.inl h)), Rect.overlay_of_not_mem _ _ _ (not_accV c c' _ j (.inl h))]
    · unfold getL
      rw [Rect.overlay_of_not_mem _ _ _ (not_accL c c' _ j (.inl h)), Rect.overlay_of_not_mem _ _ _ (not_accV c c' _ j (.inl h))]

/-- Every chain's sums added. -/
theorem accP_at (tt : Fin 4 → Tot Ideal) (X : FVec Ideal S4x80x256 .f32) (c : Fin 4) (r : Fin 64) (j : Fin 256) :
    getV (accP (F := Ideal) tt X) c r j = getV X c r j + (tt c).fst (ix2 r j)
    ∧ getL (accP (F := Ideal) tt X) c j = getL X c j + (tt c).snd (ix2 0 j) := by
  have H : ∀ (l : List (Fin 4)) (X : FVec Ideal S4x80x256 .f32), l.Nodup →
      getV (l.foldl (fun X c => acc1 (F := Ideal) X c (tt c)) X) c r j
        = getV X c r j + (if c ∈ l then (tt c).fst (ix2 r j) else 0)
      ∧ getL (l.foldl (fun X c => acc1 (F := Ideal) X c (tt c)) X) c j
        = getL X c j + (if c ∈ l then (tt c).snd (ix2 0 j) else 0) := by
    intro l
    induction l with
    | nil => intro X _; simp
    | cons a l ih =>
      intro X hn
      rw [List.nodup_cons] at hn
      obtain ⟨i1, i2⟩ := ih (acc1 X a (tt a)) hn.2
      obtain ⟨a1, a2⟩ := acc1_at X (tt a) c a r j
      rw [List.foldl_cons, i1, i2, a1, a2]
      by_cases hc : c = a
      · subst hc
        simp [hn.1]
      · simp [hc]
  obtain ⟨h1, h2⟩ := H chains X (by decide)
  rw [if_pos (mem_chains c)] at h1 h2
  exact ⟨h1, h2⟩

/-! ## Lists of blocks -/

theorem sum_list (f : ℕ → EReal) (n : ℕ) : ((List.range n).map f).sum = ∑ i ∈ Finset.range n, f i := by
  induction n with
  | zero => rfl
  | succ n ih => rw [List.range_succ, List.map_append, List.sum_append, ih, Finset.sum_range_succ]; simp

theorem sum_f4 (f : ℕ → EReal) : (f4.map fun r => f r.val).sum = ∑ i ∈ Finset.range 4, f i :=
  (congrArg List.sum (List.map_map (f := fun r : Fin 4 => r.val) (g := f) (l := f4)).symm).trans (sum_list f 4)

theorem sum_f8 (f : ℕ → EReal) : (f8.map fun r => f r.val).sum = ∑ i ∈ Finset.range 8, f i :=
  (congrArg List.sum (List.map_map (f := fun r : Fin 8 => r.val) (g := f) (l := f8)).symm).trans (sum_list f 8)

theorem sum_f12 (f : ℕ → EReal) : (f12.map fun r => f r.val).sum = ∑ i ∈ Finset.range 12, f i :=
  (congrArg List.sum (List.map_map (f := fun r : Fin 12 => r.val) (g := f) (l := f12)).symm).trans (sum_list f 12)

theorem sum_f16 (f : ℕ → EReal) : (f16.map fun r => f r.val).sum = ∑ i ∈ Finset.range 16, f i :=
  (congrArg List.sum (List.map_map (f := fun r : Fin 16 => r.val) (g := f) (l := f16)).symm).trans (sum_list f 16)

/-- Sums up to a place, then four more. -/
theorem end0 (f : ℕ → EReal) (a b : ℕ) (h : b = a) :
    ∑ n ∈ Finset.range a, f n + ((f4.map fun r => b + r.val).map f).sum = ∑ n ∈ Finset.range (b + 4), f n := by
  subst h
  rw [List.map_map, Finset.sum_range_add]
  exact congrArg _ (sum_f4 fun x => f (b + x))

/-- Sums up to a place, then four and four more. -/
theorem end4 (f : ℕ → EReal) (a b : ℕ) (h : b = a + 4) :
    ∑ n ∈ Finset.range a, f n + (((f4.map fun r => a + r.val) ++ f4.map fun r => b + r.val).map f).sum
      = ∑ n ∈ Finset.range (b + 4), f n := by
  subst h
  have e : ∑ n ∈ Finset.range a, f n + ((f4.map fun r => a + r.val).map f).sum = ∑ n ∈ Finset.range (a + 4), f n := by
    rw [List.map_map, Finset.sum_range_add]
    exact congrArg _ (sum_f4 fun x => f (a + x))
  rw [List.map_append, List.sum_append, ← add_assoc, e, end0 f (a + 4) (a + 4) rfl]

/-- Sums up to a place, then eight and four more. -/
theorem end8 (f : ℕ → EReal) (a b : ℕ) (h : b = a + 8) :
    ∑ n ∈ Finset.range a, f n + (((f8.map fun r => a + r.val) ++ f4.map fun r => b + r.val).map f).sum
      = ∑ n ∈ Finset.range (b + 4), f n := by
  subst h
  have e : ∑ n ∈ Finset.range a, f n + ((f8.map fun r => a + r.val).map f).sum = ∑ n ∈ Finset.range (a + 8), f n := by
    rw [List.map_map, Finset.sum_range_add]
    exact congrArg _ (sum_f8 fun x => f (a + x))
  rw [List.map_append, List.sum_append, ← add_assoc, e, end0 f (a + 8) (a + 8) rfl]

/-- Sums up to a place, then twelve and four more. -/
theorem end12 (f : ℕ → EReal) (a b : ℕ) (h : b = a + 12) :
    ∑ n ∈ Finset.range a, f n + (((f12.map fun r => a + r.val) ++ f4.map fun r => b + r.val).map f).sum
      = ∑ n ∈ Finset.range (b + 4), f n := by
  subst h
  have e : ∑ n ∈ Finset.range a, f n + ((f12.map fun r => a + r.val).map f).sum = ∑ n ∈ Finset.range (a + 12), f n := by
    rw [List.map_map, Finset.sum_range_add]
    exact congrArg _ (sum_f12 fun x => f (a + x))
  rw [List.map_append, List.sum_append, ← add_assoc, e, end0 f (a + 12) (a + 12) rfl]

/-- Sums up to a place, then sixteen and four more. -/
theorem end16 (f : ℕ → EReal) (a b : ℕ) (h : b = a + 16) :
    ∑ n ∈ Finset.range a, f n + (((f16.map fun r => a + r.val) ++ f4.map fun r => b + r.val).map f).sum
      = ∑ n ∈ Finset.range (b + 4), f n := by
  subst h
  have e : ∑ n ∈ Finset.range a, f n + ((f16.map fun r => a + r.val).map f).sum = ∑ n ∈ Finset.range (a + 16), f n := by
    rw [List.map_map, Finset.sum_range_add]
    exact congrArg _ (sum_f16 fun x => f (a + x))
  rw [List.map_append, List.sum_append, ← add_assoc, e, end0 f (a + 16) (a + 16) rfl]

theorem forall2_map {α : Type} (l : List α) (f : α → Blk) (g : α → ℕ) (t : ℕ) (h : ∀ r, At (f r) (g r) t) :
    List.Forall₂ (fun b n => At b n t) (l.map f) (l.map g) := by
  induction l with
  | nil => exact .nil
  | cons a l ih => exact .cons (h a) ih

/-- The queries' places, from a closed form of the offsets. -/
theorem qAt (t : Fin k0_t1_loop.trips) (Q : Qs) (hq : ∀ c : Fin 4, Q.oq c = ![0, 0, 0, 1024 * t.val + 256 * c.val])
    (h0 : Q.q0 = q0W t) : QAt Q t.val := ⟨hq, h0.trans (q0_at t), trips1 ▸ t.isLt⟩

/-- The blocks of a trip of the main loop. -/
theorem bs2_at (t : Fin k0_t1_loop.trips) (h : k0_chk2 t 0#32) (u : Fin (k0_t2_loop t 0#32).trips) :
    List.Forall₂ (fun b n => At b n t.val) (bs2 t 0#32 h u) (f16.map fun r => 16 * u.val + r.val) := by
  have hu : u.val < (t.val - 1) / 4 := trips2 t ▸ u.isLt
  have ht : t.val < 16 := trips1 ▸ t.isLt
  refine forall2_map _ _ _ _ fun r => ⟨(main_at t u r).1, (main_at t u r).2, by have := r.isLt; omega, .inl ⟨rfl, rfl, by have := r.isLt; omega⟩⟩

/-- The blocks on the diagonal, from closed forms of their places. -/
theorem diag_at (t : Fin k0_t1_loop.trips) (f : Fin 4 → Blk)
    (hk : ∀ r : Fin 4, (f r).ok = ![0, 0, 1024 * t.val + 256 * r.val, 0])
    (hv : ∀ r : Fin 4, (f r).ov = ![0, 0, 0, 1024 * t.val + 256 * r.val])
    (hd : ∀ r : Fin 4, (f r).diag = true ∧ (f r).d = r.val ∧ (f r).kb = Scalar.addi (q0W t) (BitVec.ofNat 32 (256 * r.val))) :
    List.Forall₂ (fun b n => At b n t.val) (f4.map f) (f4.map fun r => 4 * t.val + r.val) := by
  have ht : t.val < 16 := trips1 ▸ t.isLt
  refine forall2_map _ _ _ _ fun r => ?_
  have hr := r.isLt
  have e : 1024 * t.val + 256 * r.val = 256 * (4 * t.val + r.val) := by omega
  obtain ⟨d1, d2, d3⟩ := hd r
  exact ⟨e ▸ hk r, e ▸ hv r, by omega, .inr ⟨d1, by omega, by omega, d3.trans (kb_at t r)⟩⟩

section
variable (X5 : FVec Ideal S1x1x128x16384 .bf16) (X6 : FVec Ideal S1x1x16384x128 .bf16) (X7 : FVec Ideal S1x1x80x16384 .bf16)
  (v3 : EReal) (hv : ∃ r : ℝ, v3 = r)
include hv

omit hv in
theorem iterP_none {N : Nat} (f : Fin N → FVec Ideal S4x80x256 .f32 → FVec Ideal S4x80x256 .f32)
    (X : FVec Ideal S4x80x256 .f32) (n : ℕ) (h : n = 0) : iterP (F := Ideal) f X n = X := by
  subst h; rfl

/-- The accumulator when the main loop is done. -/
theorem mainP_at (t : Fin k0_t1_loop.trips) (h : k0_chk2 t 0#32) (c : Fin 4) (r : Fin 64) (j : Fin 256) :
    getV (mainP (F := Ideal) X5 X6 X7 v3 t 0#32 h) c r j
      = ∑ n ∈ Finset.range (16 * ((t.val - 1) / 4)), bV X5 X6 X7 v3 r (pos (1024 * t.val + 256 * c.val + j.val)) n
    ∧ getL (mainP (F := Ideal) X5 X6 X7 v3 t 0#32 h) c j
      = ∑ n ∈ Finset.range (16 * ((t.val - 1) / 4)), bL X5 X6 v3 (pos (1024 * t.val + 256 * c.val + j.val)) n := by
  have hQ : QAt (qs2 t (q0W t)) t.val := qAt t _ (k0_off3_eq t) rfl
  have H : ∀ n, n ≤ (k0_t2_loop t 0#32).trips →
      getV (iterP (fun u => accP (F := Ideal) (tot X5 X6 X7 v3 (qs2 t (q0W t)) (bs2 t 0#32 h u))) (zeroAcc (F := Ideal)) n) c r j
        = ∑ n ∈ Finset.range (16 * n), bV X5 X6 X7 v3 r (pos (1024 * t.val + 256 * c.val + j.val)) n
      ∧ getL (iterP (fun u => accP (F := Ideal) (tot X5 X6 X7 v3 (qs2 t (q0W t)) (bs2 t 0#32 h u))) (zeroAcc (F := Ideal)) n) c j
        = ∑ n ∈ Finset.range (16 * n), bL X5 X6 v3 (pos (1024 * t.val + 256 * c.val + j.val)) n := by
    intro n
    induction n with
    | zero =>
      intro _
      have hz : ∀ i, zeroAcc (F := Ideal) i = (0 : EReal) := by intro i; pointwise! [zeroAcc]
      exact ⟨hz (ix3 c ⟨r.val, by omega⟩ j), hz (ix3 c ⟨64, by decide⟩ j)⟩
    | succ n ih =>
      intro hn
      obtain ⟨i1, i2⟩ := ih (by omega)
      unfold iterP
      rw [dif_pos (by omega : n < _)]
      obtain ⟨a1, a2⟩ := accP_at (tot (F := Ideal) X5 X6 X7 v3 (qs2 t (q0W t)) (bs2 t 0#32 h ⟨n, by omega⟩))
        (iterP (fun u => accP (F := Ideal) (tot X5 X6 X7 v3 (qs2 t (q0W t)) (bs2 t 0#32 h u))) (zeroAcc (F := Ideal)) n) c r j
      obtain ⟨b1, b2⟩ := tot_at X5 X6 X7 v3 hv _ t.val hQ c r j _ _ (bs2_at t h ⟨n, by omega⟩)
      rw [a1, a2, i1, i2, b1, b2, List.map_map, List.map_map, show 16 * (n + 1) = 16 * n + 16 by omega,
        Finset.sum_range_add, Finset.sum_range_add]
      exact ⟨congrArg _ (sum_f16 fun x => bV X5 X6 X7 v3 r _ (16 * n + x)), congrArg _ (sum_f16 fun x => bL X5 X6 v3 _ (16 * n + x))⟩
  have e : mainP (F := Ideal) X5 X6 X7 v3 t 0#32 h
      = iterP (fun u => accP (F := Ideal) (tot X5 X6 X7 v3 (qs2 t (q0W t)) (bs2 t 0#32 h u))) (zeroAcc (F := Ideal)) (k0_t2_loop t 0#32).trips := by
    unfold mainP
    exact iterP_none _ _ _ (trips3 t)
  rw [e, ← trips2 t]
  exact H _ (le_refl _)

omit hv in
theorem outP_at (X : FVec Ideal S4x80x256 .f32) (tt : Fin 4 → Tot Ideal) (c : Fin 4) (r : Fin 64) (j : Fin 256) :
    outP (F := Ideal) X tt c (ix3 0 r j)
      = Ideal.div (getV X c r j + (tt c).fst (ix2 r j)) (getL X c j + (tt c).snd (ix2 0 j)) := by
  unfold outP outV
  have h : ∀ (a : FVec Ideal S64x256 .f32) (l : FVec Ideal S1x256 .f32),
      shapeCast S1x64x256 (truncf .bf16 (divf a (broadcastTo S64x256 l broadcasts_S1x256_S64x256)) bitsLt_bf16_f32)
        shapeCasts_S64x256_S1x64x256 (ix3 0 r j) = Ideal.div (a (ix2 r j)) (l (ix2 0 j)) := by
    intro a l; pointwise!
  rw [h, newV_at, newL_at]

/-- The blocks after a tile's last add nothing. -/
theorem tail_zero (t : ℕ) (ht : t < 16) (c : Fin 4) (j : Fin 256) (f : ℕ → EReal)
    (hf : ∀ n, 1024 * t + 256 * c.val + j.val < 256 * n → n < 64 → f n = 0) :
    ∑ n ∈ Finset.range (4 * t + 4), f n = ∑ n ∈ Finset.range 64, f n := by
  refine Finset.sum_subset (Finset.range_mono (by omega)) fun n h1 h2 => ?_
  rw [Finset.mem_range] at h1 h2
  have := c.isLt
  have := j.isLt
  exact hf n (by omega) h1

/-- A tile's result: the wfoured sum over the sum of the wfours, all blocks. -/
theorem tileP_at (t : Fin k0_t1_loop.trips) (h : k0_chk2 t 0#32) (c : Fin 4) (r : Fin 64) (j : Fin 256) :
    tileP (F := Ideal) X5 X6 X7 v3 t 0#32 h c (ix3 0 r j)
      = Ideal.div (∑ n ∈ Finset.range 64, bV X5 X6 X7 v3 r (pos (1024 * t.val + 256 * c.val + j.val)) n)
          (∑ n ∈ Finset.range 64, bL X5 X6 v3 (pos (1024 * t.val + 256 * c.val + j.val)) n) := by
  have ht : t.val < 16 := trips1 ▸ t.isLt
  obtain ⟨m1, m2⟩ := mainP_at X5 X6 X7 v3 hv t h c r j
  rw [← tail_zero v3 hv t.val ht c j _ (fun n h1 h2 => bV_zero X5 X6 X7 v3 r n t.val c.val j.val h1 h2),
    ← tail_zero v3 hv t.val ht c j _ (fun n h1 h2 => bL_zero X5 X6 v3 n t.val c.val j.val h1 h2)]
  obtain ⟨e5, e4, e3, e2, e1⟩ := ends t
  unfold tileP
  by_cases h5 : k0_cond5 t = 1#1
  · rw [dif_pos h5, outP_at, m1, m2]
    have hQ : QAt (qsF0 t (q0W t) h5) t.val := qAt t _ (k0_off33_eq t) rfl
    obtain ⟨b1, b2⟩ := tot_at X5 X6 X7 v3 hv _ t.val hQ c r j _ _
      (diag_at t (fun r => ⟨_, k0_off34_inb t h5 r, _, k0_off35_inb t h5 r, r.val, true, Scalar.addi (q0W t) (BitVec.ofNat 32 (256 * r.val))⟩)
        (k0_off34_eq t) (k0_off35_eq t) fun r => ⟨rfl, rfl, rfl⟩)
    have h0 := e5.mp h5
    exact congrArg₂ Ideal.div ((congrArg _ b1).trans (end0 _ _ _ (by omega))) ((congrArg _ b2).trans (end0 _ _ _ (by omega)))
  rw [dif_neg h5]
  have h0 : t.val ≠ 0 := fun h => h5 (e5.mpr h)
  by_cases h4 : k0_cond4 t 0#32 = 1#1
  · rw [dif_pos h4, outP_at, m1, m2]
    have hp := (e4.mp h4).2
    have hQ : QAt (qsF4 t (q0W t)) t.val := qAt t _ (k0_off27_eq t) rfl
    have hb : List.Forall₂ (fun b n => At b n t.val) (f16.map fun r => (⟨_, k0_off28_inb t 0#32 h h4 r, _, k0_off29_inb t 0#32 h h4 r, 0, false, 0#32⟩ : Blk))
        (f16.map fun r => 4 * (t.val - 4) + r.val) :=
      forall2_map _ _ _ _ fun r => ⟨(four_at t (by omega) r).1, (four_at t (by omega) r).2, by have := r.isLt; omega,
        .inl ⟨rfl, rfl, by have := r.isLt; omega⟩⟩
    obtain ⟨b1, b2⟩ := tot_at X5 X6 X7 v3 hv _ t.val hQ c r j _ _ (List.rel_append hb
      (diag_at t (fun r => ⟨_, k0_off30_inb t r, _, k0_off31_inb t r, r.val, true, Scalar.addi (q0W t) (BitVec.ofNat 32 (256 * r.val))⟩)
        (k0_off30_eq t) (k0_off31_eq t) fun r => ⟨rfl, rfl, rfl⟩))
    have s1 : 16 * ((t.val - 1) / 4) = 4 * (t.val - 4) := by omega
    rw [s1]
    exact congrArg₂ Ideal.div ((congrArg _ b1).trans (end16 _ _ _ (by omega))) ((congrArg _ b2).trans (end16 _ _ _ (by omega)))
  rw [dif_neg h4]
  by_cases h3 : k0_cond3 t 0#32 = 1#1
  · rw [dif_pos h3, outP_at, m1, m2]
    have hp := (e3.mp h3).2
    have hQ : QAt (qsF3 t (q0W t)) t.val := qAt t _ (k0_off21_eq t) rfl
    have hb : List.Forall₂ (fun b n => At b n t.val) (f12.map fun r => (⟨_, k0_off22_inb t 0#32 h h3 r, _, k0_off23_inb t 0#32 h h3 r, 0, false, 0#32⟩ : Blk))
        (f12.map fun r => 4 * (t.val - 3) + r.val) :=
      forall2_map _ _ _ _ fun r => ⟨(three_at t (by omega) r).1, (three_at t (by omega) r).2, by have := r.isLt; omega,
        .inl ⟨rfl, rfl, by have := r.isLt; omega⟩⟩
    obtain ⟨b1, b2⟩ := tot_at X5 X6 X7 v3 hv _ t.val hQ c r j _ _ (List.rel_append hb
      (diag_at t (fun r => ⟨_, k0_off24_inb t r, _, k0_off25_inb t r, r.val, true, Scalar.addi (q0W t) (BitVec.ofNat 32 (256 * r.val))⟩)
        (k0_off24_eq t) (k0_off25_eq t) fun r => ⟨rfl, rfl, rfl⟩))
    have s1 : 16 * ((t.val - 1) / 4) = 4 * (t.val - 3) := by omega
    rw [s1]
    exact congrArg₂ Ideal.div ((congrArg _ b1).trans (end12 _ _ _ (by omega))) ((congrArg _ b2).trans (end12 _ _ _ (by omega)))
  rw [dif_neg h3]
  by_cases h2 : k0_cond2 t 0#32 = 1#1
  · rw [dif_pos h2, outP_at, m1, m2]
    have hp := (e2.mp h2).2
    have hQ : QAt (qsF2 t (q0W t)) t.val := qAt t _ (k0_off15_eq t) rfl
    have hb : List.Forall₂ (fun b n => At b n t.val) (f8.map fun r => (⟨_, k0_off16_inb t 0#32 h h2 r, _, k0_off17_inb t 0#32 h h2 r, 0, false, 0#32⟩ : Blk))
        (f8.map fun r => 4 * (t.val - 2) + r.val) :=
      forall2_map _ _ _ _ fun r => ⟨(two_at t (by omega) r).1, (two_at t (by omega) r).2, by have := r.isLt; omega,
        .inl ⟨rfl, rfl, by have := r.isLt; omega⟩⟩
    obtain ⟨b1, b2⟩ := tot_at X5 X6 X7 v3 hv _ t.val hQ c r j _ _ (List.rel_append hb
      (diag_at t (fun r => ⟨_, k0_off18_inb t r, _, k0_off19_inb t r, r.val, true, Scalar.addi (q0W t) (BitVec.ofNat 32 (256 * r.val))⟩)
        (k0_off18_eq t) (k0_off19_eq t) fun r => ⟨rfl, rfl, rfl⟩))
    have s1 : 16 * ((t.val - 1) / 4) = 4 * (t.val - 2) := by omega
    rw [s1]
    exact congrArg₂ Ideal.div ((congrArg _ b1).trans (end8 _ _ _ (by omega))) ((congrArg _ b2).trans (end8 _ _ _ (by omega)))
  rw [dif_neg h2]
  have h1 : k0_cond1 t 0#32 = 1#1 := by
    have n2 : ¬(t.val - 1) % 4 = 1 := fun h => h2 (e2.mpr ⟨h0, h⟩)
    have n3 : ¬(t.val - 1) % 4 = 2 := fun h => h3 (e3.mpr ⟨h0, h⟩)
    have n4 : ¬(t.val - 1) % 4 = 3 := fun h => h4 (e4.mpr ⟨h0, h⟩)
    exact e1.mpr ⟨h0, by omega⟩
  have hp := (e1.mp h1).2
  rw [dif_pos h1, outP_at, m1, m2]
  have hQ : QAt (qsF1 t (q0W t)) t.val := qAt t _ (k0_off9_eq t) rfl
  have hb : List.Forall₂ (fun b n => At b n t.val) (f4.map fun r => (⟨_, k0_off10_inb t 0#32 h h1 r, _, k0_off11_inb t 0#32 h h1 r, 0, false, 0#32⟩ : Blk))
      (f4.map fun r => 4 * (t.val - 1) + r.val) :=
    forall2_map _ _ _ _ fun r => ⟨(one_at t (by omega) r).1, (one_at t (by omega) r).2, by have := r.isLt; omega,
      .inl ⟨rfl, rfl, by have := r.isLt; omega⟩⟩
  obtain ⟨b1, b2⟩ := tot_at X5 X6 X7 v3 hv _ t.val hQ c r j _ _ (List.rel_append hb
    (diag_at t (fun r => ⟨_, k0_off12_inb t r, _, k0_off13_inb t r, r.val, true, Scalar.addi (q0W t) (BitVec.ofNat 32 (256 * r.val))⟩)
      (k0_off12_eq t) (k0_off13_eq t) fun r => ⟨rfl, rfl, rfl⟩))
  have s1 : 16 * ((t.val - 1) / 4) = 4 * (t.val - 1) := by omega
  rw [s1]
  exact congrArg₂ Ideal.div ((congrArg _ b1).trans (end4 _ _ _ (by omega))) ((congrArg _ b2).trans (end4 _ _ _ (by omega)))

end

end Cert.Kernel4Ideal.Att

end
-- ==== Proof.Fox.Value.Ref.lean ====
/-
The reference's result, element by element.
-/
module

public import proofs.«01_k».proof.Proof.Gen.Reference4Ideal
public import proofs.«01_k».proof.Proof.Gen.Reference4Ideal.Run
public import Idealize.ShloMosaic.Lib.Pointwise

@[expose] public section

set_option maxRecDepth 16384

noncomputable section

namespace Cert.Reference4Ideal.Value

open Idealize.ShloMosaic Idealize.ShloMosaic.TcCoe Idealize.SL.Sem Cert.Reference4Ideal Cert.Reference4Ideal.Gen

section
variable {F : FTy → Type} [FloatOps F]

/-- The masked logits. -/
def logitR (q k : FVec F S2x16384x16x64 .f32) (d : FVec F S2x16384x16 .f32) : FVec F S2x16x16384x16384 .f32 :=
  select (broadcastInDim S2x16x16384x16384 ![0, 1, 2, 3] bcast_S1x1x16384x16384_S2x16x16384x16384_0_1_2_3 (broadcastInDim S1x1x16384x16384 ![2, 3] bcast_S16384x16384_S1x1x16384x16384_2_3 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0)))))) (subf (addf (mulf (Host.dotGeneral dot_S2x16384x16x64_S2x16384x16x64_S2x16x16384x16384_3_3_1_1_02_02 none q k) (broadcastInDim S2x16x16384x16384 ![] bcast_S_S2x16x16384x16384 (constant S_ .f32 0x3E000000#32))) (broadcastInDim S2x16x16384x16384 ![0, 1, 2, 3] bcast_S2x16x16384x1_S2x16x16384x16384_0_1_2_3 (broadcastInDim S2x16x16384x1 ![0, 1, 2] bcast_S2x16x16384_S2x16x16384x1_0_1_2 (transpose S2x16x16384 [0, 2, 1] d transposes_S2x16384x16_S2x16x16384_0_2_1)))) (broadcastInDim S2x16x16384x16384 ![0, 1, 2, 3] bcast_S2x16x1x16384_S2x16x16384x16384_0_1_2_3 (broadcastInDim S2x16x1x16384 ![0, 1, 3] bcast_S2x16x16384_S2x16x1x16384_0_1_3 (transpose S2x16x16384 [0, 2, 1] d transposes_S2x16384x16_S2x16x16384_0_2_1)))) (broadcastInDim S2x16x16384x16384 ![] bcast_S_S2x16x16384x16384 (id (constant S_ .f32 0xFF800000#32)))

/-- Exponentials of what is left over the row's maximum. -/
def expR (L : FVec F S2x16x16384x16384 .f32) : FVec F S2x16x16384x16384 .f32 :=
  Host.exp (subf L (broadcastInDim S2x16x16384x16384 ![0, 1, 2, 3] bcast_S2x16x16384x1_S2x16x16384x16384_0_1_2_3 (broadcastInDim S2x16x16384x1 ![0, 1, 2] bcast_S2x16x16384_S2x16x16384x1_0_1_2 (maximumf (broadcastInDim S2x16x16384 ![] bcast_S_S2x16x16384 (constant S_ .f32 0xFF800000#32)) (Host.reduce FloatOps.maximumf L (constant S_ .f32 0xFF800000#32) reducesTo_S2x16x16384x16384_S2x16x16384_d3 h_S_)))))

/-- The rows over their sums. -/
def softR (E : FVec F S2x16x16384x16384 .f32) : FVec F S2x16x16384x16384 .f32 :=
  Host.divf E (broadcastInDim S2x16x16384x16384 ![0, 1, 2, 3] bcast_S2x16x16384x1_S2x16x16384x16384_0_1_2_3 (broadcastInDim S2x16x16384x1 ![0, 1, 2] bcast_S2x16x16384_S2x16x16384x1_0_1_2 (Host.reduceAdd E (constant S_ .f32 0x00000000#32) reducesTo_S2x16x16384x16384_S2x16x16384_d3 h_S_)))

/-- The values, weighted, with channels before positions. -/
def outR (P : FVec F S2x16x16384x16384 .f32) (v : FVec F S2x16384x16x64 .f32) : FVec F S2x1024x16384 .bf16 :=
  truncf .bf16 (shapeCast _ (transpose S2x16x64x16384 [0, 2, 3, 1] (transpose S2x16384x16x64 [0, 3, 1, 2] (Host.dotGeneral dot_S2x16384x16x64_S2x16x16384x16384_S2x16x64x16384_1_3_3_2_02_01 none v P) transposes_S2x16x64x16384_S2x16384x16x64_0_3_1_2) transposes_S2x16384x16x64_S2x16x64x16384_0_2_3_1) shapeCasts_S2x16x64x16384_S2x1024x16384) bitsLt_bf16_f32

theorem res_eq (m : (ℓ : Loc nD τ sig) → Buf (Elt F) ℓ) (c : Dev nD) :
    res_out0 (F := F) m c = outR (softR (expR (logitR (m ((c.tc : Thread nD τ).loc main_arg0)) (m ((c.tc : Thread nD τ).loc main_arg1)) (m ((c.tc : Thread nD τ).loc main_arg3)))))
      (m ((c.tc : Thread nD τ).loc main_arg2)) := by
  unfold res_out0 res_main_v33 outR
  refine congrArg (fun X : FVec F S2x16x64x16384 .f32 => (truncf .bf16 (shapeCast S2x1024x16384 (transpose S2x16x64x16384 [0, 2, 3, 1] (transpose S2x16384x16x64 [0, 3, 1, 2] X transposes_S2x16x64x16384_S2x16384x16x64_0_3_1_2) transposes_S2x16384x16x64_S2x16x64x16384_0_2_3_1) shapeCasts_S2x16x64x16384_S2x1024x16384) bitsLt_bf16_f32)) ?_
  refine congrArg (fun X : FVec F S2x16x16384x16384 .f32 => Host.dotGeneral dot_S2x16384x16x64_S2x16x16384x16384_S2x16x64x16384_1_3_3_2_02_01 none (m ((c.tc : Thread nD τ).loc main_arg2)) X) ?_
  have e : ∀ A A' : FVec F S2x16x16384x16384 .f32, A = A' →
      Host.divf (Host.exp (subf A (broadcastInDim S2x16x16384x16384 ![0, 1, 2, 3] bcast_S2x16x16384x1_S2x16x16384x16384_0_1_2_3 (broadcastInDim S2x16x16384x1 ![0, 1, 2] bcast_S2x16x16384_S2x16x16384x1_0_1_2 (maximumf (broadcastInDim S2x16x16384 ![] bcast_S_S2x16x16384 (constant S_ .f32 0xFF800000#32)) (Host.reduce FloatOps.maximumf A (constant S_ .f32 0xFF800000#32) reducesTo_S2x16x16384x16384_S2x16x16384_d3 h_S_))))))
        (broadcastInDim S2x16x16384x16384 ![0, 1, 2, 3] bcast_S2x16x16384x1_S2x16x16384x16384_0_1_2_3 (broadcastInDim S2x16x16384x1 ![0, 1, 2] bcast_S2x16x16384_S2x16x16384x1_0_1_2 (Host.reduceAdd (Host.exp (subf A (broadcastInDim S2x16x16384x16384 ![0, 1, 2, 3] bcast_S2x16x16384x1_S2x16x16384x16384_0_1_2_3 (broadcastInDim S2x16x16384x1 ![0, 1, 2] bcast_S2x16x16384_S2x16x16384x1_0_1_2 (maximumf (broadcastInDim S2x16x16384 ![] bcast_S_S2x16x16384 (constant S_ .f32 0xFF800000#32)) (Host.reduce FloatOps.maximumf A (constant S_ .f32 0xFF800000#32) reducesTo_S2x16x16384x16384_S2x16x16384_d3 h_S_)))))) (constant S_ .f32 0x00000000#32) reducesTo_S2x16x16384x16384_S2x16x16384_d3 h_S_)))
      = softR (expR A') := by
    intro A A' h; subst h; unfold softR expR; rfl
  refine e _ (logitR _ _ _) ?_
  unfold logitR
  refine congr (congrArg₂ select ?_ ?_) ?_
  · refine congrArg (fun X : IVec S16384x16384 1 => broadcastInDim S2x16x16384x16384 ![0, 1, 2, 3] bcast_S1x1x16384x16384_S2x16x16384x16384_0_1_2_3 (broadcastInDim S1x1x16384x16384 ![2, 3] bcast_S16384x16384_S1x1x16384x16384_2_3 X)) ?_
    refine congrArg₂ (cmpi .sle) ?_ ?_
    · refine congrArg (fun X : IVec S1x16384 32 => broadcastInDim S16384x16384 ![0, 1] bcast_S1x16384_S16384x16384_0_1 X) ?_
      with_reducible rfl
    · refine congrArg (fun X : IVec S16384x1 32 => broadcastInDim S16384x16384 ![0, 1] bcast_S16384x1_S16384x16384_0_1 X) ?_
      with_reducible rfl
  · refine congrArg₂ subf (congrArg₂ addf (congrArg₂ mulf ?_ ?_) ?_) ?_
    · with_reducible rfl
    · with_reducible rfl
    · with_reducible rfl
    · with_reducible rfl
  · with_reducible rfl
end

theorem logitR_at (q k : FVec Ideal S2x16384x16x64 .f32) (d : FVec Ideal S2x16384x16 .f32) (b : Fin 2) (h : Fin 16) (s κ : Fin 16384) :
    logitR (F := Ideal) q k d (ix4 b h s κ) = Scalar.select (IntOp.cmpi .sle (BitVec.ofNat 32 κ.val) (BitVec.ofNat 32 s.val))
      ((∑ d : Fin 64, q (ix4 b s h d) * k (ix4 b κ h d)) * Ideal.ofBits .f32 0x3E000000#32 + d (ix3 b s h) - d (ix3 b κ h)) (Ideal.ofBits .f32 0xFF800000#32) := by
  pointwise [logitR]
  rfl

theorem maxR_at (L : FVec Ideal S2x16x16384x16384 .f32) (c : FVec Ideal S_ .f32) (j : S2x16x16384.Idx) :
    Host.reduce FloatOps.maximumf L c reducesTo_S2x16x16384x16384_S2x16x16384_d3 h_S_ j
      = Finset.univ.fold max (c (Shape.Idx.first h_S_)) fun κ : Fin 16384 => L (ix4 (j 0) (j 1) (j 2) κ) := by
  simp only [pointwise]

theorem exp_at (L : FVec Ideal S2x16x16384x16384 .f32) (M : FVec Ideal S2x16x16384 .f32) (b : Fin 2) (h : Fin 16) (s κ : Fin 16384) :
    Host.exp (subf L (broadcastInDim S2x16x16384x16384 ![0, 1, 2, 3] bcast_S2x16x16384x1_S2x16x16384x16384_0_1_2_3 (broadcastInDim S2x16x16384x1 ![0, 1, 2] bcast_S2x16x16384_S2x16x16384x1_0_1_2 (maximumf (broadcastInDim S2x16x16384 ![] bcast_S_S2x16x16384 (constant S_ .f32 0xFF800000#32)) M)))) (ix4 b h s κ)
     = Ideal.exp (L (ix4 b h s κ) - max (Ideal.ofBits .f32 0xFF800000#32) (M (ix3 b h s))) := by
  pointwise

theorem expR_at (L : FVec Ideal S2x16x16384x16384 .f32) (b : Fin 2) (h : Fin 16) (s κ : Fin 16384) :
    expR (F := Ideal) L (ix4 b h s κ) = Ideal.exp (L (ix4 b h s κ) - max (Ideal.ofBits .f32 0xFF800000#32)
      (Finset.univ.fold max (Ideal.ofBits .f32 0xFF800000#32) fun κ : Fin 16384 => L (ix4 b h s κ))) := by
  unfold expR
  rw [exp_at, maxR_at]
  rfl

theorem softR_at (E : FVec Ideal S2x16x16384x16384 .f32) (b : Fin 2) (h : Fin 16) (s κ : Fin 16384) :
    softR (F := Ideal) E (ix4 b h s κ) = Ideal.div (E (ix4 b h s κ)) (∑ κ : Fin 16384, E (ix4 b h s κ)) := by
  pointwise [softR]

theorem outR_at (P : FVec Ideal S2x16x16384x16384 .f32) (v : FVec Ideal S2x16384x16x64 .f32) (b : Fin 2) (g : Fin 1024) (s : Fin 16384) :
    outR (F := Ideal) P v (ix3 b g s) = ∑ κ : Fin 16384, v (ix4 b κ ⟨g.val / 64, by omega⟩ ⟨g.val % 64, by omega⟩) * P (ix4 b ⟨g.val / 64, by omega⟩ s κ) := by
  pointwise [outR]

end Cert.Reference4Ideal.Value

end
-- ==== Proof.Fox.Run.lean ====
/-
The call runs: what each window's block holds around the body, the body's obligation, and the launch.
-/
module

public import proofs.«01_k».proof.Proof.Fox.Wp3
public import proofs.«01_k».proof.Proof.Gen.Kernel4Ideal.Launch
public import proofs.«01_k».proof.Proof.Gen.Kernel4Ideal.Points
public import Idealize.ShloMosaic.Lib.Pipeline.Frame
public import Idealize.ShloMosaic.Lib.Pipeline.FrameBody
public import Idealize.ShloMosaic.Lib.Pipeline.ValueKit.Geometry

@[expose] public section

set_option maxRecDepth 16384

noncomputable section

namespace Cert.Kernel4Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations before the call. -/
abbrev hostOpss : List (List (HloOp τ sig (Elt F))) :=
  [hostOps0, hostOps0_1, hostOps0_2]

/-- What a buffer holds when the call starts. -/
def V (c : Dev nD) (b : Ref sig .tc) : Buf (Elt F) ((c : Thread nD τ).loc b) :=
  StableHlo.after hostOpss.flatten (fun b => m (c, b)) b

/-- A window's block at a grid point. -/
def blkOf (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What the body leaves in the result's block. -/
def outAt (c : Dev nD) (t : Fin (cfg0 (F := F)).N) : Vec F S1x64x16384 .bf16 :=
  outB (grid0.coords t) (blkOf m c 0 t) (blkOf m c 1 t) (blkOf m c 2 t) (blkOf m c 3 t) (blkOf m c 4 t) (blkOf m c 5 t)
    (refW (blkOf m c 2 t))

/-- What each window's block holds after the body. -/
def afterAt (c : Dev nD) : (w : Fin (cfg0 (F := F)).W) → (t : Fin (cfg0 (F := F)).N) → ((cfg0 (F := F)).win w).block.Idx → Elt F ((cfg0 (F := F)).win w).elt
  | 0 => fun t => blkOf m c 0 t
  | 1 => fun t => blkOf m c 1 t
  | 2 => fun t => blkOf m c 2 t
  | 3 => fun t => blkOf m c 3 t
  | 4 => fun t => blkOf m c 4 t
  | 5 => fun t => blkOf m c 5 t
  | 6 => fun t => outAt m c t

/-- The facts of the run on one core. -/
def dats (_ : Fin 1) (c : Dev nD) : Dat τ (Elt F) Unit ℕ (UR sig nD τ) ℕ (cfg0 (F := F)) c where
  A w := V m c (Pipeline.arrRef spec0 w)
  after w t := afterAt m c w t
  Φ _ := Pipeline.ΦA spec0 c
  q w := Pipeline.shareOf spec0 w
  owed _ := 0

theorem A_eq (c : Dev nD) (w : Fin (cfg0 (F := F)).W) : (dats m 0 c).A w = V m c (Pipeline.arrRef spec0 w) := by dsimp only [dats]

theorem before_0 (c : Dev nD) (t : Fin (cfg0 (F := F)).N) (d : ((cfg0 (F := F)).win 0).block.Idx → Elt F ((cfg0 (F := F)).win 0).elt) :
    (dats m 0 c).before 0 t d = blkOf m c 0 t :=
  (Dat.before_in_eq_fetched (dats m 0 c) 0 rfl (fun _ => rfl) (fun _ _ _ => rfl) (fun _ => rfl) t d).trans rfl
theorem before_1 (c : Dev nD) (t : Fin (cfg0 (F := F)).N) (d : ((cfg0 (F := F)).win 1).block.Idx → Elt F ((cfg0 (F := F)).win 1).elt) :
    (dats m 0 c).before 1 t d = blkOf m c 1 t :=
  (Dat.before_in_eq_fetched (dats m 0 c) 1 rfl (fun _ => rfl) (fun _ _ _ => rfl) (fun _ => rfl) t d).trans rfl
theorem before_2 (c : Dev nD) (t : Fin (cfg0 (F := F)).N) (d : ((cfg0 (F := F)).win 2).block.Idx → Elt F ((cfg0 (F := F)).win 2).elt) :
    (dats m 0 c).before 2 t d = blkOf m c 2 t :=
  (Dat.before_in_eq_fetched (dats m 0 c) 2 rfl (fun _ => rfl) (fun _ _ _ => rfl) (fun _ => rfl) t d).trans rfl
theorem before_3 (c : Dev nD) (t : Fin (cfg0 (F := F)).N) (d : ((cfg0 (F := F)).win 3).block.Idx → Elt F ((cfg0 (F := F)).win 3).elt) :
    (dats m 0 c).before 3 t d = blkOf m c 3 t :=
  (Dat.before_in_eq_fetched (dats m 0 c) 3 rfl (fun _ => rfl) (fun _ _ _ => rfl) (fun _ => rfl) t d).trans rfl
theorem before_4 (c : Dev nD) (t : Fin (cfg0 (F := F)).N) (d : ((cfg0 (F := F)).win 4).block.Idx → Elt F ((cfg0 (F := F)).win 4).elt) :
    (dats m 0 c).before 4 t d = blkOf m c 4 t :=
  (Dat.before_in_eq_fetched (dats m 0 c) 4 rfl (fun _ => rfl) (fun _ _ _ => rfl) (fun _ => rfl) t d).trans rfl
theorem before_5 (c : Dev nD) (t : Fin (cfg0 (F := F)).N) (d : ((cfg0 (F := F)).win 5).block.Idx → Elt F ((cfg0 (F := F)).win 5).elt) :
    (dats m 0 c).before 5 t d = blkOf m c 5 t :=
  (Dat.before_in_eq_fetched (dats m 0 c) 5 rfl (fun _ => rfl) (fun _ _ _ => rfl) (fun _ => rfl) t d).trans rfl

/-- What the body is called with. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 (F := F) t) fullShare ((dats m 0 c).before 0 t d))
    ∗ (∃ d, owns (c : Thread nD τ) (st0_1 (F := F) t) fullShare ((dats m 0 c).before 1 t d))
    ∗ (∃ d, owns (c : Thread nD τ) (st0_2 (F := F) t) fullShare ((dats m 0 c).before 2 t d))
    ∗ (∃ d, owns (c : Thread nD τ) (st0_3 (F := F) t) fullShare ((dats m 0 c).before 3 t d))
    ∗ (∃ d, owns (c : Thread nD τ) (st0_4 (F := F) t) fullShare ((dats m 0 c).before 4 t d))
    ∗ (∃ d, owns (c : Thread nD τ) (st0_5 (F := F) t) fullShare ((dats m 0 c).before 5 t d))
    ∗ (∃ d, owns (c : Thread nD τ) (st0_6 (F := F) t) fullShare ((dats m 0 c).before 6 t d)))

/-- What it returns. -/
def bodyPost (c : Dev nD) (t : Fin (cfg0 (F := F)).N) : sProp 𝕄 :=
  iprop((dats m 0 c).Φ t.succ ∗ (dats m 0 c).owesAt () t.succ
    ∗ owns (c : Thread nD τ) (st0_0 (F := F) t) fullShare ((dats m 0 c).after 0 t)
    ∗ owns (c : Thread nD τ) (st0_1 (F := F) t) fullShare ((dats m 0 c).after 1 t)
    ∗ owns (c : Thread nD τ) (st0_2 (F := F) t) fullShare ((dats m 0 c).after 2 t)
    ∗ owns (c : Thread nD τ) (st0_3 (F := F) t) fullShare ((dats m 0 c).after 3 t)
    ∗ owns (c : Thread nD τ) (st0_4 (F := F) t) fullShare ((dats m 0 c).after 4 t)
    ∗ owns (c : Thread nD τ) (st0_5 (F := F) t) fullShare ((dats m 0 c).after 5 t)
    ∗ owns (c : Thread nD τ) (st0_6 (F := F) t) fullShare ((dats m 0 c).after 6 t))

/-- The accumulator's buffer and the register, as the body holds them. -/
theorem Phi_eq (c : Dev nD) :
    (Pipeline.ΦA spec0 c : sProp 𝕄)
      = iprop((∃ d, owns (c : Thread nD τ) (Memref.whole cc0_scratch0) fullShare d) ∗ ∃ r, prngReg c r) := by
  rw [show (Pipeline.ΦA spec0 c : sProp 𝕄) = iprop(Pipeline.scopedRest spec0 c ∗ ∃ r, prngReg c r) from rfl, scopedRest0_eq]
  simp only [owns_whole]

set_option maxHeartbeats 1000000 in
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  rw [show (dats m 0 c).Φ t.succ = (Pipeline.ΦA spec0 c : sProp 𝕄) from rfl,
    show (dats m 0 c).owesAt () t.succ = (dats m 0 c).owesAt () t.castSucc from rfl,
    show (dats m 0 c).Φ t.castSucc = (Pipeline.ΦA spec0 c : sProp 𝕄) from rfl, Phi_eq]
  simp only [before_0, before_1, before_2, before_3, before_4, before_5]
  iintro ⟨⟨⟨%Y, HS⟩, Hg⟩, HO, ⟨%d0, H0⟩, ⟨%d1, H1⟩, ⟨%d2, H2⟩, ⟨%d3, H3⟩, ⟨%d4, H4⟩, ⟨%d5, H5⟩, ⟨%d6, H6⟩⟩
  iapply (body_wp c (grid0.coords t) (st0_0 (F := F) t) _ (st0_1 (F := F) t) _ (st0_2 (F := F) t) _ (st0_3 (F := F) t) _
    (st0_4 (F := F) t) _ (st0_5 (F := F) t) _ (st0_6 (F := F) t) _ (Memref.whole cc0_scratch0) _
    (blkOf m c 0 t) (blkOf m c 1 t) (blkOf m c 2 t) (blkOf m c 3 t) (blkOf m c 4 t) (blkOf m c 5 t)
    ((dats m 0 c).before 6 t d6) Y _) $$ [H0 H1 H2 H3 H4 H5 H6 HS]
  · isplitl [H0 H1 H2 H3 H4 H5]
    · isplitl [H3 H4 H5]
      · isplitl [H3]; · iexact H3
        isplitl [H4]; · iexact H4
        iexact H5
      isplitl [H0]; · iexact H0
      isplitl [H1]; · iexact H1
      iexact H2
    isplitl [H6]; · iexact H6
    iexact HS
  iintro ⟨⟨⟨H3, H4, H5⟩, H0, H1, H2⟩, H6, HS⟩
  isplitl [HS Hg]
  · isplitl [HS]; · iexact HS
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) :
    BodyObligation (dats (F := F) m 0 c) (defs₀ (F := F)) Variants.nat () Set.univ := fun t => by
  rw [bigSep_W0, bigSep_W0, defs₀_row]
  exact triple_restated (sound_body m c t) rfl .rfl fun _ => .rfl

theorem hmain : Pipeline.HMain (Ix := Unit) (Name := ℕ) (U := UR sig nD τ) (Lvl := ℕ) cfgs 0 defs₀ Variants.nat m
    (main (F := F)) (V m) :=
  Pipeline.hmain_prefixes cfgs 0 defs₀ Variants.nat m main hostOpss
    ⟨hostOps0_sub, hostOps0_1_sub, hostOps0_2_sub⟩
    (by repeat' constructor) main_chain

set_option backward.isDefEq.respectTransparency.types false in
/-- The run: every array ends at what the write-backs leave in it, every other buffer as it was when the call started. -/
theorem run_main :
    θ_run defs (onTc (τ := τ) (main (F := F))) (s₀ m ρ)
      (fun r => Pipeline.FramePost cfgs (dats m) 0 (V m) r ∧ r.2.sem = fun _ => 0) :=
  Pipeline.θ_run_frame_shared (Q' := _) cfgs (dats m) 0 launch0.to₀ defs₀ Variants.nat m ρ main
    (hbody := fun c => (body_obligation m c).loose) (hq := fun _ _ _ => rfl) (howed := fun _ _ => rfl) (V := V m)
    (hmain := hmain m) (hA := A_eq m) (hΦ := fun _ _ => rfl)

end Cert.Kernel4Ideal.Att

end
-- ==== Proof.Fox.Machine.Args.lean ====
/-
The arguments of the machine program end as they began.
-/
module

public import proofs.«01_k».proof.Proof.Fox.Machine.Run
public import proofs.«01_k».proof.Defs
public import proofs.«01_k».proof.Proof.Gen.Kernel4
public import Idealize.ShloMosaic.Lib.StableHlo.Run

@[expose] public section

set_option maxRecDepth 16384

noncomputable section

namespace Cert.Kernel4.Att

open Idealize.ShloMosaic Idealize.ShloMosaic.TcCoe Idealize.SL.Sem Idealize.ShloMosaic.StableHlo
open Cert.Kernel4 Cert.Kernel4.Gen

variable {F : FTy → Type} [FloatOps F]

variable (m : (ℓ : Loc nD τ sig) → Buf (Elt F) ℓ) (ρ : Dev nD → PrngReg)

theorem flat_eq : (hostOpss (F := F)).flatten = hostOps0 ++ (hostOps0_1 ++ (hostOps0_2 ++ [])) := rfl

theorem V_arg0 (c : Dev nD) : V m c main_arg0 = m ((c : Thread nD τ).loc main_arg0) := by
  unfold V
  simp only [flat_eq, hostOps0, hostOps0_1, hostOps0_2, List.cons_append,
    List.nil_append, TRef.ternary, TRef.unary, TRef.binary, TRef.toBuf, TRef.ofBuf, cast_eq]
  after_results_simp <;> rfl

theorem V_arg1 (c : Dev nD) : V m c main_arg1 = m ((c : Thread nD τ).loc main_arg1) := by
  unfold V
  simp only [flat_eq, hostOps0, hostOps0_1, hostOps0_2, List.cons_append,
    List.nil_append, TRef.ternary, TRef.unary, TRef.binary, TRef.toBuf, TRef.ofBuf, cast_eq]
  after_results_simp <;> rfl

theorem V_arg2 (c : Dev nD) : V m c main_arg2 = m ((c : Thread nD τ).loc main_arg2) := by
  unfold V
  simp only [flat_eq, hostOps0, hostOps0_1, hostOps0_2, List.cons_append,
    List.nil_append, TRef.ternary, TRef.unary, TRef.binary, TRef.toBuf, TRef.ofBuf, cast_eq]
  after_results_simp <;> rfl

theorem V_arg3 (c : Dev nD) : V m c main_arg3 = m ((c : Thread nD τ).loc main_arg3) := by
  unfold V
  simp only [flat_eq, hostOps0, hostOps0_1, hostOps0_2, List.cons_append,
    List.nil_append, TRef.ternary, TRef.unary, TRef.binary, TRef.toBuf, TRef.ofBuf, cast_eq]
  after_results_simp <;> rfl

theorem V_arg4 (c : Dev nD) : V m c main_arg4 = m ((c : Thread nD τ).loc main_arg4) := by
  unfold V
  simp only [flat_eq, hostOps0, hostOps0_1, hostOps0_2, List.cons_append,
    List.nil_append, TRef.ternary, TRef.unary, TRef.binary, TRef.toBuf, TRef.ofBuf, cast_eq]
  after_results_simp <;> rfl

/-- The arguments end as they began. -/
theorem args_kept {r : PUnit × MemSt nD τ sig (Elt F)} (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨((h c).2 main_arg0 (Pipeline.mem_restRefs_of main_arg0 (by decide) (by show ∀ w, (spec0 w).arr.view.ref ≠ main_arg0; decide))).trans (V_arg0 m c),
    ((h c).2 main_arg1 (Pipeline.mem_restRefs_of main_arg1 (by decide) (by show ∀ w, (spec0 w).arr.view.ref ≠ main_arg1; decide))).trans (V_arg1 m c),
    ((h c).2 main_arg2 (Pipeline.mem_restRefs_of main_arg2 (by decide) (by show ∀ w, (spec0 w).arr.view.ref ≠ main_arg2; decide))).trans (V_arg2 m c),
    ((h c).2 main_arg3 (Pipeline.mem_restRefs_of main_arg3 (by decide) (by show ∀ w, (spec0 w).arr.view.ref ≠ main_arg3; decide))).trans (V_arg3 m c),
    ((h c).2 main_arg4 (Pipeline.mem_restRefs_of main_arg4 (by decide) (by show ∀ w, (spec0 w).arr.view.ref ≠ main_arg4; decide))).trans (V_arg4 m c)⟩

end Cert.Kernel4.Att

end
-- ==== Proof.Fox.Host.lean ====
/-
What the host operations before the call leave in the call's operands, and the frames.
-/
module

public import proofs.«01_k».proof.Proof.Fox.Run
public import proofs.«01_k».proof.Proof.Fox.Machine.Args
public import proofs.«01_k».proof.Defs
public import proofs.«01_k».proof.Proof.Gen.Kernel4
public import proofs.«01_k».proof.Proof.Gen.Reference4Ideal
public import proofs.«01_k».proof.Proof.Gen.Reference4Ideal.Run
public import proofs.«01_k».proof.Proof.Gen.Pre_kept
public import Idealize.ShloMosaic.Lib.StableHlo.Run

@[expose] public section

set_option maxRecDepth 16384

noncomputable section

namespace Cert.Kernel4Ideal.Att

open Idealize.ShloMosaic Idealize.ShloMosaic.TcCoe Idealize.SL.Sem Idealize.ShloMosaic.StableHlo
open Cert.Kernel4Ideal Cert.Kernel4Ideal.Gen

variable {F : FTy → Type} [FloatOps F]

variable (m : (ℓ : Loc nD τ sig) → Buf (Elt F) ℓ) (ρ : Dev nD → PrngReg)

/-- The decay in units of the logarithm of two. -/
def unitV (d : FVec F S2x16384x16 .f32) : FVec F S2x16384x16 .f32 :=
  Host.divf d (broadcastInDim S2x16384x16 ![] bcast_S_S2x16384x16 (Host.log (constant S_ .f32 0x40000000#32)))

/-- A number's part in the narrow format. -/
def partV (x : FVec F S2x16384x16 .f32) : FVec F S2x16384x16 .f32 := extf .f32 (truncf .bf16 x bitsLt_bf16_f32) bitsLt_bf16_f32

/-- What one part leaves over, and what two leave over. -/
def midV (c : FVec F S2x16384x16 .f32) : FVec F S2x16384x16 .f32 := partV (subf c (partV c))

/-- The third part. -/
def lowV (c : FVec F S2x16384x16 .f32) : FVec F S2x16384x16 .f32 := partV (subf (subf c (partV c)) (midV c))

/-- One number per position as one feature. -/
def featV (x : FVec F S2x16384x16 .f32) : FVec F S2x16384x16x1 .f32 :=
  broadcastInDim S2x16384x16x1 ![0, 1, 2] bcast_S2x16384x16_S2x16384x16x1_0_1_2 x

/-- Three features of one, five and fifty-three of zero. -/
def onesF : FVec F S2x16384x16x3 .f32 := broadcastInDim S2x16384x16x3 ![] bcast_S_S2x16384x16x3 (constant S_ .f32 0x3F800000#32)
def gapF : FVec F S2x16384x16x5 .f32 := broadcastInDim S2x16384x16x5 ![] bcast_S_S2x16384x16x5 (constant S_ .f32 0x00000000#32)
def tailF : FVec F S2x16384x16x53 .f32 := broadcastInDim S2x16384x16x53 ![] bcast_S_S2x16384x16x53 (constant S_ .f32 0x00000000#32)

/-- The queries scaled. -/
def scaledV (q : FVec F S2x16384x16x64 .f32) : FVec F S2x16384x16x64 .f32 :=
  mulf q (broadcastInDim S2x16384x16x64 ![] bcast_S_S2x16384x16x64
    (Host.divf (constant S_ .f32 0x3E000000#32) (Host.log (constant S_ .f32 0x40000000#32))))

/-- The queries' features. -/
def qFeat (q : FVec F S2x16384x16x64 .f32) (c : FVec F S2x16384x16 .f32) : FVec F S2x16384x16x128 .f32 :=
  concatenate S2x16384x16x128 3 [⟨S2x16384x16x64, scaledV q⟩, ⟨S2x16384x16x3, onesF⟩, ⟨S2x16384x16x5, gapF⟩,
    ⟨S2x16384x16x1, featV (partV c)⟩, ⟨S2x16384x16x1, featV (midV c)⟩, ⟨S2x16384x16x1, featV (lowV c)⟩, ⟨S2x16384x16x53, tailF⟩]
    concatenates_S2x16384x16x64_S2x16384x16x3_S2x16384x16x5_S2x16384x16x1_S2x16384x16x1_S2x16384x16x1_S2x16384x16x53_S2x16384x16x128_d3

/-- The keys' features. -/
def kFeat (k : FVec F S2x16384x16x64 .f32) (c : FVec F S2x16384x16 .f32) : FVec F S2x16384x16x128 .f32 :=
  concatenate S2x16384x16x128 3 [⟨S2x16384x16x64, k⟩, ⟨S2x16384x16x1, Host.negf (featV (partV c))⟩,
    ⟨S2x16384x16x1, Host.negf (featV (midV c))⟩, ⟨S2x16384x16x1, Host.negf (featV (lowV c))⟩, ⟨S2x16384x16x5, gapF⟩,
    ⟨S2x16384x16x3, onesF⟩, ⟨S2x16384x16x53, tailF⟩]
    concatenates_S2x16384x16x64_S2x16384x16x1_S2x16384x16x1_S2x16384x16x1_S2x16384x16x5_S2x16384x16x3_S2x16384x16x53_S2x16384x16x128_d3

/-- The queries as the call takes them. -/
def qtV (q : FVec F S2x16384x16x64 .f32) (c : FVec F S2x16384x16 .f32) : FVec F S2x16x128x16384 .bf16 :=
  transpose S2x16x128x16384 [0, 2, 3, 1] (truncf .bf16 (qFeat q c) bitsLt_bf16_f32)
    transposes_S2x16384x16x128_S2x16x128x16384_0_2_3_1

/-- The keys as the call takes them. -/
def kpV (k : FVec F S2x16384x16x64 .f32) (c : FVec F S2x16384x16 .f32) : FVec F S2x16x16384x128 .bf16 :=
  transpose S2x16x16384x128 [0, 2, 1, 3] (truncf .bf16 (kFeat k c) bitsLt_bf16_f32)
    transposes_S2x16384x16x128_S2x16x16384x128_0_2_1_3

/-- The rows put under the values: a row of ones, then zeros. -/
def onesV : FVec F S16x16384 .f32 :=
  select (cmpi .eq (iotaInDim S16x16384 32 0) (broadcastInDim S16x16384 ![] bcast_S_S16x16384 (constantI S_ 32 0#32)))
    (broadcastInDim S16x16384 ![] bcast_S_S16x16384 (constant S_ .f32 0x3F800000#32))
    (broadcastInDim S16x16384 ![] bcast_S_S16x16384 (constant S_ .f32 0x00000000#32))

/-- The values as the call takes them. -/
def vtV (v : FVec F S2x16384x16x64 .f32) : FVec F S2x16x80x16384 .bf16 :=
  concatenate S2x16x80x16384 2
    [⟨S2x16x64x16384, transpose S2x16x64x16384 [0, 2, 3, 1] (truncf .bf16 v bitsLt_bf16_f32)
        transposes_S2x16384x16x64_S2x16x64x16384_0_2_3_1⟩,
      ⟨S2x16x16x16384, broadcastInDim S2x16x16x16384 ![2, 3] bcast_S16x16384_S2x16x16x16384_2_3
        (truncf .bf16 (onesV (F := F)) bitsLt_bf16_f32)⟩]
    concatenates_S2x16x64x16384_S2x16x16x16384_S2x16x80x16384_d2

/-- The first table: the decay where a tile begins. -/
def firstV (c : FVec F S2x16384x16 .f32) : FVec F S512 .f32 :=
  shapeCast S512 (Host.slice S2x16x16 ![0, 0, 0] ![1, 1, 1024] (transpose S2x16x16384 [0, 2, 1] c
    transposes_S2x16384x16_S2x16x16384_0_2_1) slicesBy_S2x16x16384_S2x16x16_0s1_0s1_0s1024) shapeCasts_S2x16x16_S512

/-- The second table: the decay where a group ends. -/
def lastV (c : FVec F S2x16384x16 .f32) : FVec F S512 .f32 :=
  shapeCast S512 (Host.slice S2x16x16 ![0, 0, 1023] ![1, 1, 1024] (transpose S2x16x16384 [0, 2, 1] c
    transposes_S2x16384x16_S2x16x16384_0_2_1) slicesBy_S2x16x16384_S2x16x16_0s1_0s1_1023s1024) shapeCasts_S2x16x16_S512

/-- The third table: the limit, and the bound. -/
def boundsV (b : FVec F S_ .f32) : FVec F S2 .f32 :=
  concatenate S2 0
    [⟨S1, broadcastInDim S1 ![] bcast_S_S1
        (addf (mulf (constant S_ .f32 0x40000000#32) b) (constant S_ .f32 0x432A0000#32))⟩,
      ⟨S1, broadcastInDim S1 ![] bcast_S_S1 b⟩] concatenates_S1_S1_S2_d0

theorem flat_eq : (hostOpss (F := F)).flatten = hostOps0 ++ (hostOps0_1 ++ (hostOps0_2 ++ [])) := rfl

theorem V_arg0 (c : Dev nD) : V m c main_arg0 = m ((c : Thread nD τ).loc main_arg0) := by
  unfold V
  simp only [flat_eq, hostOps0, hostOps0_1, hostOps0_2, List.cons_append,
    List.nil_append, TRef.ternary, TRef.unary, TRef.binary, TRef.toBuf, TRef.ofBuf, cast_eq]
  after_results_simp <;> rfl

theorem V_arg1 (c : Dev nD) : V m c main_arg1 = m ((c : Thread nD τ).loc main_arg1) := by
  unfold V
  simp only [flat_eq, hostOps0, hostOps0_1, hostOps0_2, List.cons_append,
    List.nil_append, TRef.ternary, TRef.unary, TRef.binary, TRef.toBuf, TRef.ofBuf, cast_eq]
  after_results_simp <;> rfl

theorem V_arg2 (c : Dev nD) : V m c main_arg2 = m ((c : Thread nD τ).loc main_arg2) := by
  unfold V
  simp only [flat_eq, hostOps0, hostOps0_1, hostOps0_2, List.cons_append,
    List.nil_append, TRef.ternary, TRef.unary, TRef.binary, TRef.toBuf, TRef.ofBuf, cast_eq]
  after_results_simp <;> rfl

theorem V_arg3 (c : Dev nD) : V m c main_arg3 = m ((c : Thread nD τ).loc main_arg3) := by
  unfold V
  simp only [flat_eq, hostOps0, hostOps0_1, hostOps0_2, List.cons_append,
    List.nil_append, TRef.ternary, TRef.unary, TRef.binary, TRef.toBuf, TRef.ofBuf, cast_eq]
  after_results_simp <;> rfl

theorem V_arg4 (c : Dev nD) : V m c main_arg4 = m ((c : Thread nD τ).loc main_arg4) := by
  unfold V
  simp only [flat_eq, hostOps0, hostOps0_1, hostOps0_2, List.cons_append,
    List.nil_append, TRef.ternary, TRef.unary, TRef.binary, TRef.toBuf, TRef.ofBuf, cast_eq]
  after_results_simp <;> rfl

theorem V_v24 (c : Dev nD) : V m c main_v24 = qtV (m ((c : Thread nD τ).loc main_arg0)) (unitV (m ((c : Thread nD τ).loc main_arg3))) := by
  unfold V
  simp only [flat_eq, hostOps0, hostOps0_1, hostOps0_2, List.cons_append,
    List.nil_append, TRef.ternary, TRef.unary, TRef.binary, TRef.toBuf, TRef.ofBuf, cast_eq]
  after_results_simp <;> rfl

theorem V_v30 (c : Dev nD) : V m c main_v30 = kpV (m ((c : Thread nD τ).loc main_arg1)) (unitV (m ((c : Thread nD τ).loc main_arg3))) := by
  unfold V
  simp only [flat_eq, hostOps0, hostOps0_1, hostOps0_2, List.cons_append,
    List.nil_append, TRef.ternary, TRef.unary, TRef.binary, TRef.toBuf, TRef.ofBuf, cast_eq]
  after_results_simp <;> rfl

theorem V_v40 (c : Dev nD) : V m c main_v40 = vtV (m ((c : Thread nD τ).loc main_arg2)) := by
  unfold V
  simp only [flat_eq, hostOps0, hostOps0_1, hostOps0_2, List.cons_append,
    List.nil_append, TRef.ternary, TRef.unary, TRef.binary, TRef.toBuf, TRef.ofBuf, cast_eq]
  after_results_simp <;> rfl

theorem V_v43 (c : Dev nD) : V m c main_v43 = firstV (unitV (m ((c : Thread nD τ).loc main_arg3))) := by
  unfold V
  simp only [flat_eq, hostOps0, hostOps0_1, hostOps0_2, List.cons_append,
    List.nil_append, TRef.ternary, TRef.unary, TRef.binary, TRef.toBuf, TRef.ofBuf, cast_eq]
  after_results_simp <;> rfl

theorem V_v45 (c : Dev nD) : V m c main_v45 = lastV (unitV (m ((c : Thread nD τ).loc main_arg3))) := by
  unfold V
  simp only [flat_eq, hostOps0, hostOps0_1, hostOps0_2, List.cons_append,
    List.nil_append, TRef.ternary, TRef.unary, TRef.binary, TRef.toBuf, TRef.ofBuf, cast_eq]
  after_results_simp <;> rfl

theorem V_v50 (c : Dev nD) : V m c main_v50 = boundsV (m ((c : Thread nD τ).loc main_arg4)) := by
  unfold V
  simp only [flat_eq, hostOps0, hostOps0_1, hostOps0_2, List.cons_append,
    List.nil_append, TRef.ternary, TRef.unary, TRef.binary, TRef.toBuf, TRef.ofBuf, cast_eq]
  after_results_simp <;> rfl

/-- The arguments end as they began. -/
theorem args_kept {r : PUnit × MemSt nD τ sig (Elt F)} (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨((h c).2 main_arg0 (Pipeline.mem_restRefs_of main_arg0 (by decide) (by show ∀ w, (spec0 w).arr.view.ref ≠ main_arg0; decide))).trans (V_arg0 m c),
    ((h c).2 main_arg1 (Pipeline.mem_restRefs_of main_arg1 (by decide) (by show ∀ w, (spec0 w).arr.view.ref ≠ main_arg1; decide))).trans (V_arg1 m c),
    ((h c).2 main_arg2 (Pipeline.mem_restRefs_of main_arg2 (by decide) (by show ∀ w, (spec0 w).arr.view.ref ≠ main_arg2; decide))).trans (V_arg2 m c),
    ((h c).2 main_arg3 (Pipeline.mem_restRefs_of main_arg3 (by decide) (by show ∀ w, (spec0 w).arr.view.ref ≠ main_arg3; decide))).trans (V_arg3 m c),
    ((h c).2 main_arg4 (Pipeline.mem_restRefs_of main_arg4 (by decide) (by show ∀ w, (spec0 w).arr.view.ref ≠ main_arg4; decide))).trans (V_arg4 m c)⟩

end Cert.Kernel4Ideal.Att

namespace Cert.Proof

open Idealize.ShloMosaic Idealize.SL.Sem

theorem frame_kernel4 : Cert.quiescent_Kernel4 (hKernel4 := Cert.Kernel4.Gen.facts) := fun m ρ _ =>
  (θ_run Cert.Kernel4.defs _ _).mono
    (fun _ h => ⟨fun c => Cert.Kernel4.Att.args_kept (F := Bits) m h.1 c, h.2⟩)
    (Cert.Kernel4.Att.run_main (F := Bits) m ρ)

theorem frame_kernel4Ideal : Cert.quiescent_Kernel4Ideal (hKernel4Ideal := Cert.Kernel4Ideal.Gen.facts) := fun m ρ _ =>
  (θ_run Cert.Kernel4Ideal.defs _ _).mono
    (fun _ h => ⟨fun c => Cert.Kernel4Ideal.Att.args_kept (F := Ideal) m h.1 c, h.2⟩)
    (Cert.Kernel4Ideal.Att.run_main (F := Ideal) m ρ)

theorem frame_kernel4Ideal_pre : Cert.quiescent_Kernel4Ideal_pre_kept (hKernel4Ideal := Cert.Kernel4Ideal.Gen.facts)
    (hPre_kept := Cert.Pre_kept.Gen.facts) := fun m ρ _ => frame_kernel4Ideal m ρ trivial

theorem frame_reference4Ideal : Cert.quiescent_Reference4Ideal (hReference4Ideal := Cert.Reference4Ideal.Gen.facts) := fun m ρ _ =>
  (θ_run Cert.Reference4Ideal.defs _ _).mono
    (fun r h => ⟨fun c => (h c).2, sem_eq_zero_of_no_sems (by decide) r.2⟩)
    (Cert.Reference4Ideal.Value.run (F := Ideal) m ρ)

theorem frame_reference4Ideal_pre : Cert.quiescent_Reference4Ideal_pre_kept
    (hReference4Ideal := Cert.Reference4Ideal.Gen.facts) (hPre_kept := Cert.Pre_kept.Gen.facts) := fun m ρ _ =>
  frame_reference4Ideal m ρ trivial

theorem preserves4 : Cert.preserves_Kernel4_Kernel4Ideal := trivial

end Cert.Proof

end
-- ==== Proof.Fox.Value.Operands.lean ====
/-
The call's operands at an index, over the idealized values.
-/
module

public import proofs.«01_k».proof.Proof.Fox.Host
public import Idealize.ShloMosaic.Lib.Pointwise
public import Idealize.ShloMosaic.Lib.IdealHost

@[expose] public section

set_option maxRecDepth 16384

noncomputable section

namespace Cert.Kernel4Ideal.Att

open Idealize.ShloMosaic Idealize.SL.Sem Cert.Kernel4Ideal Cert.Kernel4Ideal.Gen

/-- The factor of the scores, as a number. -/
theorem scale_real : ∃ r : ℝ, Ideal.ofBits .f32 0x3E000000#32 = (r : EReal) := by
  refine ⟨1 / 8, ?_⟩
  simp [Ideal.ofBits, Ideal.ieee, -EReal.coe_mul]
  norm_num

theorem two_real : Ideal.ofBits .f32 0x40000000#32 = ((2 : ℝ) : EReal) := by
  simp [Ideal.ofBits, Ideal.ieee, -EReal.coe_mul]
  norm_num

theorem one_real : Ideal.ofBits .f32 0x3F800000#32 = ((1 : ℝ) : EReal) := by
  simp [Ideal.ofBits, Ideal.ieee, -EReal.coe_mul]
  norm_num

theorem room_real : Ideal.ofBits .f32 0x432A0000#32 = ((170 : ℝ) : EReal) := by
  simp [Ideal.ofBits, Ideal.ieee, -EReal.coe_mul]
  norm_num

theorem unitV_at (d : FVec Ideal S2x16384x16 .f32) (b : Fin 2) (s : Fin 16384) (h : Fin 16) :
    unitV (F := Ideal) d (ix3 b s h) = Ideal.div (d (ix3 b s h)) (Ideal.log (Ideal.ofBits .f32 0x40000000#32)) := by
  pointwise [unitV]

theorem qtV_at (q : FVec Ideal S2x16384x16x64 .f32) (c : FVec Ideal S2x16384x16 .f32) (b : Fin 2) (h : Fin 16) (d : Fin 128) (s : Fin 16384) :
    qtV (F := Ideal) q c (ix4 b h d s) = if hd : d.val < 64 then q (ix4 b s h ⟨d.val, hd⟩)
      * Ideal.div (Ideal.ofBits .f32 0x3E000000#32) (Ideal.log (Ideal.ofBits .f32 0x40000000#32)) else
      if d.val < 67 then 1 else if d.val < 72 then 0 else
      if d.val < 73 then c (ix3 b s h) else if d.val < 74 then c (ix3 b s h) - c (ix3 b s h) else
      if d.val < 75 then c (ix3 b s h) - c (ix3 b s h) - (c (ix3 b s h) - c (ix3 b s h)) else 0 := by
  pointwise [qtV, qFeat, scaledV, onesF, gapF, tailF, featV, lowV, midV, partV]
  split_ifs <;> first | rfl | (exfalso; omega)

theorem kpV_at (k : FVec Ideal S2x16384x16x64 .f32) (c : FVec Ideal S2x16384x16 .f32) (b : Fin 2) (h : Fin 16) (s : Fin 16384) (d : Fin 128) :
    kpV (F := Ideal) k c (ix4 b h s d) = if hd : d.val < 64 then k (ix4 b s h ⟨d.val, hd⟩) else
      if d.val < 65 then -c (ix3 b s h) else if d.val < 66 then -(c (ix3 b s h) - c (ix3 b s h)) else
      if d.val < 67 then -(c (ix3 b s h) - c (ix3 b s h) - (c (ix3 b s h) - c (ix3 b s h))) else
      if d.val < 72 then 0 else if d.val < 75 then 1 else
      0 := by
  pointwise [kpV, kFeat, onesF, gapF, tailF, featV, lowV, midV, partV]
  split_ifs <;> first | rfl | (exfalso; omega)

theorem vtV_at (v : FVec Ideal S2x16384x16x64 .f32) (b : Fin 2) (h : Fin 16) (r : Fin 64) (s : Fin 16384) :
    vtV (F := Ideal) v (ix4 b h ⟨r.val, by omega⟩ s) = v (ix4 b s h r) := by
  pointwise [vtV]

theorem firstV_at (c : FVec Ideal S2x16384x16 .f32) (n : Fin 512) :
    firstV (F := Ideal) c (ix1 n) = c (ix3 ⟨n.val / 256, by omega⟩ ⟨1024 * (n.val % 16), by omega⟩ ⟨n.val / 16 % 16, by omega⟩) := by
  pointwise [firstV]

theorem lastV_at (c : FVec Ideal S2x16384x16 .f32) (n : Fin 512) :
    lastV (F := Ideal) c (ix1 n) = c (ix3 ⟨n.val / 256, by omega⟩ ⟨1023 + 1024 * (n.val % 16), by omega⟩ ⟨n.val / 16 % 16, by omega⟩) := by
  pointwise [lastV]

theorem boundsV_0 (b : FVec Ideal S_ .f32) :
    boundsV (F := Ideal) b (ix1 0) = Ideal.ofBits .f32 0x40000000#32 * b ix0 + Ideal.ofBits .f32 0x432A0000#32 := by
  pointwise [boundsV]

theorem boundsV_1 (b : FVec Ideal S_ .f32) : boundsV (F := Ideal) b (ix1 1) = b ix0 := by
  pointwise [boundsV]

end Cert.Kernel4Ideal.Att

end
-- ==== Proof.Fox.Value.Weighted.lean ====
/-
One head's block of results, as the reference's weighted sums of that head's values.
-/
module

public import proofs.«01_k».proof.Proof.Fox.Value.Tile
public import proofs.«01_k».proof.Proof.Fox.Value.Ref
public import proofs.«01_k».proof.Proof.Value.Math
public import proofs.«01_k».proof.Proof.Fox.Value.Operands

@[expose] public section

set_option maxRecDepth 16384

noncomputable section

namespace Cert.Kernel4Ideal.Att

open Idealize.ShloMosaic Idealize.SL.Sem Cert.Kernel4Ideal Cert.Kernel4Ideal.Gen
open Cert.Reference4Ideal.Value (logitR expR softR outR logitR_at expR_at softR_at outR_at)

/-- Blocks of 256 keys, one after another, are all keys. -/
theorem blocks_sum (f : Fin 16384 → EReal) :
    ∑ n ∈ Finset.range 64, ∑ k : Fin 256, f (pos (256 * n + k.val)) = ∑ κ : Fin 16384, f κ := by
  rw [Finset.sum_range, ← Fintype.sum_prod_type' (fun (n : Fin 64) (k : Fin 256) => f (pos (256 * n.val + k.val)))]
  refine Fintype.sum_equiv (finProdFinEquiv (m := 64) (n := 256)) _ (fun κ : Fin (64 * 256) => f κ) fun x => ?_
  refine congrArg f (Fin.ext ?_)
  have h1 := x.1.isLt
  have h2 := x.2.isLt
  show (256 * x.1.val + x.2.val) % 16384 = x.2.val + 256 * x.1.val
  omega

theorem log_two : Ideal.div (Ideal.ofBits .f32 0x3E000000#32) (Ideal.log (Ideal.ofBits .f32 0x40000000#32))
    = Ideal.ofBits .f32 0x3E000000#32 * ((1 / Real.log 2 : ℝ) : EReal) := by
  have hl : Real.log 2 ≠ 0 := (Real.log_pos one_lt_two).ne'
  rw [two_real, Ideal.log_coe, if_neg (not_le.mpr two_pos), Ideal.div_coe hl]

/-- A decay in units of the logarithm of two, as a number. -/
theorem unit_real (d : FVec Ideal S2x16384x16 .f32) (fd : S2x16384x16.Idx → ℝ) (hd : ∀ i, d i = (fd i : EReal))
    (b : Fin 2) (s : Fin 16384) (h : Fin 16) :
    unitV (F := Ideal) d (ix3 b s h) = ((fd (ix3 b s h) * (1 / Real.log 2) : ℝ) : EReal) := by
  have hl : Real.log 2 ≠ 0 := (Real.log_pos one_lt_two).ne'
  rw [unitV_at, hd, two_real, Ideal.log_coe, if_neg (not_le.mpr two_pos), Ideal.div_coe hl, ← EReal.coe_mul]

section
variable (q k : FVec Ideal S2x16384x16x64 .f32) (v : FVec Ideal S2x16384x16x64 .f32) (d : FVec Ideal S2x16384x16 .f32)
  (X5 : FVec Ideal S1x1x128x16384 .bf16) (X6 : FVec Ideal S1x1x16384x128 .bf16) (X7 : FVec Ideal S1x1x80x16384 .bf16)
  (b : Fin 2) (h : Fin 16)

/-- One feature's part of a score. -/
def feat (fq fk : S2x16384x16x64.Idx → ℝ) (sc cq ck : ℝ) (b : Fin 2) (h : Fin 16) (κ s : Fin 16384) (n : Fin 128) : ℝ :=
  if hn : n.val < 64 then fk (ix4 b κ h ⟨n.val, hn⟩) * (fq (ix4 b s h ⟨n.val, hn⟩) * (sc * (1 / Real.log 2)))
  else (if n.val = 64 then -ck else 0) + (if n.val = 72 then cq else 0)

theorem feat_sum (fq fk : S2x16384x16x64.Idx → ℝ) (sc cq ck : ℝ) (κ s : Fin 16384) :
    ∑ n : Fin 128, feat fq fk sc cq ck b h κ s n
      = (∑ n : Fin 64, fq (ix4 b s h n) * fk (ix4 b κ h n)) * (sc * (1 / Real.log 2)) + (-ck + cq) := by
  rw [show (∑ n : Fin 128, feat fq fk sc cq ck b h κ s n) = ∑ n : Fin (64 + 64), feat fq fk sc cq ck b h κ s n from rfl, Fin.sum_univ_add]
  refine congrArg₂ (· + ·) ?_ ?_
  · rw [Finset.sum_mul]
    refine Finset.sum_congr rfl fun n _ => ?_
    unfold feat
    rw [dif_pos (show (Fin.castAdd 64 n).val < 64 from n.isLt)]
    show fk (ix4 b κ h n) * (fq (ix4 b s h n) * _) = _
    ring
  · have e : ∀ n : Fin 64, feat fq fk sc cq ck b h κ s (Fin.natAdd 64 n) = (if n = 0 then -ck else 0) + (if n = 8 then cq else 0) := by
      intro n
      unfold feat
      rw [dif_neg (by rw [Fin.val_natAdd]; omega)]
      have h1 : ((Fin.natAdd 64 n).val = 64) = (n = 0) := by
        rw [Fin.val_natAdd, Fin.ext_iff]; exact propext ⟨fun h => by show n.val = 0; omega, fun h => by have : n.val = 0 := h; omega⟩
      have h2 : ((Fin.natAdd 64 n).val = 72) = (n = 8) := by
        rw [Fin.val_natAdd, Fin.ext_iff]; exact propext ⟨fun h => by show n.val = 8; omega, fun h => by have : n.val = 8 := h; omega⟩
      simp only [h1, h2]
    rw [Finset.sum_congr rfl fun n _ => e n, Finset.sum_add_distrib, Finset.sum_ite_eq' Finset.univ (0 : Fin 64), Finset.sum_ite_eq' Finset.univ (8 : Fin 64),
      if_pos (Finset.mem_univ _), if_pos (Finset.mem_univ _)]

/-- A score is the sum over the 64 features and the decay between, in units of the logarithm of two. -/
theorem scA_real (fq fk : S2x16384x16x64.Idx → ℝ) (fd : S2x16384x16.Idx → ℝ) (sc : ℝ) (hq : ∀ i, q i = (fq i : EReal))
    (hk : ∀ i, k i = (fk i : EReal)) (hd : ∀ i, d i = (fd i : EReal))
    (hsc : Ideal.ofBits .f32 0x3E000000#32 = (sc : EReal))
    (h5 : ∀ n s, X5 (ix4 0 0 n s) = qtV (F := Ideal) q (unitV d) (ix4 b h n s))
    (h6 : ∀ s n, X6 (ix4 0 0 s n) = kpV (F := Ideal) k (unitV d) (ix4 b h s n)) (κ s : Fin 16384) :
    scA X5 X6 κ s = ((((∑ n : Fin 64, fq (ix4 b s h n) * fk (ix4 b κ h n)) * sc + fd (ix3 b s h) - fd (ix3 b κ h)) / Real.log 2 : ℝ) : EReal) := by
  unfold scA
  have e : ∀ n : Fin 128, X6 (ix4 0 0 κ n) * X5 (ix4 0 0 n s)
      = (feat fq fk sc (fd (ix3 b s h) * (1 / Real.log 2)) (fd (ix3 b κ h) * (1 / Real.log 2)) b h κ s n : EReal) := by
    intro n
    rw [h5, h6, qtV_at, kpV_at, unit_real d fd hd b s h, unit_real d fd hd b κ h]
    unfold feat
    generalize fd (ix3 b s h) * (1 / Real.log 2) = x
    generalize fd (ix3 b κ h) * (1 / Real.log 2) = y
    by_cases hn : n.val < 64
    · rw [dif_pos hn, dif_pos hn, dif_pos hn, log_two, hsc, hq, hk, ← EReal.coe_mul, ← EReal.coe_mul, ← EReal.coe_mul]
    · rw [dif_neg hn, dif_neg hn, dif_neg hn]
      have hx : ∀ x : ℝ, (x : EReal) - (x : EReal) = 0 := fun x => by rw [← EReal.coe_sub, sub_self, EReal.coe_zero]
      simp only [hx, sub_zero, neg_zero]
      split_ifs <;> first | (exfalso; omega) | simp
  rw [Finset.sum_congr rfl fun n _ => e n, Cert.Soft.sum_coe, feat_sum]
  refine congrArg _ ?_
  ring

/-- The weighted sums over their weights, as softmax weighs the values. -/
theorem head_eq (hq : ∀ i, ∃ r : ℝ, q i = (r : EReal)) (hk : ∀ i, ∃ r : ℝ, k i = (r : EReal)) (hd : ∀ i, ∃ r : ℝ, d i = (r : EReal)) (bd : ℝ)
    (h5 : ∀ n s, X5 (ix4 0 0 n s) = qtV (F := Ideal) q (unitV d) (ix4 b h n s)) (h6 : ∀ s n, X6 (ix4 0 0 s n) = kpV (F := Ideal) k (unitV d) (ix4 b h s n))
    (h7 : ∀ (r : Fin 64) s, X7 (ix4 0 0 ⟨r.val, by omega⟩ s) = vtV (F := Ideal) v (ix4 b h ⟨r.val, by omega⟩ s)) (r : Fin 64) (s : Fin 16384) :
    Ideal.div (∑ n ∈ Finset.range 64, bV X5 X6 X7 (bd : EReal) r s n) (∑ n ∈ Finset.range 64, bL X5 X6 (bd : EReal) s n)
      = ∑ κ : Fin 16384, v (ix4 b κ h r) * softR (F := Ideal) (expR (logitR q k d)) (ix4 b h s κ) := by
  choose fq hfq using hq
  choose fk hfk using hk
  choose fd hfd using hd
  obtain ⟨sc, hsc⟩ := scale_real
  unfold bV bL
  rw [blocks_sum fun κ => X7 (ix4 0 0 ⟨r.val, by omega⟩ κ) * wA X5 X6 (bd : EReal) κ s, blocks_sum fun κ => wA X5 X6 (bd : EReal) κ s]
  have e7 : ∀ κ, X7 (ix4 0 0 ⟨r.val, by omega⟩ κ) = v (ix4 b κ h r) := fun κ => by rw [h7, vtV_at]
  simp only [e7, softR_at]
  refine Cert.Soft.soft s (fun κ => (∑ n : Fin 64, fq (ix4 b s h n) * fk (ix4 b κ h n)) * sc + fd (ix3 b s h) - fd (ix3 b κ h)) (fun κ => κ.val ≤ s.val) (le_refl _)
    (fun κ => v (ix4 b κ h r)) bd (fun κ => logitR (F := Ideal) q k d (ix4 b h s κ)) (fun κ => ?_) _ (fun κ => ?_) _ (fun κ => ?_)
  · rw [logitR_at, hsc]
    have hs := sle_pos κ.val s.val κ.isLt s.isLt
    have e : (∑ n : Fin 64, q (ix4 b s h n) * k (ix4 b κ h n)) * (sc : EReal) + d (ix3 b s h) - d (ix3 b κ h)
        = (((∑ n : Fin 64, fq (ix4 b s h n) * fk (ix4 b κ h n)) * sc + fd (ix3 b s h) - fd (ix3 b κ h) : ℝ) : EReal) := by
      rw [hfd, hfd, EReal.coe_sub, EReal.coe_add, EReal.coe_mul, ← Cert.Soft.sum_coe]
      refine congrArg (· * (sc : EReal) + _ - _) (Finset.sum_congr rfl fun n _ => ?_)
      rw [hfq, hfk, ← EReal.coe_mul]
    rw [e, show IntOp.cmpi .sle (BitVec.ofNat 32 κ.val) (BitVec.ofNat 32 s.val) = _ from hs]
    by_cases hle : κ.val ≤ s.val
    · rw [if_pos hle, if_pos hle]; rfl
    · rw [if_neg hle, if_neg hle]; rfl
  · unfold wA
    rw [scA_real q k d X5 X6 b h fq fk fd sc hfq hfk hfd hsc h5 h6]
  · rw [expR_at]
    rfl

end

end Cert.Kernel4Ideal.Att

end
-- ==== Proof.Fox.Value.Group.lean ====
/-
Where the first group's last decay is near enough every later tile's first, every tile begins at group zero.
-/
module

public import proofs.«01_k».proof.Proof.Fox.Wp3
public import Idealize.ShloMosaic.Lib.Pointwise
public import Idealize.ShloMosaic.Lib.IdealHost

@[expose] public section

set_option maxRecDepth 16384

noncomputable section

namespace Cert.Kernel4Ideal.Att

open Idealize.ShloMosaic Idealize.SL.Sem Cert.Kernel4Ideal Cert.Kernel4Ideal.Gen

variable (i : grid0.Coords) (X2 X3 : FVec Ideal S512 .f32) (X4 : FVec Ideal S2 .f32)

/-- A tile's place in the tables. -/
def slot (b : Fin 2) (h : Fin 16) (t : ℕ) (ht : t < 16) : Fin 512 := ⟨256 * b.val + 16 * h.val + t, by omega⟩

theorem off1_at (t : Fin k0_t1_loop.trips) : k0_off1 i t = ![256 * (i 0).val + 16 * (i 1).val + t.val] := by
  have h : ∀ (b : Fin 2) (h : Fin 16) (t : Fin 16), (Scalar.indexCast (Scalar.addi (Scalar.muli (Scalar.addi (Scalar.muli
      (BitVec.ofNat 32 b.val) 16#32) (BitVec.ofNat 32 h.val)) 16#32) (BitVec.ofNat 32 t.val)) : Index).toNat
      = 256 * b.val + 16 * h.val + t.val := by decide +kernel
  have e : Scf.iv 0#32 1#32 t = BitVec.ofNat 32 t.val := by
    revert t; decide +kernel
  unfold k0_off1
  dsimp only
  rw [e]
  exact congrArg (fun n => ![n]) (h (i 0) (i 1) t)

theorem off2_at : k0_off2 i 0#32 = ![256 * (i 0).val + 16 * (i 1).val] := by
  have h : ∀ (b : Fin 2) (h : Fin 16), (Scalar.indexCast (Scalar.addi (Scalar.muli (Scalar.addi (Scalar.muli
      (BitVec.ofNat 32 b.val) 16#32) (BitVec.ofNat 32 h.val)) 16#32) 0#32) : Index).toNat
      = 256 * b.val + 16 * h.val := by decide +kernel
  unfold k0_off2
  dsimp only
  exact congrArg (fun n => ![n]) (h (i 0) (i 1))

theorem word_at (X : FVec Ideal S512 .f32) (off : Fin 1 → ℕ) (hb : ∀ a, off a + S1.size a ≤ S512.size a) (n : Fin 512) (h : off = ![n.val]) :
    word (F := Ideal) (e := .f32) X (Rect.unit (s := S512) off S1.size hb) numel1_S1 = X (ix1 n) := by
  subst h
  refine congrArg X (funext fun a => ?_)
  have ha : a = 0 := Subsingleton.elim _ _
  subst ha
  apply Fin.ext
  rfl

theorem limit_word : word (F := Ideal) (e := .f32) X4 (Rect.unit (s := S2) ![0] S1.size inb_S2_S1_0) numel1_S1 = X4 (ix1 0) := by
  refine congrArg X4 (funext fun a => ?_)
  have ha : a = 0 := Subsingleton.elim _ _
  subst ha
  apply Fin.ext
  rfl

theorem refW_at : refW (F := Ideal) X4 = X4 (ix1 1) := by
  refine congrArg X4 (funext fun a => ?_)
  have ha : a = 0 := Subsingleton.elim _ _
  subst ha
  apply Fin.ext
  rfl

theorem stay (t : Fin k0_t1_loop.trips) (ht : t.val < 16)
    (hx : ¬ (X2 (ix1 (slot (i 0) (i 1) t.val ht)) - X3 (ix1 (slot (i 0) (i 1) 0 (by decide))) < 0 - X4 (ix1 0)))
    (h : k0_chk1 i 0#32) : ¬ leaveP (F := Ideal) i X2 X3 X4 t 0#32 h = 1#1 := by
  unfold leaveP
  rw [word_at X2 _ _ (slot (i 0) (i 1) t.val ht) (off1_at i t), word_at X3 _ _ (slot (i 0) (i 1) 0 (by decide)) (off2_at i), limit_word]
  have e : Scalar.cmpf (F := Ideal) (φ := .f32) .olt (Scalar.subf (F := Ideal) (φ := .f32)
        (X2 (ix1 (slot (i 0) (i 1) t.val ht))) (X3 (ix1 (slot (i 0) (i 1) 0 (by decide)))))
      (Scalar.subf (F := Ideal) (φ := .f32) (Scalar.ofBits .f32 0x00000000#32 : Ideal .f32) (X4 (ix1 0))) = 0#1 := by
    show Ideal.cmp .olt (X2 (ix1 (slot (i 0) (i 1) t.val ht)) - X3 (ix1 (slot (i 0) (i 1) 0 (by decide))))
      (Ideal.ofBits .f32 0x00000000#32 - X4 (ix1 0)) = 0#1
    rw [show Ideal.ofBits .f32 0x00000000#32 = 0 from Ideal.ofBits_zero .f32]
    show BitVec.ofBool (decide (X2 (ix1 (slot (i 0) (i 1) t.val ht)) - X3 (ix1 (slot (i 0) (i 1) 0 (by decide))) < 0 - X4 (ix1 0))) = 0#1
    rw [decide_eq_false hx]
    rfl
  rw [e]
  generalize Scalar.cmpi .slt 0#32 (Scalar.subi (Scf.iv 0#32 1#32 t) 1#32) = x
  revert x
  decide

theorem group_zero (t : Fin k0_t1_loop.trips) (ht : t.val < 16)
    (hx : 2 ≤ t.val → ¬ (X2 (ix1 (slot (i 0) (i 1) t.val ht)) - X3 (ix1 (slot (i 0) (i 1) 0 (by decide))) < 0 - X4 (ix1 0))) :
    groupP (F := Ideal) i X2 X3 X4 t = 0#32 := by
  unfold groupP
  cases hn : t.val - 1 with
  | zero => rfl
  | succ n =>
    unfold firstP
    split
    · exact if_neg (stay i X2 X3 X4 t ht (hx (by omega)) _)
    · rfl

end Cert.Kernel4Ideal.Att

end
-- ==== Proof.Fox.Value.Pre.lean ====
/-
What the precondition says of the arguments: queries, keys, decays and bound are numbers, the bound is not
negative, and the first group's last decay is near enough every later tile's first.
-/
module

public import proofs.«01_k».proof.Proof.Value.Pre
public import proofs.«01_k».proof.Proof.Gen.Pre_kept

@[expose] public section

set_option maxRecDepth 16384

noncomputable section

namespace Cert.Pre_kept

open Idealize.ShloMosaic Cert.Pre_kept.Gen

theorem far_at (d : FVec Ideal S2x16384x16 .f32) (b : Fin 2) (i : Fin 14) (h : Fin 16) :
    Host.divf (subf (Host.slice S2x14x16 ![0, 2048, 0] ![1, 1024, 1] d Facts.slicesBy_S2x16384x16_S2x14x16_0s1_2048s1024_0s1)
      (broadcastInDim S2x14x16 ![0, 1, 2] Facts.bcast_S2x1x16_S2x14x16_0_1_2
        (extractStridedSlice S2x1x16 ![0, 1023, 0] d Facts.slices_S2x16384x16_S2x1x16_0_1023_0)))
      (broadcastInDim S2x14x16 ![] Facts.bcast_S_S2x14x16 (Host.log (constant S_ .f32 0x40000000#32))) (ix3 b i h)
    = Ideal.div (d (ix3 b ⟨2048 + 1024 * i.val, by omega⟩ h) - d (ix3 b ⟨1023, by omega⟩ h))
        (Ideal.log (Ideal.ofBits .f32 0x40000000#32)) := by
  pointwise

theorem facts_of (q k v : FVec Ideal S2x16384x16x64 .f32) (d : FVec Ideal S2x16384x16 .f32) (b : FVec Ideal S_ .f32)
    (h : fn (F := Ideal) q k v d b = fun _ => 1#1) :
    (∀ i, ∃ r : ℝ, q i = (r : EReal)) ∧ (∀ i, ∃ r : ℝ, k i = (r : EReal)) ∧ (∀ i, ∃ r : ℝ, d i = (r : EReal)) ∧
    (∃ r : ℝ, 0 ≤ r ∧ b ix0 = (r : EReal)) ∧
    ∀ (β : Fin 2) (i : Fin 14) (η : Fin 16), -(Ideal.ofBits .f32 0x40000000#32 * b ix0 + Ideal.ofBits .f32 0x432A0000#32)
      ≤ Ideal.div (d (ix3 β ⟨2048 + 1024 * i.val, by omega⟩ η) - d (ix3 β ⟨1023, by omega⟩ η))
        (Ideal.log (Ideal.ofBits .f32 0x40000000#32)) := by
  have h0 := congrFun h ix0
  unfold fn fn_part1 at h0
  simp only [andi] at h0
  have split : ∀ x y : BitVec 1, x &&& y = 1#1 → x = 1#1 ∧ y = 1#1 := by decide
  obtain ⟨h12345, h6⟩ := split _ _ h0
  obtain ⟨h1234, h5⟩ := split _ _ h12345
  obtain ⟨h123, h4⟩ := split _ _ h1234
  obtain ⟨h12, h3⟩ := split _ _ h123
  obtain ⟨h1, h2⟩ := split _ _ h12
  refine ⟨fun i => Cert.Pre_finite.real_of _ (Host.reduce_andi_all _ _ _ _ _ h1 i),
    fun i => Cert.Pre_finite.real_of _ (Host.reduce_andi_all _ _ _ _ _ h2 i),
    fun i => Cert.Pre_finite.real_of _ (Host.reduce_andi_all _ _ _ _ _ h3 i), ?_, fun β i η => ?_⟩
  · have h3' : Ideal.cmp .oge (b ix0) (Ideal.ofBits .f32 0x00000000#32) = 1#1 := h4
    have h4' : Ideal.cmp .olt (b ix0) (Ideal.ofBits .f32 0x7F800000#32) = 1#1 := h5
    rw [Ideal.ofBits_zero .f32] at h3'
    rw [show Ideal.ofBits .f32 0x7F800000#32 = ⊤ from rfl] at h4'
    have of1 : ∀ x : Bool, BitVec.ofBool x = 1#1 → x = true := by decide
    have g3 : (0 : EReal) ≤ b ix0 := of_decide_eq_true (of1 _ h3')
    have g4 : b ix0 < ⊤ := of_decide_eq_true (of1 _ h4')
    have g5 : b ix0 ≠ ⊥ := fun e => by rw [e] at g3; exact absurd (le_bot_iff.mp g3) EReal.zero_ne_bot
    exact ⟨(b ix0).toReal, EReal.toReal_nonneg g3, (EReal.coe_toReal g4.ne g5).symm⟩
  · have g := Host.reduce_andi_all _ _ _ _ _ h6 (ix3 β i η)
    have of1 : ∀ x : Bool, BitVec.ofBool x = 1#1 → x = true := by decide
    rw [← far_at d β i η]
    have e : broadcastInDim S2x14x16 ![] Facts.bcast_S_S2x14x16 (Host.negf (addf (mulf (constant S_ .f32 0x40000000#32) b)
        (constant S_ .f32 0x432A0000#32))) (ix3 β i η)
        = -(Ideal.ofBits .f32 0x40000000#32 * b ix0 + Ideal.ofBits .f32 0x432A0000#32) := by
      pointwise
    rw [← e]
    exact of_decide_eq_true (of1 _ g)

end Cert.Pre_kept

end
-- ==== Proof.Fox.Value.Final.lean ====
/-
The result array: every position holds the reference's weighted sum.
-/
module

public import proofs.«01_k».proof.Proof.Fox.Value.Weighted
public import proofs.«01_k».proof.Proof.Fox.Value.Group
public import proofs.«01_k».proof.Proof.Fox.Value.Pre

@[expose] public section

set_option maxRecDepth 16384

noncomputable section

namespace Cert.Kernel4Ideal.Att

open Idealize.ShloMosaic Idealize.ShloMosaic.TcCoe Idealize.SL.Sem Cert.Kernel4Ideal Cert.Kernel4Ideal.Gen
open Cert.Reference4Ideal.Value (logitR expR softR outR logitR_at expR_at softR_at outR_at)

theorem idx0 : ∀ t : Fin (cfg0 (F := Ideal)).N, win0_0.index t = ![0] := (by decide +kernel : ∀ t : Fin grid0.N, _)
theorem idx1 : ∀ t : Fin (cfg0 (F := Ideal)).N, win0_1.index t = ![0] := (by decide +kernel : ∀ t : Fin grid0.N, _)
theorem idx2 : ∀ t : Fin (cfg0 (F := Ideal)).N, win0_2.index t = ![0] := (by decide +kernel : ∀ t : Fin grid0.N, _)
theorem idx3 : ∀ t : Fin (cfg0 (F := Ideal)).N, win0_3.index t = ![(grid0.coords t 0).val, (grid0.coords t 1).val, 0, 0] :=
  (by decide +kernel : ∀ t : Fin grid0.N, _)
theorem idx4 : ∀ t : Fin (cfg0 (F := Ideal)).N, win0_4.index t = ![(grid0.coords t 0).val, (grid0.coords t 1).val, 0, 0] :=
  (by decide +kernel : ∀ t : Fin grid0.N, _)
theorem idx5 : ∀ t : Fin (cfg0 (F := Ideal)).N, win0_5.index t = ![(grid0.coords t 0).val, (grid0.coords t 1).val, 0, 0] :=
  (by decide +kernel : ∀ t : Fin grid0.N, _)
theorem idx6 : ∀ t : Fin (cfg0 (F := Ideal)).N, win0_6.index t = ![(grid0.coords t 0).val, (grid0.coords t 1).val, 0] :=
  (by decide +kernel : ∀ t : Fin grid0.N, _)

/-- The batch entry and the head of a grid point. -/
abbrev bi (t : Fin (cfg0 (F := Ideal)).N) : Fin 2 := grid0.coords t 0
abbrev hi (t : Fin (cfg0 (F := Ideal)).N) : Fin 16 := grid0.coords t 1

variable (m : (ℓ : Loc nD τ sig) → Buf (Elt Ideal) ℓ)

theorem blk3_at (c : Dev nD) (t : Fin (cfg0 (F := Ideal)).N) (d : Fin 128) (s : Fin 16384) :
    blkOf (F := Ideal) m c 3 t (ix4 0 0 d s) = qtV (F := Ideal) (m ((c : Thread nD τ).loc main_arg0)) (unitV (m ((c : Thread nD τ).loc main_arg3))) (ix4 (bi t) (hi t) d s) := by
  rw [← V_v24 m c]
  refine congrArg (V m c main_v24) (?_ : ((win0_3.blk t).view.emb (ix4 0 0 d s)) = ix4 (bi t) (hi t) d s)
  blk_ext [idx3] <;> rfl

theorem blk4_at (c : Dev nD) (t : Fin (cfg0 (F := Ideal)).N) (s : Fin 16384) (d : Fin 128) :
    blkOf (F := Ideal) m c 4 t (ix4 0 0 s d) = kpV (F := Ideal) (m ((c : Thread nD τ).loc main_arg1)) (unitV (m ((c : Thread nD τ).loc main_arg3))) (ix4 (bi t) (hi t) s d) := by
  rw [← V_v30 m c]
  refine congrArg (V m c main_v30) (?_ : ((win0_4.blk t).view.emb (ix4 0 0 s d)) = ix4 (bi t) (hi t) s d)
  blk_ext [idx4] <;> rfl

theorem blk5_at (c : Dev nD) (t : Fin (cfg0 (F := Ideal)).N) (r : Fin 80) (s : Fin 16384) :
    blkOf (F := Ideal) m c 5 t (ix4 0 0 r s) = vtV (F := Ideal) (m ((c : Thread nD τ).loc main_arg2)) (ix4 (bi t) (hi t) r s) := by
  rw [← V_v40 m c]
  refine congrArg (V m c main_v40) (?_ : ((win0_5.blk t).view.emb (ix4 0 0 r s)) = ix4 (bi t) (hi t) r s)
  blk_ext [idx5] <;> rfl

theorem blk2_at (c : Dev nD) (t : Fin (cfg0 (F := Ideal)).N) (j : Fin 2) :
    blkOf (F := Ideal) m c 2 t (ix1 j) = boundsV (F := Ideal) (m ((c : Thread nD τ).loc main_arg4)) (ix1 j) := by
  rw [← V_v50 m c]
  refine congrArg (V m c main_v50) (?_ : ((win0_2.blk t).view.emb (ix1 j)) = ix1 j)
  blk_ext [idx2]

theorem blk0_at (c : Dev nD) (t : Fin (cfg0 (F := Ideal)).N) (n : Fin 512) :
    blkOf (F := Ideal) m c 0 t (ix1 n) = firstV (F := Ideal) (unitV (m ((c : Thread nD τ).loc main_arg3))) (ix1 n) := by
  rw [← V_v43 m c]
  refine congrArg (V m c main_v43) (?_ : ((win0_0.blk t).view.emb (ix1 n)) = ix1 n)
  blk_ext [idx0]

theorem blk1_at (c : Dev nD) (t : Fin (cfg0 (F := Ideal)).N) (n : Fin 512) :
    blkOf (F := Ideal) m c 1 t (ix1 n) = lastV (F := Ideal) (unitV (m ((c : Thread nD τ).loc main_arg3))) (ix1 n) := by
  rw [← V_v45 m c]
  refine congrArg (V m c main_v45) (?_ : ((win0_1.blk t).view.emb (ix1 n)) = ix1 n)
  blk_ext [idx1]

/-- A tile's results from whichever group is zero. -/
theorem tileP_zero (X5 : FVec Ideal S1x1x128x16384 .bf16) (X6 : FVec Ideal S1x1x16384x128 .bf16) (X7 : FVec Ideal S1x1x80x16384 .bf16)
    (v3 : EReal) (hv : ∃ r : ℝ, v3 = r) (t : Fin k0_t1_loop.trips) (g : BitVec 32) (h : k0_chk2 t g) (hg : g = 0#32) (c : Fin 4) (r : Fin 64) (j : Fin 256) :
    tileP (F := Ideal) X5 X6 X7 v3 t g h c (ix3 0 r j)
      = Ideal.div (∑ n ∈ Finset.range 64, bV X5 X6 X7 v3 r (pos (1024 * t.val + 256 * c.val + j.val)) n)
          (∑ n ∈ Finset.range 64, bL X5 X6 v3 (pos (1024 * t.val + 256 * c.val + j.val)) n) := by
  subst hg
  exact tileP_at X5 X6 X7 v3 hv t h c r j

/-- The arguments: queries, keys, values, decays and bound. -/
abbrev argQ (c : Dev nD) : FVec Ideal S2x16384x16x64 .f32 := m ((c : Thread nD τ).loc main_arg0)
abbrev argK (c : Dev nD) : FVec Ideal S2x16384x16x64 .f32 := m ((c : Thread nD τ).loc main_arg1)
abbrev argV (c : Dev nD) : FVec Ideal S2x16384x16x64 .f32 := m ((c : Thread nD τ).loc main_arg2)
abbrev argD (c : Dev nD) : FVec Ideal S2x16384x16 .f32 := m ((c : Thread nD τ).loc main_arg3)
abbrev argB (c : Dev nD) : FVec Ideal S_ .f32 := m ((c : Thread nD τ).loc main_arg4)

/-- What the arguments must be: numbers, a bound that is not negative, and near decays. -/
structure Numbers (c : Dev nD) : Prop where
  q : ∀ i, ∃ r : ℝ, m ((c : Thread nD τ).loc main_arg0) i = (r : EReal)
  k : ∀ i, ∃ r : ℝ, m ((c : Thread nD τ).loc main_arg1) i = (r : EReal)
  d : ∀ i, ∃ r : ℝ, m ((c : Thread nD τ).loc main_arg3) i = (r : EReal)
  b : ∃ r : ℝ, 0 ≤ r ∧ m ((c : Thread nD τ).loc main_arg4) ix0 = (r : EReal)
  far : ∀ (β : Fin 2) (i : Fin 14) (η : Fin 16), -(Ideal.ofBits .f32 0x40000000#32 * argB m c ix0 + Ideal.ofBits .f32 0x432A0000#32)
      ≤ Ideal.div (argD m c (ix3 β ⟨2048 + 1024 * i.val, by omega⟩ η) - argD m c (ix3 β ⟨1023, by omega⟩ η))
        (Ideal.log (Ideal.ofBits .f32 0x40000000#32))

/-- The two tables and the limit, at a grid point. -/
abbrev tabF (c : Dev nD) (t : Fin (cfg0 (F := Ideal)).N) : FVec Ideal S512 .f32 := blkOf (F := Ideal) m c 0 t
abbrev tabL (c : Dev nD) (t : Fin (cfg0 (F := Ideal)).N) : FVec Ideal S512 .f32 := blkOf (F := Ideal) m c 1 t
abbrev tabB (c : Dev nD) (t : Fin (cfg0 (F := Ideal)).N) : FVec Ideal S2 .f32 := blkOf (F := Ideal) m c 2 t

/-- No later tile leaves the first group out. -/
theorem near (c : Dev nD) (hm : Numbers m c) (t : Fin (cfg0 (F := Ideal)).N) (n : ℕ) (hn : n < 16) (h2 : 2 ≤ n) :
    ¬ (tabF m c t (ix1 (slot (bi t) (hi t) n hn)) - tabL m c t (ix1 (slot (bi t) (hi t) 0 (by decide))) < 0 - tabB m c t (ix1 0)) := by
  obtain ⟨bd, hb0, hb⟩ := hm.b
  choose fd hfd using hm.d
  have hl : Real.log 2 ≠ 0 := (Real.log_pos one_lt_two).ne'
  have hf := hm.far (bi t) ⟨n - 2, by omega⟩ (hi t)
  have hh := (hi t).isLt
  have hbb := (bi t).isLt
  have eB : argB m c ix0 = (bd : EReal) := hb
  have e0 : firstV (F := Ideal) (unitV (argD m c)) (ix1 (slot (bi t) (hi t) n hn))
      = ((fd (ix3 (bi t) ⟨2048 + 1024 * (n - 2), by omega⟩ (hi t)) * (1 / Real.log 2) : ℝ) : EReal) := by
    rw [firstV_at]
    refine Eq.trans (congrArg (unitV (F := Ideal) (argD m c)) (?_ : _ = ix3 (bi t) (⟨2048 + 1024 * (n - 2), by omega⟩ : Fin 16384) (hi t)))
      (unit_real (argD m c) fd hfd (bi t) _ (hi t))
    have a1 : (⟨(slot (bi t) (hi t) n hn).val / 256, by omega⟩ : Fin 2) = bi t := Fin.ext (by
      show (256 * (bi t).val + 16 * (hi t).val + n) / 256 = (bi t).val; omega)
    have a2 : (⟨1024 * ((slot (bi t) (hi t) n hn).val % 16), by omega⟩ : Fin 16384) = ⟨2048 + 1024 * (n - 2), by omega⟩ := Fin.ext (by
      show 1024 * ((256 * (bi t).val + 16 * (hi t).val + n) % 16) = 2048 + 1024 * (n - 2); omega)
    have a3 : (⟨(slot (bi t) (hi t) n hn).val / 16 % 16, by omega⟩ : Fin 16) = hi t := Fin.ext (by
      show (256 * (bi t).val + 16 * (hi t).val + n) / 16 % 16 = (hi t).val; omega)
    rw [a1, a2, a3]
  have e1 : lastV (F := Ideal) (unitV (argD m c)) (ix1 (slot (bi t) (hi t) 0 (by decide)))
      = ((fd (ix3 (bi t) ⟨1023, by omega⟩ (hi t)) * (1 / Real.log 2) : ℝ) : EReal) := by
    rw [lastV_at]
    refine Eq.trans (congrArg (unitV (F := Ideal) (argD m c)) (?_ : _ = ix3 (bi t) (⟨1023, by omega⟩ : Fin 16384) (hi t)))
      (unit_real (argD m c) fd hfd (bi t) _ (hi t))
    have a1 : (⟨(slot (bi t) (hi t) 0 (by decide)).val / 256, by omega⟩ : Fin 2) = bi t := Fin.ext (by
      show (256 * (bi t).val + 16 * (hi t).val + 0) / 256 = (bi t).val; omega)
    have a2 : (⟨1023 + 1024 * ((slot (bi t) (hi t) 0 (by decide)).val % 16), by omega⟩ : Fin 16384) = ⟨1023, by omega⟩ := Fin.ext (by
      show 1023 + 1024 * ((256 * (bi t).val + 16 * (hi t).val + 0) % 16) = 1023; omega)
    have a3 : (⟨(slot (bi t) (hi t) 0 (by decide)).val / 16 % 16, by omega⟩ : Fin 16) = hi t := Fin.ext (by
      show (256 * (bi t).val + 16 * (hi t).val + 0) / 16 % 16 = (hi t).val; omega)
    rw [a1, a2, a3]
  rw [show tabF m c t (ix1 (slot (bi t) (hi t) n hn)) = _ from (blk0_at m c t _).trans e0,
    show tabL m c t (ix1 (slot (bi t) (hi t) 0 (by decide))) = _ from (blk1_at m c t _).trans e1,
    show tabB m c t (ix1 0) = _ from (blk2_at m c t 0).trans (boundsV_0 _)]
  rw [show argD m c (ix3 (bi t) ⟨2048 + 1024 * (n - 2), by omega⟩ (hi t)) = _ from hfd _,
    show argD m c (ix3 (bi t) ⟨1023, by omega⟩ (hi t)) = _ from hfd _, eB, two_real, room_real, Ideal.log_coe,
    if_neg (not_le.mpr two_pos), Ideal.div_coe hl, ← EReal.coe_mul, ← EReal.coe_add, ← EReal.coe_neg, ← EReal.coe_sub, ← EReal.coe_mul,
    EReal.coe_le_coe_iff] at hf
  rw [show (m ((c : Thread nD τ).loc main_arg4) ix0 : EReal) = (bd : EReal) from hb, two_real, room_real, ← EReal.coe_mul, ← EReal.coe_add, zero_sub, ← EReal.coe_neg, ← EReal.coe_sub, EReal.coe_lt_coe_iff, not_lt]
  linarith

theorem out_at (c : Dev nD) (hm : Numbers m c) (t : Fin (cfg0 (F := Ideal)).N) (r : Fin 64) (s : Fin 16384) :
    outAt (F := Ideal) m c t (ix3 0 r s)
      = ∑ κ : Fin 16384, argV m c (ix4 (bi t) κ (hi t) r)
          * softR (F := Ideal) (expR (logitR (argQ m c) (argK m c) (argD m c))) (ix4 (bi t) (hi t) s κ) := by
  obtain ⟨bd, hb0, hb⟩ := hm.b
  have hr : refW (F := Ideal) (blkOf m c 2 t) = (bd : EReal) := by
    refine (refW_at (blkOf m c 2 t)).trans ?_
    rw [blk2_at m c t 1, boundsV_1]
    exact hb
  rw [← head_eq (argQ m c) (argK m c) (argV m c) (argD m c)
    (blkOf m c 3 t) (blkOf m c 4 t) (blkOf m c 5 t) (bi t) (hi t) hm.q hm.k hm.d bd (blk3_at m c t) (blk4_at m c t) (fun r s => blk5_at m c t _ s) r s]
  unfold outAt outB
  rw [hr]
  have hs := s.isLt
  refine (tileP_zero (blkOf m c 3 t) (blkOf m c 4 t) (blkOf m c 5 t) (bd : EReal) ⟨bd, rfl⟩ _ _ _
    (group_zero _ _ _ _ _ (by show s.val / 1024 < 16; omega) (near m c hm t _ _)) _ r ⟨s.val % 256, Nat.mod_lt _ (by decide)⟩).trans ?_
  have e : pos (1024 * (s.val / 1024) + 256 * (s.val / 256 % 4) + s.val % 256) = s := Fin.ext (by
    show (1024 * (s.val / 1024) + 256 * (s.val / 256 % 4) + s.val % 256) % 16384 = s.val
    omega)
  exact congrArg (fun p => Ideal.div (∑ n ∈ Finset.range 64, bV (blkOf m c 3 t) (blkOf m c 4 t) (blkOf m c 5 t) (bd : EReal) r p n)
    (∑ n ∈ Finset.range 64, bL (blkOf m c 3 t) (blkOf m c 4 t) (bd : EReal) p n)) e

/-- The whole result. -/
theorem final (c : Dev nD) (hm : Numbers m c) : (dats (F := Ideal) m 0 c).arrAt 6 (cfg0 (F := Ideal)).N
    = outR (F := Ideal) (softR (expR (logitR (argQ m c) (argK m c) (argD m c))))
        (argV m c) := by
  refine (dats (F := Ideal) m 0 c).arrAt_eq_of_covers 6 _ (by decide +kernel) fun t hf y => ?_
  obtain ⟨r, s, rfl⟩ : ∃ (r : Fin 64) (s : Fin 16384), y = ix3 0 r s := ⟨y 1, y 2, funext fun a => by
    fin_cases a
    · exact Subsingleton.elim (α := Fin 1) _ _
    · rfl
    · rfl⟩
  have hh := (hi t).isLt
  have hr := r.isLt
  have e : (win0_6.blk t).view.emb (ix3 0 r s) = ix3 (bi t) (⟨64 * (hi t).val + r.val, by omega⟩ : Fin 1024) s := by
    blk_ext [idx6]
    · rfl
    · show (hi t).val * 64 + r.val = 64 * (hi t).val + r.val
      omega
  refine Eq.trans (?_ : _ = outAt (F := Ideal) m c t (ix3 0 r s)) ?_
  · rfl
  refine (out_at m c hm t r s).trans ?_
  refine Eq.trans ?_ (congrArg (outR (F := Ideal) (softR (expR (logitR (argQ m c) (argK m c) (argD m c)))) (argV m c)) e).symm
  rw [outR_at]
  have e1 : (⟨(64 * (hi t).val + r.val) / 64, by omega⟩ : Fin 16) = hi t := Fin.ext (by show (64 * (hi t).val + r.val) / 64 = _; omega)
  have e2 : (⟨(64 * (hi t).val + r.val) % 64, by omega⟩ : Fin 64) = r := Fin.ext (by show (64 * (hi t).val + r.val) % 64 = _; omega)
  exact (congrArg₂ (fun (h : Fin 16) (r : Fin 64) => ∑ κ : Fin 16384, argV m c (ix4 (bi t) κ h r)
    * softR (F := Ideal) (expR (logitR (argQ m c) (argK m c) (argD m c))) (ix4 (bi t) h s κ)) e1 e2).symm

end Cert.Kernel4Ideal.Att

end
-- ==== Proof.Fox.Value.Algebraic.lean ====
/-
The kernel computes what the reference computes.
-/
module

public import proofs.«01_k».proof.Proof.Fox.Value.Final

@[expose] public section

set_option maxRecDepth 16384

noncomputable section

namespace Cert.Proof

open Idealize.ShloMosaic Idealize.ShloMosaic.TcCoe Idealize.SL.Sem

/-- The weighted sums of the values, by what the arguments are. -/
def decayed (q k : FVec Ideal Cert.Kernel4Ideal.S2x16384x16x64 .f32) (v : FVec Ideal Cert.Kernel4Ideal.S2x16384x16x64 .f32)
    (d : FVec Ideal Cert.Kernel4Ideal.S2x16384x16 .f32) :
    FVec Ideal Cert.Kernel4Ideal.S2x1024x16384 .bf16 :=
  Cert.Reference4Ideal.Value.outR (F := Ideal)
    (Cert.Reference4Ideal.Value.softR (Cert.Reference4Ideal.Value.expR (Cert.Reference4Ideal.Value.logitR q k d))) v

theorem algebraic4 : Cert.algebraic_Kernel4Ideal_Reference4Ideal_pre_kept (hKernel4Ideal := Cert.Kernel4Ideal.Gen.facts)
    (hReference4Ideal := Cert.Reference4Ideal.Gen.facts) (hPre_kept := Cert.Pre_kept.Gen.facts) := by
  intro m g m' g' hpre hagree
  refine ⟨fun c => decayed (Cert.Kernel4Ideal.Att.argQ m c) (Cert.Kernel4Ideal.Att.argK m c) (Cert.Kernel4Ideal.Att.argV m c) (Cert.Kernel4Ideal.Att.argD m c), ?_, ?_⟩
  · refine (θ_run Cert.Kernel4Ideal.defs _ _).mono (fun r h c => ⟨?_, Cert.Kernel4Ideal.Att.args_kept (F := Ideal) m h.1 c⟩)
      (Cert.Kernel4Ideal.Att.run_main (F := Ideal) m g)
    have hf := Cert.Pre_kept.facts_of _ _ _ _ _ (hpre c)
    exact (h.1.out_eq c 6).trans (Cert.Kernel4Ideal.Att.final m c ⟨hf.1, hf.2.1, hf.2.2.1, hf.2.2.2.1, hf.2.2.2.2⟩)
  · refine (θ_run Cert.Reference4Ideal.defs _ _).mono (fun r h c => ⟨?_, (h c).2⟩) (Cert.Reference4Ideal.Value.run (F := Ideal) m' g')
    obtain ⟨h0, h1, h2, h3, -⟩ := hagree c
    refine (h c).1.trans ((Cert.Reference4Ideal.Value.res_eq (F := Ideal) m' c).trans ?_)
    rw [h0, h1, h2, h3]
    rfl

end Cert.Proof

end
-- ==== Proof.Rows.Step.lean ====
/-
The half-step of a row: the row, plus half of the gated unit of the row over its root mean square.
-/
module

public import proofs.«01_k».proof.Proof.Gen.Kernel2Ideal.Skeleton
public import proofs.«01_k».proof.Proof.Gen.Reference2Ideal
public import Idealize.ShloMosaic.Lib.Pointwise

@[expose] public section

set_option maxRecDepth 16384

noncomputable section

open Idealize.ShloMosaic Idealize.ShloMosaic.TcCoe Idealize.SL.Sem

namespace Cert.Rows

/-- A row over its root mean square, times the weights. -/
def norm (x g : Fin 1024 → EReal) (k : Fin 1024) : EReal :=
  x k * Ideal.rsqrt (Ideal.div (∑ l, x l * x l) (Ideal.ofBits .f32 0x44800000#32) + Ideal.ofBits .f32 0x358637BD#32) * g k

/-- The first layer of the gated unit, column `f`. -/
def first (x g : Fin 1024 → EReal) (wi : Fin 1024 → Fin 5632 → EReal) (f : Fin 5632) : EReal :=
  ∑ k, norm x g k * wi k f

/-- The gated unit before its second layer. -/
def gated (x g : Fin 1024 → EReal) (wi : Fin 1024 → Fin 5632 → EReal) (f : Fin 2816) : EReal :=
  first x g wi ⟨f.val, by omega⟩ * Ideal.logistic (first x g wi ⟨f.val, by omega⟩)
    * first x g wi ⟨2816 + f.val, by omega⟩

/-- The half-step. -/
def step (x g : Fin 1024 → EReal) (wi : Fin 1024 → Fin 5632 → EReal) (wo : Fin 2816 → Fin 1024 → EReal) (d : Fin 1024) : EReal :=
  x d + Ideal.ofBits .f32 0x3F000000#32 * ∑ f, gated x g wi f * wo f d

end Cert.Rows

namespace Cert.Kernel2Ideal.Rows

open Cert.Kernel2Ideal Cert.Kernel2Ideal.Gen

theorem pay_at (x : FVec Ideal S512x1024 .f32) (g : FVec Ideal S1x1024 .f32) (wi : FVec Ideal S1024x5632 .bf16)
    (wo : FVec Ideal S2816x1024 .bf16) (i : Fin 512) (d : Fin 1024) :
    k0_pay1 (F := Ideal) x g wi wo (ix2 i d)
      = Cert.Rows.step (fun l => x (ix2 i l)) (fun l => g (ix2 0 l)) (fun k f => wi (ix2 k f)) (fun f d => wo (ix2 f d)) d := by
  pointwise [k0_pay1]
  rfl

end Cert.Kernel2Ideal.Rows

namespace Cert.Reference2Ideal.Rows

open Cert.Reference2Ideal Cert.Reference2Ideal.Gen

section
variable {F : FTy → Type} [FloatOps F]

/-- The rows over their root mean squares. -/
def normR (x : FVec F S2x16384x1024 .f32) (g : FVec F S1024 .f32) : FVec F S2x16384x1024 .f32 :=
  mulf (mulf x (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))

/-- The gated unit before its second layer, from its first. -/
def gatedR (y : FVec F S2x16384x5632 .f32) : FVec F S2x16384x2816 .f32 :=
  mulf (mulf (extractStridedSlice S2x16384x2816 ![0, 0, 0] y slices_S2x16384x5632_S2x16384x2816_0_0_0) (Host.divf (broadcastInDim S2x16384x2816 ![] bcast_S_S2x16384x2816 (constant S_ .f32 0x3F800000#32)) (addf (broadcastInDim S2x16384x2816 ![] bcast_S_S2x16384x2816 (constant S_ .f32 0x3F800000#32)) (Host.exp (Host.negf (extractStridedSlice S2x16384x2816 ![0, 0, 0] y slices_S2x16384x5632_S2x16384x2816_0_0_0)))))) (extractStridedSlice S2x16384x2816 ![0, 0, 2816] y slices_S2x16384x5632_S2x16384x2816_0_0_2816)

/-- The half-step. -/
def stepR (x : FVec F S2x16384x1024 .f32) (g : FVec F S1024 .f32) (wi : FVec F S1024x5632 .f32) (wo : FVec F S2816x1024 .f32) :
    FVec F S2x16384x1024 .f32 :=
  addf x (mulf (broadcastInDim S2x16384x1024 ![] bcast_S_S2x16384x1024 (constant S_ .f32 0x3F000000#32)) (Host.dotGeneral dot_S2x16384x2816_S2816x1024_S2x16384x1024_2_0_01_1_n_n none (gatedR (Host.dotGeneral dot_S2x16384x1024_S1024x5632_S2x16384x5632_2_0_01_1_n_n none (normR x g) wi)) wo))

end

theorem normR_at (x : FVec Ideal S2x16384x1024 .f32) (g : FVec Ideal S1024 .f32) (b : Fin 2) (s : Fin 16384) (d : Fin 1024) :
    normR (F := Ideal) x g (ix3 b s d) = Cert.Rows.norm (fun l => x (ix3 b s l)) (fun l => g (ix1 l)) d := by
  pointwise [normR]
  rfl

theorem gatedR_at (y : FVec Ideal S2x16384x5632 .f32) (b : Fin 2) (s : Fin 16384) (f : Fin 2816) :
    gatedR (F := Ideal) y (ix3 b s f) = y (ix3 b s ⟨f.val, by omega⟩) * Ideal.logistic (y (ix3 b s ⟨f.val, by omega⟩))
      * y (ix3 b s ⟨2816 + f.val, by omega⟩) := by
  pointwise [gatedR]
  rfl

theorem stepR_at (x : FVec Ideal S2x16384x1024 .f32) (g : FVec Ideal S1024 .f32) (wi : FVec Ideal S1024x5632 .f32)
    (wo : FVec Ideal S2816x1024 .f32) (b : Fin 2) (s : Fin 16384) (d : Fin 1024) :
    stepR (F := Ideal) x g wi wo (ix3 b s d)
      = Cert.Rows.step (fun l => x (ix3 b s l)) (fun l => g (ix1 l)) (fun k f => wi (ix2 k f)) (fun f d => wo (ix2 f d)) d := by
  pointwise [stepR, gatedR_at, normR_at]
  rfl

end Cert.Reference2Ideal.Rows

end
-- ==== Proof.Rows.Half.lean ====
/-
The half-step's call: its result array, and the claims about it.
-/
module

public import proofs.«01_k».proof.Defs
public import proofs.«01_k».proof.Proof.Rows.Step
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import Idealize.ShloMosaic.Lib.StableHlo.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem Idealize.ShloMosaic.StableHlo

namespace Cert.Kernel2Ideal.Rows

open Cert.Kernel2Ideal Cert.Kernel2Ideal.Gen

variable (m : (ℓ : Loc nD τ sig) → Buf (Elt Ideal) ℓ)

/-- The arguments. -/
abbrev argX (c : Dev nD) : FVec Ideal S2x16384x1024 .f32 := m ((c : Thread nD τ).loc main_arg0)
abbrev argG (c : Dev nD) : FVec Ideal S1024 .f32 := m ((c : Thread nD τ).loc main_arg1)
abbrev argWi (c : Dev nD) : FVec Ideal S1024x5632 .f32 := m ((c : Thread nD τ).loc main_arg2)
abbrev argWo (c : Dev nD) : FVec Ideal S2816x1024 .f32 := m ((c : Thread nD τ).loc main_arg3)

theorem V_v0 (c : Dev nD) : V m c main_v0 = shapeCast S32768x1024 (argX m c) shapeCasts_S2x16384x1024_S32768x1024 := by
  unfold V
  after_results_simp <;> rfl

theorem V_v1 (c : Dev nD) : V m c main_v1 = shapeCast S1x1024 (argG m c) shapeCasts_S1024_S1x1024 := by
  unfold V
  after_results_simp <;> rfl

theorem V_v2 (c : Dev nD) : V m c main_v2 = truncf (F := Ideal) .bf16 (argWi m c) bitsLt_bf16_f32 := by
  unfold V
  after_results_simp <;> rfl

theorem V_v3 (c : Dev nD) : V m c main_v3 = truncf (F := Ideal) .bf16 (argWo m c) bitsLt_bf16_f32 := by
  unfold V
  after_results_simp <;> rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)

theorem lt_N (t : Fin cfg0.N) : t.val < 64 := t.isLt.trans_eq (by decide +kernel)

/-- Row `i` of block `t`, in the array of all rows. -/
def rowOf (t : Fin cfg0.N) (i : Fin 512) : Fin 32768 := ⟨t.val * 512 + i.val, by have := lt_N t; omega⟩

/-- The rows, by batch entry and position. -/
theorem rows_at (x : FVec Ideal S2x16384x1024 .f32) (r : Fin 32768) (d : Fin 1024) :
    shapeCast S32768x1024 x shapeCasts_S2x16384x1024_S32768x1024 (ix2 r d)
      = x (ix3 (⟨r.val / 16384, by omega⟩ : Fin 2) (⟨r.val % 16384, by omega⟩ : Fin 16384) d) := by
  pointwise

theorem row_at (g : FVec Ideal S1024 .f32) (d : Fin 1024) :
    shapeCast S1x1024 g shapeCasts_S1024_S1x1024 (ix2 0 d) = g (ix1 d) := by
  pointwise

theorem blk0_at (c : Dev nD) (t : Fin cfg0.N) (i : Fin 512) (d : Fin 1024) :
    iblk m c 0 t (ix2 i d) = shapeCast S32768x1024 (argX m c) shapeCasts_S2x16384x1024_S32768x1024 (ix2 (rowOf t i) d) := by
  rw [← V_v0 m c]
  refine congrArg (V m c main_v0) (?_ : ((win0_0.blk t).view.emb (ix2 i d)) = ix2 (rowOf t i) d)
  blk_ext [idx0] <;> rfl

theorem blk1_at (c : Dev nD) (t : Fin cfg0.N) (d : Fin 1024) :
    iblk m c 1 t (ix2 0 d) = argG m c (ix1 d) := by
  refine Eq.trans (?_ : _ = V m c main_v1 (ix2 0 d)) ((congrFun (V_v1 m c) _).trans (row_at _ d))
  refine congrArg (V m c main_v1) (?_ : ((win0_1.blk t).view.emb (ix2 0 d)) = ix2 0 d)
  blk_ext [idx1]

theorem blk2_at (c : Dev nD) (t : Fin cfg0.N) (k : Fin 1024) (f : Fin 5632) :
    iblk m c 2 t (ix2 k f) = argWi m c (ix2 k f) := by
  refine Eq.trans (?_ : _ = V m c main_v2 (ix2 k f)) (congrFun (V_v2 m c) _)
  refine congrArg (V m c main_v2) (?_ : ((win0_2.blk t).view.emb (ix2 k f)) = ix2 k f)
  blk_ext [idx2]

theorem blk3_at (c : Dev nD) (t : Fin cfg0.N) (f : Fin 2816) (d : Fin 1024) :
    iblk m c 3 t (ix2 f d) = argWo m c (ix2 f d) := by
  refine Eq.trans (?_ : _ = V m c main_v3 (ix2 f d)) (congrFun (V_v3 m c) _)
  refine congrArg (V m c main_v3) (?_ : ((win0_3.blk t).view.emb (ix2 f d)) = ix2 f d)
  blk_ext [idx3]

theorem hz : (![0, 0] : Fin 2 → Nat) = fun _ => 0 := funext fun a => by fin_cases a <;> rfl

/-- The reference's half-step, by rows, is what the result array ends at. -/
theorem final (c : Dev nD) : (dats (F := Ideal) m 0 c).arrAt 4 cfg0.N
    = shapeCast S32768x1024 (Cert.Reference2Ideal.Rows.stepR (F := Ideal) (argX m c) (argG m c) (argWi m c) (argWo m c))
        shapeCasts_S2x16384x1024_S32768x1024 := by
  refine (dats (F := Ideal) m 0 c).arrAt_eq_of_covers 4 _ (by decide +kernel) fun t hf y => ?_
  obtain ⟨i, d, rfl⟩ : ∃ (i : Fin 512) (d : Fin 1024), y = ix2 i d := ⟨y 0, y 1, eq_ix2 y⟩
  have e : (win0_4.blk t).view.emb (ix2 i d) = ix2 (rowOf t i) d := by
    blk_ext [idx4] <;> rfl
  refine Eq.trans (?_ : _ = out0_4 (F := Ideal) (iblk m c 0 t) (iblk m c 1 t) (iblk m c 2 t) (iblk m c 3 t) (ix2 i d)) ?_
  · show (cfg0.win 4).cut (grid0.coords t) ((dats m 0 c).after 4 t) (ix2 i d) = _
    rw [after0_4]
    rfl
  refine Eq.trans ?_ (congrArg (shapeCast S32768x1024 (Cert.Reference2Ideal.Rows.stepR (F := Ideal) (argX m c) (argG m c)
    (argWi m c) (argWo m c)) shapeCasts_S2x16384x1024_S32768x1024) e).symm
  rw [rows_at, Cert.Reference2Ideal.Rows.stepR_at]
  unfold out0_4
  rw [View.canon_unit_zero hz, View.ld_unit_zero hz, View.ld_unit_zero hz, View.ld_unit_zero hz, View.ld_unit_zero hz]
  refine (pay_at (iblk m c 0 t) (iblk m c 1 t) (iblk m c 2 t) (iblk m c 3 t) i d).trans ?_
  have e0 : (fun l => iblk m c 0 t (ix2 i l)) = fun l => argX m c (ix3 (⟨(rowOf t i).val / 16384, by omega⟩ : Fin 2)
      (⟨(rowOf t i).val % 16384, by omega⟩ : Fin 16384) l) := funext fun l => (blk0_at m c t i l).trans (rows_at _ _ _)
  have e1 : (fun l => iblk m c 1 t (ix2 0 l)) = fun l => argG m c (ix1 l) := funext fun l => blk1_at m c t l
  have e2 : (fun k f => iblk m c 2 t (ix2 k f)) = fun k f => argWi m c (ix2 k f) := funext fun k => funext fun f => blk2_at m c t k f
  have e3 : (fun f d => iblk m c 3 t (ix2 f d)) = fun f d => argWo m c (ix2 f d) := funext fun f => funext fun d => blk3_at m c t f d
  exact congrFun (congr (congr (congr (congrArg Cert.Rows.step e0) e1) e2) e3) d

end Cert.Kernel2Ideal.Rows

namespace Cert.Proof

theorem frame_kernel2 : Cert.quiescent_Kernel2 (hKernel2 := Cert.Kernel2.Gen.facts) := fun m ρ _ => Cert.Kernel2.Gen.frame m ρ
theorem frame_kernel2Ideal : Cert.quiescent_Kernel2Ideal (hKernel2Ideal := Cert.Kernel2Ideal.Gen.facts) :=
  fun m ρ _ => Cert.Kernel2Ideal.Gen.frame m ρ
theorem frame_reference2Ideal : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves2 : Cert.preserves_Kernel2_Kernel2Ideal := trivial

theorem algebraic2 : Cert.algebraic_Kernel2Ideal_Reference2Ideal (hKernel2Ideal := Cert.Kernel2Ideal.Gen.facts)
    (hReference2Ideal := Cert.Reference2Ideal.Gen.facts) := by
  intro m g m' g' _ hagree
  refine ⟨fun c => shapeCast Cert.Kernel2Ideal.S32768x1024 (Cert.Reference2Ideal.Rows.stepR (F := Ideal) (Cert.Kernel2Ideal.Rows.argX m c)
    (Cert.Kernel2Ideal.Rows.argG m c) (Cert.Kernel2Ideal.Rows.argWi m c) (Cert.Kernel2Ideal.Rows.argWo m c))
    Cert.Kernel2Ideal.Gen.facts.shapeCasts_S2x16384x1024_S32768x1024, ?_, ?_⟩
  · exact (θ_run Cert.Kernel2Ideal.defs _ _).mono (fun r h c => ⟨(h.1.out_eq c 4).trans (Cert.Kernel2Ideal.Rows.final m c), h.2 c⟩)
      (θ_run_and (Cert.Kernel2Ideal.Gen.run_main (F := Ideal) m g) (Cert.Kernel2Ideal.Gen.unchanged (F := Ideal) m g))
  · refine (θ_run Cert.Reference2Ideal.defs _ _).mono (fun r h c => ⟨?_, (h c).2⟩) (Cert.Reference2Ideal.Value.run (F := Ideal) m' g')
    obtain ⟨h0, h1, h2, h3⟩ := hagree c
    refine (h c).1.trans ?_
    rw [h0, h1, h2, h3]
    rfl

end Cert.Proof

end
-- ==== Proof.Rows.Mix.lean ====
/-
A row after the mixer: the mixer's output projected and added, the half-step, and the gated embedding of the row.
-/
module

public import proofs.«01_k».proof.Proof.Rows.Step
public import proofs.«01_k».proof.Proof.Gen.Kernel3Ideal.Skeleton
public import proofs.«01_k».proof.Proof.Gen.Reference3Ideal
public import proofs.«01_k».proof.Proof.Gen.Reference3Ideal.Run

@[expose] public section

set_option maxRecDepth 16384

noncomputable section

open Idealize.ShloMosaic Idealize.ShloMosaic.TcCoe Idealize.SL.Sem

namespace Cert.Rows

/-- A row, plus the mixer's output times the output matrix. -/
def mixed (x o : Fin 1024 → EReal) (w : Fin 1024 → Fin 1024 → EReal) (d : Fin 1024) : EReal :=
  x d + ∑ k, o k * w k d

/-- A row, plus its embedding times a gate taken from the row. -/
def embed (y g : Fin 1024 → EReal) (wg : Fin 1024 → Fin 1024 → EReal) (p : Fin 256 → EReal) (wp : Fin 256 → Fin 1024 → EReal)
    (d : Fin 1024) : EReal :=
  y d + Ideal.logistic (∑ k, norm y g k * wg k d) * ∑ j, p j * wp j d

end Cert.Rows

namespace Cert.Kernel3Ideal.Rows

open Cert.Kernel3Ideal Cert.Kernel3Ideal.Gen

theorem half_at (x : FVec Ideal S512x1024 .f32) (o : FVec Ideal S1x1024x512 .bf16) (w : FVec Ideal S1024x1024 .bf16)
    (g : FVec Ideal S1x1024 .f32) (wi : FVec Ideal S1024x5632 .bf16) (wo : FVec Ideal S2816x1024 .bf16) (i : Fin 512) (d : Fin 1024) :
    k0_pay2 (F := Ideal) x o w g wi wo (ix2 i d)
      = Cert.Rows.step (Cert.Rows.mixed (fun l => x (ix2 i l)) (fun k => o (ix3 0 k i)) (fun k d => w (ix2 k d)))
          (fun l => g (ix2 0 l)) (fun k f => wi (ix2 k f)) (fun f d => wo (ix2 f d)) d := by
  pointwise [k0_pay2]
  rfl

theorem embed_at (y : FVec Ideal S512x1024 .f32) (g : FVec Ideal S1x1024 .f32) (wg : FVec Ideal S1024x1024 .bf16)
    (p : FVec Ideal S1x512x256 .f32) (wp : FVec Ideal S256x1024 .bf16) (i : Fin 512) (d : Fin 1024) :
    k0_pay1 (F := Ideal) y g wg p wp (ix2 i d)
      = Cert.Rows.embed (fun l => y (ix2 i l)) (fun l => g (ix2 0 l)) (fun k d => wg (ix2 k d)) (fun j => p (ix3 0 i j))
          (fun j d => wp (ix2 j d)) d := by
  pointwise [k0_pay1]
  rfl

end Cert.Kernel3Ideal.Rows

namespace Cert.Reference3Ideal.Rows

open Cert.Reference3Ideal Cert.Reference3Ideal.Gen
open Cert.Reference2Ideal.Rows (normR stepR normR_at stepR_at)

section
variable {F : FTy → Type} [FloatOps F]

/-- The mixer's output, projected and added. -/
def mixedR (x : FVec F S2x16384x1024 .f32) (o : FVec F S2x16384x1024 .f32) (w : FVec F S1024x1024 .f32) : FVec F S2x16384x1024 .f32 :=
  addf x (Host.dotGeneral dot_S2x16384x1024_S1024x1024_S2x16384x1024_2_0_01_1_n_n none o w)

/-- The gate, from what the rows come to in its matrix. -/
def gateR (z : FVec F S2x16384x1024 .f32) : FVec F S2x16384x1024 .f32 :=
  Host.divf (broadcastInDim S2x16384x1024 ![] bcast_S_S2x16384x1024 (constant S_ .f32 0x3F800000#32)) (addf (broadcastInDim S2x16384x1024 ![] bcast_S_S2x16384x1024 (constant S_ .f32 0x3F800000#32)) (Host.exp (Host.negf z)))

/-- The gated embedding, added. -/
def embedR (y : FVec F S2x16384x1024 .f32) (g : FVec F S1024 .f32) (wg : FVec F S1024x1024 .f32) (p : FVec F S2x2x16384x256 .f32)
    (wp : FVec F S256x1024 .f32) : FVec F S2x16384x1024 .f32 :=
  addf y (mulf (gateR (Host.dotGeneral dot_S2x16384x1024_S1024x1024_S2x16384x1024_2_0_01_1_n_n none (normR y g) wg)) (Host.dotGeneral dot_S2x16384x256_S256x1024_S2x16384x1024_2_0_01_1_n_n none (shapeCast S2x16384x256 (extractStridedSlice S1x2x16384x256 ![1, 0, 0, 0] p slices_S2x2x16384x256_S1x2x16384x256_1_0_0_0) shapeCasts_S1x2x16384x256_S2x16384x256) wp))

/-- The whole of the rows after the mixer. -/
def postR (x : FVec F S2x16384x1024 .f32) (o : FVec F S2x16384x1024 .f32) (p : FVec F S2x2x16384x256 .f32) (w : FVec F S1024x1024 .f32)
    (g : FVec F S1024 .f32) (wi : FVec F S1024x5632 .f32) (wo : FVec F S2816x1024 .f32) (g' : FVec F S1024 .f32)
    (wg : FVec F S1024x1024 .f32) (wp : FVec F S256x1024 .f32) : FVec F S2x16384x1024 .f32 :=
  embedR (stepR (mixedR x o w) g wi wo) g' wg p wp

theorem res_eq (m : (ℓ : Loc nD τ sig) → Buf (Elt F) ℓ) (c : Dev nD) :
    Cert.Reference3Ideal.Value.res_main_v49 (F := F) m c = shapeCast S32768x1024 (postR (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)))
      shapeCasts_S2x16384x1024_S32768x1024 := by
  unfold Cert.Reference3Ideal.Value.res_main_v49 postR embedR stepR mixedR
  rfl

end

theorem mixedR_at (x : FVec Ideal S2x16384x1024 .f32) (o : FVec Ideal S2x16384x1024 .f32) (w : FVec Ideal S1024x1024 .f32)
    (b : Fin 2) (s : Fin 16384) (d : Fin 1024) :
    mixedR (F := Ideal) x o w (ix3 b s d)
      = Cert.Rows.mixed (fun l => x (ix3 b s l)) (fun k => o (ix3 b s k)) (fun k d => w (ix2 k d)) d := by
  pointwise [mixedR]
  rfl

theorem gateR_at (z : FVec Ideal S2x16384x1024 .f32) (b : Fin 2) (s : Fin 16384) (d : Fin 1024) :
    gateR (F := Ideal) z (ix3 b s d) = Ideal.logistic (z (ix3 b s d)) := by
  pointwise [gateR]
  rfl

theorem embedR_at (y : FVec Ideal S2x16384x1024 .f32) (g : FVec Ideal S1024 .f32) (wg : FVec Ideal S1024x1024 .f32)
    (p : FVec Ideal S2x2x16384x256 .f32) (wp : FVec Ideal S256x1024 .f32) (b : Fin 2) (s : Fin 16384) (d : Fin 1024) :
    embedR (F := Ideal) y g wg p wp (ix3 b s d)
      = Cert.Rows.embed (fun l => y (ix3 b s l)) (fun l => g (ix1 l)) (fun k d => wg (ix2 k d)) (fun j => p (ix4 1 b s j))
          (fun j d => wp (ix2 j d)) d := by
  pointwise [embedR, gateR_at, normR_at]
  rfl

theorem postR_at (x : FVec Ideal S2x16384x1024 .f32) (o : FVec Ideal S2x16384x1024 .f32) (p : FVec Ideal S2x2x16384x256 .f32)
    (w : FVec Ideal S1024x1024 .f32) (g : FVec Ideal S1024 .f32) (wi : FVec Ideal S1024x5632 .f32) (wo : FVec Ideal S2816x1024 .f32)
    (g' : FVec Ideal S1024 .f32) (wg : FVec Ideal S1024x1024 .f32) (wp : FVec Ideal S256x1024 .f32) (b : Fin 2) (s : Fin 16384) (d : Fin 1024) :
    postR (F := Ideal) x o p w g wi wo g' wg wp (ix3 b s d)
      = Cert.Rows.embed (Cert.Rows.step (Cert.Rows.mixed (fun l => x (ix3 b s l)) (fun k => o (ix3 b s k)) (fun k d => w (ix2 k d)))
          (fun l => g (ix1 l)) (fun k f => wi (ix2 k f)) (fun f d => wo (ix2 f d))) (fun l => g' (ix1 l)) (fun k d => wg (ix2 k d))
          (fun j => p (ix4 1 b s j)) (fun j d => wp (ix2 j d)) d := by
  unfold postR
  rw [embedR_at]
  have e : (fun l => mixedR (F := Ideal) x o w (ix3 b s l))
      = Cert.Rows.mixed (fun l => x (ix3 b s l)) (fun k => o (ix3 b s k)) (fun k d => w (ix2 k d)) :=
    funext fun l => mixedR_at x o w b s l
  refine congrArg (fun y => Cert.Rows.embed y (fun l => g' (ix1 l)) (fun k d => wg (ix2 k d))
          (fun j => p (ix4 1 b s j)) (fun j d => wp (ix2 j d)) d) (funext fun l => ?_)
  rw [← e]
  exact stepR_at (mixedR x o w) g wi wo b s l

end Cert.Reference3Ideal.Rows

end
-- ==== Proof.Rows.Post.lean ====
/-
The call after the mixer: its result array, and the claims about it.
-/
module

public import proofs.«01_k».proof.Defs
public import proofs.«01_k».proof.Proof.Rows.Mix
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import Idealize.ShloMosaic.Lib.StableHlo.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem Idealize.ShloMosaic.StableHlo

namespace Cert.Kernel3Ideal.Rows

open Cert.Kernel3Ideal Cert.Kernel3Ideal.Gen

variable (m : (ℓ : Loc nD τ sig) → Buf (Elt Ideal) ℓ)

/-- The arguments. -/
abbrev argX (c : Dev nD) : FVec Ideal S2x16384x1024 .f32 := m ((c : Thread nD τ).loc main_arg0)
abbrev argO (c : Dev nD) : FVec Ideal S2x16384x1024 .f32 := m ((c : Thread nD τ).loc main_arg1)
abbrev argP (c : Dev nD) : FVec Ideal S2x2x16384x256 .f32 := m ((c : Thread nD τ).loc main_arg2)
abbrev argW (c : Dev nD) : FVec Ideal S1024x1024 .f32 := m ((c : Thread nD τ).loc main_arg3)
abbrev argG (c : Dev nD) : FVec Ideal S1024 .f32 := m ((c : Thread nD τ).loc main_arg4)
abbrev argWi (c : Dev nD) : FVec Ideal S1024x5632 .f32 := m ((c : Thread nD τ).loc main_arg5)
abbrev argWo (c : Dev nD) : FVec Ideal S2816x1024 .f32 := m ((c : Thread nD τ).loc main_arg6)
abbrev argGe (c : Dev nD) : FVec Ideal S1024 .f32 := m ((c : Thread nD τ).loc main_arg7)
abbrev argWg (c : Dev nD) : FVec Ideal S1024x1024 .f32 := m ((c : Thread nD τ).loc main_arg8)
abbrev argWp (c : Dev nD) : FVec Ideal S256x1024 .f32 := m ((c : Thread nD τ).loc main_arg9)

/-- What the reference gives of the arguments. -/
def post (c : Dev nD) : FVec Ideal S2x16384x1024 .f32 :=
  Cert.Reference3Ideal.Rows.postR (F := Ideal) (argX m c) (argO m c) (argP m c) (argW m c) (argG m c) (argWi m c) (argWo m c)
    (argGe m c) (argWg m c) (argWp m c)

theorem V_v1 (c : Dev nD) : V m c main_v1 = truncf (F := Ideal) .bf16
    (transpose S2x1024x16384 [0, 2, 1] (argO m c) transposes_S2x16384x1024_S2x1024x16384_0_2_1) bitsLt_bf16_f32 := by
  unfold V
  after_results_simp <;> rfl

theorem V_v2 (c : Dev nD) : V m c main_v2 = shapeCast S32768x1024 (argX m c) shapeCasts_S2x16384x1024_S32768x1024 := by
  unfold V
  after_results_simp <;> rfl

theorem V_v3 (c : Dev nD) : V m c main_v3 = truncf (F := Ideal) .bf16 (argW m c) bitsLt_bf16_f32 := by
  unfold V
  after_results_simp <;> rfl

theorem V_v4 (c : Dev nD) : V m c main_v4 = shapeCast S1x1024 (argG m c) shapeCasts_S1024_S1x1024 := by
  unfold V
  after_results_simp <;> rfl

theorem V_v5 (c : Dev nD) : V m c main_v5 = truncf (F := Ideal) .bf16 (argWi m c) bitsLt_bf16_f32 := by
  unfold V
  after_results_simp <;> rfl

theorem V_v6 (c : Dev nD) : V m c main_v6 = truncf (F := Ideal) .bf16 (argWo m c) bitsLt_bf16_f32 := by
  unfold V
  after_results_simp <;> rfl

theorem V_v7 (c : Dev nD) : V m c main_v7 = shapeCast S2x32768x256 (argP m c) shapeCasts_S2x2x16384x256_S2x32768x256 := by
  unfold V
  after_results_simp <;> rfl

theorem V_v8 (c : Dev nD) : V m c main_v8 = shapeCast S1x1024 (argGe m c) shapeCasts_S1024_S1x1024 := by
  unfold V
  after_results_simp <;> rfl

theorem V_v9 (c : Dev nD) : V m c main_v9 = truncf (F := Ideal) .bf16 (argWg m c) bitsLt_bf16_f32 := by
  unfold V
  after_results_simp <;> rfl

theorem V_v10 (c : Dev nD) : V m c main_v10 = truncf (F := Ideal) .bf16 (argWp m c) bitsLt_bf16_f32 := by
  unfold V
  after_results_simp <;> rfl

theorem idx0 : ∀ t : Fin cfg0.N, win0_0.index t = ![t.val, 0] := (by decide +kernel : ∀ t : Fin grid0.N, _)
theorem idx1 : ∀ t : Fin cfg0.N, win0_1.index t = ![t.val / 32, 0, t.val % 32] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![1, t.val, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![t.val, 0] := (by decide +kernel : ∀ t : Fin grid0.N, _)

theorem lt_N (t : Fin cfg0.N) : t.val < 64 := t.isLt.trans_eq (by decide +kernel)

/-- Row `i` of block `t`, in the array of all rows; its batch entry and its position. -/
def rowOf (t : Fin cfg0.N) (i : Fin 512) : Fin 32768 := ⟨t.val * 512 + i.val, by have := lt_N t; omega⟩
def entryOf (t : Fin cfg0.N) (i : Fin 512) : Fin 2 := ⟨(rowOf t i).val / 16384, by have := (rowOf t i).isLt; omega⟩
def posOf (t : Fin cfg0.N) (i : Fin 512) : Fin 16384 := ⟨(rowOf t i).val % 16384, by omega⟩

theorem rows_at (x : FVec Ideal S2x16384x1024 .f32) (t : Fin cfg0.N) (i : Fin 512) (d : Fin 1024) :
    shapeCast S32768x1024 x shapeCasts_S2x16384x1024_S32768x1024 (ix2 (rowOf t i) d) = x (ix3 (entryOf t i) (posOf t i) d) := by
  pointwise
  rfl

theorem embeds_at (p : FVec Ideal S2x2x16384x256 .f32) (t : Fin cfg0.N) (i : Fin 512) (j : Fin 256) :
    shapeCast S2x32768x256 p shapeCasts_S2x2x16384x256_S2x32768x256 (ix3 1 (rowOf t i) j) = p (ix4 1 (entryOf t i) (posOf t i) j) := by
  pointwise
  rfl

theorem row_at (g : FVec Ideal S1024 .f32) (d : Fin 1024) :
    shapeCast S1x1024 g shapeCasts_S1024_S1x1024 (ix2 0 d) = g (ix1 d) := by
  pointwise

theorem blk0_at (c : Dev nD) (t : Fin cfg0.N) (i : Fin 512) (d : Fin 1024) :
    iblk m c 0 t (ix2 i d) = argX m c (ix3 (entryOf t i) (posOf t i) d) := by
  refine Eq.trans (?_ : _ = V m c main_v2 (ix2 (rowOf t i) d)) ((congrFun (V_v2 m c) _).trans (rows_at _ t i d))
  refine congrArg (V m c main_v2) (?_ : ((win0_0.blk t).view.emb (ix2 i d)) = ix2 (rowOf t i) d)
  blk_ext [idx0] <;> rfl

theorem turned_at (o : FVec Ideal S2x16384x1024 .f32) (b : Fin 2) (k : Fin 1024) (s : Fin 16384) :
    truncf (F := Ideal) .bf16 (transpose S2x1024x16384 [0, 2, 1] o transposes_S2x16384x1024_S2x1024x16384_0_2_1) bitsLt_bf16_f32
      (ix3 b k s) = o (ix3 b s k) := by
  pointwise

theorem blk1_at (c : Dev nD) (t : Fin cfg0.N) (k : Fin 1024) (i : Fin 512) :
    iblk m c 1 t (ix3 0 k i) = argO m c (ix3 (entryOf t i) (posOf t i) k) := by
  refine Eq.trans (?_ : _ = V m c main_v1 (ix3 (entryOf t i) k (posOf t i))) ((congrFun (V_v1 m c) _).trans (turned_at _ _ k _))
  refine congrArg (V m c main_v1) (?_ : ((win0_1.blk t).view.emb (ix3 0 k i)) = ix3 (entryOf t i) k (posOf t i))
  have ht := lt_N t
  have hi := i.isLt
  blk_ext [idx1]
  · show t.val / 32 + 0 = (t.val * 512 + i.val) / 16384
    omega
  · show t.val % 32 * 512 + i.val = (t.val * 512 + i.val) % 16384
    omega

theorem blk6_at (c : Dev nD) (t : Fin cfg0.N) (i : Fin 512) (j : Fin 256) :
    iblk m c 6 t (ix3 0 i j) = argP m c (ix4 1 (entryOf t i) (posOf t i) j) := by
  refine Eq.trans (?_ : _ = V m c main_v7 (ix3 1 (rowOf t i) j)) ((congrFun (V_v7 m c) _).trans (embeds_at _ t i j))
  refine congrArg (V m c main_v7) (?_ : ((win0_6.blk t).view.emb (ix3 0 i j)) = ix3 1 (rowOf t i) j)
  blk_ext [idx6] <;> rfl

theorem blk3_at (c : Dev nD) (t : Fin cfg0.N) (d : Fin 1024) : iblk m c 3 t (ix2 0 d) = argG m c (ix1 d) := by
  refine Eq.trans (?_ : _ = V m c main_v4 (ix2 0 d)) ((congrFun (V_v4 m c) _).trans (row_at _ d))
  refine congrArg (V m c main_v4) (?_ : ((win0_3.blk t).view.emb (ix2 0 d)) = ix2 0 d)
  blk_ext [idx3]

theorem blk7_at (c : Dev nD) (t : Fin cfg0.N) (d : Fin 1024) : iblk m c 7 t (ix2 0 d) = argGe m c (ix1 d) := by
  refine Eq.trans (?_ : _ = V m c main_v8 (ix2 0 d)) ((congrFun (V_v8 m c) _).trans (row_at _ d))
  refine congrArg (V m c main_v8) (?_ : ((win0_7.blk t).view.emb (ix2 0 d)) = ix2 0 d)
  blk_ext [idx7]

theorem blk2_at (c : Dev nD) (t : Fin cfg0.N) (k : Fin 1024) (d : Fin 1024) : iblk m c 2 t (ix2 k d) = argW m c (ix2 k d) := by
  refine Eq.trans (?_ : _ = V m c main_v3 (ix2 k d)) (congrFun (V_v3 m c) _)
  refine congrArg (V m c main_v3) (?_ : ((win0_2.blk t).view.emb (ix2 k d)) = ix2 k d)
  blk_ext [idx2]

theorem blk4_at (c : Dev nD) (t : Fin cfg0.N) (k : Fin 1024) (d : Fin 5632) : iblk m c 4 t (ix2 k d) = argWi m c (ix2 k d) := by
  refine Eq.trans (?_ : _ = V m c main_v5 (ix2 k d)) (congrFun (V_v5 m c) _)
  refine congrArg (V m c main_v5) (?_ : ((win0_4.blk t).view.emb (ix2 k d)) = ix2 k d)
  blk_ext [idx4]

theorem blk5_at (c : Dev nD) (t : Fin cfg0.N) (k : Fin 2816) (d : Fin 1024) : iblk m c 5 t (ix2 k d) = argWo m c (ix2 k d) := by
  refine Eq.trans (?_ : _ = V m c main_v6 (ix2 k d)) (congrFun (V_v6 m c) _)
  refine congrArg (V m c main_v6) (?_ : ((win0_5.blk t).view.emb (ix2 k d)) = ix2 k d)
  blk_ext [idx5]

theorem blk8_at (c : Dev nD) (t : Fin cfg0.N) (k : Fin 1024) (d : Fin 1024) : iblk m c 8 t (ix2 k d) = argWg m c (ix2 k d) := by
  refine Eq.trans (?_ : _ = V m c main_v9 (ix2 k d)) (congrFun (V_v9 m c) _)
  refine congrArg (V m c main_v9) (?_ : ((win0_8.blk t).view.emb (ix2 k d)) = ix2 k d)
  blk_ext [idx8]

theorem blk9_at (c : Dev nD) (t : Fin cfg0.N) (k : Fin 256) (d : Fin 1024) : iblk m c 9 t (ix2 k d) = argWp m c (ix2 k d) := by
  refine Eq.trans (?_ : _ = V m c main_v10 (ix2 k d)) (congrFun (V_v10 m c) _)
  refine congrArg (V m c main_v10) (?_ : ((win0_9.blk t).view.emb (ix2 k d)) = ix2 k d)
  blk_ext [idx9]

theorem hz : (![0, 0] : Fin 2 → Nat) = fun _ => 0 := funext fun a => by fin_cases a <;> rfl
theorem hz3 : (![0, 0, 0] : Fin 3 → Nat) = fun _ => 0 := funext fun a => by fin_cases a <;> rfl

/-- What the body leaves at row `i` of its block. -/
theorem out_at (c : Dev nD) (t : Fin cfg0.N) (i : Fin 512) (d : Fin 1024) :
    k0_pay1 (F := Ideal) (k0_pay2 (F := Ideal) (iblk m c 0 t) (iblk m c 1 t) (iblk m c 2 t) (iblk m c 3 t) (iblk m c 4 t) (iblk m c 5 t))
      (iblk m c 7 t) (iblk m c 8 t) (iblk m c 6 t) (iblk m c 9 t) (ix2 i d) = post m c (ix3 (entryOf t i) (posOf t i) d) := by
  have e0 : (fun l => iblk m c 0 t (ix2 i l)) = fun l => argX m c (ix3 (entryOf t i) (posOf t i) l) := funext fun l => blk0_at m c t i l
  have e1 : (fun k => iblk m c 1 t (ix3 0 k i)) = fun k => argO m c (ix3 (entryOf t i) (posOf t i) k) := funext fun k => blk1_at m c t k i
  have e6 : (fun j => iblk m c 6 t (ix3 0 i j)) = fun j => argP m c (ix4 1 (entryOf t i) (posOf t i) j) := funext fun j => blk6_at m c t i j
  have e3 : (fun l => iblk m c 3 t (ix2 0 l)) = fun l => argG m c (ix1 l) := funext fun l => blk3_at m c t l
  have e7 : (fun l => iblk m c 7 t (ix2 0 l)) = fun l => argGe m c (ix1 l) := funext fun l => blk7_at m c t l
  have e2 : (fun k d => iblk m c 2 t (ix2 k d)) = fun k d => argW m c (ix2 k d) := funext fun k => funext fun d => blk2_at m c t k d
  have e4 : (fun k d => iblk m c 4 t (ix2 k d)) = fun k d => argWi m c (ix2 k d) := funext fun k => funext fun d => blk4_at m c t k d
  have e5 : (fun k d => iblk m c 5 t (ix2 k d)) = fun k d => argWo m c (ix2 k d) := funext fun k => funext fun d => blk5_at m c t k d
  have e8 : (fun k d => iblk m c 8 t (ix2 k d)) = fun k d => argWg m c (ix2 k d) := funext fun k => funext fun d => blk8_at m c t k d
  have e9 : (fun k d => iblk m c 9 t (ix2 k d)) = fun k d => argWp m c (ix2 k d) := funext fun k => funext fun d => blk9_at m c t k d
  unfold post
  rw [Cert.Reference3Ideal.Rows.postR_at]
  refine (embed_at (k0_pay2 (F := Ideal) (iblk m c 0 t) (iblk m c 1 t) (iblk m c 2 t) (iblk m c 3 t) (iblk m c 4 t) (iblk m c 5 t))
    (iblk m c 7 t) (iblk m c 8 t) (iblk m c 6 t) (iblk m c 9 t) i d).trans ?_
  have h : (fun l => k0_pay2 (F := Ideal) (iblk m c 0 t) (iblk m c 1 t) (iblk m c 2 t) (iblk m c 3 t) (iblk m c 4 t) (iblk m c 5 t) (ix2 i l))
      = Cert.Rows.step (Cert.Rows.mixed (fun l => argX m c (ix3 (entryOf t i) (posOf t i) l)) (fun k => argO m c (ix3 (entryOf t i) (posOf t i) k))
          (fun k d => argW m c (ix2 k d))) (fun l => argG m c (ix1 l)) (fun k f => argWi m c (ix2 k f)) (fun f d => argWo m c (ix2 f d)) := by
    refine funext fun l => (half_at (iblk m c 0 t) (iblk m c 1 t) (iblk m c 2 t) (iblk m c 3 t) (iblk m c 4 t) (iblk m c 5 t) i l).trans ?_
    exact congrFun (congr (congr (congr (congrArg Cert.Rows.step (congr (congr (congrArg Cert.Rows.mixed e0) e1) e2)) e3) e4) e5) l
  exact congrFun (congr (congr (congr (congr (congrArg Cert.Rows.embed h) e7) e8) e6) e9) d

/-- The reference's rows are what the result array ends at. -/
theorem final (c : Dev nD) : (dats (F := Ideal) m 0 c).arrAt 10 cfg0.N
    = shapeCast S32768x1024 (post m c) shapeCasts_S2x16384x1024_S32768x1024 := by
  refine (dats (F := Ideal) m 0 c).arrAt_eq_of_covers 10 _ (by decide +kernel) fun t hf y => ?_
  obtain ⟨i, d, rfl⟩ : ∃ (i : Fin 512) (d : Fin 1024), y = ix2 i d := ⟨y 0, y 1, eq_ix2 y⟩
  have e : (win0_10.blk t).view.emb (ix2 i d) = ix2 (rowOf t i) d := by
    blk_ext [idx10] <;> rfl
  refine Eq.trans (?_ : _ = out0_10 (F := Ideal) (iblk m c 0 t) (iblk m c 1 t) (iblk m c 2 t) (iblk m c 3 t) (iblk m c 4 t) (iblk m c 5 t)
    (iblk m c 6 t) (iblk m c 7 t) (iblk m c 8 t) (iblk m c 9 t) (ix2 i d)) ?_
  · show (cfg0.win 10).cut (grid0.coords t) ((dats m 0 c).after 10 t) (ix2 i d) = _
    rw [after0_10]
    rfl
  refine Eq.trans ?_ (congrArg (shapeCast S32768x1024 (post m c) shapeCasts_S2x16384x1024_S32768x1024) e).symm
  rw [rows_at]
  unfold out0_10
  rw [View.canon_unit_zero hz, View.ld_unit_zero hz, View.ld_unit_zero hz3, View.ld_unit_zero hz, View.ld_unit_zero hz,
    View.ld_unit_zero hz, View.ld_unit_zero hz, View.ld_unit_zero hz, View.ld_unit_zero hz, View.ld_unit_zero hz3, View.ld_unit_zero hz]
  exact out_at m c t i d

end Cert.Kernel3Ideal.Rows

namespace Cert.Proof

theorem frame_kernel3 : Cert.quiescent_Kernel3 (hKernel3 := Cert.Kernel3.Gen.facts) := fun m ρ _ => Cert.Kernel3.Gen.frame m ρ
theorem frame_kernel3Ideal : Cert.quiescent_Kernel3Ideal (hKernel3Ideal := Cert.Kernel3Ideal.Gen.facts) :=
  fun m ρ _ => Cert.Kernel3Ideal.Gen.frame m ρ
theorem frame_reference3Ideal : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves3 : Cert.preserves_Kernel3_Kernel3Ideal := trivial

theorem algebraic3 : Cert.algebraic_Kernel3Ideal_Reference3Ideal (hKernel3Ideal := Cert.Kernel3Ideal.Gen.facts)
    (hReference3Ideal := Cert.Reference3Ideal.Gen.facts) := by
  intro m g m' g' _ hagree
  refine ⟨fun c => shapeCast Cert.Kernel3Ideal.S32768x1024 (Cert.Kernel3Ideal.Rows.post m c)
    Cert.Kernel3Ideal.Gen.facts.shapeCasts_S2x16384x1024_S32768x1024, ?_, ?_⟩
  · exact (θ_run Cert.Kernel3Ideal.defs _ _).mono (fun r h c => ⟨(h.1.out_eq c 10).trans (Cert.Kernel3Ideal.Rows.final m c), h.2 c⟩)
      (θ_run_and (Cert.Kernel3Ideal.Gen.run_main (F := Ideal) m g) (Cert.Kernel3Ideal.Gen.unchanged (F := Ideal) m g))
  · refine (θ_run Cert.Reference3Ideal.defs _ _).mono (fun r h c => ⟨?_, (h c).2⟩) (Cert.Reference3Ideal.Value.run (F := Ideal) m' g')
    obtain ⟨h0, h1, h2, h3, h4, h5, h6, h7, h8, h9⟩ := hagree c
    refine ((h c).1.trans (Cert.Reference3Ideal.Rows.res_eq (F := Ideal) m' c)).trans ?_
    rw [h0, h1, h2, h3, h4, h5, h6, h7, h8, h9]
    rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Points
public import proofs.«01_k».proof.Proof.Gen.Kernel.Launch
public import proofs.«01_k».proof.Proof.Gen.KernelIdeal
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite
public import proofs.«01_k».proof.Proof.Host
public import proofs.«01_k».proof.Proof.Gen.Kernel4
public import proofs.«01_k».proof.Proof.Gen.Kernel4.Skeleton
public import proofs.«01_k».proof.Proof.Gen.Kernel4.Points
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal
public import proofs.«01_k».proof.Proof.Gen.Reference4Ideal.Run
public import proofs.«01_k».proof.Proof.Gen.Pre_kept
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Value.Algebraic
public import proofs.«01_k».proof.Proof.Fox.Value.Algebraic
public import proofs.«01_k».proof.Proof.Rows.Half
public import proofs.«01_k».proof.Proof.Rows.Post

@[expose] public section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite.Gen.facts, Cert.Pre_kept.Gen.facts,
    frame_kernel, frame_kernelIdeal, frame_kernelIdeal_pre, frame_referenceIdeal, frame_referenceIdeal_pre,
    frame_kernel2, frame_kernel2Ideal, frame_reference2Ideal, frame_kernel3, frame_kernel3Ideal, frame_reference3Ideal,
    frame_kernel4, frame_kernel4Ideal, frame_kernel4Ideal_pre, frame_reference4Ideal, frame_reference4Ideal_pre,
    preserves, algebraic, preserves2, algebraic2, preserves3, algebraic3, preserves4, algebraic4⟩

end Cert.Proof

end
